-- ==== Defs.lean ====
def Pre_Backward (m : (ℓ : Loc Cert.Backward.nD Cert.Backward.τ Cert.Backward.sig) → Buf (Elt Bits) ℓ) : Prop :=
  True

def Pre_BackwardIdeal (m : (ℓ : Loc Cert.BackwardIdeal.nD Cert.BackwardIdeal.τ Cert.BackwardIdeal.sig) → Buf (Elt Ideal) ℓ) : Prop :=
  True

def Pre_BackwardRefIdeal (m : (ℓ : Loc Cert.BackwardRefIdeal.nD Cert.BackwardRefIdeal.τ Cert.BackwardRefIdeal.sig) → Buf (Elt Ideal) ℓ) : Prop :=
  True

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardIdeal_labels_in_vocabulary [hPre_labels_in_vocabulary : Cert.Pre_labels_in_vocabulary.Facts] (m : (ℓ : Loc Cert.ForwardIdeal.nD Cert.ForwardIdeal.τ Cert.ForwardIdeal.sig) → Buf (Elt Ideal) ℓ) : Prop :=
  ∀ c : Dev Cert.ForwardIdeal.nD,
    (Cert.Pre_labels_in_vocabulary.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2)) (m ((c.tc : Thread Cert.ForwardIdeal.nD Cert.ForwardIdeal.τ).loc Cert.ForwardIdeal.main_arg3)) (m ((c.tc : Thread Cert.ForwardIdeal.nD Cert.ForwardIdeal.τ).loc Cert.ForwardIdeal.main_arg4)) (m ((c.tc : Thread Cert.ForwardIdeal.nD Cert.ForwardIdeal.τ).loc Cert.ForwardIdeal.main_arg5)) (m ((c.tc : Thread Cert.ForwardIdeal.nD Cert.ForwardIdeal.τ).loc Cert.ForwardIdeal.main_arg6)) (m ((c.tc : Thread Cert.ForwardIdeal.nD Cert.ForwardIdeal.τ).loc Cert.ForwardIdeal.main_arg7)) (m ((c.tc : Thread Cert.ForwardIdeal.nD Cert.ForwardIdeal.τ).loc Cert.ForwardIdeal.main_arg8))) = (fun _ => 1#1)

def Pre_ForwardRefIdeal (m : (ℓ : Loc Cert.ForwardRefIdeal.nD Cert.ForwardRefIdeal.τ Cert.ForwardRefIdeal.sig) → Buf (Elt Ideal) ℓ) : Prop :=
  True

def Pre_ForwardRefIdeal_labels_in_vocabulary [hPre_labels_in_vocabulary : Cert.Pre_labels_in_vocabulary.Facts] (m : (ℓ : Loc Cert.ForwardRefIdeal.nD Cert.ForwardRefIdeal.τ Cert.ForwardRefIdeal.sig) → Buf (Elt Ideal) ℓ) : Prop :=
  ∀ c : Dev Cert.ForwardRefIdeal.nD,
    (Cert.Pre_labels_in_vocabulary.fn (F := Ideal) (m ((c.tc : Thread Cert.ForwardRefIdeal.nD Cert.ForwardRefIdeal.τ).loc Cert.ForwardRefIdeal.main_arg0)) (m ((c.tc : Thread Cert.ForwardRefIdeal.nD Cert.ForwardRefIdeal.τ).loc Cert.ForwardRefIdeal.main_arg1)) (m ((c.tc : Thread Cert.ForwardRefIdeal.nD Cert.ForwardRefIdeal.τ).loc Cert.ForwardRefIdeal.main_arg2)) (m ((c.tc : Thread Cert.ForwardRefIdeal.nD Cert.ForwardRefIdeal.τ).loc Cert.ForwardRefIdeal.main_arg3)) (m ((c.tc : Thread Cert.ForwardRefIdeal.nD Cert.ForwardRefIdeal.τ).loc Cert.ForwardRefIdeal.main_arg4)) (m ((c.tc : Thread Cert.ForwardRefIdeal.nD Cert.ForwardRefIdeal.τ).loc Cert.ForwardRefIdeal.main_arg5)) (m ((c.tc : Thread Cert.ForwardRefIdeal.nD Cert.ForwardRefIdeal.τ).loc Cert.ForwardRefIdeal.main_arg6)) (m ((c.tc : Thread Cert.ForwardRefIdeal.nD Cert.ForwardRefIdeal.τ).loc Cert.ForwardRefIdeal.main_arg7)) (m ((c.tc : Thread Cert.ForwardRefIdeal.nD Cert.ForwardRefIdeal.τ).loc Cert.ForwardRefIdeal.main_arg8))) = (fun _ => 1#1)

def quiescent_Backward [hBackward : Cert.Backward.Facts] : Prop :=
  ∀ (m : (ℓ : Loc Cert.Backward.nD Cert.Backward.τ Cert.Backward.sig) → Buf (Elt Bits) ℓ) (g : Dev Cert.Backward.nD → PrngReg), Pre_Backward m →
    θ_run (Cert.Backward.defs (F := Bits)) (onTc (τ := Cert.Backward.τ) (Cert.Backward.main (F := Bits))) ⟨m, fun _ => 0, g⟩ (fun r => (∀ c : Dev Cert.Backward.nD,
      r.2.mem ((c.tc : Thread Cert.Backward.nD Cert.Backward.τ).loc Cert.Backward.main_arg0) = m ((c.tc : Thread Cert.Backward.nD Cert.Backward.τ).loc Cert.Backward.main_arg0)
      ∧ r.2.mem ((c.tc : Thread Cert.Backward.nD Cert.Backward.τ).loc Cert.Backward.main_arg1) = m ((c.tc : Thread Cert.Backward.nD Cert.Backward.τ).loc Cert.Backward.main_arg1)
      ∧ r.2.mem ((c.tc : Thread Cert.Backward.nD Cert.Backward.τ).loc Cert.Backward.main_arg2) = m ((c.tc : Thread Cert.Backward.nD Cert.Backward.τ).loc Cert.Backward.main_arg2)
      ∧ r.2.mem ((c.tc : Thread Cert.Backward.nD Cert.Backward.τ).loc Cert.Backward.main_arg3) = m ((c.tc : Thread Cert.Backward.nD Cert.Backward.τ).loc Cert.Backward.main_arg3)
      ∧ r.2.mem ((c.tc : Thread Cert.Backward.nD Cert.Backward.τ).loc Cert.Backward.main_arg4) = m ((c.tc : Thread Cert.Backward.nD Cert.Backward.τ).loc Cert.Backward.main_arg4)
      ∧ r.2.mem ((c.tc : Thread Cert.Backward.nD Cert.Backward.τ).loc Cert.Backward.main_arg5) = m ((c.tc : Thread Cert.Backward.nD Cert.Backward.τ).loc Cert.Backward.main_arg5)
      ∧ r.2.mem ((c.tc : Thread Cert.Backward.nD Cert.Backward.τ).loc Cert.Backward.main_arg6) = m ((c.tc : Thread Cert.Backward.nD Cert.Backward.τ).loc Cert.Backward.main_arg6))
      ∧ r.2.sem = fun _ => 0)

def quiescent_BackwardIdeal [hBackwardIdeal : Cert.BackwardIdeal.Facts] : Prop :=
  ∀ (m : (ℓ : Loc Cert.BackwardIdeal.nD Cert.BackwardIdeal.τ Cert.BackwardIdeal.sig) → Buf (Elt Ideal) ℓ) (g : Dev Cert.BackwardIdeal.nD → PrngReg), Pre_BackwardIdeal m →
    θ_run (Cert.BackwardIdeal.defs (F := Ideal)) (onTc (τ := Cert.BackwardIdeal.τ) (Cert.BackwardIdeal.main (F := Ideal))) ⟨m, fun _ => 0, g⟩ (fun r => (∀ c : Dev Cert.BackwardIdeal.nD,
      r.2.mem ((c.tc : Thread Cert.BackwardIdeal.nD Cert.BackwardIdeal.τ).loc Cert.BackwardIdeal.main_arg0) = m ((c.tc : Thread Cert.BackwardIdeal.nD Cert.BackwardIdeal.τ).loc Cert.BackwardIdeal.main_arg0)
      ∧ r.2.mem ((c.tc : Thread Cert.BackwardIdeal.nD Cert.BackwardIdeal.τ).loc Cert.BackwardIdeal.main_arg1) = m ((c.tc : Thread Cert.BackwardIdeal.nD Cert.BackwardIdeal.τ).loc Cert.BackwardIdeal.main_arg1)
      ∧ r.2.mem ((c.tc : Thread Cert.BackwardIdeal.nD Cert.BackwardIdeal.τ).loc Cert.BackwardIdeal.main_arg2) = m ((c.tc : Thread Cert.BackwardIdeal.nD Cert.BackwardIdeal.τ).loc Cert.BackwardIdeal.main_arg2)
      ∧ r.2.mem ((c.tc : Thread Cert.BackwardIdeal.nD Cert.BackwardIdeal.τ).loc Cert.BackwardIdeal.main_arg3) = m ((c.tc : Thread Cert.BackwardIdeal.nD Cert.BackwardIdeal.τ).loc Cert.BackwardIdeal.main_arg3)
      ∧ r.2.mem ((c.tc : Thread Cert.BackwardIdeal.nD Cert.BackwardIdeal.τ).loc Cert.BackwardIdeal.main_arg4) = m ((c.tc : Thread Cert.BackwardIdeal.nD Cert.BackwardIdeal.τ).loc Cert.BackwardIdeal.main_arg4)
      ∧ r.2.mem ((c.tc : Thread Cert.BackwardIdeal.nD Cert.BackwardIdeal.τ).loc Cert.BackwardIdeal.main_arg5) = m ((c.tc : Thread Cert.BackwardIdeal.nD Cert.BackwardIdeal.τ).loc Cert.BackwardIdeal.main_arg5)
      ∧ r.2.mem ((c.tc : Thread Cert.BackwardIdeal.nD Cert.BackwardIdeal.τ).loc Cert.BackwardIdeal.main_arg6) = m ((c.tc : Thread Cert.BackwardIdeal.nD Cert.BackwardIdeal.τ).loc Cert.BackwardIdeal.main_arg6))
      ∧ r.2.sem = fun _ => 0)

def quiescent_BackwardRefIdeal [hBackwardRefIdeal : Cert.BackwardRefIdeal.Facts] : Prop :=
  ∀ (m : (ℓ : Loc Cert.BackwardRefIdeal.nD Cert.BackwardRefIdeal.τ Cert.BackwardRefIdeal.sig) → Buf (Elt Ideal) ℓ) (g : Dev Cert.BackwardRefIdeal.nD → PrngReg), Pre_BackwardRefIdeal m →
    θ_run (Cert.BackwardRefIdeal.defs (F := Ideal)) (onTc (τ := Cert.BackwardRefIdeal.τ) (Cert.BackwardRefIdeal.main (F := Ideal))) ⟨m, fun _ => 0, g⟩ (fun r => (∀ c : Dev Cert.BackwardRefIdeal.nD,
      r.2.mem ((c.tc : Thread Cert.BackwardRefIdeal.nD Cert.BackwardRefIdeal.τ).loc Cert.BackwardRefIdeal.main_arg0) = m ((c.tc : Thread Cert.BackwardRefIdeal.nD Cert.BackwardRefIdeal.τ).loc Cert.BackwardRefIdeal.main_arg0)
      ∧ r.2.mem ((c.tc : Thread Cert.BackwardRefIdeal.nD Cert.BackwardRefIdeal.τ).loc Cert.BackwardRefIdeal.main_arg1) = m ((c.tc : Thread Cert.BackwardRefIdeal.nD Cert.BackwardRefIdeal.τ).loc Cert.BackwardRefIdeal.main_arg1)
      ∧ r.2.mem ((c.tc : Thread Cert.BackwardRefIdeal.nD Cert.BackwardRefIdeal.τ).loc Cert.BackwardRefIdeal.main_arg2) = m ((c.tc : Thread Cert.BackwardRefIdeal.nD Cert.BackwardRefIdeal.τ).loc Cert.BackwardRefIdeal.main_arg2)
      ∧ r.2.mem ((c.tc : Thread Cert.BackwardRefIdeal.nD Cert.BackwardRefIdeal.τ).loc Cert.BackwardRefIdeal.main_arg3) = m ((c.tc : Thread Cert.BackwardRefIdeal.nD Cert.BackwardRefIdeal.τ).loc Cert.BackwardRefIdeal.main_arg3)
      ∧ r.2.mem ((c.tc : Thread Cert.BackwardRefIdeal.nD Cert.BackwardRefIdeal.τ).loc Cert.BackwardRefIdeal.main_arg4) = m ((c.tc : Thread Cert.BackwardRefIdeal.nD Cert.BackwardRefIdeal.τ).loc Cert.BackwardRefIdeal.main_arg4)
      ∧ r.2.mem ((c.tc : Thread Cert.BackwardRefIdeal.nD Cert.BackwardRefIdeal.τ).loc Cert.BackwardRefIdeal.main_arg5) = m ((c.tc : Thread Cert.BackwardRefIdeal.nD Cert.BackwardRefIdeal.τ).loc Cert.BackwardRefIdeal.main_arg5)
      ∧ r.2.mem ((c.tc : Thread Cert.BackwardRefIdeal.nD Cert.BackwardRefIdeal.τ).loc Cert.BackwardRefIdeal.main_arg6) = m ((c.tc : Thread Cert.BackwardRefIdeal.nD Cert.BackwardRefIdeal.τ).loc Cert.BackwardRefIdeal.main_arg6))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2)
      ∧ r.2.mem ((c.tc : Thread Cert.Forward.nD Cert.Forward.τ).loc Cert.Forward.main_arg3) = m ((c.tc : Thread Cert.Forward.nD Cert.Forward.τ).loc Cert.Forward.main_arg3)
      ∧ r.2.mem ((c.tc : Thread Cert.Forward.nD Cert.Forward.τ).loc Cert.Forward.main_arg4) = m ((c.tc : Thread Cert.Forward.nD Cert.Forward.τ).loc Cert.Forward.main_arg4)
      ∧ r.2.mem ((c.tc : Thread Cert.Forward.nD Cert.Forward.τ).loc Cert.Forward.main_arg5) = m ((c.tc : Thread Cert.Forward.nD Cert.Forward.τ).loc Cert.Forward.main_arg5)
      ∧ r.2.mem ((c.tc : Thread Cert.Forward.nD Cert.Forward.τ).loc Cert.Forward.main_arg6) = m ((c.tc : Thread Cert.Forward.nD Cert.Forward.τ).loc Cert.Forward.main_arg6)
      ∧ r.2.mem ((c.tc : Thread Cert.Forward.nD Cert.Forward.τ).loc Cert.Forward.main_arg7) = m ((c.tc : Thread Cert.Forward.nD Cert.Forward.τ).loc Cert.Forward.main_arg7)
      ∧ r.2.mem ((c.tc : Thread Cert.Forward.nD Cert.Forward.τ).loc Cert.Forward.main_arg8) = m ((c.tc : Thread Cert.Forward.nD Cert.Forward.τ).loc Cert.Forward.main_arg8))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
      ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5)
      ∧ r.2.mem ((c.tc : Thread Cert.ForwardIdeal.nD Cert.ForwardIdeal.τ).loc Cert.ForwardIdeal.main_arg6) = m ((c.tc : Thread Cert.ForwardIdeal.nD Cert.ForwardIdeal.τ).loc Cert.ForwardIdeal.main_arg6)
      ∧ r.2.mem ((c.tc : Thread Cert.ForwardIdeal.nD Cert.ForwardIdeal.τ).loc Cert.ForwardIdeal.main_arg7) = m ((c.tc : Thread Cert.ForwardIdeal.nD Cert.ForwardIdeal.τ).loc Cert.ForwardIdeal.main_arg7)
      ∧ r.2.mem ((c.tc : Thread Cert.ForwardIdeal.nD Cert.ForwardIdeal.τ).loc Cert.ForwardIdeal.main_arg8) = m ((c.tc : Thread Cert.ForwardIdeal.nD Cert.ForwardIdeal.τ).loc Cert.ForwardIdeal.main_arg8))
      ∧ r.2.sem = fun _ => 0)

def quiescent_ForwardIdeal_pre_labels_in_vocabulary [hForwardIdeal : Cert.ForwardIdeal.Facts] [hPre_labels_in_vocabulary : Cert.Pre_labels_in_vocabulary.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal_labels_in_vocabulary m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
      ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5)
      ∧ r.2.mem ((c.tc : Thread Cert.ForwardIdeal.nD Cert.ForwardIdeal.τ).loc Cert.ForwardIdeal.main_arg6) = m ((c.tc : Thread Cert.ForwardIdeal.nD Cert.ForwardIdeal.τ).loc Cert.ForwardIdeal.main_arg6)
      ∧ r.2.mem ((c.tc : Thread Cert.ForwardIdeal.nD Cert.ForwardIdeal.τ).loc Cert.ForwardIdeal.main_arg7) = m ((c.tc : Thread Cert.ForwardIdeal.nD Cert.ForwardIdeal.τ).loc Cert.ForwardIdeal.main_arg7)
      ∧ r.2.mem ((c.tc : Thread Cert.ForwardIdeal.nD Cert.ForwardIdeal.τ).loc Cert.ForwardIdeal.main_arg8) = m ((c.tc : Thread Cert.ForwardIdeal.nD Cert.ForwardIdeal.τ).loc Cert.ForwardIdeal.main_arg8))
      ∧ r.2.sem = fun _ => 0)

def quiescent_ForwardRefIdeal [hForwardRefIdeal : Cert.ForwardRefIdeal.Facts] : Prop :=
  ∀ (m : (ℓ : Loc Cert.ForwardRefIdeal.nD Cert.ForwardRefIdeal.τ Cert.ForwardRefIdeal.sig) → Buf (Elt Ideal) ℓ) (g : Dev Cert.ForwardRefIdeal.nD → PrngReg), Pre_ForwardRefIdeal m →
    θ_run (Cert.ForwardRefIdeal.defs (F := Ideal)) (onTc (τ := Cert.ForwardRefIdeal.τ) (Cert.ForwardRefIdeal.main (F := Ideal))) ⟨m, fun _ => 0, g⟩ (fun r => (∀ c : Dev Cert.ForwardRefIdeal.nD,
      r.2.mem ((c.tc : Thread Cert.ForwardRefIdeal.nD Cert.ForwardRefIdeal.τ).loc Cert.ForwardRefIdeal.main_arg0) = m ((c.tc : Thread Cert.ForwardRefIdeal.nD Cert.ForwardRefIdeal.τ).loc Cert.ForwardRefIdeal.main_arg0)
      ∧ r.2.mem ((c.tc : Thread Cert.ForwardRefIdeal.nD Cert.ForwardRefIdeal.τ).loc Cert.ForwardRefIdeal.main_arg1) = m ((c.tc : Thread Cert.ForwardRefIdeal.nD Cert.ForwardRefIdeal.τ).loc Cert.ForwardRefIdeal.main_arg1)
      ∧ r.2.mem ((c.tc : Thread Cert.ForwardRefIdeal.nD Cert.ForwardRefIdeal.τ).loc Cert.ForwardRefIdeal.main_arg2) = m ((c.tc : Thread Cert.ForwardRefIdeal.nD Cert.ForwardRefIdeal.τ).loc Cert.ForwardRefIdeal.main_arg2)
      ∧ r.2.mem ((c.tc : Thread Cert.ForwardRefIdeal.nD Cert.ForwardRefIdeal.τ).loc Cert.ForwardRefIdeal.main_arg3) = m ((c.tc : Thread Cert.ForwardRefIdeal.nD Cert.ForwardRefIdeal.τ).loc Cert.ForwardRefIdeal.main_arg3)
      ∧ r.2.mem ((c.tc : Thread Cert.ForwardRefIdeal.nD Cert.ForwardRefIdeal.τ).loc Cert.ForwardRefIdeal.main_arg4) = m ((c.tc : Thread Cert.ForwardRefIdeal.nD Cert.ForwardRefIdeal.τ).loc Cert.ForwardRefIdeal.main_arg4)
      ∧ r.2.mem ((c.tc : Thread Cert.ForwardRefIdeal.nD Cert.ForwardRefIdeal.τ).loc Cert.ForwardRefIdeal.main_arg5) = m ((c.tc : Thread Cert.ForwardRefIdeal.nD Cert.ForwardRefIdeal.τ).loc Cert.ForwardRefIdeal.main_arg5)
      ∧ r.2.mem ((c.tc : Thread Cert.ForwardRefIdeal.nD Cert.ForwardRefIdeal.τ).loc Cert.ForwardRefIdeal.main_arg6) = m ((c.tc : Thread Cert.ForwardRefIdeal.nD Cert.ForwardRefIdeal.τ).loc Cert.ForwardRefIdeal.main_arg6)
      ∧ r.2.mem ((c.tc : Thread Cert.ForwardRefIdeal.nD Cert.ForwardRefIdeal.τ).loc Cert.ForwardRefIdeal.main_arg7) = m ((c.tc : Thread Cert.ForwardRefIdeal.nD Cert.ForwardRefIdeal.τ).loc Cert.ForwardRefIdeal.main_arg7)
      ∧ r.2.mem ((c.tc : Thread Cert.ForwardRefIdeal.nD Cert.ForwardRefIdeal.τ).loc Cert.ForwardRefIdeal.main_arg8) = m ((c.tc : Thread Cert.ForwardRefIdeal.nD Cert.ForwardRefIdeal.τ).loc Cert.ForwardRefIdeal.main_arg8))
      ∧ r.2.sem = fun _ => 0)

def quiescent_ForwardRefIdeal_pre_labels_in_vocabulary [hForwardRefIdeal : Cert.ForwardRefIdeal.Facts] [hPre_labels_in_vocabulary : Cert.Pre_labels_in_vocabulary.Facts] : Prop :=
  ∀ (m : (ℓ : Loc Cert.ForwardRefIdeal.nD Cert.ForwardRefIdeal.τ Cert.ForwardRefIdeal.sig) → Buf (Elt Ideal) ℓ) (g : Dev Cert.ForwardRefIdeal.nD → PrngReg), Pre_ForwardRefIdeal_labels_in_vocabulary m →
    θ_run (Cert.ForwardRefIdeal.defs (F := Ideal)) (onTc (τ := Cert.ForwardRefIdeal.τ) (Cert.ForwardRefIdeal.main (F := Ideal))) ⟨m, fun _ => 0, g⟩ (fun r => (∀ c : Dev Cert.ForwardRefIdeal.nD,
      r.2.mem ((c.tc : Thread Cert.ForwardRefIdeal.nD Cert.ForwardRefIdeal.τ).loc Cert.ForwardRefIdeal.main_arg0) = m ((c.tc : Thread Cert.ForwardRefIdeal.nD Cert.ForwardRefIdeal.τ).loc Cert.ForwardRefIdeal.main_arg0)
      ∧ r.2.mem ((c.tc : Thread Cert.ForwardRefIdeal.nD Cert.ForwardRefIdeal.τ).loc Cert.ForwardRefIdeal.main_arg1) = m ((c.tc : Thread Cert.ForwardRefIdeal.nD Cert.ForwardRefIdeal.τ).loc Cert.ForwardRefIdeal.main_arg1)
      ∧ r.2.mem ((c.tc : Thread Cert.ForwardRefIdeal.nD Cert.ForwardRefIdeal.τ).loc Cert.ForwardRefIdeal.main_arg2) = m ((c.tc : Thread Cert.ForwardRefIdeal.nD Cert.ForwardRefIdeal.τ).loc Cert.ForwardRefIdeal.main_arg2)
      ∧ r.2.mem ((c.tc : Thread Cert.ForwardRefIdeal.nD Cert.ForwardRefIdeal.τ).loc Cert.ForwardRefIdeal.main_arg3) = m ((c.tc : Thread Cert.ForwardRefIdeal.nD Cert.ForwardRefIdeal.τ).loc Cert.ForwardRefIdeal.main_arg3)
      ∧ r.2.mem ((c.tc : Thread Cert.ForwardRefIdeal.nD Cert.ForwardRefIdeal.τ).loc Cert.ForwardRefIdeal.main_arg4) = m ((c.tc : Thread Cert.ForwardRefIdeal.nD Cert.ForwardRefIdeal.τ).loc Cert.ForwardRefIdeal.main_arg4)
      ∧ r.2.mem ((c.tc : Thread Cert.ForwardRefIdeal.nD Cert.ForwardRefIdeal.τ).loc Cert.ForwardRefIdeal.main_arg5) = m ((c.tc : Thread Cert.ForwardRefIdeal.nD Cert.ForwardRefIdeal.τ).loc Cert.ForwardRefIdeal.main_arg5)
      ∧ r.2.mem ((c.tc : Thread Cert.ForwardRefIdeal.nD Cert.ForwardRefIdeal.τ).loc Cert.ForwardRefIdeal.main_arg6) = m ((c.tc : Thread Cert.ForwardRefIdeal.nD Cert.ForwardRefIdeal.τ).loc Cert.ForwardRefIdeal.main_arg6)
      ∧ r.2.mem ((c.tc : Thread Cert.ForwardRefIdeal.nD Cert.ForwardRefIdeal.τ).loc Cert.ForwardRefIdeal.main_arg7) = m ((c.tc : Thread Cert.ForwardRefIdeal.nD Cert.ForwardRefIdeal.τ).loc Cert.ForwardRefIdeal.main_arg7)
      ∧ r.2.mem ((c.tc : Thread Cert.ForwardRefIdeal.nD Cert.ForwardRefIdeal.τ).loc Cert.ForwardRefIdeal.main_arg8) = m ((c.tc : Thread Cert.ForwardRefIdeal.nD Cert.ForwardRefIdeal.τ).loc Cert.ForwardRefIdeal.main_arg8))
      ∧ r.2.sem = fun _ => 0)

def preserves_Backward_BackwardIdeal : Prop :=
  True

def algebraic_BackwardIdeal_BackwardRefIdeal [hBackwardIdeal : Cert.BackwardIdeal.Facts] [hBackwardRefIdeal : Cert.BackwardRefIdeal.Facts] : Prop :=
  ∀ (m : (ℓ : Loc Cert.BackwardIdeal.nD Cert.BackwardIdeal.τ Cert.BackwardIdeal.sig) → Buf (Elt Ideal) ℓ) (g : Dev Cert.BackwardIdeal.nD → PrngReg)
    (m' : (ℓ : Loc Cert.BackwardRefIdeal.nD Cert.BackwardRefIdeal.τ Cert.BackwardRefIdeal.sig) → Buf (Elt Ideal) ℓ) (g' : Dev Cert.BackwardRefIdeal.nD → PrngReg), Pre_BackwardIdeal m →
    (∀ c : Dev Cert.BackwardIdeal.nD,
      m' ((c.tc : Thread Cert.BackwardRefIdeal.nD Cert.BackwardRefIdeal.τ).loc Cert.BackwardRefIdeal.main_arg0) = m ((c.tc : Thread Cert.BackwardIdeal.nD Cert.BackwardIdeal.τ).loc Cert.BackwardIdeal.main_arg0)
      ∧ m' ((c.tc : Thread Cert.BackwardRefIdeal.nD Cert.BackwardRefIdeal.τ).loc Cert.BackwardRefIdeal.main_arg1) = m ((c.tc : Thread Cert.BackwardIdeal.nD Cert.BackwardIdeal.τ).loc Cert.BackwardIdeal.main_arg1)
      ∧ m' ((c.tc : Thread Cert.BackwardRefIdeal.nD Cert.BackwardRefIdeal.τ).loc Cert.BackwardRefIdeal.main_arg2) = m ((c.tc : Thread Cert.BackwardIdeal.nD Cert.BackwardIdeal.τ).loc Cert.BackwardIdeal.main_arg2)
      ∧ m' ((c.tc : Thread Cert.BackwardRefIdeal.nD Cert.BackwardRefIdeal.τ).loc Cert.BackwardRefIdeal.main_arg3) = m ((c.tc : Thread Cert.BackwardIdeal.nD Cert.BackwardIdeal.τ).loc Cert.BackwardIdeal.main_arg3)
      ∧ m' ((c.tc : Thread Cert.BackwardRefIdeal.nD Cert.BackwardRefIdeal.τ).loc Cert.BackwardRefIdeal.main_arg4) = m ((c.tc : Thread Cert.BackwardIdeal.nD Cert.BackwardIdeal.τ).loc Cert.BackwardIdeal.main_arg4)
      ∧ m' ((c.tc : Thread Cert.BackwardRefIdeal.nD Cert.BackwardRefIdeal.τ).loc Cert.BackwardRefIdeal.main_arg5) = m ((c.tc : Thread Cert.BackwardIdeal.nD Cert.BackwardIdeal.τ).loc Cert.BackwardIdeal.main_arg5)
      ∧ m' ((c.tc : Thread Cert.BackwardRefIdeal.nD Cert.BackwardRefIdeal.τ).loc Cert.BackwardRefIdeal.main_arg6) = m ((c.tc : Thread Cert.BackwardIdeal.nD Cert.BackwardIdeal.τ).loc Cert.BackwardIdeal.main_arg6)) →
    ∃ (v0 : (c : Dev Cert.BackwardIdeal.nD) → Buf (Elt Ideal) ((c.tc : Thread Cert.BackwardIdeal.nD Cert.BackwardIdeal.τ).loc Cert.BackwardIdeal.main_v9_0)) (v1 : (c : Dev Cert.BackwardIdeal.nD) → Buf (Elt Ideal) ((c.tc : Thread Cert.BackwardIdeal.nD Cert.BackwardIdeal.τ).loc Cert.BackwardIdeal.main_v9_1)) (v2 : (c : Dev Cert.BackwardIdeal.nD) → Buf (Elt Ideal) ((c.tc : Thread Cert.BackwardIdeal.nD Cert.BackwardIdeal.τ).loc Cert.BackwardIdeal.main_v9_2)) (v3 : (c : Dev Cert.BackwardIdeal.nD) → Buf (Elt Ideal) ((c.tc : Thread Cert.BackwardIdeal.nD Cert.BackwardIdeal.τ).loc Cert.BackwardIdeal.main_v9_3)),
      θ_run (Cert.BackwardIdeal.defs (F := Ideal)) (onTc (τ := Cert.BackwardIdeal.τ) (Cert.BackwardIdeal.main (F := Ideal))) ⟨m, fun _ => 0, g⟩ (fun r => ∀ c : Dev Cert.BackwardIdeal.nD,
          r.2.mem ((c.tc : Thread Cert.BackwardIdeal.nD Cert.BackwardIdeal.τ).loc Cert.BackwardIdeal.main_v9_0) = v0 c
          ∧ r.2.mem ((c.tc : Thread Cert.BackwardIdeal.nD Cert.BackwardIdeal.τ).loc Cert.BackwardIdeal.main_v9_1) = v1 c
          ∧ r.2.mem ((c.tc : Thread Cert.BackwardIdeal.nD Cert.BackwardIdeal.τ).loc Cert.BackwardIdeal.main_v9_2) = v2 c
          ∧ r.2.mem ((c.tc : Thread Cert.BackwardIdeal.nD Cert.BackwardIdeal.τ).loc Cert.BackwardIdeal.main_v9_3) = v3 c
          ∧ r.2.mem ((c.tc : Thread Cert.BackwardIdeal.nD Cert.BackwardIdeal.τ).loc Cert.BackwardIdeal.main_arg0) = m ((c.tc : Thread Cert.BackwardIdeal.nD Cert.BackwardIdeal.τ).loc Cert.BackwardIdeal.main_arg0)
          ∧ r.2.mem ((c.tc : Thread Cert.BackwardIdeal.nD Cert.BackwardIdeal.τ).loc Cert.BackwardIdeal.main_arg1) = m ((c.tc : Thread Cert.BackwardIdeal.nD Cert.BackwardIdeal.τ).loc Cert.BackwardIdeal.main_arg1)
          ∧ r.2.mem ((c.tc : Thread Cert.BackwardIdeal.nD Cert.BackwardIdeal.τ).loc Cert.BackwardIdeal.main_arg2) = m ((c.tc : Thread Cert.BackwardIdeal.nD Cert.BackwardIdeal.τ).loc Cert.BackwardIdeal.main_arg2)
          ∧ r.2.mem ((c.tc : Thread Cert.BackwardIdeal.nD Cert.BackwardIdeal.τ).loc Cert.BackwardIdeal.main_arg3) = m ((c.tc : Thread Cert.BackwardIdeal.nD Cert.BackwardIdeal.τ).loc Cert.BackwardIdeal.main_arg3)
          ∧ r.2.mem ((c.tc : Thread Cert.BackwardIdeal.nD Cert.BackwardIdeal.τ).loc Cert.BackwardIdeal.main_arg4) = m ((c.tc : Thread Cert.BackwardIdeal.nD Cert.BackwardIdeal.τ).loc Cert.BackwardIdeal.main_arg4)
          ∧ r.2.mem ((c.tc : Thread Cert.BackwardIdeal.nD Cert.BackwardIdeal.τ).loc Cert.BackwardIdeal.main_arg5) = m ((c.tc : Thread Cert.BackwardIdeal.nD Cert.BackwardIdeal.τ).loc Cert.BackwardIdeal.main_arg5)
          ∧ r.2.mem ((c.tc : Thread Cert.BackwardIdeal.nD Cert.BackwardIdeal.τ).loc Cert.BackwardIdeal.main_arg6) = m ((c.tc : Thread Cert.BackwardIdeal.nD Cert.BackwardIdeal.τ).loc Cert.BackwardIdeal.main_arg6))
      ∧ θ_run (Cert.BackwardRefIdeal.defs (F := Ideal)) (onTc (τ := Cert.BackwardRefIdeal.τ) (Cert.BackwardRefIdeal.main (F := Ideal))) ⟨m', fun _ => 0, g'⟩ (fun r => ∀ c : Dev Cert.BackwardRefIdeal.nD,
          r.2.mem ((c.tc : Thread Cert.BackwardRefIdeal.nD Cert.BackwardRefIdeal.τ).loc Cert.BackwardRefIdeal.main_v3_0) = v0 c
          ∧ r.2.mem ((c.tc : Thread Cert.BackwardRefIdeal.nD Cert.BackwardRefIdeal.τ).loc Cert.BackwardRefIdeal.main_v3_1) = v1 c
          ∧ r.2.mem ((c.tc : Thread Cert.BackwardRefIdeal.nD Cert.BackwardRefIdeal.τ).loc Cert.BackwardRefIdeal.main_v3_2) = v2 c
          ∧ r.2.mem ((c.tc : Thread Cert.BackwardRefIdeal.nD Cert.BackwardRefIdeal.τ).loc Cert.BackwardRefIdeal.main_v3_3) = v3 c
          ∧ r.2.mem ((c.tc : Thread Cert.BackwardRefIdeal.nD Cert.BackwardRefIdeal.τ).loc Cert.BackwardRefIdeal.main_arg0) = m' ((c.tc : Thread Cert.BackwardRefIdeal.nD Cert.BackwardRefIdeal.τ).loc Cert.BackwardRefIdeal.main_arg0)
          ∧ r.2.mem ((c.tc : Thread Cert.BackwardRefIdeal.nD Cert.BackwardRefIdeal.τ).loc Cert.BackwardRefIdeal.main_arg1) = m' ((c.tc : Thread Cert.BackwardRefIdeal.nD Cert.BackwardRefIdeal.τ).loc Cert.BackwardRefIdeal.main_arg1)
          ∧ r.2.mem ((c.tc : Thread Cert.BackwardRefIdeal.nD Cert.BackwardRefIdeal.τ).loc Cert.BackwardRefIdeal.main_arg2) = m' ((c.tc : Thread Cert.BackwardRefIdeal.nD Cert.BackwardRefIdeal.τ).loc Cert.BackwardRefIdeal.main_arg2)
          ∧ r.2.mem ((c.tc : Thread Cert.BackwardRefIdeal.nD Cert.BackwardRefIdeal.τ).loc Cert.BackwardRefIdeal.main_arg3) = m' ((c.tc : Thread Cert.BackwardRefIdeal.nD Cert.BackwardRefIdeal.τ).loc Cert.BackwardRefIdeal.main_arg3)
          ∧ r.2.mem ((c.tc : Thread Cert.BackwardRefIdeal.nD Cert.BackwardRefIdeal.τ).loc Cert.BackwardRefIdeal.main_arg4) = m' ((c.tc : Thread Cert.BackwardRefIdeal.nD Cert.BackwardRefIdeal.τ).loc Cert.BackwardRefIdeal.main_arg4)
          ∧ r.2.mem ((c.tc : Thread Cert.BackwardRefIdeal.nD Cert.BackwardRefIdeal.τ).loc Cert.BackwardRefIdeal.main_arg5) = m' ((c.tc : Thread Cert.BackwardRefIdeal.nD Cert.BackwardRefIdeal.τ).loc Cert.BackwardRefIdeal.main_arg5)
          ∧ r.2.mem ((c.tc : Thread Cert.BackwardRefIdeal.nD Cert.BackwardRefIdeal.τ).loc Cert.BackwardRefIdeal.main_arg6) = m' ((c.tc : Thread Cert.BackwardRefIdeal.nD Cert.BackwardRefIdeal.τ).loc Cert.BackwardRefIdeal.main_arg6))

def preserves_Forward_ForwardIdeal : Prop :=
  IdealRules.named_const.Statement Cert.ForwardIdeal.κ "masked" .f32 0xF149F2CA#32 ⊥

def algebraic_ForwardIdeal_ForwardRefIdeal_pre_labels_in_vocabulary [hForwardIdeal : Cert.ForwardIdeal.Facts] [hForwardRefIdeal : Cert.ForwardRefIdeal.Facts] [hPre_labels_in_vocabulary : Cert.Pre_labels_in_vocabulary.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardRefIdeal.nD Cert.ForwardRefIdeal.τ Cert.ForwardRefIdeal.sig) → Buf (Elt Ideal) ℓ) (g' : Dev Cert.ForwardRefIdeal.nD → PrngReg), Pre_ForwardIdeal_labels_in_vocabulary m →
    (∀ c : Dev Cert.ForwardIdeal.nD,
      m' ((c.tc : Thread Cert.ForwardRefIdeal.nD Cert.ForwardRefIdeal.τ).loc Cert.ForwardRefIdeal.main_arg0) = m ((c.tc : Thread Cert.ForwardIdeal.nD Cert.ForwardIdeal.τ).loc Cert.ForwardIdeal.main_arg0)
      ∧ m' ((c.tc : Thread Cert.ForwardRefIdeal.nD Cert.ForwardRefIdeal.τ).loc Cert.ForwardRefIdeal.main_arg1) = m ((c.tc : Thread Cert.ForwardIdeal.nD Cert.ForwardIdeal.τ).loc Cert.ForwardIdeal.main_arg1)
      ∧ m' ((c.tc : Thread Cert.ForwardRefIdeal.nD Cert.ForwardRefIdeal.τ).loc Cert.ForwardRefIdeal.main_arg2) = m ((c.tc : Thread Cert.ForwardIdeal.nD Cert.ForwardIdeal.τ).loc Cert.ForwardIdeal.main_arg2)
      ∧ m' ((c.tc : Thread Cert.ForwardRefIdeal.nD Cert.ForwardRefIdeal.τ).loc Cert.ForwardRefIdeal.main_arg3) = m ((c.tc : Thread Cert.ForwardIdeal.nD Cert.ForwardIdeal.τ).loc Cert.ForwardIdeal.main_arg3)
      ∧ m' ((c.tc : Thread Cert.ForwardRefIdeal.nD Cert.ForwardRefIdeal.τ).loc Cert.ForwardRefIdeal.main_arg4) = m ((c.tc : Thread Cert.ForwardIdeal.nD Cert.ForwardIdeal.τ).loc Cert.ForwardIdeal.main_arg4)
      ∧ m' ((c.tc : Thread Cert.ForwardRefIdeal.nD Cert.ForwardRefIdeal.τ).loc Cert.ForwardRefIdeal.main_arg5) = m ((c.tc : Thread Cert.ForwardIdeal.nD Cert.ForwardIdeal.τ).loc Cert.ForwardIdeal.main_arg5)
      ∧ m' ((c.tc : Thread Cert.ForwardRefIdeal.nD Cert.ForwardRefIdeal.τ).loc Cert.ForwardRefIdeal.main_arg6) = m ((c.tc : Thread Cert.ForwardIdeal.nD Cert.ForwardIdeal.τ).loc Cert.ForwardIdeal.main_arg6)
      ∧ m' ((c.tc : Thread Cert.ForwardRefIdeal.nD Cert.ForwardRefIdeal.τ).loc Cert.ForwardRefIdeal.main_arg7) = m ((c.tc : Thread Cert.ForwardIdeal.nD Cert.ForwardIdeal.τ).loc Cert.ForwardIdeal.main_arg7)
      ∧ m' ((c.tc : Thread Cert.ForwardRefIdeal.nD Cert.ForwardRefIdeal.τ).loc Cert.ForwardRefIdeal.main_arg8) = m ((c.tc : Thread Cert.ForwardIdeal.nD Cert.ForwardIdeal.τ).loc Cert.ForwardIdeal.main_arg8)) →
    ∃ (v0 : (c : Dev Cert.ForwardIdeal.nD) → Buf (Elt Ideal) ((c.tc : Thread Cert.ForwardIdeal.nD Cert.ForwardIdeal.τ).loc Cert.ForwardIdeal.main_v10_0)) (v1 : (c : Dev Cert.ForwardIdeal.nD) → Buf (Elt Ideal) ((c.tc : Thread Cert.ForwardIdeal.nD Cert.ForwardIdeal.τ).loc Cert.ForwardIdeal.main_v10_1)) (v2 : (c : Dev Cert.ForwardIdeal.nD) → Buf (Elt Ideal) ((c.tc : Thread Cert.ForwardIdeal.nD Cert.ForwardIdeal.τ).loc Cert.ForwardIdeal.main_v10_2)) (v3 : (c : Dev Cert.ForwardIdeal.nD) → Buf (Elt Ideal) ((c.tc : Thread Cert.ForwardIdeal.nD Cert.ForwardIdeal.τ).loc Cert.ForwardIdeal.main_v10_3)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v10_0) = v0 c
          ∧ r.2.mem ((c.tc : Thread Cert.ForwardIdeal.nD Cert.ForwardIdeal.τ).loc Cert.ForwardIdeal.main_v10_1) = v1 c
          ∧ r.2.mem ((c.tc : Thread Cert.ForwardIdeal.nD Cert.ForwardIdeal.τ).loc Cert.ForwardIdeal.main_v10_2) = v2 c
          ∧ r.2.mem ((c.tc : Thread Cert.ForwardIdeal.nD Cert.ForwardIdeal.τ).loc Cert.ForwardIdeal.main_v10_3) = v3 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
          ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
          ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
          ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5)
          ∧ r.2.mem ((c.tc : Thread Cert.ForwardIdeal.nD Cert.ForwardIdeal.τ).loc Cert.ForwardIdeal.main_arg6) = m ((c.tc : Thread Cert.ForwardIdeal.nD Cert.ForwardIdeal.τ).loc Cert.ForwardIdeal.main_arg6)
          ∧ r.2.mem ((c.tc : Thread Cert.ForwardIdeal.nD Cert.ForwardIdeal.τ).loc Cert.ForwardIdeal.main_arg7) = m ((c.tc : Thread Cert.ForwardIdeal.nD Cert.ForwardIdeal.τ).loc Cert.ForwardIdeal.main_arg7)
          ∧ r.2.mem ((c.tc : Thread Cert.ForwardIdeal.nD Cert.ForwardIdeal.τ).loc Cert.ForwardIdeal.main_arg8) = m ((c.tc : Thread Cert.ForwardIdeal.nD Cert.ForwardIdeal.τ).loc Cert.ForwardIdeal.main_arg8))
      ∧ θ_run (Cert.ForwardRefIdeal.defs (F := Ideal)) (onTc (τ := Cert.ForwardRefIdeal.τ) (Cert.ForwardRefIdeal.main (F := Ideal))) ⟨m', fun _ => 0, g'⟩ (fun r => ∀ c : Dev Cert.ForwardRefIdeal.nD,
          r.2.mem ((c.tc : Thread Cert.ForwardRefIdeal.nD Cert.ForwardRefIdeal.τ).loc Cert.ForwardRefIdeal.main_v5_0) = v0 c
          ∧ r.2.mem ((c.tc : Thread Cert.ForwardRefIdeal.nD Cert.ForwardRefIdeal.τ).loc Cert.ForwardRefIdeal.main_v5_1) = v1 c
          ∧ r.2.mem ((c.tc : Thread Cert.ForwardRefIdeal.nD Cert.ForwardRefIdeal.τ).loc Cert.ForwardRefIdeal.main_v5_2) = v2 c
          ∧ r.2.mem ((c.tc : Thread Cert.ForwardRefIdeal.nD Cert.ForwardRefIdeal.τ).loc Cert.ForwardRefIdeal.main_v5_3) = v3 c
          ∧ r.2.mem ((c.tc : Thread Cert.ForwardRefIdeal.nD Cert.ForwardRefIdeal.τ).loc Cert.ForwardRefIdeal.main_arg0) = m' ((c.tc : Thread Cert.ForwardRefIdeal.nD Cert.ForwardRefIdeal.τ).loc Cert.ForwardRefIdeal.main_arg0)
          ∧ r.2.mem ((c.tc : Thread Cert.ForwardRefIdeal.nD Cert.ForwardRefIdeal.τ).loc Cert.ForwardRefIdeal.main_arg1) = m' ((c.tc : Thread Cert.ForwardRefIdeal.nD Cert.ForwardRefIdeal.τ).loc Cert.ForwardRefIdeal.main_arg1)
          ∧ r.2.mem ((c.tc : Thread Cert.ForwardRefIdeal.nD Cert.ForwardRefIdeal.τ).loc Cert.ForwardRefIdeal.main_arg2) = m' ((c.tc : Thread Cert.ForwardRefIdeal.nD Cert.ForwardRefIdeal.τ).loc Cert.ForwardRefIdeal.main_arg2)
          ∧ r.2.mem ((c.tc : Thread Cert.ForwardRefIdeal.nD Cert.ForwardRefIdeal.τ).loc Cert.ForwardRefIdeal.main_arg3) = m' ((c.tc : Thread Cert.ForwardRefIdeal.nD Cert.ForwardRefIdeal.τ).loc Cert.ForwardRefIdeal.main_arg3)
          ∧ r.2.mem ((c.tc : Thread Cert.ForwardRefIdeal.nD Cert.ForwardRefIdeal.τ).loc Cert.ForwardRefIdeal.main_arg4) = m' ((c.tc : Thread Cert.ForwardRefIdeal.nD Cert.ForwardRefIdeal.τ).loc Cert.ForwardRefIdeal.main_arg4)
          ∧ r.2.mem ((c.tc : Thread Cert.ForwardRefIdeal.nD Cert.ForwardRefIdeal.τ).loc Cert.ForwardRefIdeal.main_arg5) = m' ((c.tc : Thread Cert.ForwardRefIdeal.nD Cert.ForwardRefIdeal.τ).loc Cert.ForwardRefIdeal.main_arg5)
          ∧ r.2.mem ((c.tc : Thread Cert.ForwardRefIdeal.nD Cert.ForwardRefIdeal.τ).loc Cert.ForwardRefIdeal.main_arg6) = m' ((c.tc : Thread Cert.ForwardRefIdeal.nD Cert.ForwardRefIdeal.τ).loc Cert.ForwardRefIdeal.main_arg6)
          ∧ r.2.mem ((c.tc : Thread Cert.ForwardRefIdeal.nD Cert.ForwardRefIdeal.τ).loc Cert.ForwardRefIdeal.main_arg7) = m' ((c.tc : Thread Cert.ForwardRefIdeal.nD Cert.ForwardRefIdeal.τ).loc Cert.ForwardRefIdeal.main_arg7)
          ∧ r.2.mem ((c.tc : Thread Cert.ForwardRefIdeal.nD Cert.ForwardRefIdeal.τ).loc Cert.ForwardRefIdeal.main_arg8) = m' ((c.tc : Thread Cert.ForwardRefIdeal.nD Cert.ForwardRefIdeal.τ).loc Cert.ForwardRefIdeal.main_arg8))

def Claim : Prop :=
  ∃ (hBackward : Cert.Backward.Facts) (hBackwardIdeal : Cert.BackwardIdeal.Facts) (hBackwardRefIdeal : Cert.BackwardRefIdeal.Facts) (hForward : Cert.Forward.Facts) (hForwardIdeal : Cert.ForwardIdeal.Facts) (hForwardRefIdeal : Cert.ForwardRefIdeal.Facts) (hPre_labels_in_vocabulary : Cert.Pre_labels_in_vocabulary.Facts),
    quiescent_Backward (hBackward := hBackward)
    ∧ quiescent_BackwardIdeal (hBackwardIdeal := hBackwardIdeal)
    ∧ quiescent_BackwardRefIdeal (hBackwardRefIdeal := hBackwardRefIdeal)
    ∧ quiescent_Forward (hForward := hForward)
    ∧ quiescent_ForwardIdeal (hForwardIdeal := hForwardIdeal)
    ∧ quiescent_ForwardIdeal_pre_labels_in_vocabulary (hForwardIdeal := hForwardIdeal) (hPre_labels_in_vocabulary := hPre_labels_in_vocabulary)
    ∧ quiescent_ForwardRefIdeal (hForwardRefIdeal := hForwardRefIdeal)
    ∧ quiescent_ForwardRefIdeal_pre_labels_in_vocabulary (hForwardRefIdeal := hForwardRefIdeal) (hPre_labels_in_vocabulary := hPre_labels_in_vocabulary)
    ∧ preserves_Backward_BackwardIdeal
    ∧ algebraic_BackwardIdeal_BackwardRefIdeal (hBackwardIdeal := hBackwardIdeal) (hBackwardRefIdeal := hBackwardRefIdeal)
    ∧ preserves_Forward_ForwardIdeal
    ∧ algebraic_ForwardIdeal_ForwardRefIdeal_pre_labels_in_vocabulary (hForwardIdeal := hForwardIdeal) (hForwardRefIdeal := hForwardRefIdeal) (hPre_labels_in_vocabulary := hPre_labels_in_vocabulary)
-- ==== Pre_labels_in_vocabulary.lean ====
abbrev S5120x4096 : Shape := ⟨2, ![5120, 4096]⟩
abbrev S5120 : Shape := ⟨1, ![5120]⟩
abbrev S5120x16 : Shape := ⟨2, ![5120, 16]⟩
abbrev S64128x4096 : Shape := ⟨2, ![64128, 4096]⟩
abbrev S64512 : Shape := ⟨1, ![64512]⟩
abbrev S64512x16 : Shape := ⟨2, ![64512, 16]⟩
abbrev S_ : Shape := ⟨0, ![]⟩

class Facts : Prop where
  bcast_S_S5120 : S_.BroadcastsInDim S5120 (![] : Fin 0 → Fin S5120.rank)

variable [Facts]

def fn {F : FTy → Type} [FloatOps F] (main_arg0 : FVec F S5120x4096 .fp8e4m3) (main_arg1 : FVec F S5120x4096 .fp8e4m3) (main_arg2 : FVec F S5120 .f32) (main_arg3 : FVec F S5120 .f32) (main_arg4 : FVec F S5120x16 .bf16) (main_arg5 : IVec S5120 32) (main_arg6 : FVec F S64128x4096 .fp8e4m3) (main_arg7 : FVec F S64512 .f32) (main_arg8 : FVec F S64512x16 .bf16) : IVec S5120 1 :=
  let main_c : IVec S_ 32 := constantI S_ 32 64128#32
  let main_v0 : IVec S5120 32 := broadcastInDim S5120 ![] bcast_S_S5120 main_c
  let main_v1 : IVec S5120 1 := cmpi .slt main_arg5 main_v0
  main_v1
-- ==== Backward.lean ====
abbrev S5120x64512 : Shape := ⟨2, ![5120, 64512]⟩
abbrev S5120 : Shape := ⟨1, ![5120]⟩
abbrev S64512x4096 : Shape := ⟨2, ![64512, 4096]⟩
abbrev S64512x16 : Shape := ⟨2, ![64512, 16]⟩
abbrev S5120x16 : Shape := ⟨2, ![5120, 16]⟩
abbrev S1 : Shape := ⟨1, ![1]⟩
abbrev S5120x1 : Shape := ⟨2, ![5120, 1]⟩
abbrev S5120x128 : Shape := ⟨2, ![5120, 128]⟩
abbrev S16x64512 : Shape := ⟨2, ![16, 64512]⟩
abbrev S16x5120 : Shape := ⟨2, ![16, 5120]⟩
abbrev S1x1 : Shape := ⟨2, ![1, 1]⟩
abbrev S5120x64128 : Shape := ⟨2, ![5120, 64128]⟩
abbrev S5120x4096 : Shape := ⟨2, ![5120, 4096]⟩
abbrev S1280x1024 : Shape := ⟨2, ![1280, 1024]⟩
abbrev S1280x128 : Shape := ⟨2, ![1280, 128]⟩
abbrev S1024x4096 : Shape := ⟨2, ![1024, 4096]⟩
abbrev S16x1024 : Shape := ⟨2, ![16, 1024]⟩
abbrev S16x1280 : Shape := ⟨2, ![16, 1280]⟩
abbrev S1280x4096 : Shape := ⟨2, ![1280, 4096]⟩
abbrev S1x1024 : Shape := ⟨2, ![1, 1024]⟩
abbrev S256x1024 : Shape := ⟨2, ![256, 1024]⟩
abbrev S256x128 : Shape := ⟨2, ![256, 128]⟩
abbrev S256x4096 : Shape := ⟨2, ![256, 4096]⟩
abbrev S16x256 : Shape := ⟨2, ![16, 256]⟩

abbrev nBuf : Space → Nat
  | .hbm => 20
  | .vmem => 18
  | .smem => 1
  | _ => 0

abbrev bufTy : (tb : Table) → Fin (tcTables nBuf tb) → BufTy
  | .hbm, ⟨0, _⟩ => ⟨S5120x64512, .f32⟩
  | .hbm, ⟨1, _⟩ => ⟨S5120, .f32⟩
  | .hbm, ⟨2, _⟩ => ⟨S5120, .i32⟩
  | .hbm, ⟨3, _⟩ => ⟨S64512x4096, .bf16⟩
  | .hbm, ⟨4, _⟩ => ⟨S64512x16, .bf16⟩
  | .hbm, ⟨5, _⟩ => ⟨S5120x16, .bf16⟩
  | .hbm, ⟨6, _⟩ => ⟨S1, .f32⟩
  | .hbm, ⟨7, _⟩ => ⟨S5120x1, .i32⟩
  | .hbm, ⟨8, _⟩ => ⟨S5120x128, .i32⟩
  | .hbm, ⟨9, _⟩ => ⟨S5120x128, .i32⟩
  | .hbm, ⟨10, _⟩ => ⟨S5120x128, .i32⟩
  | .hbm, ⟨11, _⟩ => ⟨S5120x1, .f32⟩
  | .hbm, ⟨12, _⟩ => ⟨S5120x128, .f32⟩
  | .hbm, ⟨13, _⟩ => ⟨S16x64512, .bf16⟩
  | .hbm, ⟨14, _⟩ => ⟨S16x5120, .bf16⟩
  | .hbm, ⟨15, _⟩ => ⟨S1x1, .f32⟩
  | .hbm, ⟨16, _⟩ => ⟨S5120x64128, .fp8e5m2⟩
  | .hbm, ⟨17, _⟩ => ⟨S5120x4096, .f32⟩
  | .hbm, ⟨18, _⟩ => ⟨S16x5120, .f32⟩
  | .hbm, ⟨19, _⟩ => ⟨S16x64512, .f32⟩
  | .local _ .vmem, ⟨0, _⟩ => ⟨S1280x1024, .f32⟩
  | .local _ .vmem, ⟨1, _⟩ => ⟨S1280x1024, .f32⟩
  | .local _ .vmem, ⟨2, _⟩ => ⟨S1280x128, .f32⟩
  | .local _ .vmem, ⟨3, _⟩ => ⟨S1280x128, .f32⟩
  | .local _ .vmem, ⟨4, _⟩ => ⟨S1280x128, .i32⟩
  | .local _ .vmem, ⟨5, _⟩ => ⟨S1280x128, .i32⟩
  | .local _ .vmem, ⟨6, _⟩ => ⟨S1024x4096, .bf16⟩
  | .local _ .vmem, ⟨7, _⟩ => ⟨S1024x4096, .bf16⟩
  | .local _ .vmem, ⟨8, _⟩ => ⟨S16x1024, .bf16⟩
  | .local _ .vmem, ⟨9, _⟩ => ⟨S16x1024, .bf16⟩
  | .local _ .vmem, ⟨10, _⟩ => ⟨S16x1280, .bf16⟩
  | .local _ .vmem, ⟨11, _⟩ => ⟨S16x1280, .bf16⟩
  | .local _ .vmem, ⟨12, _⟩ => ⟨S1280x1024, .fp8e5m2⟩
  | .local _ .vmem, ⟨13, _⟩ => ⟨S1280x1024, .fp8e5m2⟩
  | .local _ .vmem, ⟨14, _⟩ => ⟨S1280x4096, .f32⟩
  | .local _ .vmem, ⟨15, _⟩ => ⟨S16x1280, .f32⟩
  | .local _ .vmem, ⟨16, _⟩ => ⟨S16x1280, .f32⟩
  | .local _ .vmem, ⟨17, _⟩ => ⟨S16x64512, .f32⟩
  | .local _ .smem, ⟨0, _⟩ => ⟨S1x1, .f32⟩
  | _, _ => ⟨S5120x64512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨2, ![4, 63], ![false, false]⟩

def k0_mult1 (i : grid0.Coords) : BitVec 32 :=
  let arg1 : BitVec 32 := BitVec.ofNat 32 (i 1).val
  let c1024_i32 : BitVec 32 := 1024#32
  let v4 : BitVec 32 := Scalar.muli arg1 c1024_i32
  v4
def k0_cond2 (i : grid0.Coords) : BitVec 1 :=
  let arg0 : BitVec 32 := BitVec.ofNat 32 (i 0).val
  let c0_i32_2 : BitVec 32 := 0#32
  let v6 : BitVec 1 := Scalar.cmpi .eq arg0 c0_i32_2
  let v7 : BitVec 32 := Scalar.extui v6
  let c0_i32_3 : BitVec 32 := 0#32
  let v8 : BitVec 1 := Scalar.cmpi .ne v7 c0_i32_3
  v8

def k0_off1 (i : grid0.Coords) : Fin 2 → Nat :=
  let c0_142 : Index := 0#32
  let arg1 : BitVec 32 := BitVec.ofNat 32 (i 1).val
  let c1024_i32 : BitVec 32 := 1024#32
  let v4 : BitVec 32 := Scalar.muli arg1 c1024_i32
  let v5 : BitVec 32 := v4
  let v245 : Index := Scalar.indexCast v5
  ![0, v245.toNat]
def k0_off2 (i : grid0.Coords) : Fin 2 → Nat :=
  let c0_28 : Index := 0#32
  let arg1 : BitVec 32 := BitVec.ofNat 32 (i 1).val
  let c1024_i32 : BitVec 32 := 1024#32
  let v4 : BitVec 32 := Scalar.muli arg1 c1024_i32
  let v5 : BitVec 32 := v4
  let v51 : Index := Scalar.indexCast v5
  ![0, v51.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1280x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1280x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S16x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1280x1024 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1280x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 2 → Memref sig .tc .vmem S16x1280 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S16x64512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== BackwardRefIdeal.lean ====
abbrev S5120x64512 : Shape := ⟨2, ![5120, 64512]⟩
abbrev S5120 : Shape := ⟨1, ![5120]⟩
abbrev S64512x4096 : Shape := ⟨2, ![64512, 4096]⟩
abbrev S64512x16 : Shape := ⟨2, ![64512, 16]⟩
abbrev S5120x16 : Shape := ⟨2, ![5120, 16]⟩
abbrev S1 : Shape := ⟨1, ![1]⟩
abbrev S5120x1 : Shape := ⟨2, ![5120, 1]⟩
abbrev S1x1 : Shape := ⟨2, ![1, 1]⟩
abbrev S5120x64128 : Shape := ⟨2, ![5120, 64128]⟩
abbrev S5120x4096 : Shape := ⟨2, ![5120, 4096]⟩
abbrev S16x5120 : Shape := ⟨2, ![16, 5120]⟩
abbrev S16x64512 : Shape := ⟨2, ![16, 64512]⟩

abbrev nBuf : Space → Nat
  | .hbm => 14
  | .vmem => 11
  | .smem => 0
  | _ => 0

abbrev bufTy : (tb : Table) → Fin (tcTables nBuf tb) → BufTy
  | .hbm, ⟨0, _⟩ => ⟨S5120x64512, .f32⟩
  | .hbm, ⟨1, _⟩ => ⟨S5120, .f32⟩
  | .hbm, ⟨2, _⟩ => ⟨S5120, .i32⟩
  | .hbm, ⟨3, _⟩ => ⟨S64512x4096, .bf16⟩
  | .hbm, ⟨4, _⟩ => ⟨S64512x16, .bf16⟩
  | .hbm, ⟨5, _⟩ => ⟨S5120x16, .bf16⟩
  | .hbm, ⟨6, _⟩ => ⟨S1, .f32⟩
  | .hbm, ⟨7, _⟩ => ⟨S5120x1, .f32⟩
  | .hbm, ⟨8, _⟩ => ⟨S5120x1, .i32⟩
  | .hbm, ⟨9, _⟩ => ⟨S1x1, .f32⟩
  | .hbm, ⟨10, _⟩ => ⟨S5120x64128, .fp8e5m2⟩
  | .hbm, ⟨11, _⟩ => ⟨S5120x4096, .f32⟩
  | .hbm, ⟨12, _⟩ => ⟨S16x5120, .f32⟩
  | .hbm, ⟨13, _⟩ => ⟨S16x64512, .f32⟩
  | .local _ .vmem, ⟨0, _⟩ => ⟨S5120x64512, .f32⟩
  | .local _ .vmem, ⟨1, _⟩ => ⟨S5120x1, .f32⟩
  | .local _ .vmem, ⟨2, _⟩ => ⟨S5120x1, .i32⟩
  | .local _ .vmem, ⟨3, _⟩ => ⟨S64512x4096, .bf16⟩
  | .local _ .vmem, ⟨4, _⟩ => ⟨S64512x16, .bf16⟩
  | .local _ .vmem, ⟨5, _⟩ => ⟨S5120x16, .bf16⟩
  | .local _ .vmem, ⟨6, _⟩ => ⟨S1x1, .f32⟩
  | .local _ .vmem, ⟨7, _⟩ => ⟨S5120x64128, .fp8e5m2⟩
  | .local _ .vmem, ⟨8, _⟩ => ⟨S5120x4096, .f32⟩
  | .local _ .vmem, ⟨9, _⟩ => ⟨S16x5120, .f32⟩
  | .local _ .vmem, ⟨10, _⟩ => ⟨S16x64512, .f32⟩
  | _, _ => ⟨S5120x64512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S5120x64512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64512x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64512x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5120x64128 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5120x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x5120 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x64512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Forward.lean ====
abbrev S5120x4096 : Shape := ⟨2, ![5120, 4096]⟩
abbrev S5120 : Shape := ⟨1, ![5120]⟩
abbrev S5120x16 : Shape := ⟨2, ![5120, 16]⟩
abbrev S64128x4096 : Shape := ⟨2, ![64128, 4096]⟩
abbrev S64512 : Shape := ⟨1, ![64512]⟩
abbrev S64512x16 : Shape := ⟨2, ![64512, 16]⟩
abbrev S5120x1 : Shape := ⟨2, ![5120, 1]⟩
abbrev S5120x128 : Shape := ⟨2, ![5120, 128]⟩
abbrev S1x64512 : Shape := ⟨2, ![1, 64512]⟩
abbrev S16x64512 : Shape := ⟨2, ![16, 64512]⟩
abbrev S5120x64512 : Shape := ⟨2, ![5120, 64512]⟩
abbrev S64512x4096 : Shape := ⟨2, ![64512, 4096]⟩
abbrev S1280x4096 : Shape := ⟨2, ![1280, 4096]⟩
abbrev S1280x128 : Shape := ⟨2, ![1280, 128]⟩
abbrev S1280x16 : Shape := ⟨2, ![1280, 16]⟩
abbrev S1024x4096 : Shape := ⟨2, ![1024, 4096]⟩
abbrev S1x1024 : Shape := ⟨2, ![1, 1024]⟩
abbrev S256x4096 : Shape := ⟨2, ![256, 4096]⟩
abbrev S1x256 : Shape := ⟨2, ![1, 256]⟩
abbrev S16x1024 : Shape := ⟨2, ![16, 1024]⟩
abbrev S1280x1024 : Shape := ⟨2, ![1280, 1024]⟩
abbrev S1x512 : Shape := ⟨2, ![1, 512]⟩
abbrev S512x4096 : Shape := ⟨2, ![512, 4096]⟩
abbrev S16x512 : Shape := ⟨2, ![16, 512]⟩
abbrev S256x128 : Shape := ⟨2, ![256, 128]⟩
abbrev S256x512 : Shape := ⟨2, ![256, 512]⟩
abbrev S256x16 : Shape := ⟨2, ![256, 16]⟩
abbrev S128x256 : Shape := ⟨2, ![128, 256]⟩
abbrev S1280 : Shape := ⟨1, ![1280]⟩
abbrev S1280x1 : Shape := ⟨2, ![1280, 1]⟩

abbrev nBuf : Space → Nat
  | .hbm => 23
  | .vmem => 36
  | .smem => 0
  | _ => 0

abbrev bufTy : (tb : Table) → Fin (tcTables nBuf tb) → BufTy
  | .hbm, ⟨0, _⟩ => ⟨S5120x4096, .fp8e4m3⟩
  | .hbm, ⟨1, _⟩ => ⟨S5120x4096, .fp8e4m3⟩
  | .hbm, ⟨2, _⟩ => ⟨S5120, .f32⟩
  | .hbm, ⟨3, _⟩ => ⟨S5120, .f32⟩
  | .hbm, ⟨4, _⟩ => ⟨S5120x16, .bf16⟩
  | .hbm, ⟨5, _⟩ => ⟨S5120, .i32⟩
  | .hbm, ⟨6, _⟩ => ⟨S64128x4096, .fp8e4m3⟩
  | .hbm, ⟨7, _⟩ => ⟨S64512, .f32⟩
  | .hbm, ⟨8, _⟩ => ⟨S64512x16, .bf16⟩
  | .hbm, ⟨9, _⟩ => ⟨S5120x1, .i32⟩
  | .hbm, ⟨10, _⟩ => ⟨S5120x128, .i32⟩
  | .hbm, ⟨11, _⟩ => ⟨S5120x128, .i32⟩
  | .hbm, ⟨12, _⟩ => ⟨S5120x128, .i32⟩
  | .hbm, ⟨13, _⟩ => ⟨S5120x1, .f32⟩
  | .hbm, ⟨14, _⟩ => ⟨S5120x128, .f32⟩
  | .hbm, ⟨15, _⟩ => ⟨S5120x1, .f32⟩
  | .hbm, ⟨16, _⟩ => ⟨S5120x128, .f32⟩
  | .hbm, ⟨17, _⟩ => ⟨S1x64512, .f32⟩
  | .hbm, ⟨18, _⟩ => ⟨S16x64512, .bf16⟩
  | .hbm, ⟨19, _⟩ => ⟨S5120x64512, .f32⟩
  | .hbm, ⟨20, _⟩ => ⟨S64512x4096, .bf16⟩
  | .hbm, ⟨21, _⟩ => ⟨S5120x128, .f32⟩
  | .hbm, ⟨22, _⟩ => ⟨S5120x128, .f32⟩
  | .local _ .vmem, ⟨0, _⟩ => ⟨S1280x4096, .fp8e4m3⟩
  | .local _ .vmem, ⟨1, _⟩ => ⟨S1280x4096, .fp8e4m3⟩
  | .local _ .vmem, ⟨2, _⟩ => ⟨S1280x4096, .fp8e4m3⟩
  | .local _ .vmem, ⟨3, _⟩ => ⟨S1280x4096, .fp8e4m3⟩
  | .local _ .vmem, ⟨4, _⟩ => ⟨S1280x128, .f32⟩
  | .local _ .vmem, ⟨5, _⟩ => ⟨S1280x128, .f32⟩
  | .local _ .vmem, ⟨6, _⟩ => ⟨S1280x128, .f32⟩
  | .local _ .vmem, ⟨7, _⟩ => ⟨S1280x128, .f32⟩
  | .local _ .vmem, ⟨8, _⟩ => ⟨S1280x16, .bf16⟩
  | .local _ .vmem, ⟨9, _⟩ => ⟨S1280x16, .bf16⟩
  | .local _ .vmem, ⟨10, _⟩ => ⟨S1280x128, .i32⟩
  | .local _ .vmem, ⟨11, _⟩ => ⟨S1280x128, .i32⟩
  | .local _ .vmem, ⟨12, _⟩ => ⟨S1024x4096, .fp8e4m3⟩
  | .local _ .vmem, ⟨13, _⟩ => ⟨S1024x4096, .fp8e4m3⟩
  | .local _ .vmem, ⟨14, _⟩ => ⟨S1x1024, .f32⟩
  | .local _ .vmem, ⟨15, _⟩ => ⟨S1x1024, .f32⟩
  | .local _ .vmem, ⟨16, _⟩ => ⟨S256x4096, .fp8e4m3⟩
  | .local _ .vmem, ⟨17, _⟩ => ⟨S256x4096, .fp8e4m3⟩
  | .local _ .vmem, ⟨18, _⟩ => ⟨S1x256, .f32⟩
  | .local _ .vmem, ⟨19, _⟩ => ⟨S1x256, .f32⟩
  | .local _ .vmem, ⟨20, _⟩ => ⟨S16x1024, .bf16⟩
  | .local _ .vmem, ⟨21, _⟩ => ⟨S16x1024, .bf16⟩
  | .local _ .vmem, ⟨22, _⟩ => ⟨S1280x1024, .f32⟩
  | .local _ .vmem, ⟨23, _⟩ => ⟨S1280x1024, .f32⟩
  | .local _ .vmem, ⟨24, _⟩ => ⟨S256x4096, .bf16⟩
  | .local _ .vmem, ⟨25, _⟩ => ⟨S256x4096, .bf16⟩
  | .local _ .vmem, ⟨26, _⟩ => ⟨S1280x128, .f32⟩
  | .local _ .vmem, ⟨27, _⟩ => ⟨S1280x128, .f32⟩
  | .local _ .vmem, ⟨28, _⟩ => ⟨S1280x128, .f32⟩
  | .local _ .vmem, ⟨29, _⟩ => ⟨S1280x128, .f32⟩
  | .local _ .vmem, ⟨30, _⟩ => ⟨S1280x128, .f32⟩
  | .local _ .vmem, ⟨31, _⟩ => ⟨S1280x128, .f32⟩
  | .local _ .vmem, ⟨32, _⟩ => ⟨S1280x128, .f32⟩
  | .local _ .vmem, ⟨33, _⟩ => ⟨S1280x128, .f32⟩
  | .local _ .vmem, ⟨34, _⟩ => ⟨S1280x128, .f32⟩
  | .local _ .vmem, ⟨35, _⟩ => ⟨S1280x128, .f32⟩
  | _, _ => ⟨S5120x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![4, 63], ![false, false]⟩

def k0_cond2 (i : grid0.Coords) : BitVec 1 :=
  let arg1 : BitVec 32 := BitVec.ofNat 32 (i 1).val
  let c62_i32 : BitVec 32 := 62#32
  let v1637 : BitVec 1 := Scalar.cmpi .eq arg1 c62_i32
  let v1638 : BitVec 32 := Scalar.extui v1637
  let c0_i32_669 : BitVec 32 := 0#32
  let v1639 : BitVec 1 := Scalar.cmpi .ne v1638 c0_i32_669
  v1639

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c250_i32 : BitVec 32 := 250#32
  let v2 : BitVec 32 := Scalar.minsi v1 c250_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c250_i32 : BitVec 32 := 250#32
  let v2 : BitVec 32 := Scalar.minsi v1 c250_i32
  let c0_i32 : BitVec 32 := 0#32
  let c0_i32_0 : BitVec 32 := 0#32
  ![c0_i32.toNat, v2.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1280x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1280x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1280x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1280x16 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1280x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x4096 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x4096 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1280x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1280x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1280x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ForwardIdeal.lean ====
variable {F : FTy → Type} [FloatOps F] [Named F]
def κ : String → Option EReal := fun
  | "masked" => some ⊥
  | _ => none
-- ==== ForwardRefIdeal.lean ====
abbrev S5120x4096 : Shape := ⟨2, ![5120, 4096]⟩
abbrev S5120 : Shape := ⟨1, ![5120]⟩
abbrev S5120x16 : Shape := ⟨2, ![5120, 16]⟩
abbrev S64128x4096 : Shape := ⟨2, ![64128, 4096]⟩
abbrev S64512 : Shape := ⟨1, ![64512]⟩
abbrev S64512x16 : Shape := ⟨2, ![64512, 16]⟩
abbrev S5120x1 : Shape := ⟨2, ![5120, 1]⟩
abbrev S1x64512 : Shape := ⟨2, ![1, 64512]⟩
abbrev S64512x1 : Shape := ⟨2, ![64512, 1]⟩
abbrev S5120x64512 : Shape := ⟨2, ![5120, 64512]⟩
abbrev S64512x4096 : Shape := ⟨2, ![64512, 4096]⟩
abbrev S5120x128 : Shape := ⟨2, ![5120, 128]⟩
abbrev S5120x64128 : Shape := ⟨2, ![5120, 64128]⟩
abbrev S1x64128 : Shape := ⟨2, ![1, 64128]⟩
abbrev S64128x16 : Shape := ⟨2, ![64128, 16]⟩
abbrev S5120x384 : Shape := ⟨2, ![5120, 384]⟩
abbrev S64128x1 : Shape := ⟨2, ![64128, 1]⟩
abbrev S384x4096 : Shape := ⟨2, ![384, 4096]⟩

abbrev nBuf : Space → Nat
  | .hbm => 18
  | .vmem => 14
  | .smem => 0
  | _ => 0

abbrev bufTy : (tb : Table) → Fin (tcTables nBuf tb) → BufTy
  | .hbm, ⟨0, _⟩ => ⟨S5120x4096, .fp8e4m3⟩
  | .hbm, ⟨1, _⟩ => ⟨S5120x4096, .fp8e4m3⟩
  | .hbm, ⟨2, _⟩ => ⟨S5120, .f32⟩
  | .hbm, ⟨3, _⟩ => ⟨S5120, .f32⟩
  | .hbm, ⟨4, _⟩ => ⟨S5120x16, .bf16⟩
  | .hbm, ⟨5, _⟩ => ⟨S5120, .i32⟩
  | .hbm, ⟨6, _⟩ => ⟨S64128x4096, .fp8e4m3⟩
  | .hbm, ⟨7, _⟩ => ⟨S64512, .f32⟩
  | .hbm, ⟨8, _⟩ => ⟨S64512x16, .bf16⟩
  | .hbm, ⟨9, _⟩ => ⟨S5120x1, .f32⟩
  | .hbm, ⟨10, _⟩ => ⟨S5120x1, .f32⟩
  | .hbm, ⟨11, _⟩ => ⟨S5120x1, .i32⟩
  | .hbm, ⟨12, _⟩ => ⟨S1x64512, .f32⟩
  | .hbm, ⟨13, _⟩ => ⟨S64512x1, .f32⟩
  | .hbm, ⟨14, _⟩ => ⟨S5120x64512, .f32⟩
  | .hbm, ⟨15, _⟩ => ⟨S64512x4096, .bf16⟩
  | .hbm, ⟨16, _⟩ => ⟨S5120x128, .f32⟩
  | .hbm, ⟨17, _⟩ => ⟨S5120x128, .f32⟩
  | .local _ .vmem, ⟨0, _⟩ => ⟨S5120x4096, .fp8e4m3⟩
  | .local _ .vmem, ⟨1, _⟩ => ⟨S5120x4096, .fp8e4m3⟩
  | .local _ .vmem, ⟨2, _⟩ => ⟨S5120x1, .f32⟩
  | .local _ .vmem, ⟨3, _⟩ => ⟨S5120x1, .f32⟩
  | .local _ .vmem, ⟨4, _⟩ => ⟨S5120x16, .bf16⟩
  | .local _ .vmem, ⟨5, _⟩ => ⟨S5120x1, .i32⟩
  | .local _ .vmem, ⟨6, _⟩ => ⟨S64128x4096, .fp8e4m3⟩
  | .local _ .vmem, ⟨7, _⟩ => ⟨S1x64512, .f32⟩
  | .local _ .vmem, ⟨8, _⟩ => ⟨S64512x1, .f32⟩
  | .local _ .vmem, ⟨9, _⟩ => ⟨S64512x16, .bf16⟩
  | .local _ .vmem, ⟨10, _⟩ => ⟨S5120x64512, .f32⟩
  | .local _ .vmem, ⟨11, _⟩ => ⟨S64512x4096, .bf16⟩
  | .local _ .vmem, ⟨12, _⟩ => ⟨S5120x128, .f32⟩
  | .local _ .vmem, ⟨13, _⟩ => ⟨S5120x128, .f32⟩
  | _, _ => ⟨S5120x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S5120x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64128x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x64512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64512x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64512x16 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S5120x64512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64512x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S5120x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S5120x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.BackwardRuns.lean ====
/- The branch conditions of the backward body in closed form, and the staging memrefs by name. -/
module

public import proofs.«01_k».proof.Proof.Gen.Backward.Launch
public import proofs.«01_k».proof.Proof.Gen.Backward.Skeleton
public import proofs.«01_k».proof.Proof.Gen.Backward.Points
public import proofs.«01_k».proof.Proof.Gen.Backward.Frame
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Backward.Frm

open Cert.Backward.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Backward`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((hA c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 63) — by arithmetic of the point. -/
theorem hcond0_0 : ∀ t : Fin cfg0.N, cond0_0 (grid0.coords t) ↔ t.val % 63 = 0 :=
  (fun t => by
    have ht : t.val < 252 := Nat.lt_of_lt_of_eq t.isLt N_0
    have e0 : (grid0.coords t 0).val = t.val / 63 % 4 := Pipeline.Grid.coords_val t 0 (by decide) rfl
    have e1 : (grid0.coords t 1).val = t.val / 1 % 63 := Pipeline.Grid.coords_val t 1 (by decide) rfl
    simp only [cond0_0, e0, e1]
    word_cmp
   : ∀ t : Fin grid0.N, cond0_0 (grid0.coords t) ↔ t.val % 63 = 0)

/-- The condition of the body's `scf.if` 1 (`k0_h2`), from the grid coordinates (the skeleton's scalar
    chain substituted). -/
abbrev cond0_1 (i : grid0.Coords) : Prop := k0_cond2 i = 1#1
/-- It holds at the points before point 63 — by arithmetic of the point. -/
theorem hcond0_1 : ∀ t : Fin cfg0.N, cond0_1 (grid0.coords t) ↔ t.val < 63 :=
  (fun t => by
    have ht : t.val < 252 := Nat.lt_of_lt_of_eq t.isLt N_0
    have e0 : (grid0.coords t 0).val = t.val / 63 % 4 := Pipeline.Grid.coords_val t 0 (by decide) rfl
    have e1 : (grid0.coords t 1).val = t.val / 1 % 63 := Pipeline.Grid.coords_val t 1 (by decide) rfl
    simp only [cond0_1, k0_cond2, e0, e1]
    word_cmp
   : ∀ t : Fin grid0.N, cond0_1 (grid0.coords t) ↔ t.val < 63)

/-! ## The kernel body on any staging memrefs: a subtype the run finds -/

/-- Each window's current staging memref at point `t`, spelled as the pipeline passes it (`bodyAt0`), and its wholeness. -/
abbrev ms0_0 (t : Fin cfg0.N) : Memref sig .tc .vmem S1280x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x1280 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .smem S1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1280x1024 .fp8e5m2 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1280x4096 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S16x1280 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S16x64512 .f32 := win0_10.stage (cfg0.slots t 10)
abbrev hs0_10 (t : Fin cfg0.N) : (ms0_10 t).IsWhole := hstage0_10 ((cfg0.slots t 10).cast nbuf0_10)

end Cert.Backward.Frm

end
-- ==== Proof.BackwardRunA.lean ====
/- The backward body run in case A of its two conditionals, nothing named of its outputs. -/
module

public import proofs.«01_k».proof.Proof.BackwardRuns

@[expose] public section

-- membership in a rectangle of production extents (`View.cover_of_tiled`): the elaborator's structural look
-- recurses once per coordinate of the long axes
set_option maxRecDepth 16384

noncomputable section

namespace Cert.Backward.Frm

open Cert.Backward.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 taken: points 0): on whole staging memrefs — the inputs' at their contents,
    the FORGOTTEN outputs' (7, 8, 9, 10) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1280x1024 .f32) (harg2 : arg2.IsWhole) (arg3 : Memref sig .tc .vmem S1280x128 .f32) (harg3 : arg3.IsWhole) (arg4 : Memref sig .tc .vmem S1280x128 .i32) (harg4 : arg4.IsWhole) (arg5 : Memref sig .tc .vmem S1024x4096 .bf16) (harg5 : arg5.IsWhole) (arg6 : Memref sig .tc .vmem S16x1024 .bf16) (harg6 : arg6.IsWhole) (arg7 : Memref sig .tc .vmem S16x1280 .bf16) (harg7 : arg7.IsWhole) (arg8 : Memref sig .tc .smem S1x1 .f32) (harg8 : arg8.IsWhole) (arg9 : Memref sig .tc .vmem S1280x1024 .fp8e5m2) (harg9 : arg9.IsWhole) (arg10 : Memref sig .tc .vmem S1280x4096 .f32) (harg10 : arg10.IsWhole) (arg11 : Memref sig .tc .vmem S16x1280 .f32) (harg11 : arg11.IsWhole) (arg12 : Memref sig .tc .vmem S16x64512 .f32) (harg12 : arg12.IsWhole) (hc0 : cond0_0 i) (hc1 : cond0_1 i)
    (x0 : Vec F S1280x1024 .f32) (x1 : Vec F S1280x128 .f32) (x2 : Vec F S1280x128 .i32) (x3 : Vec F S1024x4096 .bf16) (x4 : Vec F S16x1024 .bf16) (x5 : Vec F S16x1280 .bf16) (x6 : Vec F S1x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_backward i arg2 harg2 arg3 harg3 arg4 harg4 arg5 harg5 arg6 harg6 arg7 harg7 arg8 harg8 arg9 harg9 arg10 harg10 arg11 harg11 arg12 harg12) K := by
    intro E K
    simp only [cc0_backward_eq_skeleton]; unfold cc0_backward_skel
    simp only [k0_part7_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

end Cert.Backward.Frm

end
-- ==== Proof.BackwardRunB.lean ====
/- The backward body run in case B of its two conditionals, nothing named of its outputs. -/
module

public import proofs.«01_k».proof.Proof.BackwardRunA

@[expose] public section

-- membership in a rectangle of production extents (`View.cover_of_tiled`): the elaborator's structural look
-- recurses once per coordinate of the long axes
set_option maxRecDepth 16384

noncomputable section

namespace Cert.Backward.Frm

open Cert.Backward.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken, `scf.if` 1 taken: points 1, 2, … 62: 62 of 252): on whole staging memrefs — the inputs' at their contents,
    the FORGOTTEN outputs' (7, 8, 9, 10) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1280x1024 .f32) (harg2 : arg2.IsWhole) (arg3 : Memref sig .tc .vmem S1280x128 .f32) (harg3 : arg3.IsWhole) (arg4 : Memref sig .tc .vmem S1280x128 .i32) (harg4 : arg4.IsWhole) (arg5 : Memref sig .tc .vmem S1024x4096 .bf16) (harg5 : arg5.IsWhole) (arg6 : Memref sig .tc .vmem S16x1024 .bf16) (harg6 : arg6.IsWhole) (arg7 : Memref sig .tc .vmem S16x1280 .bf16) (harg7 : arg7.IsWhole) (arg8 : Memref sig .tc .smem S1x1 .f32) (harg8 : arg8.IsWhole) (arg9 : Memref sig .tc .vmem S1280x1024 .fp8e5m2) (harg9 : arg9.IsWhole) (arg10 : Memref sig .tc .vmem S1280x4096 .f32) (harg10 : arg10.IsWhole) (arg11 : Memref sig .tc .vmem S16x1280 .f32) (harg11 : arg11.IsWhole) (arg12 : Memref sig .tc .vmem S16x64512 .f32) (harg12 : arg12.IsWhole) (hc0 : ¬cond0_0 i) (hc1 : cond0_1 i)
    (x0 : Vec F S1280x1024 .f32) (x1 : Vec F S1280x128 .f32) (x2 : Vec F S1280x128 .i32) (x3 : Vec F S1024x4096 .bf16) (x4 : Vec F S16x1024 .bf16) (x5 : Vec F S16x1280 .bf16) (x6 : Vec F S1x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_backward i arg2 harg2 arg3 harg3 arg4 harg4 arg5 harg5 arg6 harg6 arg7 harg7 arg8 harg8 arg9 harg9 arg10 harg10 arg11 harg11 arg12 harg12) K := by
    intro E K
    simp only [cc0_backward_eq_skeleton]; unfold cc0_backward_skel
    simp only [k0_part7_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

end Cert.Backward.Frm

end
-- ==== Proof.BackwardRunC.lean ====
/- The backward body run in case C of its two conditionals, nothing named of its outputs. -/
module

public import proofs.«01_k».proof.Proof.BackwardRunB

@[expose] public section

-- membership in a rectangle of production extents (`View.cover_of_tiled`): the elaborator's structural look
-- recurses once per coordinate of the long axes
set_option maxRecDepth 16384

noncomputable section

namespace Cert.Backward.Frm

open Cert.Backward.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE C (`scf.if` 0 taken, `scf.if` 1 not taken: points 63, 126, 189): on whole staging memrefs — the inputs' at their contents,
    the FORGOTTEN outputs' (7, 8, 9, 10) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_C (c : Dev nD) (i : grid0.Coords) (arg2 : Memref sig .tc .vmem S1280x1024 .f32) (harg2 : arg2.IsWhole) (arg3 : Memref sig .tc .vmem S1280x128 .f32) (harg3 : arg3.IsWhole) (arg4 : Memref sig .tc .vmem S1280x128 .i32) (harg4 : arg4.IsWhole) (arg5 : Memref sig .tc .vmem S1024x4096 .bf16) (harg5 : arg5.IsWhole) (arg6 : Memref sig .tc .vmem S16x1024 .bf16) (harg6 : arg6.IsWhole) (arg7 : Memref sig .tc .vmem S16x1280 .bf16) (harg7 : arg7.IsWhole) (arg8 : Memref sig .tc .smem S1x1 .f32) (harg8 : arg8.IsWhole) (arg9 : Memref sig .tc .vmem S1280x1024 .fp8e5m2) (harg9 : arg9.IsWhole) (arg10 : Memref sig .tc .vmem S1280x4096 .f32) (harg10 : arg10.IsWhole) (arg11 : Memref sig .tc .vmem S16x1280 .f32) (harg11 : arg11.IsWhole) (arg12 : Memref sig .tc .vmem S16x64512 .f32) (harg12 : arg12.IsWhole) (hc0 : cond0_0 i) (hc1 : ¬cond0_1 i)
    (x0 : Vec F S1280x1024 .f32) (x1 : Vec F S1280x128 .f32) (x2 : Vec F S1280x128 .i32) (x3 : Vec F S1024x4096 .bf16) (x4 : Vec F S16x1024 .bf16) (x5 : Vec F S16x1280 .bf16) (x6 : Vec F S1x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_backward i arg2 harg2 arg3 harg3 arg4 harg4 arg5 harg5 arg6 harg6 arg7 harg7 arg8 harg8 arg9 harg9 arg10 harg10 arg11 harg11 arg12 harg12) K := by
    intro E K
    simp only [cc0_backward_eq_skeleton]; unfold cc0_backward_skel
    simp only [k0_part7_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

end Cert.Backward.Frm

end
-- ==== Proof.BackwardRunD.lean ====
/- The backward body run in case D of its two conditionals, nothing named of its outputs. -/
module

public import proofs.«01_k».proof.Proof.BackwardRunC

@[expose] public section

-- membership in a rectangle of production extents (`View.cover_of_tiled`): the elaborator's structural look
-- recurses once per coordinate of the long axes
set_option maxRecDepth 16384

noncomputable section

namespace Cert.Backward.Frm

open Cert.Backward.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE D (`scf.if` 0 not taken, `scf.if` 1 not taken: points 64, 65, … 251: 186 of 252): on whole staging memrefs — the inputs' at their contents,
    the FORGOTTEN outputs' (7, 8, 9, 10) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_D (c : Dev nD) (i : grid0.Coords) (arg2 : Memref sig .tc .vmem S1280x1024 .f32) (harg2 : arg2.IsWhole) (arg3 : Memref sig .tc .vmem S1280x128 .f32) (harg3 : arg3.IsWhole) (arg4 : Memref sig .tc .vmem S1280x128 .i32) (harg4 : arg4.IsWhole) (arg5 : Memref sig .tc .vmem S1024x4096 .bf16) (harg5 : arg5.IsWhole) (arg6 : Memref sig .tc .vmem S16x1024 .bf16) (harg6 : arg6.IsWhole) (arg7 : Memref sig .tc .vmem S16x1280 .bf16) (harg7 : arg7.IsWhole) (arg8 : Memref sig .tc .smem S1x1 .f32) (harg8 : arg8.IsWhole) (arg9 : Memref sig .tc .vmem S1280x1024 .fp8e5m2) (harg9 : arg9.IsWhole) (arg10 : Memref sig .tc .vmem S1280x4096 .f32) (harg10 : arg10.IsWhole) (arg11 : Memref sig .tc .vmem S16x1280 .f32) (harg11 : arg11.IsWhole) (arg12 : Memref sig .tc .vmem S16x64512 .f32) (harg12 : arg12.IsWhole) (hc0 : ¬cond0_0 i) (hc1 : ¬cond0_1 i)
    (x0 : Vec F S1280x1024 .f32) (x1 : Vec F S1280x128 .f32) (x2 : Vec F S1280x128 .i32) (x3 : Vec F S1024x4096 .bf16) (x4 : Vec F S16x1024 .bf16) (x5 : Vec F S16x1280 .bf16) (x6 : Vec F S1x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_backward i arg2 harg2 arg3 harg3 arg4 harg4 arg5 harg5 arg6 harg6 arg7 harg7 arg8 harg8 arg9 harg9 arg10 harg10 arg11 harg11 arg12 harg12) K := by
    intro E K
    simp only [cc0_backward_eq_skeleton]; unfold cc0_backward_skel
    simp only [k0_part7_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

end Cert.Backward.Frm

end
-- ==== Proof.BackwardFrame.lean ====
/- The frame of `Backward`: it runs, leaves its arguments as they were, and ends quiescent. -/
module

public import proofs.«01_k».proof.Proof.BackwardRunD
public import Idealize.ShloMosaic.Lib.Claim

@[expose] public section

-- membership in a rectangle of production extents (`View.cover_of_tiled`): the elaborator's structural look
-- recurses once per coordinate of the long axes
set_option maxRecDepth 16384

noncomputable section

namespace Cert.Backward.Frm

open Cert.Backward.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (7, 8, 9, 10): nothing reads what the kernel leaves in them, so nothing
    of it is named (Lib/Pipeline/Dat.lean `Dat.toRForget`). -/
def forgets0 : Fin 11 → Bool := fun w => w.val == 7 || w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 3200000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  have hN : t.val < 252 := lt_of_lt_of_eq t.isLt (show cfg0.N = 252 from N_0)
  by_cases h0 : t.val % 63 = 0
  · by_cases h1 : t.val < 63
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      iintro ⟨H0, H1, H2, H3, H4, H5, H6, H7, H8, H9, H10⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_C c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      iintro ⟨H0, H1, H2, H3, H4, H5, H6, H7, H8, H9, H10⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
  · by_cases h1 : t.val < 63
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      iintro ⟨H0, H1, H2, H3, H4, H5, H6, H7, H8, H9, H10⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_D c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      iintro ⟨H0, H1, H2, H3, H4, H5, H6, H7, H8, H9, H10⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 7, 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- THE FRAME: `Cert.quiescent_Backward`'s statement (Defs.lean) at any `F` — Proof.lean cites it at `Bits`:
    `theorem Cert.Proof.claim : Cert.Claim := ⟨Cert.Backward.Gen.facts, fun m ρ _ => Cert.Backward.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Backward.Frm

end
-- ==== Proof.BwdRuns.lean ====
/- The branch conditions of the backward body in closed form, and the staging memrefs by name. -/
module

public import proofs.«01_k».proof.Proof.Gen.BackwardIdeal.Launch
public import proofs.«01_k».proof.Proof.Gen.BackwardIdeal.Skeleton
public import proofs.«01_k».proof.Proof.Gen.BackwardIdeal.Points
public import proofs.«01_k».proof.Proof.Gen.BackwardIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.BackwardIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BackwardIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 63) — by arithmetic of the point. -/
theorem hcond0_0 : ∀ t : Fin cfg0.N, cond0_0 (grid0.coords t) ↔ t.val % 63 = 0 :=
  (fun t => by
    have ht : t.val < 252 := Nat.lt_of_lt_of_eq t.isLt N_0
    have e0 : (grid0.coords t 0).val = t.val / 63 % 4 := Pipeline.Grid.coords_val t 0 (by decide) rfl
    have e1 : (grid0.coords t 1).val = t.val / 1 % 63 := Pipeline.Grid.coords_val t 1 (by decide) rfl
    simp only [cond0_0, e0, e1]
    word_cmp
   : ∀ t : Fin grid0.N, cond0_0 (grid0.coords t) ↔ t.val % 63 = 0)

/-- The condition of the body's `scf.if` 1 (`k0_h2`), from the grid coordinates (the skeleton's scalar
    chain substituted). -/
abbrev cond0_1 (i : grid0.Coords) : Prop := k0_cond2 i = 1#1
/-- It holds at the points before point 63 — by arithmetic of the point. -/
theorem hcond0_1 : ∀ t : Fin cfg0.N, cond0_1 (grid0.coords t) ↔ t.val < 63 :=
  (fun t => by
    have ht : t.val < 252 := Nat.lt_of_lt_of_eq t.isLt N_0
    have e0 : (grid0.coords t 0).val = t.val / 63 % 4 := Pipeline.Grid.coords_val t 0 (by decide) rfl
    have e1 : (grid0.coords t 1).val = t.val / 1 % 63 := Pipeline.Grid.coords_val t 1 (by decide) rfl
    simp only [cond0_1, k0_cond2, e0, e1]
    word_cmp
   : ∀ t : Fin grid0.N, cond0_1 (grid0.coords t) ↔ t.val < 63)

/-! ## The kernel body on any staging memrefs: a subtype the run finds -/

/-- Each window's current staging memref at point `t`, spelled as the pipeline passes it (`bodyAt0`), and its wholeness. -/
abbrev ms0_0 (t : Fin cfg0.N) : Memref sig .tc .vmem S1280x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x1280 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .smem S1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1280x1024 .fp8e5m2 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1280x4096 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S16x1280 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S16x64512 .f32 := win0_10.stage (cfg0.slots t 10)
abbrev hs0_10 (t : Fin cfg0.N) : (ms0_10 t).IsWhole := hstage0_10 ((cfg0.slots t 10).cast nbuf0_10)

end Cert.BackwardIdeal.Own

end
-- ==== Proof.BwdPay.lean ====
/- The arithmetic of the backward body at `Ideal`, element by element: the clipped scaled softmax gradient of one row
   chunk, and what each of the three products adds to its accumulator. -/
module

public import proofs.«01_k».proof.Proof.BwdRuns
public import Idealize.ShloMosaic.Lib.Pointwise
public import Idealize.ShloMosaic.Lib.Pipeline.Value
public import Idealize.ShloMosaic.PureOps.Ideal

@[expose] public section

set_option maxRecDepth 16384

noncomputable section

namespace Cert.BackwardIdeal.Own

open Idealize.ShloMosaic Idealize.ShloMosaic.TcCoe Idealize.SL.Sem Idealize.ShloMosaic.Pointwise
open Cert.BackwardIdeal Cert.BackwardIdeal.Gen

/-- One entry of the code matrix: `clip((exp(x - l) - hit) / s, ±57344)`, the label hit tested as the kernel tests it
    (the label minus its lane against the column rounded down to its group of 128 lanes, `o` the block's first column). -/
def gEl (s x l : EReal) (rel : BitVec 32) (o : BitVec 32) (k : ℕ) : EReal :=
  min (Ideal.ofBits .f32 0x47600000#32) (max (Ideal.ofBits .f32 0xC7600000#32)
    (Ideal.div (Ideal.exp (x - l) - (if rel = (BitVec.ofNat 32 k &&& 4294967168#32) + o then (1 : EReal) else 0)) s))

/-- Eight copies of 128 lanes side by side, read at column `k`: lane `k % 128`. -/
theorem lane8 {α : Type} {k : ℕ} (hk : k < 1024) (f : Fin 128 → α) :
    (if h : k < 128 then f ⟨k, h⟩
      else if h : k - 128 < 128 then f ⟨k - 128, h⟩
      else if h : k - 128 - 128 < 128 then f ⟨k - 128 - 128, h⟩
      else if h : k - 128 - 128 - 128 < 128 then f ⟨k - 128 - 128 - 128, h⟩
      else if h : k - 128 - 128 - 128 - 128 < 128 then f ⟨k - 128 - 128 - 128 - 128, h⟩
      else if h : k - 128 - 128 - 128 - 128 - 128 < 128 then f ⟨k - 128 - 128 - 128 - 128 - 128, h⟩
      else if h : k - 128 - 128 - 128 - 128 - 128 - 128 < 128 then f ⟨k - 128 - 128 - 128 - 128 - 128 - 128, h⟩
      else f ⟨k - 128 - 128 - 128 - 128 - 128 - 128 - 128, by omega⟩) = f ⟨k % 128, Nat.mod_lt _ (by decide)⟩ := by
  split_ifs <;> (congr 1; apply Fin.ext; dsimp only; omega)

/-- The label hit as the kernel counts it: the one-bit comparison widened and converted. -/
theorem hit_word (a b : BitVec 32) :
    (FloatOps.sitofp (F := Ideal) FTy.f32 (BitVec.setWidth 32 (IntOp.cmpi CmpIPredicate.eq a b)) : EReal) = if a = b then 1 else 0 := by
  show (((BitVec.setWidth 32 (IntOp.cmpi CmpIPredicate.eq a b)).toInt : ℝ) : EReal) = _
  by_cases h : a = b
  · subst h; simp [IntOp.cmpi]
  · simp [IntOp.cmpi, h, beq_eq_false_iff_ne.mpr h]

theorem pay6_apply (i : grid0.Coords) (v0 : Elt Ideal .f32) (a : Vec Ideal S256x1024 .f32) (b : Vec Ideal S256x128 .f32) (e : Vec Ideal S256x128 .i32)
    (j : S256x1024.Idx) :
    k0_pay6 (F := Ideal) i v0 a b e j = gEl v0 (a j) (b (ix2 (j 0) ⟨(j 1).val % 128, Nat.mod_lt _ (by decide)⟩)) (e (ix2 (j 0) ⟨(j 1).val % 128, Nat.mod_lt _ (by decide)⟩)) (BitVec.ofNat 32 (i 1).val * 1024#32) (j 1).val := by
  unfold k0_pay6 k0_pay4 gEl
  idx_vars j
  pointwise
  rw [lane8 j1.isLt fun l => b (ix2 j0 l), lane8 j1.isLt fun l => e (ix2 j0 l), hit_word]
  rfl

theorem pay9_apply (q : Vec Ideal S256x1024 .f32) (acc : Vec Ideal S256x4096 .f32) (w : Vec Ideal S1024x4096 .bf16) (j : S256x4096.Idx) :
    k0_pay9 (F := Ideal) q acc w j = acc j + ∑ k : Fin 1024, q (ix2 (j 0) k) * w (ix2 k (j 1)) := by
  unfold k0_pay9 k0_pay8 k0_pay7
  idx_vars j
  pointwise

theorem pay10_apply (lb : Vec Ideal S16x1024 .bf16) (q : Vec Ideal S256x1024 .f32) (acc : Vec Ideal S16x256 .f32) (j : S16x256.Idx) :
    k0_pay10 (F := Ideal) (k0_pay5 lb) q acc j = acc j + ∑ k : Fin 1024, lb (ix2 (j 0) k) * q (ix2 (j 1) k) := by
  unfold k0_pay10 k0_pay8 k0_pay7 k0_pay5
  idx_vars j
  pointwise

theorem pay11_apply (q : Vec Ideal S256x1024 .f32) (acc : Vec Ideal S16x1024 .f32) (ku : Vec Ideal S16x256 .bf16) (j : S16x1024.Idx) :
    k0_pay11 (F := Ideal) q acc ku j = acc j + ∑ k : Fin 256, ku (ix2 (j 0) k) * q (ix2 k (j 1)) := by
  unfold k0_pay11 k0_pay8 k0_pay7
  idx_vars j
  pointwise

/-! ## The other row chunks compute the same functions -/
section
variable {F : FTy → Type} [FloatOps F] (i : grid0.Coords) (v0 : Elt F .f32) (a : Vec F S256x1024 .f32) (b : Vec F S256x128 .f32) (e : Vec F S256x128 .i32)
  (lb : FVec F S16x1024 .bf16) (acc : Vec F S256x4096 .f32) (w : Vec F S1024x4096 .bf16) (acc9 : Vec F S16x256 .f32) (acc10 : Vec F S16x1024 .f32) (ku : Vec F S16x256 .bf16)

theorem chunk1_q : k0_pay14 (BitVec.ofNat 32 (i 1).val) v0 k0_pay4 (k0_pay12 a b) (k0_pay13 e) = k0_pay7 (k0_pay6 i v0 a b e) := rfl
theorem chunk1_h : k0_pay16 (BitVec.ofNat 32 (i 1).val) v0 k0_pay4 (k0_pay12 a b) (k0_pay13 e) acc w = k0_pay9 (k0_pay6 i v0 a b e) acc w := rfl
theorem chunk1_l : k0_pay17 (BitVec.ofNat 32 (i 1).val) v0 k0_pay4 lb (k0_pay12 a b) (k0_pay13 e) acc9 = k0_pay10 lb (k0_pay6 i v0 a b e) acc9 := rfl
theorem chunk1_b : k0_pay18 (BitVec.ofNat 32 (i 1).val) v0 k0_pay4 (k0_pay12 a b) (k0_pay13 e) acc10 ku = k0_pay11 (k0_pay6 i v0 a b e) acc10 ku := rfl
theorem chunk2_q : k0_pay19 (BitVec.ofNat 32 (i 1).val) v0 k0_pay4 a b e = k0_pay7 (k0_pay6 i v0 a b e) := rfl
theorem chunk2_h : k0_pay21 (BitVec.ofNat 32 (i 1).val) v0 k0_pay4 a b e acc w = k0_pay9 (k0_pay6 i v0 a b e) acc w := rfl
theorem chunk2_l : k0_pay23 lb (k0_pay20 (BitVec.ofNat 32 (i 1).val) v0 k0_pay4 a b e) (k0_pay22 acc9) = k0_pay10 lb (k0_pay6 i v0 a b e) acc9 := rfl
theorem chunk2_b : k0_pay24 (k0_pay20 (BitVec.ofNat 32 (i 1).val) v0 k0_pay4 a b e) acc10 ku = k0_pay11 (k0_pay6 i v0 a b e) acc10 ku := rfl
theorem chunk3_q : k0_pay25 (BitVec.ofNat 32 (i 1).val) v0 k0_pay4 a b e = k0_pay7 (k0_pay6 i v0 a b e) := rfl
theorem chunk3_h : k0_pay27 (k0_pay26 (BitVec.ofNat 32 (i 1).val) v0 k0_pay4 a b e) acc w = k0_pay9 (k0_pay6 i v0 a b e) acc w := rfl
theorem chunk3_l : k0_pay28 lb (k0_pay26 (BitVec.ofNat 32 (i 1).val) v0 k0_pay4 a b e) acc9 = k0_pay10 lb (k0_pay6 i v0 a b e) acc9 := rfl
theorem chunk3_b : k0_pay29 (k0_pay26 (BitVec.ofNat 32 (i 1).val) v0 k0_pay4 a b e) acc10 ku = k0_pay11 (k0_pay6 i v0 a b e) acc10 ku := rfl
theorem chunk4_q : k0_pay33 v0 (k0_pay30 a b) (k0_pay31 e) (k0_pay32 (BitVec.ofNat 32 (i 1).val) k0_pay4) = k0_pay7 (k0_pay6 i v0 a b e) := rfl
theorem chunk4_h : k0_pay35 v0 (k0_pay30 a b) (k0_pay31 e) (k0_pay32 (BitVec.ofNat 32 (i 1).val) k0_pay4) acc w = k0_pay9 (k0_pay6 i v0 a b e) acc w := rfl
theorem chunk4_l : k0_pay36 v0 lb (k0_pay30 a b) (k0_pay31 e) (k0_pay32 (BitVec.ofNat 32 (i 1).val) k0_pay4) acc9 = k0_pay10 lb (k0_pay6 i v0 a b e) acc9 := rfl
theorem chunk4_b : k0_pay37 v0 (k0_pay30 a b) (k0_pay31 e) (k0_pay32 (BitVec.ofNat 32 (i 1).val) k0_pay4) acc10 ku = k0_pay11 (k0_pay6 i v0 a b e) acc10 ku := rfl
end

end Cert.BackwardIdeal.Own

end
-- ==== Proof.BwdChunks.lean ====
/- Reading a buffer left by five row (or column) chunk stores, and the block functions the backward body computes. -/
module

public import proofs.«01_k».proof.Proof.BwdPay
public import Idealize.ShloMosaic.Lib.WritesUnit
public import Idealize.ShloMosaic.Lib.WholeRead
public import Idealize.ShloMosaic.Lib.Pipeline.ReadBack

@[expose] public section

set_option maxRecDepth 16384

noncomputable section

namespace Cert.BackwardIdeal.Own

open Idealize.ShloMosaic Idealize.ShloMosaic.TcCoe Idealize.SL.Sem Idealize.ShloMosaic.Pointwise
open Cert.BackwardIdeal Cert.BackwardIdeal.Gen

section
variable {sig : RefSig} {κ : Kind} {sp : Space} {e : EltTy} {Val : EltTy → Type}

/-- One more store of a unit-stride rectangle at `(o, p)`: where it agrees with `G`, and the rest of the list does elsewhere. -/
theorem store_step {M N W X : ℕ} (v : View sig κ sp (⟨2, ![M, N]⟩ : Shape) e) (f : v.ty.Contents Val) (G : Fin M → Fin N → Val e)
    (off : Fin 2 → ℕ) (o p : ℕ) (heq : off = ![o, p]) (inb : ∀ a : Fin 2, off a + (![W, X] : Fin 2 → ℕ) a ≤ (![M, N] : Fin 2 → ℕ) a)
    (w : (Rect.unit (s := ⟨2, ![M, N]⟩) off ![W, X] inb).shape.Idx → Val e) (L : List (View.Piece Val (⟨2, ![M, N]⟩ : Shape) e))
    (hw : ∀ (r : Fin W) (k : Fin X) (h1 : o + r.val < M) (h2 : p + k.val < N), w (ix2 (n0 := W) (n1 := X) r k) = G ⟨o + r.val, h1⟩ ⟨p + k.val, h2⟩)
    (r : Fin M) (k : Fin N) (h : (r.val < o ∨ o + W ≤ r.val) ∨ (k.val < p ∨ p + X ≤ k.val) → v.read Val (v.writes Val f L) (ix2 r k) = G r k) :
    v.read Val (v.writes Val f ((⟨Rect.unit (s := ⟨2, ![M, N]⟩) off ![W, X] inb, w⟩ : View.Piece Val (⟨2, ![M, N]⟩ : Shape) e) :: L)) (ix2 r k) = G r k := by
  by_cases h0 : r.val < o ∨ o + W ≤ r.val
  · exact (View.read_writes_cons_unit_of_not_mem (s := ⟨2, ![M, N]⟩) v f inb w L (ix2 r k) heq (0 : Fin 2) h0).trans (h (.inl h0))
  by_cases h1 : k.val < p ∨ p + X ≤ k.val
  · exact (View.read_writes_cons_unit_of_not_mem (s := ⟨2, ![M, N]⟩) v f inb w L (ix2 r k) heq (1 : Fin 2) h1).trans (h (.inr h1))
  have e1 : o + (r.val - o) = r.val := by omega
  have e2 : p + (k.val - p) = k.val := by omega
  refine (View.read_writes_cons_unit_of_mem (s := ⟨2, ![M, N]⟩) v f inb w L (ix2 r k)
    (ix2 (n0 := W) (n1 := X) ⟨r.val - o, by omega⟩ ⟨k.val - p, by omega⟩) heq
    (Fin.forall_fin_two.mpr ⟨e1.symm, e2.symm⟩)).trans ?_
  refine (hw _ _ (by rw [show o + (⟨r.val - o, _⟩ : Fin W).val = r.val from e1]; exact r.isLt) (by rw [show p + (⟨k.val - p, _⟩ : Fin X).val = k.val from e2]; exact k.isLt)).trans ?_
  exact congrArg₂ G (Fin.ext e1) (Fin.ext e2)

/-- A load of a unit-stride rectangle at `(o, p)` of a whole memref held at the contents that read `X`. -/
theorem load_at {M N W Z : ℕ} {sp : Space} (m : Memref sig κ sp (⟨2, ![M, N]⟩ : Shape) e) (hm : m.IsWhole) (X : (⟨2, ![M, N]⟩ : Shape).Idx → Val e)
    (off : Fin 2 → ℕ) (o p : ℕ) (heq : off = ![o, p]) (inb : ∀ a : Fin 2, off a + (![W, Z] : Fin 2 → ℕ) a ≤ (![M, N] : Fin 2 → ℕ) a)
    (r : Fin W) (k : Fin Z) (h1 : o + r.val < M) (h2 : p + k.val < N) :
    View.readAt Val m.view (Rect.unit (s := ⟨2, ![M, N]⟩) off ![W, Z] inb).toLoadRect (hm.unread X) (ix2 (n0 := W) (n1 := Z) r k) = X (ix2 ⟨o + r.val, h1⟩ ⟨p + k.val, h2⟩) := by
  subst heq
  refine (hm.readAt_unread X _ _).trans (congrArg X ?_)
  funext a
  revert a
  refine Fin.forall_fin_two.mpr ⟨Fin.ext ?_, Fin.ext ?_⟩
  · show o + 1 * r.val = o + r.val
    rw [Nat.one_mul]
  · show p + 1 * k.val = p + k.val
    rw [Nat.one_mul]

end

/-- A sum over 1280 rows is the sums over its five chunks of 256, newest last. -/
theorem sum_five (f : Fin 1280 → EReal) (z : EReal) :
    z + (∑ k : Fin 256, f ⟨0 + k.val, by omega⟩) + (∑ k : Fin 256, f ⟨256 + k.val, by omega⟩) + (∑ k : Fin 256, f ⟨512 + k.val, by omega⟩)
      + (∑ k : Fin 256, f ⟨768 + k.val, by omega⟩) + (∑ k : Fin 256, f ⟨1024 + k.val, by omega⟩) = z + ∑ t, f t := by
  have h1 := Fin.sum_univ_add (M := EReal) (a := 256) (b := 1024) f
  have h2 := Fin.sum_univ_add (M := EReal) (a := 256) (b := 768) (fun k => f (Fin.natAdd 256 k))
  have h3 := Fin.sum_univ_add (M := EReal) (a := 256) (b := 512) (fun k => f (Fin.natAdd 256 (Fin.natAdd 256 k)))
  have h4 := Fin.sum_univ_add (M := EReal) (a := 256) (b := 256) (fun k => f (Fin.natAdd 256 (Fin.natAdd 256 (Fin.natAdd 256 k))))
  rw [h1, h2, h3, h4]
  rw [← add_assoc, ← add_assoc, ← add_assoc, ← add_assoc]
  have e (n : ℕ) (hn : n + 256 ≤ 1280) (g : Fin 256 → Fin 1280) (hg : ∀ k, (g k).val = n + k.val) :
      ∑ k : Fin 256, f ⟨n + k.val, by omega⟩ = ∑ k, f (g k) :=
    Finset.sum_congr rfl fun k _ => congrArg f (Fin.ext (hg k).symm)
  refine congrArg₂ (· + ·) (congrArg₂ (· + ·) (congrArg₂ (· + ·) (congrArg₂ (· + ·) (congrArg (z + ·) (e 0 (by decide) _ fun k => ?_)) (e 256 (by decide) _ fun k => ?_)) (e 512 (by decide) _ fun k => ?_)) (e 768 (by decide) _ fun k => ?_)) (e 1024 (by decide) _ fun k => ?_)
  · exact (Nat.zero_add _).symm
  · rfl
  · show 256 + (256 + k.val) = _
    omega
  · show 256 + (256 + (256 + k.val)) = _
    omega
  · show 256 + (256 + (256 + (256 + k.val))) = _
    omega

/-- One block of the code matrix, from the block's operands. -/
def gB (i : grid0.Coords) (x0 : Vec Ideal S1280x1024 .f32) (x1 : Vec Ideal S1280x128 .f32) (x2 : Vec Ideal S1280x128 .i32) (x6 : Vec Ideal S1x1 .f32)
    (r : Fin 1280) (k : Fin 1024) : EReal :=
  gEl (x6 (ix2 0 0)) (x0 (ix2 r k)) (x1 (ix2 r ⟨k.val % 128, Nat.mod_lt _ (by decide)⟩)) (x2 (ix2 r ⟨k.val % 128, Nat.mod_lt _ (by decide)⟩))
    (BitVec.ofNat 32 (i 1).val * 1024#32) k.val

section
variable (i : grid0.Coords) (arg2 : Memref sig .tc .vmem S1280x1024 .f32) (harg2 : arg2.IsWhole) (arg3 : Memref sig .tc .vmem S1280x128 .f32) (harg3 : arg3.IsWhole) (arg4 : Memref sig .tc .vmem S1280x128 .i32) (harg4 : arg4.IsWhole) (arg5 : Memref sig .tc .vmem S1024x4096 .bf16) (harg5 : arg5.IsWhole) (arg6 : Memref sig .tc .vmem S16x1024 .bf16) (harg6 : arg6.IsWhole) (arg7 : Memref sig .tc .vmem S16x1280 .bf16) (harg7 : arg7.IsWhole) (arg8 : Memref sig .tc .smem S1x1 .f32) (harg8 : arg8.IsWhole)
  (x0 : Vec Ideal S1280x1024 .f32) (x1 : Vec Ideal S1280x128 .f32) (x2 : Vec Ideal S1280x128 .i32) (x3 : Vec Ideal S1024x4096 .bf16) (x4 : Vec Ideal S16x1024 .bf16) (x5 : Vec Ideal S16x1280 .bf16) (x6 : Vec Ideal S1x1 .f32)

/-- The unrounded codes of the row chunk at row `o`, as the body loads its operands. -/
@[reducible] def Qc (o : ℕ) (n0 : ∀ a : Fin 2, (![o, 0] : Fin 2 → ℕ) a + S256x1024.size a ≤ S1280x1024.size a) (n1 : ∀ a : Fin 2, (![o, 0] : Fin 2 → ℕ) a + S256x128.size a ≤ S1280x128.size a) :
    FVec Ideal S256x1024 .f32 :=
  k0_pay6 i (View.readAt (Elt Ideal) arg8.view (Rect.unit (s := S1x1) ![0, 0] S1x1.size inb_S1x1_S1x1_0_0).toLoadRect (harg8.unread x6) (Shape.Idx.first (by decide)))
    (View.readAt (Elt Ideal) arg2.view (Rect.unit (s := S1280x1024) ![o, 0] S256x1024.size n0).toLoadRect (harg2.unread x0))
    (View.readAt (Elt Ideal) arg3.view (Rect.unit (s := S1280x128) ![o, 0] S256x128.size n1).toLoadRect (harg3.unread x1))
    (View.readAt (Elt Ideal) arg4.view (Rect.unit (s := S1280x128) ![o, 0] S256x128.size n1).toLoadRect (harg4.unread x2))

theorem Qc_apply (o : ℕ) (n0) (n1) (r : Fin 256) (k : Fin 1024) (h : o + r.val < 1280) :
    Qc i arg2 harg2 arg3 harg3 arg4 harg4 arg8 harg8 x0 x1 x2 x6 o n0 n1 (ix2 r k) = gB i x0 x1 x2 x6 ⟨o + r.val, h⟩ k := by
  refine (pay6_apply i _ _ _ _ _).trans ?_
  unfold gB
  have e0 := load_at (Val := Elt Ideal) arg2 harg2 x0 ![o, 0] o 0 rfl n0 r k h (by omega)
  have e1 := load_at (Val := Elt Ideal) arg3 harg3 x1 ![o, 0] o 0 rfl n1 r ⟨k.val % 128, Nat.mod_lt _ (by decide)⟩ h (by have := Nat.mod_lt k.val (show 128 > 0 by decide); simp only; omega)
  have e2 := load_at (Val := Elt Ideal) arg4 harg4 x2 ![o, 0] o 0 rfl n1 r ⟨k.val % 128, Nat.mod_lt _ (by decide)⟩ h (by have := Nat.mod_lt k.val (show 128 > 0 by decide); simp only; omega)
  have e6 : View.readAt (Elt Ideal) arg8.view (Rect.unit (s := S1x1) ![0, 0] S1x1.size inb_S1x1_S1x1_0_0).toLoadRect (harg8.unread x6) (Shape.Idx.first (by decide)) = x6 (ix2 0 0) := by
    refine (harg8.readAt_unread x6 _ _).trans (congrArg x6 ?_)
    funext a
    revert a
    exact Fin.forall_fin_two.mpr ⟨Subsingleton.elim (α := Fin 1) _ _, Subsingleton.elim (α := Fin 1) _ _⟩
  refine congr (congr (congr (congr (congr (congrArg gEl e6) ?_) ?_) ?_) rfl) rfl
  · exact e0.trans (congrArg x0 (congrArg (ix2 _) (Fin.ext (Nat.zero_add _))))
  · exact e1.trans (congrArg x1 (congrArg (ix2 _) (Fin.ext (Nat.zero_add _))))
  · exact e2.trans (congrArg x2 (congrArg (ix2 _) (Fin.ext (Nat.zero_add _))))

/-- The code block after the five stores. -/
theorem chunks7 (arg9 : Memref sig .tc .vmem S1280x1024 .fp8e5m2) (f : arg9.view.ty.Contents (Elt Ideal)) (L : List (View.Piece (Elt Ideal) S1280x1024 .fp8e5m2)) (r : Fin 1280) (k : Fin 1024) :
    arg9.view.read (Elt Ideal) (arg9.view.writes (Elt Ideal) f (⟨Rect.unit (s := S1280x1024) ![1024, 0] S256x1024.size inb_S1280x1024_S256x1024_1024_0, k0_pay7 (Qc i arg2 harg2 arg3 harg3 arg4 harg4 arg8 harg8 x0 x1 x2 x6 1024 inb_S1280x1024_S256x1024_1024_0 inb_S1280x128_S256x128_1024_0)⟩ :: ⟨Rect.unit (s := S1280x1024) ![768, 0] S256x1024.size inb_S1280x1024_S256x1024_768_0, k0_pay7 (Qc i arg2 harg2 arg3 harg3 arg4 harg4 arg8 harg8 x0 x1 x2 x6 768 inb_S1280x1024_S256x1024_768_0 inb_S1280x128_S256x128_768_0)⟩ :: ⟨Rect.unit (s := S1280x1024) ![512, 0] S256x1024.size inb_S1280x1024_S256x1024_512_0, k0_pay7 (Qc i arg2 harg2 arg3 harg3 arg4 harg4 arg8 harg8 x0 x1 x2 x6 512 inb_S1280x1024_S256x1024_512_0 inb_S1280x128_S256x128_512_0)⟩ :: ⟨Rect.unit (s := S1280x1024) ![256, 0] S256x1024.size inb_S1280x1024_S256x1024_256_0, k0_pay7 (Qc i arg2 harg2 arg3 harg3 arg4 harg4 arg8 harg8 x0 x1 x2 x6 256 inb_S1280x1024_S256x1024_256_0 inb_S1280x128_S256x128_256_0)⟩ :: ⟨Rect.unit (s := S1280x1024) ![0, 0] S256x1024.size inb_S1280x1024_S256x1024_0_0, k0_pay7 (Qc i arg2 harg2 arg3 harg3 arg4 harg4 arg8 harg8 x0 x1 x2 x6 0 inb_S1280x1024_S256x1024_0_0 inb_S1280x128_S256x128_0_0)⟩ :: L)) (ix2 r k) = gB i x0 x1 x2 x6 r k := by
  refine store_step (Val := Elt Ideal) arg9.view f (gB i x0 x1 x2 x6) ![1024, 0] 1024 0 rfl inb_S1280x1024_S256x1024_1024_0 _ _ (fun r k h1 h2 => ?_) r k fun h1024 => ?_
  · exact (Qc_apply i arg2 harg2 arg3 harg3 arg4 harg4 arg8 harg8 x0 x1 x2 x6 1024 _ _ r k h1).trans (congrArg (gB i x0 x1 x2 x6 _) (Fin.ext (Nat.zero_add _).symm))
  refine store_step (Val := Elt Ideal) arg9.view f (gB i x0 x1 x2 x6) ![768, 0] 768 0 rfl inb_S1280x1024_S256x1024_768_0 _ _ (fun r k h1 h2 => ?_) r k fun h768 => ?_
  · exact (Qc_apply i arg2 harg2 arg3 harg3 arg4 harg4 arg8 harg8 x0 x1 x2 x6 768 _ _ r k h1).trans (congrArg (gB i x0 x1 x2 x6 _) (Fin.ext (Nat.zero_add _).symm))
  refine store_step (Val := Elt Ideal) arg9.view f (gB i x0 x1 x2 x6) ![512, 0] 512 0 rfl inb_S1280x1024_S256x1024_512_0 _ _ (fun r k h1 h2 => ?_) r k fun h512 => ?_
  · exact (Qc_apply i arg2 harg2 arg3 harg3 arg4 harg4 arg8 harg8 x0 x1 x2 x6 512 _ _ r k h1).trans (congrArg (gB i x0 x1 x2 x6 _) (Fin.ext (Nat.zero_add _).symm))
  refine store_step (Val := Elt Ideal) arg9.view f (gB i x0 x1 x2 x6) ![256, 0] 256 0 rfl inb_S1280x1024_S256x1024_256_0 _ _ (fun r k h1 h2 => ?_) r k fun h256 => ?_
  · exact (Qc_apply i arg2 harg2 arg3 harg3 arg4 harg4 arg8 harg8 x0 x1 x2 x6 256 _ _ r k h1).trans (congrArg (gB i x0 x1 x2 x6 _) (Fin.ext (Nat.zero_add _).symm))
  refine store_step (Val := Elt Ideal) arg9.view f (gB i x0 x1 x2 x6) ![0, 0] 0 0 rfl inb_S1280x1024_S256x1024_0_0 _ _ (fun r k h1 h2 => ?_) r k fun h0 => ?_
  · exact (Qc_apply i arg2 harg2 arg3 harg3 arg4 harg4 arg8 harg8 x0 x1 x2 x6 0 _ _ r k h1).trans (congrArg (gB i x0 x1 x2 x6 _) (Fin.ext (Nat.zero_add _).symm))
  exfalso; omega

/-- The hidden-state gradient block after the five stores: each row's earlier content plus its codes times the weight block. -/
theorem chunks8 (arg10 : Memref sig .tc .vmem S1280x4096 .f32) (f : arg10.view.ty.Contents (Elt Ideal)) (L : List (View.Piece (Elt Ideal) S1280x4096 .f32))
    (a1024 a768 a512 a256 a0 : Vec Ideal S256x4096 .f32) (base : Fin 1280 → Fin 4096 → EReal)
    (ha1024 : ∀ (r : Fin 256) (d : Fin 4096), a1024 (ix2 r d) = base ⟨1024 + r.val, by omega⟩ d) (ha768 : ∀ (r : Fin 256) (d : Fin 4096), a768 (ix2 r d) = base ⟨768 + r.val, by omega⟩ d) (ha512 : ∀ (r : Fin 256) (d : Fin 4096), a512 (ix2 r d) = base ⟨512 + r.val, by omega⟩ d) (ha256 : ∀ (r : Fin 256) (d : Fin 4096), a256 (ix2 r d) = base ⟨256 + r.val, by omega⟩ d) (ha0 : ∀ (r : Fin 256) (d : Fin 4096), a0 (ix2 r d) = base ⟨0 + r.val, by omega⟩ d) (r : Fin 1280) (d : Fin 4096) :
    arg10.view.read (Elt Ideal) (arg10.view.writes (Elt Ideal) f (⟨Rect.unit (s := S1280x4096) ![1024, 0] S256x4096.size inb_S1280x4096_S256x4096_1024_0, k0_pay9 (Qc i arg2 harg2 arg3 harg3 arg4 harg4 arg8 harg8 x0 x1 x2 x6 1024 inb_S1280x1024_S256x1024_1024_0 inb_S1280x128_S256x128_1024_0) a1024 (View.readAt (Elt Ideal) arg5.view (Rect.unit (s := S1024x4096) ![0, 0] S1024x4096.size inb_S1024x4096_S1024x4096_0_0).toLoadRect (harg5.unread x3))⟩ :: ⟨Rect.unit (s := S1280x4096) ![768, 0] S256x4096.size inb_S1280x4096_S256x4096_768_0, k0_pay9 (Qc i arg2 harg2 arg3 harg3 arg4 harg4 arg8 harg8 x0 x1 x2 x6 768 inb_S1280x1024_S256x1024_768_0 inb_S1280x128_S256x128_768_0) a768 (View.readAt (Elt Ideal) arg5.view (Rect.unit (s := S1024x4096) ![0, 0] S1024x4096.size inb_S1024x4096_S1024x4096_0_0).toLoadRect (harg5.unread x3))⟩ :: ⟨Rect.unit (s := S1280x4096) ![512, 0] S256x4096.size inb_S1280x4096_S256x4096_512_0, k0_pay9 (Qc i arg2 harg2 arg3 harg3 arg4 harg4 arg8 harg8 x0 x1 x2 x6 512 inb_S1280x1024_S256x1024_512_0 inb_S1280x128_S256x128_512_0) a512 (View.readAt (Elt Ideal) arg5.view (Rect.unit (s := S1024x4096) ![0, 0] S1024x4096.size inb_S1024x4096_S1024x4096_0_0).toLoadRect (harg5.unread x3))⟩ :: ⟨Rect.unit (s := S1280x4096) ![256, 0] S256x4096.size inb_S1280x4096_S256x4096_256_0, k0_pay9 (Qc i arg2 harg2 arg3 harg3 arg4 harg4 arg8 harg8 x0 x1 x2 x6 256 inb_S1280x1024_S256x1024_256_0 inb_S1280x128_S256x128_256_0) a256 (View.readAt (Elt Ideal) arg5.view (Rect.unit (s := S1024x4096) ![0, 0] S1024x4096.size inb_S1024x4096_S1024x4096_0_0).toLoadRect (harg5.unread x3))⟩ :: ⟨Rect.unit (s := S1280x4096) ![0, 0] S256x4096.size inb_S1280x4096_S256x4096_0_0, k0_pay9 (Qc i arg2 harg2 arg3 harg3 arg4 harg4 arg8 harg8 x0 x1 x2 x6 0 inb_S1280x1024_S256x1024_0_0 inb_S1280x128_S256x128_0_0) a0 (View.readAt (Elt Ideal) arg5.view (Rect.unit (s := S1024x4096) ![0, 0] S1024x4096.size inb_S1024x4096_S1024x4096_0_0).toLoadRect (harg5.unread x3))⟩ :: L)) (ix2 r d) = base r d + ∑ k : Fin 1024, gB i x0 x1 x2 x6 r k * x3 (ix2 k d) := by
  refine store_step (Val := Elt Ideal) arg10.view f (fun r d => base r d + ∑ k : Fin 1024, gB i x0 x1 x2 x6 r k * x3 (ix2 k d)) ![1024, 0] 1024 0 rfl inb_S1280x4096_S256x4096_1024_0 _ _ (fun r d h1 h2 => ?_) r d fun h1024 => ?_
  · refine (pay9_apply _ _ _ _).trans ?_
    have hd : (⟨0 + d.val, h2⟩ : Fin 4096) = d := Fin.ext (Nat.zero_add _)
    show _ = base ⟨1024 + r.val, h1⟩ ⟨0 + d.val, h2⟩ + ∑ k : Fin 1024, gB i x0 x1 x2 x6 ⟨1024 + r.val, h1⟩ k * x3 (ix2 k ⟨0 + d.val, h2⟩)
    rw [hd]
    refine congrArg₂ (· + ·) (ha1024 r d) (Finset.sum_congr rfl fun k _ => congrArg₂ (· * ·) (Qc_apply i arg2 harg2 arg3 harg3 arg4 harg4 arg8 harg8 x0 x1 x2 x6 1024 _ _ r k h1) ?_)
    exact (load_at (Val := Elt Ideal) arg5 harg5 x3 ![0, 0] 0 0 rfl inb_S1024x4096_S1024x4096_0_0 k d (by omega) (by omega)).trans (congrArg x3 (congrArg₂ ix2 (Fin.ext (Nat.zero_add _)) (Fin.ext (Nat.zero_add _))))
  refine store_step (Val := Elt Ideal) arg10.view f (fun r d => base r d + ∑ k : Fin 1024, gB i x0 x1 x2 x6 r k * x3 (ix2 k d)) ![768, 0] 768 0 rfl inb_S1280x4096_S256x4096_768_0 _ _ (fun r d h1 h2 => ?_) r d fun h768 => ?_
  · refine (pay9_apply _ _ _ _).trans ?_
    have hd : (⟨0 + d.val, h2⟩ : Fin 4096) = d := Fin.ext (Nat.zero_add _)
    show _ = base ⟨768 + r.val, h1⟩ ⟨0 + d.val, h2⟩ + ∑ k : Fin 1024, gB i x0 x1 x2 x6 ⟨768 + r.val, h1⟩ k * x3 (ix2 k ⟨0 + d.val, h2⟩)
    rw [hd]
    refine congrArg₂ (· + ·) (ha768 r d) (Finset.sum_congr rfl fun k _ => congrArg₂ (· * ·) (Qc_apply i arg2 harg2 arg3 harg3 arg4 harg4 arg8 harg8 x0 x1 x2 x6 768 _ _ r k h1) ?_)
    exact (load_at (Val := Elt Ideal) arg5 harg5 x3 ![0, 0] 0 0 rfl inb_S1024x4096_S1024x4096_0_0 k d (by omega) (by omega)).trans (congrArg x3 (congrArg₂ ix2 (Fin.ext (Nat.zero_add _)) (Fin.ext (Nat.zero_add _))))
  refine store_step (Val := Elt Ideal) arg10.view f (fun r d => base r d + ∑ k : Fin 1024, gB i x0 x1 x2 x6 r k * x3 (ix2 k d)) ![512, 0] 512 0 rfl inb_S1280x4096_S256x4096_512_0 _ _ (fun r d h1 h2 => ?_) r d fun h512 => ?_
  · refine (pay9_apply _ _ _ _).trans ?_
    have hd : (⟨0 + d.val, h2⟩ : Fin 4096) = d := Fin.ext (Nat.zero_add _)
    show _ = base ⟨512 + r.val, h1⟩ ⟨0 + d.val, h2⟩ + ∑ k : Fin 1024, gB i x0 x1 x2 x6 ⟨512 + r.val, h1⟩ k * x3 (ix2 k ⟨0 + d.val, h2⟩)
    rw [hd]
    refine congrArg₂ (· + ·) (ha512 r d) (Finset.sum_congr rfl fun k _ => congrArg₂ (· * ·) (Qc_apply i arg2 harg2 arg3 harg3 arg4 harg4 arg8 harg8 x0 x1 x2 x6 512 _ _ r k h1) ?_)
    exact (load_at (Val := Elt Ideal) arg5 harg5 x3 ![0, 0] 0 0 rfl inb_S1024x4096_S1024x4096_0_0 k d (by omega) (by omega)).trans (congrArg x3 (congrArg₂ ix2 (Fin.ext (Nat.zero_add _)) (Fin.ext (Nat.zero_add _))))
  refine store_step (Val := Elt Ideal) arg10.view f (fun r d => base r d + ∑ k : Fin 1024, gB i x0 x1 x2 x6 r k * x3 (ix2 k d)) ![256, 0] 256 0 rfl inb_S1280x4096_S256x4096_256_0 _ _ (fun r d h1 h2 => ?_) r d fun h256 => ?_
  · refine (pay9_apply _ _ _ _).trans ?_
    have hd : (⟨0 + d.val, h2⟩ : Fin 4096) = d := Fin.ext (Nat.zero_add _)
    show _ = base ⟨256 + r.val, h1⟩ ⟨0 + d.val, h2⟩ + ∑ k : Fin 1024, gB i x0 x1 x2 x6 ⟨256 + r.val, h1⟩ k * x3 (ix2 k ⟨0 + d.val, h2⟩)
    rw [hd]
    refine congrArg₂ (· + ·) (ha256 r d) (Finset.sum_congr rfl fun k _ => congrArg₂ (· * ·) (Qc_apply i arg2 harg2 arg3 harg3 arg4 harg4 arg8 harg8 x0 x1 x2 x6 256 _ _ r k h1) ?_)
    exact (load_at (Val := Elt Ideal) arg5 harg5 x3 ![0, 0] 0 0 rfl inb_S1024x4096_S1024x4096_0_0 k d (by omega) (by omega)).trans (congrArg x3 (congrArg₂ ix2 (Fin.ext (Nat.zero_add _)) (Fin.ext (Nat.zero_add _))))
  refine store_step (Val := Elt Ideal) arg10.view f (fun r d => base r d + ∑ k : Fin 1024, gB i x0 x1 x2 x6 r k * x3 (ix2 k d)) ![0, 0] 0 0 rfl inb_S1280x4096_S256x4096_0_0 _ _ (fun r d h1 h2 => ?_) r d fun h0 => ?_
  · refine (pay9_apply _ _ _ _).trans ?_
    have hd : (⟨0 + d.val, h2⟩ : Fin 4096) = d := Fin.ext (Nat.zero_add _)
    show _ = base ⟨0 + r.val, h1⟩ ⟨0 + d.val, h2⟩ + ∑ k : Fin 1024, gB i x0 x1 x2 x6 ⟨0 + r.val, h1⟩ k * x3 (ix2 k ⟨0 + d.val, h2⟩)
    rw [hd]
    refine congrArg₂ (· + ·) (ha0 r d) (Finset.sum_congr rfl fun k _ => congrArg₂ (· * ·) (Qc_apply i arg2 harg2 arg3 harg3 arg4 harg4 arg8 harg8 x0 x1 x2 x6 0 _ _ r k h1) ?_)
    exact (load_at (Val := Elt Ideal) arg5 harg5 x3 ![0, 0] 0 0 rfl inb_S1024x4096_S1024x4096_0_0 k d (by omega) (by omega)).trans (congrArg x3 (congrArg₂ ix2 (Fin.ext (Nat.zero_add _)) (Fin.ext (Nat.zero_add _))))
  exfalso; omega

/-- The low-rank gradient block after the five stores: each column's earlier content plus the adapter block times its codes. -/
theorem chunks9 (arg11 : Memref sig .tc .vmem S16x1280 .f32) (f : arg11.view.ty.Contents (Elt Ideal)) (L : List (View.Piece (Elt Ideal) S16x1280 .f32))
    (a1024 a768 a512 a256 a0 : Vec Ideal S16x256 .f32) (base : Fin 16 → Fin 1280 → EReal)
    (ha1024 : ∀ (a : Fin 16) (r : Fin 256), a1024 (ix2 a r) = base a ⟨1024 + r.val, by omega⟩) (ha768 : ∀ (a : Fin 16) (r : Fin 256), a768 (ix2 a r) = base a ⟨768 + r.val, by omega⟩) (ha512 : ∀ (a : Fin 16) (r : Fin 256), a512 (ix2 a r) = base a ⟨512 + r.val, by omega⟩) (ha256 : ∀ (a : Fin 16) (r : Fin 256), a256 (ix2 a r) = base a ⟨256 + r.val, by omega⟩) (ha0 : ∀ (a : Fin 16) (r : Fin 256), a0 (ix2 a r) = base a ⟨0 + r.val, by omega⟩) (a : Fin 16) (r : Fin 1280) :
    arg11.view.read (Elt Ideal) (arg11.view.writes (Elt Ideal) f (⟨Rect.unit (s := S16x1280) ![0, 1024] S16x256.size inb_S16x1280_S16x256_0_1024, k0_pay10 (k0_pay5 (View.readAt (Elt Ideal) arg6.view (Rect.unit (s := S16x1024) ![0, 0] S16x1024.size inb_S16x1024_S16x1024_0_0).toLoadRect (harg6.unread x4))) (Qc i arg2 harg2 arg3 harg3 arg4 harg4 arg8 harg8 x0 x1 x2 x6 1024 inb_S1280x1024_S256x1024_1024_0 inb_S1280x128_S256x128_1024_0) a1024⟩ :: ⟨Rect.unit (s := S16x1280) ![0, 768] S16x256.size inb_S16x1280_S16x256_0_768, k0_pay10 (k0_pay5 (View.readAt (Elt Ideal) arg6.view (Rect.unit (s := S16x1024) ![0, 0] S16x1024.size inb_S16x1024_S16x1024_0_0).toLoadRect (harg6.unread x4))) (Qc i arg2 harg2 arg3 harg3 arg4 harg4 arg8 harg8 x0 x1 x2 x6 768 inb_S1280x1024_S256x1024_768_0 inb_S1280x128_S256x128_768_0) a768⟩ :: ⟨Rect.unit (s := S16x1280) ![0, 512] S16x256.size inb_S16x1280_S16x256_0_512, k0_pay10 (k0_pay5 (View.readAt (Elt Ideal) arg6.view (Rect.unit (s := S16x1024) ![0, 0] S16x1024.size inb_S16x1024_S16x1024_0_0).toLoadRect (harg6.unread x4))) (Qc i arg2 harg2 arg3 harg3 arg4 harg4 arg8 harg8 x0 x1 x2 x6 512 inb_S1280x1024_S256x1024_512_0 inb_S1280x128_S256x128_512_0) a512⟩ :: ⟨Rect.unit (s := S16x1280) ![0, 256] S16x256.size inb_S16x1280_S16x256_0_256, k0_pay10 (k0_pay5 (View.readAt (Elt Ideal) arg6.view (Rect.unit (s := S16x1024) ![0, 0] S16x1024.size inb_S16x1024_S16x1024_0_0).toLoadRect (harg6.unread x4))) (Qc i arg2 harg2 arg3 harg3 arg4 harg4 arg8 harg8 x0 x1 x2 x6 256 inb_S1280x1024_S256x1024_256_0 inb_S1280x128_S256x128_256_0) a256⟩ :: ⟨Rect.unit (s := S16x1280) ![0, 0] S16x256.size inb_S16x1280_S16x256_0_0, k0_pay10 (k0_pay5 (View.readAt (Elt Ideal) arg6.view (Rect.unit (s := S16x1024) ![0, 0] S16x1024.size inb_S16x1024_S16x1024_0_0).toLoadRect (harg6.unread x4))) (Qc i arg2 harg2 arg3 harg3 arg4 harg4 arg8 harg8 x0 x1 x2 x6 0 inb_S1280x1024_S256x1024_0_0 inb_S1280x128_S256x128_0_0) a0⟩ :: L)) (ix2 a r) = base a r + ∑ k : Fin 1024, x4 (ix2 a k) * gB i x0 x1 x2 x6 r k := by
  refine store_step (Val := Elt Ideal) arg11.view f (fun a r => base a r + ∑ k : Fin 1024, x4 (ix2 a k) * gB i x0 x1 x2 x6 r k) ![0, 1024] 0 1024 rfl inb_S16x1280_S16x256_0_1024 _ _ (fun a r h1 h2 => ?_) a r fun h1024 => ?_
  · refine (pay10_apply _ _ _ _).trans ?_
    have hd : (⟨0 + a.val, h1⟩ : Fin 16) = a := Fin.ext (Nat.zero_add _)
    show _ = base ⟨0 + a.val, h1⟩ ⟨1024 + r.val, h2⟩ + ∑ k : Fin 1024, x4 (ix2 ⟨0 + a.val, h1⟩ k) * gB i x0 x1 x2 x6 ⟨1024 + r.val, h2⟩ k
    rw [hd]
    refine congrArg₂ (· + ·) (ha1024 a r) (Finset.sum_congr rfl fun k _ => congrArg₂ (· * ·) ?_ (Qc_apply i arg2 harg2 arg3 harg3 arg4 harg4 arg8 harg8 x0 x1 x2 x6 1024 _ _ r k h2))
    exact (load_at (Val := Elt Ideal) arg6 harg6 x4 ![0, 0] 0 0 rfl inb_S16x1024_S16x1024_0_0 a k (by omega) (by omega)).trans (congrArg x4 (congrArg₂ ix2 (Fin.ext (Nat.zero_add _)) (Fin.ext (Nat.zero_add _))))
  refine store_step (Val := Elt Ideal) arg11.view f (fun a r => base a r + ∑ k : Fin 1024, x4 (ix2 a k) * gB i x0 x1 x2 x6 r k) ![0, 768] 0 768 rfl inb_S16x1280_S16x256_0_768 _ _ (fun a r h1 h2 => ?_) a r fun h768 => ?_
  · refine (pay10_apply _ _ _ _).trans ?_
    have hd : (⟨0 + a.val, h1⟩ : Fin 16) = a := Fin.ext (Nat.zero_add _)
    show _ = base ⟨0 + a.val, h1⟩ ⟨768 + r.val, h2⟩ + ∑ k : Fin 1024, x4 (ix2 ⟨0 + a.val, h1⟩ k) * gB i x0 x1 x2 x6 ⟨768 + r.val, h2⟩ k
    rw [hd]
    refine congrArg₂ (· + ·) (ha768 a r) (Finset.sum_congr rfl fun k _ => congrArg₂ (· * ·) ?_ (Qc_apply i arg2 harg2 arg3 harg3 arg4 harg4 arg8 harg8 x0 x1 x2 x6 768 _ _ r k h2))
    exact (load_at (Val := Elt Ideal) arg6 harg6 x4 ![0, 0] 0 0 rfl inb_S16x1024_S16x1024_0_0 a k (by omega) (by omega)).trans (congrArg x4 (congrArg₂ ix2 (Fin.ext (Nat.zero_add _)) (Fin.ext (Nat.zero_add _))))
  refine store_step (Val := Elt Ideal) arg11.view f (fun a r => base a r + ∑ k : Fin 1024, x4 (ix2 a k) * gB i x0 x1 x2 x6 r k) ![0, 512] 0 512 rfl inb_S16x1280_S16x256_0_512 _ _ (fun a r h1 h2 => ?_) a r fun h512 => ?_
  · refine (pay10_apply _ _ _ _).trans ?_
    have hd : (⟨0 + a.val, h1⟩ : Fin 16) = a := Fin.ext (Nat.zero_add _)
    show _ = base ⟨0 + a.val, h1⟩ ⟨512 + r.val, h2⟩ + ∑ k : Fin 1024, x4 (ix2 ⟨0 + a.val, h1⟩ k) * gB i x0 x1 x2 x6 ⟨512 + r.val, h2⟩ k
    rw [hd]
    refine congrArg₂ (· + ·) (ha512 a r) (Finset.sum_congr rfl fun k _ => congrArg₂ (· * ·) ?_ (Qc_apply i arg2 harg2 arg3 harg3 arg4 harg4 arg8 harg8 x0 x1 x2 x6 512 _ _ r k h2))
    exact (load_at (Val := Elt Ideal) arg6 harg6 x4 ![0, 0] 0 0 rfl inb_S16x1024_S16x1024_0_0 a k (by omega) (by omega)).trans (congrArg x4 (congrArg₂ ix2 (Fin.ext (Nat.zero_add _)) (Fin.ext (Nat.zero_add _))))
  refine store_step (Val := Elt Ideal) arg11.view f (fun a r => base a r + ∑ k : Fin 1024, x4 (ix2 a k) * gB i x0 x1 x2 x6 r k) ![0, 256] 0 256 rfl inb_S16x1280_S16x256_0_256 _ _ (fun a r h1 h2 => ?_) a r fun h256 => ?_
  · refine (pay10_apply _ _ _ _).trans ?_
    have hd : (⟨0 + a.val, h1⟩ : Fin 16) = a := Fin.ext (Nat.zero_add _)
    show _ = base ⟨0 + a.val, h1⟩ ⟨256 + r.val, h2⟩ + ∑ k : Fin 1024, x4 (ix2 ⟨0 + a.val, h1⟩ k) * gB i x0 x1 x2 x6 ⟨256 + r.val, h2⟩ k
    rw [hd]
    refine congrArg₂ (· + ·) (ha256 a r) (Finset.sum_congr rfl fun k _ => congrArg₂ (· * ·) ?_ (Qc_apply i arg2 harg2 arg3 harg3 arg4 harg4 arg8 harg8 x0 x1 x2 x6 256 _ _ r k h2))
    exact (load_at (Val := Elt Ideal) arg6 harg6 x4 ![0, 0] 0 0 rfl inb_S16x1024_S16x1024_0_0 a k (by omega) (by omega)).trans (congrArg x4 (congrArg₂ ix2 (Fin.ext (Nat.zero_add _)) (Fin.ext (Nat.zero_add _))))
  refine store_step (Val := Elt Ideal) arg11.view f (fun a r => base a r + ∑ k : Fin 1024, x4 (ix2 a k) * gB i x0 x1 x2 x6 r k) ![0, 0] 0 0 rfl inb_S16x1280_S16x256_0_0 _ _ (fun a r h1 h2 => ?_) a r fun h0 => ?_
  · refine (pay10_apply _ _ _ _).trans ?_
    have hd : (⟨0 + a.val, h1⟩ : Fin 16) = a := Fin.ext (Nat.zero_add _)
    show _ = base ⟨0 + a.val, h1⟩ ⟨0 + r.val, h2⟩ + ∑ k : Fin 1024, x4 (ix2 ⟨0 + a.val, h1⟩ k) * gB i x0 x1 x2 x6 ⟨0 + r.val, h2⟩ k
    rw [hd]
    refine congrArg₂ (· + ·) (ha0 a r) (Finset.sum_congr rfl fun k _ => congrArg₂ (· * ·) ?_ (Qc_apply i arg2 harg2 arg3 harg3 arg4 harg4 arg8 harg8 x0 x1 x2 x6 0 _ _ r k h2))
    exact (load_at (Val := Elt Ideal) arg6 harg6 x4 ![0, 0] 0 0 rfl inb_S16x1024_S16x1024_0_0 a k (by omega) (by omega)).trans (congrArg x4 (congrArg₂ ix2 (Fin.ext (Nat.zero_add _)) (Fin.ext (Nat.zero_add _))))
  exfalso; omega

/-- The adapter gradient's column block after the five chunks: its earlier content plus the scaled hidden states times the codes. -/
theorem chunks10 (a0 : Vec Ideal S16x1024 .f32) (a : Fin 16) (k : Fin 1024) :
    (k0_pay11 (Qc i arg2 harg2 arg3 harg3 arg4 harg4 arg8 harg8 x0 x1 x2 x6 1024 inb_S1280x1024_S256x1024_1024_0 inb_S1280x128_S256x128_1024_0) (k0_pay11 (Qc i arg2 harg2 arg3 harg3 arg4 harg4 arg8 harg8 x0 x1 x2 x6 768 inb_S1280x1024_S256x1024_768_0 inb_S1280x128_S256x128_768_0) (k0_pay11 (Qc i arg2 harg2 arg3 harg3 arg4 harg4 arg8 harg8 x0 x1 x2 x6 512 inb_S1280x1024_S256x1024_512_0 inb_S1280x128_S256x128_512_0) (k0_pay11 (Qc i arg2 harg2 arg3 harg3 arg4 harg4 arg8 harg8 x0 x1 x2 x6 256 inb_S1280x1024_S256x1024_256_0 inb_S1280x128_S256x128_256_0) (k0_pay11 (Qc i arg2 harg2 arg3 harg3 arg4 harg4 arg8 harg8 x0 x1 x2 x6 0 inb_S1280x1024_S256x1024_0_0 inb_S1280x128_S256x128_0_0) a0 (View.readAt (Elt Ideal) arg7.view (Rect.unit (s := S16x1280) ![0, 0] S16x256.size inb_S16x1280_S16x256_0_0).toLoadRect (harg7.unread x5))) (View.readAt (Elt Ideal) arg7.view (Rect.unit (s := S16x1280) ![0, 256] S16x256.size inb_S16x1280_S16x256_0_256).toLoadRect (harg7.unread x5))) (View.readAt (Elt Ideal) arg7.view (Rect.unit (s := S16x1280) ![0, 512] S16x256.size inb_S16x1280_S16x256_0_512).toLoadRect (harg7.unread x5))) (View.readAt (Elt Ideal) arg7.view (Rect.unit (s := S16x1280) ![0, 768] S16x256.size inb_S16x1280_S16x256_0_768).toLoadRect (harg7.unread x5))) (View.readAt (Elt Ideal) arg7.view (Rect.unit (s := S16x1280) ![0, 1024] S16x256.size inb_S16x1280_S16x256_0_1024).toLoadRect (harg7.unread x5))) (ix2 a k) = a0 (ix2 a k) + ∑ t : Fin 1280, x5 (ix2 a t) * gB i x0 x1 x2 x6 t k := by
  rw [← sum_five (fun t => x5 (ix2 a t) * gB i x0 x1 x2 x6 t k)]
  refine (pay11_apply _ _ _ _).trans (congrArg₂ (· + ·) ?_ (Finset.sum_congr rfl fun t _ => congrArg₂ (· * ·) ((load_at (Val := Elt Ideal) arg7 harg7 x5 ![0, 1024] 0 1024 rfl inb_S16x1280_S16x256_0_1024 a t (by omega) (by omega)).trans (congrArg x5 (congrArg₂ ix2 (Fin.ext (Nat.zero_add _)) rfl))) (Qc_apply i arg2 harg2 arg3 harg3 arg4 harg4 arg8 harg8 x0 x1 x2 x6 1024 _ _ t k (by omega))))
  refine (pay11_apply _ _ _ _).trans (congrArg₂ (· + ·) ?_ (Finset.sum_congr rfl fun t _ => congrArg₂ (· * ·) ((load_at (Val := Elt Ideal) arg7 harg7 x5 ![0, 768] 0 768 rfl inb_S16x1280_S16x256_0_768 a t (by omega) (by omega)).trans (congrArg x5 (congrArg₂ ix2 (Fin.ext (Nat.zero_add _)) rfl))) (Qc_apply i arg2 harg2 arg3 harg3 arg4 harg4 arg8 harg8 x0 x1 x2 x6 768 _ _ t k (by omega))))
  refine (pay11_apply _ _ _ _).trans (congrArg₂ (· + ·) ?_ (Finset.sum_congr rfl fun t _ => congrArg₂ (· * ·) ((load_at (Val := Elt Ideal) arg7 harg7 x5 ![0, 512] 0 512 rfl inb_S16x1280_S16x256_0_512 a t (by omega) (by omega)).trans (congrArg x5 (congrArg₂ ix2 (Fin.ext (Nat.zero_add _)) rfl))) (Qc_apply i arg2 harg2 arg3 harg3 arg4 harg4 arg8 harg8 x0 x1 x2 x6 512 _ _ t k (by omega))))
  refine (pay11_apply _ _ _ _).trans (congrArg₂ (· + ·) ?_ (Finset.sum_congr rfl fun t _ => congrArg₂ (· * ·) ((load_at (Val := Elt Ideal) arg7 harg7 x5 ![0, 256] 0 256 rfl inb_S16x1280_S16x256_0_256 a t (by omega) (by omega)).trans (congrArg x5 (congrArg₂ ix2 (Fin.ext (Nat.zero_add _)) rfl))) (Qc_apply i arg2 harg2 arg3 harg3 arg4 harg4 arg8 harg8 x0 x1 x2 x6 256 _ _ t k (by omega))))
  refine (pay11_apply _ _ _ _).trans (congrArg₂ (· + ·) rfl (Finset.sum_congr rfl fun t _ => congrArg₂ (· * ·) ((load_at (Val := Elt Ideal) arg7 harg7 x5 ![0, 0] 0 0 rfl inb_S16x1280_S16x256_0_0 a t (by omega) (by omega)).trans (congrArg x5 (congrArg₂ ix2 (Fin.ext (Nat.zero_add _)) rfl))) (Qc_apply i arg2 harg2 arg3 harg3 arg4 harg4 arg8 harg8 x0 x1 x2 x6 0 _ _ t k (by omega))))

theorem chunks10c (w a0 a1 a2 a3 a4 : Vec Ideal S16x1024 .f32) (h4 : w = k0_pay11 (Qc i arg2 harg2 arg3 harg3 arg4 harg4 arg8 harg8 x0 x1 x2 x6 1024 inb_S1280x1024_S256x1024_1024_0 inb_S1280x128_S256x128_1024_0) a4 (View.readAt (Elt Ideal) arg7.view (Rect.unit (s := S16x1280) ![0, 1024] S16x256.size inb_S16x1280_S16x256_0_1024).toLoadRect (harg7.unread x5))) (h3 : a4 = k0_pay11 (Qc i arg2 harg2 arg3 harg3 arg4 harg4 arg8 harg8 x0 x1 x2 x6 768 inb_S1280x1024_S256x1024_768_0 inb_S1280x128_S256x128_768_0) a3 (View.readAt (Elt Ideal) arg7.view (Rect.unit (s := S16x1280) ![0, 768] S16x256.size inb_S16x1280_S16x256_0_768).toLoadRect (harg7.unread x5)))
    (h2 : a3 = k0_pay11 (Qc i arg2 harg2 arg3 harg3 arg4 harg4 arg8 harg8 x0 x1 x2 x6 512 inb_S1280x1024_S256x1024_512_0 inb_S1280x128_S256x128_512_0) a2 (View.readAt (Elt Ideal) arg7.view (Rect.unit (s := S16x1280) ![0, 512] S16x256.size inb_S16x1280_S16x256_0_512).toLoadRect (harg7.unread x5))) (h1 : a2 = k0_pay11 (Qc i arg2 harg2 arg3 harg3 arg4 harg4 arg8 harg8 x0 x1 x2 x6 256 inb_S1280x1024_S256x1024_256_0 inb_S1280x128_S256x128_256_0) a1 (View.readAt (Elt Ideal) arg7.view (Rect.unit (s := S16x1280) ![0, 256] S16x256.size inb_S16x1280_S16x256_0_256).toLoadRect (harg7.unread x5))) (h0 : a1 = k0_pay11 (Qc i arg2 harg2 arg3 harg3 arg4 harg4 arg8 harg8 x0 x1 x2 x6 0 inb_S1280x1024_S256x1024_0_0 inb_S1280x128_S256x128_0_0) a0 (View.readAt (Elt Ideal) arg7.view (Rect.unit (s := S16x1280) ![0, 0] S16x256.size inb_S16x1280_S16x256_0_0).toLoadRect (harg7.unread x5))) (a : Fin 16) (k : Fin 1024) :
    w (ix2 a k) = a0 (ix2 a k) + ∑ t : Fin 1280, x5 (ix2 a t) * gB i x0 x1 x2 x6 t k := by
  subst h0 h1 h2 h3 h4
  exact chunks10 i arg2 harg2 arg3 harg3 arg4 harg4 arg7 harg7 arg8 harg8 x0 x1 x2 x5 x6 a0 a k

end

theorem pay1_apply (j : S1280x4096.Idx) : k0_pay1 (F := Ideal) j = 0 := by
  unfold k0_pay1
  pointwise

theorem pay2_apply (j : S16x1280.Idx) : k0_pay2 (F := Ideal) j = 0 := by
  unfold k0_pay2
  pointwise

theorem pay3_apply (j : S16x1024.Idx) : k0_pay3 (F := Ideal) j = 0 := by
  unfold k0_pay3
  pointwise

/-- The column offset of the adapter gradient's block, computed from the grid word. -/
theorem off2_eq (i : grid0.Coords) : k0_off2 i = ![0, (i 1).val * 1024] := by
  have h : (i 1).val < 63 := (i 1).isLt
  have e : (BitVec.ofNat 32 (i 1).val * 1024#32).toNat = (i 1).val * 1024 := by
    have : ∀ n : Fin 63, (BitVec.ofNat 32 n.val * 1024#32).toNat = n.val * 1024 := by decide +kernel
    exact this ⟨_, h⟩
  show ![0, (BitVec.ofNat 32 (i 1).val * 1024#32).toNat] = _
  rw [e]

theorem off1_eq (i : grid0.Coords) : k0_off1 i = ![0, (i 1).val * 1024] := off2_eq i

theorem acc10_zero_of (v : View sig .tc .vmem S16x64512 .f32) (o1 o2 : Fin 2 → ℕ) (h : o1 = o2) (n1 : ∀ a : Fin 2, o1 a + S16x1024.size a ≤ S16x64512.size a) (n2 : ∀ a : Fin 2, o2 a + S16x1024.size a ≤ S16x64512.size a)
    (w : Vec Ideal S16x1024 .f32) (j : S16x1024.Idx) :
    v.readCov (Val := Elt Ideal) [⟨Rect.unit (s := S16x64512) o1 S16x1024.size n1, w⟩] (Rect.unit (s := S16x64512) o2 S16x1024.size n2).toLoadRect j = w j := by
  subst h
  rw [View.readCov_cons_toLoadRect]

/-- The first chunk's accumulator where the column block has just been zeroed. -/
theorem acc10_zero (i : grid0.Coords) (v : View sig .tc .vmem S16x64512 .f32) (n1 : ∀ a : Fin 2, k0_off1 i a + S16x1024.size a ≤ S16x64512.size a) (n2 : ∀ a : Fin 2, k0_off2 i a + S16x1024.size a ≤ S16x64512.size a)
    (j : S16x1024.Idx) :
    v.readCov (Val := Elt Ideal) [⟨Rect.unit (s := S16x64512) (k0_off1 i) S16x1024.size n1, k0_pay3 (F := Ideal)⟩] (Rect.unit (s := S16x64512) (k0_off2 i) S16x1024.size n2).toLoadRect j = 0 :=
  (acc10_zero_of v _ _ ((off1_eq i).trans (off2_eq i).symm) n1 n2 _ j).trans (pay3_apply j)

theorem zero8_0 (v : View sig .tc .vmem S1280x4096 .f32) (j : S256x4096.Idx) :
    v.readCov (Val := Elt Ideal) ([⟨Rect.unit (s := S1280x4096) ![0, 0] S1280x4096.size inb_S1280x4096_S1280x4096_0_0, k0_pay1 (F := Ideal)⟩]) (Rect.unit (s := S1280x4096) ![0, 0] S256x4096.size inb_S1280x4096_S256x4096_0_0).toLoadRect j = 0 := by
  rw [View.readCov_fill (Val := Elt Ideal) v inb_S1280x4096_S1280x4096_0_0 (k0_pay1 (F := Ideal)) [] (Rect.unit (s := S1280x4096) ![0, 0] S256x4096.size inb_S1280x4096_S256x4096_0_0) (Fin.forall_fin_two.mpr ⟨rfl, rfl⟩)]
  exact pay1_apply _

theorem zero8_256 (v : View sig .tc .vmem S1280x4096 .f32) (w0 : Vec Ideal S256x4096 .f32) (j : S256x4096.Idx) :
    v.readCov (Val := Elt Ideal) (⟨Rect.unit (s := S1280x4096) ![0, 0] S256x4096.size inb_S1280x4096_S256x4096_0_0, w0⟩ :: [⟨Rect.unit (s := S1280x4096) ![0, 0] S1280x4096.size inb_S1280x4096_S1280x4096_0_0, k0_pay1 (F := Ideal)⟩]) (Rect.unit (s := S1280x4096) ![256, 0] S256x4096.size inb_S1280x4096_S256x4096_256_0).toLoadRect j = 0 := by
  rw [View.readCov_skip (Val := Elt Ideal) v (Rect.unit (s := S1280x4096) ![0, 0] S256x4096.size inb_S1280x4096_S256x4096_0_0) _ _ _ (by decide +kernel)]
  rw [View.readCov_fill (Val := Elt Ideal) v inb_S1280x4096_S1280x4096_0_0 (k0_pay1 (F := Ideal)) [] (Rect.unit (s := S1280x4096) ![256, 0] S256x4096.size inb_S1280x4096_S256x4096_256_0) (Fin.forall_fin_two.mpr ⟨rfl, rfl⟩)]
  exact pay1_apply _

theorem zero8_512 (v : View sig .tc .vmem S1280x4096 .f32) (w256 w0 : Vec Ideal S256x4096 .f32) (j : S256x4096.Idx) :
    v.readCov (Val := Elt Ideal) (⟨Rect.unit (s := S1280x4096) ![256, 0] S256x4096.size inb_S1280x4096_S256x4096_256_0, w256⟩ :: ⟨Rect.unit (s := S1280x4096) ![0, 0] S256x4096.size inb_S1280x4096_S256x4096_0_0, w0⟩ :: [⟨Rect.unit (s := S1280x4096) ![0, 0] S1280x4096.size inb_S1280x4096_S1280x4096_0_0, k0_pay1 (F := Ideal)⟩]) (Rect.unit (s := S1280x4096) ![512, 0] S256x4096.size inb_S1280x4096_S256x4096_512_0).toLoadRect j = 0 := by
  rw [View.readCov_skip (Val := Elt Ideal) v (Rect.unit (s := S1280x4096) ![256, 0] S256x4096.size inb_S1280x4096_S256x4096_256_0) _ _ _ (by decide +kernel)]
  rw [View.readCov_skip (Val := Elt Ideal) v (Rect.unit (s := S1280x4096) ![0, 0] S256x4096.size inb_S1280x4096_S256x4096_0_0) _ _ _ (by decide +kernel)]
  rw [View.readCov_fill (Val := Elt Ideal) v inb_S1280x4096_S1280x4096_0_0 (k0_pay1 (F := Ideal)) [] (Rect.unit (s := S1280x4096) ![512, 0] S256x4096.size inb_S1280x4096_S256x4096_512_0) (Fin.forall_fin_two.mpr ⟨rfl, rfl⟩)]
  exact pay1_apply _

theorem zero8_768 (v : View sig .tc .vmem S1280x4096 .f32) (w512 w256 w0 : Vec Ideal S256x4096 .f32) (j : S256x4096.Idx) :
    v.readCov (Val := Elt Ideal) (⟨Rect.unit (s := S1280x4096) ![512, 0] S256x4096.size inb_S1280x4096_S256x4096_512_0, w512⟩ :: ⟨Rect.unit (s := S1280x4096) ![256, 0] S256x4096.size inb_S1280x4096_S256x4096_256_0, w256⟩ :: ⟨Rect.unit (s := S1280x4096) ![0, 0] S256x4096.size inb_S1280x4096_S256x4096_0_0, w0⟩ :: [⟨Rect.unit (s := S1280x4096) ![0, 0] S1280x4096.size inb_S1280x4096_S1280x4096_0_0, k0_pay1 (F := Ideal)⟩]) (Rect.unit (s := S1280x4096) ![768, 0] S256x4096.size inb_S1280x4096_S256x4096_768_0).toLoadRect j = 0 := by
  rw [View.readCov_skip (Val := Elt Ideal) v (Rect.unit (s := S1280x4096) ![512, 0] S256x4096.size inb_S1280x4096_S256x4096_512_0) _ _ _ (by decide +kernel)]
  rw [View.readCov_skip (Val := Elt Ideal) v (Rect.unit (s := S1280x4096) ![256, 0] S256x4096.size inb_S1280x4096_S256x4096_256_0) _ _ _ (by decide +kernel)]
  rw [View.readCov_skip (Val := Elt Ideal) v (Rect.unit (s := S1280x4096) ![0, 0] S256x4096.size inb_S1280x4096_S256x4096_0_0) _ _ _ (by decide +kernel)]
  rw [View.readCov_fill (Val := Elt Ideal) v inb_S1280x4096_S1280x4096_0_0 (k0_pay1 (F := Ideal)) [] (Rect.unit (s := S1280x4096) ![768, 0] S256x4096.size inb_S1280x4096_S256x4096_768_0) (Fin.forall_fin_two.mpr ⟨rfl, rfl⟩)]
  exact pay1_apply _

theorem zero8_1024 (v : View sig .tc .vmem S1280x4096 .f32) (w768 w512 w256 w0 : Vec Ideal S256x4096 .f32) (j : S256x4096.Idx) :
    v.readCov (Val := Elt Ideal) (⟨Rect.unit (s := S1280x4096) ![768, 0] S256x4096.size inb_S1280x4096_S256x4096_768_0, w768⟩ :: ⟨Rect.unit (s := S1280x4096) ![512, 0] S256x4096.size inb_S1280x4096_S256x4096_512_0, w512⟩ :: ⟨Rect.unit (s := S1280x4096) ![256, 0] S256x4096.size inb_S1280x4096_S256x4096_256_0, w256⟩ :: ⟨Rect.unit (s := S1280x4096) ![0, 0] S256x4096.size inb_S1280x4096_S256x4096_0_0, w0⟩ :: [⟨Rect.unit (s := S1280x4096) ![0, 0] S1280x4096.size inb_S1280x4096_S1280x4096_0_0, k0_pay1 (F := Ideal)⟩]) (Rect.unit (s := S1280x4096) ![1024, 0] S256x4096.size inb_S1280x4096_S256x4096_1024_0).toLoadRect j = 0 := by
  rw [View.readCov_skip (Val := Elt Ideal) v (Rect.unit (s := S1280x4096) ![768, 0] S256x4096.size inb_S1280x4096_S256x4096_768_0) _ _ _ (by decide +kernel)]
  rw [View.readCov_skip (Val := Elt Ideal) v (Rect.unit (s := S1280x4096) ![512, 0] S256x4096.size inb_S1280x4096_S256x4096_512_0) _ _ _ (by decide +kernel)]
  rw [View.readCov_skip (Val := Elt Ideal) v (Rect.unit (s := S1280x4096) ![256, 0] S256x4096.size inb_S1280x4096_S256x4096_256_0) _ _ _ (by decide +kernel)]
  rw [View.readCov_skip (Val := Elt Ideal) v (Rect.unit (s := S1280x4096) ![0, 0] S256x4096.size inb_S1280x4096_S256x4096_0_0) _ _ _ (by decide +kernel)]
  rw [View.readCov_fill (Val := Elt Ideal) v inb_S1280x4096_S1280x4096_0_0 (k0_pay1 (F := Ideal)) [] (Rect.unit (s := S1280x4096) ![1024, 0] S256x4096.size inb_S1280x4096_S256x4096_1024_0) (Fin.forall_fin_two.mpr ⟨rfl, rfl⟩)]
  exact pay1_apply _

theorem zero9_0 (v : View sig .tc .vmem S16x1280 .f32) (j : S16x256.Idx) :
    v.readCov (Val := Elt Ideal) ([⟨Rect.unit (s := S16x1280) ![0, 0] S16x1280.size inb_S16x1280_S16x1280_0_0, k0_pay2 (F := Ideal)⟩]) (Rect.unit (s := S16x1280) ![0, 0] S16x256.size inb_S16x1280_S16x256_0_0).toLoadRect j = 0 := by
  rw [View.readCov_fill (Val := Elt Ideal) v inb_S16x1280_S16x1280_0_0 (k0_pay2 (F := Ideal)) [] (Rect.unit (s := S16x1280) ![0, 0] S16x256.size inb_S16x1280_S16x256_0_0) (Fin.forall_fin_two.mpr ⟨rfl, rfl⟩)]
  exact pay2_apply _

theorem zero9_256 (v : View sig .tc .vmem S16x1280 .f32) (w0 : Vec Ideal S16x256 .f32) (j : S16x256.Idx) :
    v.readCov (Val := Elt Ideal) (⟨Rect.unit (s := S16x1280) ![0, 0] S16x256.size inb_S16x1280_S16x256_0_0, w0⟩ :: [⟨Rect.unit (s := S16x1280) ![0, 0] S16x1280.size inb_S16x1280_S16x1280_0_0, k0_pay2 (F := Ideal)⟩]) (Rect.unit (s := S16x1280) ![0, 256] S16x256.size inb_S16x1280_S16x256_0_256).toLoadRect j = 0 := by
  rw [View.readCov_skip (Val := Elt Ideal) v (Rect.unit (s := S16x1280) ![0, 0] S16x256.size inb_S16x1280_S16x256_0_0) _ _ _ (by decide +kernel)]
  rw [View.readCov_fill (Val := Elt Ideal) v inb_S16x1280_S16x1280_0_0 (k0_pay2 (F := Ideal)) [] (Rect.unit (s := S16x1280) ![0, 256] S16x256.size inb_S16x1280_S16x256_0_256) (Fin.forall_fin_two.mpr ⟨rfl, rfl⟩)]
  exact pay2_apply _

theorem zero9_512 (v : View sig .tc .vmem S16x1280 .f32) (w256 w0 : Vec Ideal S16x256 .f32) (j : S16x256.Idx) :
    v.readCov (Val := Elt Ideal) (⟨Rect.unit (s := S16x1280) ![0, 256] S16x256.size inb_S16x1280_S16x256_0_256, w256⟩ :: ⟨Rect.unit (s := S16x1280) ![0, 0] S16x256.size inb_S16x1280_S16x256_0_0, w0⟩ :: [⟨Rect.unit (s := S16x1280) ![0, 0] S16x1280.size inb_S16x1280_S16x1280_0_0, k0_pay2 (F := Ideal)⟩]) (Rect.unit (s := S16x1280) ![0, 512] S16x256.size inb_S16x1280_S16x256_0_512).toLoadRect j = 0 := by
  rw [View.readCov_skip (Val := Elt Ideal) v (Rect.unit (s := S16x1280) ![0, 256] S16x256.size inb_S16x1280_S16x256_0_256) _ _ _ (by decide +kernel)]
  rw [View.readCov_skip (Val := Elt Ideal) v (Rect.unit (s := S16x1280) ![0, 0] S16x256.size inb_S16x1280_S16x256_0_0) _ _ _ (by decide +kernel)]
  rw [View.readCov_fill (Val := Elt Ideal) v inb_S16x1280_S16x1280_0_0 (k0_pay2 (F := Ideal)) [] (Rect.unit (s := S16x1280) ![0, 512] S16x256.size inb_S16x1280_S16x256_0_512) (Fin.forall_fin_two.mpr ⟨rfl, rfl⟩)]
  exact pay2_apply _

theorem zero9_768 (v : View sig .tc .vmem S16x1280 .f32) (w512 w256 w0 : Vec Ideal S16x256 .f32) (j : S16x256.Idx) :
    v.readCov (Val := Elt Ideal) (⟨Rect.unit (s := S16x1280) ![0, 512] S16x256.size inb_S16x1280_S16x256_0_512, w512⟩ :: ⟨Rect.unit (s := S16x1280) ![0, 256] S16x256.size inb_S16x1280_S16x256_0_256, w256⟩ :: ⟨Rect.unit (s := S16x1280) ![0, 0] S16x256.size inb_S16x1280_S16x256_0_0, w0⟩ :: [⟨Rect.unit (s := S16x1280) ![0, 0] S16x1280.size inb_S16x1280_S16x1280_0_0, k0_pay2 (F := Ideal)⟩]) (Rect.unit (s := S16x1280) ![0, 768] S16x256.size inb_S16x1280_S16x256_0_768).toLoadRect j = 0 := by
  rw [View.readCov_skip (Val := Elt Ideal) v (Rect.unit (s := S16x1280) ![0, 512] S16x256.size inb_S16x1280_S16x256_0_512) _ _ _ (by decide +kernel)]
  rw [View.readCov_skip (Val := Elt Ideal) v (Rect.unit (s := S16x1280) ![0, 256] S16x256.size inb_S16x1280_S16x256_0_256) _ _ _ (by decide +kernel)]
  rw [View.readCov_skip (Val := Elt Ideal) v (Rect.unit (s := S16x1280) ![0, 0] S16x256.size inb_S16x1280_S16x256_0_0) _ _ _ (by decide +kernel)]
  rw [View.readCov_fill (Val := Elt Ideal) v inb_S16x1280_S16x1280_0_0 (k0_pay2 (F := Ideal)) [] (Rect.unit (s := S16x1280) ![0, 768] S16x256.size inb_S16x1280_S16x256_0_768) (Fin.forall_fin_two.mpr ⟨rfl, rfl⟩)]
  exact pay2_apply _

theorem zero9_1024 (v : View sig .tc .vmem S16x1280 .f32) (w768 w512 w256 w0 : Vec Ideal S16x256 .f32) (j : S16x256.Idx) :
    v.readCov (Val := Elt Ideal) (⟨Rect.unit (s := S16x1280) ![0, 768] S16x256.size inb_S16x1280_S16x256_0_768, w768⟩ :: ⟨Rect.unit (s := S16x1280) ![0, 512] S16x256.size inb_S16x1280_S16x256_0_512, w512⟩ :: ⟨Rect.unit (s := S16x1280) ![0, 256] S16x256.size inb_S16x1280_S16x256_0_256, w256⟩ :: ⟨Rect.unit (s := S16x1280) ![0, 0] S16x256.size inb_S16x1280_S16x256_0_0, w0⟩ :: [⟨Rect.unit (s := S16x1280) ![0, 0] S16x1280.size inb_S16x1280_S16x1280_0_0, k0_pay2 (F := Ideal)⟩]) (Rect.unit (s := S16x1280) ![0, 1024] S16x256.size inb_S16x1280_S16x256_0_1024).toLoadRect j = 0 := by
  rw [View.readCov_skip (Val := Elt Ideal) v (Rect.unit (s := S16x1280) ![0, 768] S16x256.size inb_S16x1280_S16x256_0_768) _ _ _ (by decide +kernel)]
  rw [View.readCov_skip (Val := Elt Ideal) v (Rect.unit (s := S16x1280) ![0, 512] S16x256.size inb_S16x1280_S16x256_0_512) _ _ _ (by decide +kernel)]
  rw [View.readCov_skip (Val := Elt Ideal) v (Rect.unit (s := S16x1280) ![0, 256] S16x256.size inb_S16x1280_S16x256_0_256) _ _ _ (by decide +kernel)]
  rw [View.readCov_skip (Val := Elt Ideal) v (Rect.unit (s := S16x1280) ![0, 0] S16x256.size inb_S16x1280_S16x256_0_0) _ _ _ (by decide +kernel)]
  rw [View.readCov_fill (Val := Elt Ideal) v inb_S16x1280_S16x1280_0_0 (k0_pay2 (F := Ideal)) [] (Rect.unit (s := S16x1280) ![0, 1024] S16x256.size inb_S16x1280_S16x256_0_1024) (Fin.forall_fin_two.mpr ⟨rfl, rfl⟩)]
  exact pay2_apply _

end Cert.BackwardIdeal.Own

end
-- ==== Proof.BwdA.lean ====
/- The backward body run in case A of its two conditionals. -/
module

public import proofs.«01_k».proof.Proof.BwdRuns

@[expose] public section

set_option maxRecDepth 16384

noncomputable section

namespace Cert.BackwardIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BackwardIdeal.Gen

variable {F : FTy → Type} [FloatOps F]

local notation "𝕄" => MT nD τ sig Unit (Elt F) ℕ (UR sig nD τ) ℕ

set_option maxHeartbeats 1600000 in
/-- The body's triple in the case `cond0_0 i`, `cond0_1 i`: the inputs are handed back as they were, each output's buffer with the
    pieces the run stored (`L7` the codes, `L8` the hidden-state gradient, `L9` and `L10` the two adapter gradients). -/
noncomputable def bodyRun_A (c : Dev nD) (i : grid0.Coords) (arg2 : Memref sig .tc .vmem S1280x1024 .f32) (harg2 : arg2.IsWhole) (arg3 : Memref sig .tc .vmem S1280x128 .f32) (harg3 : arg3.IsWhole) (arg4 : Memref sig .tc .vmem S1280x128 .i32) (harg4 : arg4.IsWhole) (arg5 : Memref sig .tc .vmem S1024x4096 .bf16) (harg5 : arg5.IsWhole) (arg6 : Memref sig .tc .vmem S16x1024 .bf16) (harg6 : arg6.IsWhole) (arg7 : Memref sig .tc .vmem S16x1280 .bf16) (harg7 : arg7.IsWhole) (arg8 : Memref sig .tc .smem S1x1 .f32) (harg8 : arg8.IsWhole) (arg9 : Memref sig .tc .vmem S1280x1024 .fp8e5m2) (harg9 : arg9.IsWhole) (arg10 : Memref sig .tc .vmem S1280x4096 .f32) (harg10 : arg10.IsWhole) (arg11 : Memref sig .tc .vmem S16x1280 .f32) (harg11 : arg11.IsWhole) (arg12 : Memref sig .tc .vmem S16x64512 .f32) (harg12 : arg12.IsWhole)
    (hc0 : cond0_0 i) (hc1 : cond0_1 i)
    (x0 : Vec F S1280x1024 .f32) (x1 : Vec F S1280x128 .f32) (x2 : Vec F S1280x128 .i32) (x3 : Vec F S1024x4096 .bf16) (x4 : Vec F S16x1024 .bf16) (x5 : Vec F S16x1280 .bf16) (x6 : Vec F S1x1 .f32) (x8 : Vec F S1280x4096 .f32) (x9 : Vec F S16x1280 .f32) (x10 : Vec F S16x64512 .f32) :
    Σ' (L7 : List (View.Piece (Elt F) S1280x1024 .fp8e5m2)) (L8 : List (View.Piece (Elt F) S1280x4096 .f32)) (L9 : List (View.Piece (Elt F) S16x1280 .f32)), { L10 : List (View.Piece (Elt F) S16x64512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare x8 ∗ owns (c : Thread nD τ) arg11 fullShare x9 ∗ owns (c : Thread nD τ) arg12 fullShare x10
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread x8) L8) ∗ (arg11.view.loc (c : Thread nD τ) ↦[arg11.view.set]{fullShare} arg11.view.writes (Elt F) (harg11.unread x9) L9) ∗ (arg12.view.loc (c : Thread nD τ) ↦[arg12.view.set]{fullShare} arg12.view.writes (Elt F) (harg12.unread x10) L10)) -∗ K ⟨⟩))
          ⊢ wp frame (wpE (defs₀ (F := F)) Variants.none c none) E (cc0_backward i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_backward_eq_skeleton]; unfold cc0_backward_skel
    simp only [k0_part7_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9; obtain rfl := harg12.eq_unread hf10
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [H8]
    · iexact H8
    isplitl [H9]
    · iexact H9
    iexact H10

end Cert.BackwardIdeal.Own

end
-- ==== Proof.BwdElA.lean ====
/- What one run of the backward body leaves in the four output blocks at `Ideal`, case A of its two conditionals. -/
module

public import proofs.«01_k».proof.Proof.BwdChunks
public import proofs.«01_k».proof.Proof.BwdA

@[expose] public section

set_option maxRecDepth 16384

noncomputable section

namespace Cert.BackwardIdeal.Own

open Idealize.ShloMosaic Idealize.ShloMosaic.TcCoe Idealize.SL.Sem Idealize.ShloMosaic.Pointwise
open Cert.BackwardIdeal Cert.BackwardIdeal.Gen

variable (c : Dev nD) (i : grid0.Coords) (arg2 : Memref sig .tc .vmem S1280x1024 .f32) (harg2 : arg2.IsWhole) (arg3 : Memref sig .tc .vmem S1280x128 .f32) (harg3 : arg3.IsWhole) (arg4 : Memref sig .tc .vmem S1280x128 .i32) (harg4 : arg4.IsWhole) (arg5 : Memref sig .tc .vmem S1024x4096 .bf16) (harg5 : arg5.IsWhole) (arg6 : Memref sig .tc .vmem S16x1024 .bf16) (harg6 : arg6.IsWhole) (arg7 : Memref sig .tc .vmem S16x1280 .bf16) (harg7 : arg7.IsWhole) (arg8 : Memref sig .tc .smem S1x1 .f32) (harg8 : arg8.IsWhole) (arg9 : Memref sig .tc .vmem S1280x1024 .fp8e5m2) (harg9 : arg9.IsWhole) (arg10 : Memref sig .tc .vmem S1280x4096 .f32) (harg10 : arg10.IsWhole) (arg11 : Memref sig .tc .vmem S16x1280 .f32) (harg11 : arg11.IsWhole) (arg12 : Memref sig .tc .vmem S16x64512 .f32) (harg12 : arg12.IsWhole)
  (hc0 : cond0_0 i) (hc1 : cond0_1 i)
  (x0 : Vec Ideal S1280x1024 .f32) (x1 : Vec Ideal S1280x128 .f32) (x2 : Vec Ideal S1280x128 .i32) (x3 : Vec Ideal S1024x4096 .bf16) (x4 : Vec Ideal S16x1024 .bf16) (x5 : Vec Ideal S16x1280 .bf16) (x6 : Vec Ideal S1x1 .f32) (x8 : Vec Ideal S1280x4096 .f32) (x9 : Vec Ideal S16x1280 .f32) (x10 : Vec Ideal S16x64512 .f32)

theorem read7_A (f : arg9.view.ty.Contents (Elt Ideal)) (r : Fin 1280) (k : Fin 1024) :
    arg9.view.read (Elt Ideal) (arg9.view.writes (Elt Ideal) f (bodyRun_A c i arg2 harg2 arg3 harg3 arg4 harg4 arg5 harg5 arg6 harg6 arg7 harg7 arg8 harg8 arg9 harg9 arg10 harg10 arg11 harg11 arg12 harg12 hc0 hc1 x0 x1 x2 x3 x4 x5 x6 x8 x9 x10).1) (ix2 r k) = gB i x0 x1 x2 x6 r k :=
  chunks7 i arg2 harg2 arg3 harg3 arg4 harg4 arg8 harg8 x0 x1 x2 x6 arg9 f _ r k

theorem read8_A (f : arg10.view.ty.Contents (Elt Ideal)) (r : Fin 1280) (d : Fin 4096) :
    arg10.view.read (Elt Ideal) (arg10.view.writes (Elt Ideal) f (bodyRun_A c i arg2 harg2 arg3 harg3 arg4 harg4 arg5 harg5 arg6 harg6 arg7 harg7 arg8 harg8 arg9 harg9 arg10 harg10 arg11 harg11 arg12 harg12 hc0 hc1 x0 x1 x2 x3 x4 x5 x6 x8 x9 x10).2.1) (ix2 r d) = (0 : EReal) + ∑ k : Fin 1024, gB i x0 x1 x2 x6 r k * x3 (ix2 k d) :=
  chunks8 i arg2 harg2 arg3 harg3 arg4 harg4 arg5 harg5 arg8 harg8 x0 x1 x2 x3 x6 arg10 f _ _ _ _ _ _ (fun r d => (0 : EReal))
        (fun r d => zero8_1024 arg10.view _ _ _ _ (ix2 r d))
    (fun r d => zero8_768 arg10.view _ _ _ (ix2 r d))
    (fun r d => zero8_512 arg10.view _ _ (ix2 r d))
    (fun r d => zero8_256 arg10.view _ (ix2 r d))
    (fun r d => zero8_0 arg10.view (ix2 r d)) r d

theorem read9_A (f : arg11.view.ty.Contents (Elt Ideal)) (a : Fin 16) (r : Fin 1280) :
    arg11.view.read (Elt Ideal) (arg11.view.writes (Elt Ideal) f (bodyRun_A c i arg2 harg2 arg3 harg3 arg4 harg4 arg5 harg5 arg6 harg6 arg7 harg7 arg8 harg8 arg9 harg9 arg10 harg10 arg11 harg11 arg12 harg12 hc0 hc1 x0 x1 x2 x3 x4 x5 x6 x8 x9 x10).2.2.1) (ix2 a r) = (0 : EReal) + ∑ k : Fin 1024, x4 (ix2 a k) * gB i x0 x1 x2 x6 r k :=
  chunks9 i arg2 harg2 arg3 harg3 arg4 harg4 arg6 harg6 arg8 harg8 x0 x1 x2 x4 x6 arg11 f _ _ _ _ _ _ (fun a r => (0 : EReal))
        (fun a r => zero9_1024 arg11.view _ _ _ _ (ix2 a r))
    (fun a r => zero9_768 arg11.view _ _ _ (ix2 a r))
    (fun a r => zero9_512 arg11.view _ _ (ix2 a r))
    (fun a r => zero9_256 arg11.view _ (ix2 a r))
    (fun a r => zero9_0 arg11.view (ix2 a r)) a r

theorem read10_A (f : arg12.view.ty.Contents (Elt Ideal)) (a : Fin 16) (k : Fin 1024) (hk : (i 1).val * 1024 + k.val < 64512) :
    arg12.view.read (Elt Ideal) (arg12.view.writes (Elt Ideal) f (bodyRun_A c i arg2 harg2 arg3 harg3 arg4 harg4 arg5 harg5 arg6 harg6 arg7 harg7 arg8 harg8 arg9 harg9 arg10 harg10 arg11 harg11 arg12 harg12 hc0 hc1 x0 x1 x2 x3 x4 x5 x6 x8 x9 x10).2.2.2.1) (ix2 a ⟨(i 1).val * 1024 + k.val, hk⟩) = (0 : EReal) + ∑ t : Fin 1280, x5 (ix2 a t) * gB i x0 x1 x2 x6 t k := by
  refine (View.read_writes_cons_unit_of_mem (Val := Elt Ideal) (s := S16x64512) arg12.view f (off := k0_off2 i) (size := S16x1024.size) _ _ _ (ix2 a ⟨(i 1).val * 1024 + k.val, hk⟩) (ix2 (n0 := 16) (n1 := 1024) a k) (off2_eq i) (Fin.forall_fin_two.mpr ⟨(Nat.zero_add _).symm, rfl⟩)).trans ?_
  refine (chunks10c i arg2 harg2 arg3 harg3 arg4 harg4 arg7 harg7 arg8 harg8 x0 x1 x2 x5 x6 _ ?b0 ?b1 ?b2 ?b3 _ rfl ?h3 ?h2 ?h1 ?h0 a k).trans (congrArg (· + _) ?base)
  case h3 => exact View.readCov_cons_toLoadRect (Val := Elt Ideal) arg12.view _ _ _
  case h2 => exact View.readCov_cons_toLoadRect (Val := Elt Ideal) arg12.view _ _ _
  case h1 => exact View.readCov_cons_toLoadRect (Val := Elt Ideal) arg12.view _ _ _
  case h0 => exact View.readCov_cons_toLoadRect (Val := Elt Ideal) arg12.view _ _ _
  case base => exact acc10_zero i arg12.view _ _ (ix2 a k)

theorem keep10_A (a : Fin 16) (y : Fin 64512) (hy : y.val < (i 1).val * 1024 ∨ (i 1).val * 1024 + 1024 ≤ y.val) :
    arg12.view.read (Elt Ideal) (arg12.view.writes (Elt Ideal) (harg12.unread x10) (bodyRun_A c i arg2 harg2 arg3 harg3 arg4 harg4 arg5 harg5 arg6 harg6 arg7 harg7 arg8 harg8 arg9 harg9 arg10 harg10 arg11 harg11 arg12 harg12 hc0 hc1 x0 x1 x2 x3 x4 x5 x6 x8 x9 x10).2.2.2.1) (ix2 a y) = x10 (ix2 a y) := by
  refine (View.read_writes_cons_unit_of_not_mem (Val := Elt Ideal) (s := S16x64512) arg12.view _ (off := k0_off2 i) (size := S16x1024.size) _ _ _ (ix2 a y) (off2_eq i) (1 : Fin 2) hy).trans ?_
  refine (View.read_writes_cons_unit_of_not_mem (Val := Elt Ideal) (s := S16x64512) arg12.view _ (off := k0_off2 i) (size := S16x1024.size) _ _ _ (ix2 a y) (off2_eq i) (1 : Fin 2) hy).trans ?_
  refine (View.read_writes_cons_unit_of_not_mem (Val := Elt Ideal) (s := S16x64512) arg12.view _ (off := k0_off2 i) (size := S16x1024.size) _ _ _ (ix2 a y) (off2_eq i) (1 : Fin 2) hy).trans ?_
  refine (View.read_writes_cons_unit_of_not_mem (Val := Elt Ideal) (s := S16x64512) arg12.view _ (off := k0_off2 i) (size := S16x1024.size) _ _ _ (ix2 a y) (off2_eq i) (1 : Fin 2) hy).trans ?_
  refine (View.read_writes_cons_unit_of_not_mem (Val := Elt Ideal) (s := S16x64512) arg12.view _ (off := k0_off2 i) (size := S16x1024.size) _ _ _ (ix2 a y) (off2_eq i) (1 : Fin 2) hy).trans ?_
  refine (View.read_writes_cons_unit_of_not_mem (Val := Elt Ideal) (s := S16x64512) arg12.view _ (off := k0_off1 i) (size := S16x1024.size) _ _ _ (ix2 a y) (off1_eq i) (1 : Fin 2) hy).trans ?_
  exact congrFun (harg12.read_unread x10) _

end Cert.BackwardIdeal.Own

end
-- ==== Proof.BwdB.lean ====
/- The backward body run in case B of its two conditionals. -/
module

public import proofs.«01_k».proof.Proof.BwdRuns

@[expose] public section

set_option maxRecDepth 16384

noncomputable section

namespace Cert.BackwardIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BackwardIdeal.Gen

variable {F : FTy → Type} [FloatOps F]

local notation "𝕄" => MT nD τ sig Unit (Elt F) ℕ (UR sig nD τ) ℕ

set_option maxHeartbeats 1600000 in
/-- The body's triple in the case `¬ cond0_0 i`, `cond0_1 i`: the inputs are handed back as they were, each output's buffer with the
    pieces the run stored (`L7` the codes, `L8` the hidden-state gradient, `L9` and `L10` the two adapter gradients). -/
noncomputable def bodyRun_B (c : Dev nD) (i : grid0.Coords) (arg2 : Memref sig .tc .vmem S1280x1024 .f32) (harg2 : arg2.IsWhole) (arg3 : Memref sig .tc .vmem S1280x128 .f32) (harg3 : arg3.IsWhole) (arg4 : Memref sig .tc .vmem S1280x128 .i32) (harg4 : arg4.IsWhole) (arg5 : Memref sig .tc .vmem S1024x4096 .bf16) (harg5 : arg5.IsWhole) (arg6 : Memref sig .tc .vmem S16x1024 .bf16) (harg6 : arg6.IsWhole) (arg7 : Memref sig .tc .vmem S16x1280 .bf16) (harg7 : arg7.IsWhole) (arg8 : Memref sig .tc .smem S1x1 .f32) (harg8 : arg8.IsWhole) (arg9 : Memref sig .tc .vmem S1280x1024 .fp8e5m2) (harg9 : arg9.IsWhole) (arg10 : Memref sig .tc .vmem S1280x4096 .f32) (harg10 : arg10.IsWhole) (arg11 : Memref sig .tc .vmem S16x1280 .f32) (harg11 : arg11.IsWhole) (arg12 : Memref sig .tc .vmem S16x64512 .f32) (harg12 : arg12.IsWhole)
    (hc0 : ¬ cond0_0 i) (hc1 : cond0_1 i)
    (x0 : Vec F S1280x1024 .f32) (x1 : Vec F S1280x128 .f32) (x2 : Vec F S1280x128 .i32) (x3 : Vec F S1024x4096 .bf16) (x4 : Vec F S16x1024 .bf16) (x5 : Vec F S16x1280 .bf16) (x6 : Vec F S1x1 .f32) (x8 : Vec F S1280x4096 .f32) (x9 : Vec F S16x1280 .f32) (x10 : Vec F S16x64512 .f32) :
    Σ' (L7 : List (View.Piece (Elt F) S1280x1024 .fp8e5m2)) (L8 : List (View.Piece (Elt F) S1280x4096 .f32)) (L9 : List (View.Piece (Elt F) S16x1280 .f32)), { L10 : List (View.Piece (Elt F) S16x64512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare x8 ∗ owns (c : Thread nD τ) arg11 fullShare x9 ∗ owns (c : Thread nD τ) arg12 fullShare x10
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread x8) L8) ∗ (arg11.view.loc (c : Thread nD τ) ↦[arg11.view.set]{fullShare} arg11.view.writes (Elt F) (harg11.unread x9) L9) ∗ (arg12.view.loc (c : Thread nD τ) ↦[arg12.view.set]{fullShare} arg12.view.writes (Elt F) (harg12.unread x10) L10)) -∗ K ⟨⟩))
          ⊢ wp frame (wpE (defs₀ (F := F)) Variants.none c none) E (cc0_backward i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_backward_eq_skeleton]; unfold cc0_backward_skel
    simp only [k0_part7_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9; obtain rfl := harg12.eq_unread hf10
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [H8]
    · iexact H8
    isplitl [H9]
    · iexact H9
    iexact H10

end Cert.BackwardIdeal.Own

end
-- ==== Proof.BwdElB.lean ====
/- What one run of the backward body leaves in the four output blocks at `Ideal`, case B of its two conditionals. -/
module

public import proofs.«01_k».proof.Proof.BwdChunks
public import proofs.«01_k».proof.Proof.BwdB

@[expose] public section

set_option maxRecDepth 16384

noncomputable section

namespace Cert.BackwardIdeal.Own

open Idealize.ShloMosaic Idealize.ShloMosaic.TcCoe Idealize.SL.Sem Idealize.ShloMosaic.Pointwise
open Cert.BackwardIdeal Cert.BackwardIdeal.Gen

variable (c : Dev nD) (i : grid0.Coords) (arg2 : Memref sig .tc .vmem S1280x1024 .f32) (harg2 : arg2.IsWhole) (arg3 : Memref sig .tc .vmem S1280x128 .f32) (harg3 : arg3.IsWhole) (arg4 : Memref sig .tc .vmem S1280x128 .i32) (harg4 : arg4.IsWhole) (arg5 : Memref sig .tc .vmem S1024x4096 .bf16) (harg5 : arg5.IsWhole) (arg6 : Memref sig .tc .vmem S16x1024 .bf16) (harg6 : arg6.IsWhole) (arg7 : Memref sig .tc .vmem S16x1280 .bf16) (harg7 : arg7.IsWhole) (arg8 : Memref sig .tc .smem S1x1 .f32) (harg8 : arg8.IsWhole) (arg9 : Memref sig .tc .vmem S1280x1024 .fp8e5m2) (harg9 : arg9.IsWhole) (arg10 : Memref sig .tc .vmem S1280x4096 .f32) (harg10 : arg10.IsWhole) (arg11 : Memref sig .tc .vmem S16x1280 .f32) (harg11 : arg11.IsWhole) (arg12 : Memref sig .tc .vmem S16x64512 .f32) (harg12 : arg12.IsWhole)
  (hc0 : ¬ cond0_0 i) (hc1 : cond0_1 i)
  (x0 : Vec Ideal S1280x1024 .f32) (x1 : Vec Ideal S1280x128 .f32) (x2 : Vec Ideal S1280x128 .i32) (x3 : Vec Ideal S1024x4096 .bf16) (x4 : Vec Ideal S16x1024 .bf16) (x5 : Vec Ideal S16x1280 .bf16) (x6 : Vec Ideal S1x1 .f32) (x8 : Vec Ideal S1280x4096 .f32) (x9 : Vec Ideal S16x1280 .f32) (x10 : Vec Ideal S16x64512 .f32)

theorem read7_B (f : arg9.view.ty.Contents (Elt Ideal)) (r : Fin 1280) (k : Fin 1024) :
    arg9.view.read (Elt Ideal) (arg9.view.writes (Elt Ideal) f (bodyRun_B c i arg2 harg2 arg3 harg3 arg4 harg4 arg5 harg5 arg6 harg6 arg7 harg7 arg8 harg8 arg9 harg9 arg10 harg10 arg11 harg11 arg12 harg12 hc0 hc1 x0 x1 x2 x3 x4 x5 x6 x8 x9 x10).1) (ix2 r k) = gB i x0 x1 x2 x6 r k :=
  chunks7 i arg2 harg2 arg3 harg3 arg4 harg4 arg8 harg8 x0 x1 x2 x6 arg9 f _ r k

theorem read8_B (f : arg10.view.ty.Contents (Elt Ideal)) (r : Fin 1280) (d : Fin 4096) :
    arg10.view.read (Elt Ideal) (arg10.view.writes (Elt Ideal) f (bodyRun_B c i arg2 harg2 arg3 harg3 arg4 harg4 arg5 harg5 arg6 harg6 arg7 harg7 arg8 harg8 arg9 harg9 arg10 harg10 arg11 harg11 arg12 harg12 hc0 hc1 x0 x1 x2 x3 x4 x5 x6 x8 x9 x10).2.1) (ix2 r d) = x8 (ix2 r d) + ∑ k : Fin 1024, gB i x0 x1 x2 x6 r k * x3 (ix2 k d) :=
  chunks8 i arg2 harg2 arg3 harg3 arg4 harg4 arg5 harg5 arg8 harg8 x0 x1 x2 x3 x6 arg10 f _ _ _ _ _ _ (fun r d => x8 (ix2 r d))
        (fun r d => (load_at (Val := Elt Ideal) arg10 harg10 x8 ![1024, 0] 1024 0 rfl inb_S1280x4096_S256x4096_1024_0 r d (by omega) (by omega)).trans (congrArg x8 (congrArg (ix2 _) (Fin.ext (Nat.zero_add _)))))
    (fun r d => (load_at (Val := Elt Ideal) arg10 harg10 x8 ![768, 0] 768 0 rfl inb_S1280x4096_S256x4096_768_0 r d (by omega) (by omega)).trans (congrArg x8 (congrArg (ix2 _) (Fin.ext (Nat.zero_add _)))))
    (fun r d => (load_at (Val := Elt Ideal) arg10 harg10 x8 ![512, 0] 512 0 rfl inb_S1280x4096_S256x4096_512_0 r d (by omega) (by omega)).trans (congrArg x8 (congrArg (ix2 _) (Fin.ext (Nat.zero_add _)))))
    (fun r d => (load_at (Val := Elt Ideal) arg10 harg10 x8 ![256, 0] 256 0 rfl inb_S1280x4096_S256x4096_256_0 r d (by omega) (by omega)).trans (congrArg x8 (congrArg (ix2 _) (Fin.ext (Nat.zero_add _)))))
    (fun r d => (load_at (Val := Elt Ideal) arg10 harg10 x8 ![0, 0] 0 0 rfl inb_S1280x4096_S256x4096_0_0 r d (by omega) (by omega)).trans (congrArg x8 (congrArg (ix2 _) (Fin.ext (Nat.zero_add _))))) r d

theorem read9_B (f : arg11.view.ty.Contents (Elt Ideal)) (a : Fin 16) (r : Fin 1280) :
    arg11.view.read (Elt Ideal) (arg11.view.writes (Elt Ideal) f (bodyRun_B c i arg2 harg2 arg3 harg3 arg4 harg4 arg5 harg5 arg6 harg6 arg7 harg7 arg8 harg8 arg9 harg9 arg10 harg10 arg11 harg11 arg12 harg12 hc0 hc1 x0 x1 x2 x3 x4 x5 x6 x8 x9 x10).2.2.1) (ix2 a r) = x9 (ix2 a r) + ∑ k : Fin 1024, x4 (ix2 a k) * gB i x0 x1 x2 x6 r k :=
  chunks9 i arg2 harg2 arg3 harg3 arg4 harg4 arg6 harg6 arg8 harg8 x0 x1 x2 x4 x6 arg11 f _ _ _ _ _ _ (fun a r => x9 (ix2 a r))
        (fun a r => (load_at (Val := Elt Ideal) arg11 harg11 x9 ![0, 1024] 0 1024 rfl inb_S16x1280_S16x256_0_1024 a r (by omega) (by omega)).trans (congrArg x9 (congrArg₂ ix2 (Fin.ext (Nat.zero_add _)) rfl)))
    (fun a r => (load_at (Val := Elt Ideal) arg11 harg11 x9 ![0, 768] 0 768 rfl inb_S16x1280_S16x256_0_768 a r (by omega) (by omega)).trans (congrArg x9 (congrArg₂ ix2 (Fin.ext (Nat.zero_add _)) rfl)))
    (fun a r => (load_at (Val := Elt Ideal) arg11 harg11 x9 ![0, 512] 0 512 rfl inb_S16x1280_S16x256_0_512 a r (by omega) (by omega)).trans (congrArg x9 (congrArg₂ ix2 (Fin.ext (Nat.zero_add _)) rfl)))
    (fun a r => (load_at (Val := Elt Ideal) arg11 harg11 x9 ![0, 256] 0 256 rfl inb_S16x1280_S16x256_0_256 a r (by omega) (by omega)).trans (congrArg x9 (congrArg₂ ix2 (Fin.ext (Nat.zero_add _)) rfl)))
    (fun a r => (load_at (Val := Elt Ideal) arg11 harg11 x9 ![0, 0] 0 0 rfl inb_S16x1280_S16x256_0_0 a r (by omega) (by omega)).trans (congrArg x9 (congrArg₂ ix2 (Fin.ext (Nat.zero_add _)) rfl))) a r

theorem read10_B (f : arg12.view.ty.Contents (Elt Ideal)) (a : Fin 16) (k : Fin 1024) (hk : (i 1).val * 1024 + k.val < 64512) :
    arg12.view.read (Elt Ideal) (arg12.view.writes (Elt Ideal) f (bodyRun_B c i arg2 harg2 arg3 harg3 arg4 harg4 arg5 harg5 arg6 harg6 arg7 harg7 arg8 harg8 arg9 harg9 arg10 harg10 arg11 harg11 arg12 harg12 hc0 hc1 x0 x1 x2 x3 x4 x5 x6 x8 x9 x10).2.2.2.1) (ix2 a ⟨(i 1).val * 1024 + k.val, hk⟩) = (0 : EReal) + ∑ t : Fin 1280, x5 (ix2 a t) * gB i x0 x1 x2 x6 t k := by
  refine (View.read_writes_cons_unit_of_mem (Val := Elt Ideal) (s := S16x64512) arg12.view f (off := k0_off2 i) (size := S16x1024.size) _ _ _ (ix2 a ⟨(i 1).val * 1024 + k.val, hk⟩) (ix2 (n0 := 16) (n1 := 1024) a k) (off2_eq i) (Fin.forall_fin_two.mpr ⟨(Nat.zero_add _).symm, rfl⟩)).trans ?_
  refine (chunks10c i arg2 harg2 arg3 harg3 arg4 harg4 arg7 harg7 arg8 harg8 x0 x1 x2 x5 x6 _ ?b0 ?b1 ?b2 ?b3 _ rfl ?h3 ?h2 ?h1 ?h0 a k).trans (congrArg (· + _) ?base)
  case h3 => exact View.readCov_cons_toLoadRect (Val := Elt Ideal) arg12.view _ _ _
  case h2 => exact View.readCov_cons_toLoadRect (Val := Elt Ideal) arg12.view _ _ _
  case h1 => exact View.readCov_cons_toLoadRect (Val := Elt Ideal) arg12.view _ _ _
  case h0 => exact View.readCov_cons_toLoadRect (Val := Elt Ideal) arg12.view _ _ _
  case base => exact acc10_zero i arg12.view _ _ (ix2 a k)

theorem keep10_B (a : Fin 16) (y : Fin 64512) (hy : y.val < (i 1).val * 1024 ∨ (i 1).val * 1024 + 1024 ≤ y.val) :
    arg12.view.read (Elt Ideal) (arg12.view.writes (Elt Ideal) (harg12.unread x10) (bodyRun_B c i arg2 harg2 arg3 harg3 arg4 harg4 arg5 harg5 arg6 harg6 arg7 harg7 arg8 harg8 arg9 harg9 arg10 harg10 arg11 harg11 arg12 harg12 hc0 hc1 x0 x1 x2 x3 x4 x5 x6 x8 x9 x10).2.2.2.1) (ix2 a y) = x10 (ix2 a y) := by
  refine (View.read_writes_cons_unit_of_not_mem (Val := Elt Ideal) (s := S16x64512) arg12.view _ (off := k0_off2 i) (size := S16x1024.size) _ _ _ (ix2 a y) (off2_eq i) (1 : Fin 2) hy).trans ?_
  refine (View.read_writes_cons_unit_of_not_mem (Val := Elt Ideal) (s := S16x64512) arg12.view _ (off := k0_off2 i) (size := S16x1024.size) _ _ _ (ix2 a y) (off2_eq i) (1 : Fin 2) hy).trans ?_
  refine (View.read_writes_cons_unit_of_not_mem (Val := Elt Ideal) (s := S16x64512) arg12.view _ (off := k0_off2 i) (size := S16x1024.size) _ _ _ (ix2 a y) (off2_eq i) (1 : Fin 2) hy).trans ?_
  refine (View.read_writes_cons_unit_of_not_mem (Val := Elt Ideal) (s := S16x64512) arg12.view _ (off := k0_off2 i) (size := S16x1024.size) _ _ _ (ix2 a y) (off2_eq i) (1 : Fin 2) hy).trans ?_
  refine (View.read_writes_cons_unit_of_not_mem (Val := Elt Ideal) (s := S16x64512) arg12.view _ (off := k0_off2 i) (size := S16x1024.size) _ _ _ (ix2 a y) (off2_eq i) (1 : Fin 2) hy).trans ?_
  refine (View.read_writes_cons_unit_of_not_mem (Val := Elt Ideal) (s := S16x64512) arg12.view _ (off := k0_off1 i) (size := S16x1024.size) _ _ _ (ix2 a y) (off1_eq i) (1 : Fin 2) hy).trans ?_
  exact congrFun (harg12.read_unread x10) _

end Cert.BackwardIdeal.Own

end
-- ==== Proof.BwdC.lean ====
/- The backward body run in case C of its two conditionals. -/
module

public import proofs.«01_k».proof.Proof.BwdRuns

@[expose] public section

set_option maxRecDepth 16384

noncomputable section

namespace Cert.BackwardIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BackwardIdeal.Gen

variable {F : FTy → Type} [FloatOps F]

local notation "𝕄" => MT nD τ sig Unit (Elt F) ℕ (UR sig nD τ) ℕ

set_option maxHeartbeats 1600000 in
/-- The body's triple in the case `cond0_0 i`, `¬ cond0_1 i`: the inputs are handed back as they were, each output's buffer with the
    pieces the run stored (`L7` the codes, `L8` the hidden-state gradient, `L9` and `L10` the two adapter gradients). -/
noncomputable def bodyRun_C (c : Dev nD) (i : grid0.Coords) (arg2 : Memref sig .tc .vmem S1280x1024 .f32) (harg2 : arg2.IsWhole) (arg3 : Memref sig .tc .vmem S1280x128 .f32) (harg3 : arg3.IsWhole) (arg4 : Memref sig .tc .vmem S1280x128 .i32) (harg4 : arg4.IsWhole) (arg5 : Memref sig .tc .vmem S1024x4096 .bf16) (harg5 : arg5.IsWhole) (arg6 : Memref sig .tc .vmem S16x1024 .bf16) (harg6 : arg6.IsWhole) (arg7 : Memref sig .tc .vmem S16x1280 .bf16) (harg7 : arg7.IsWhole) (arg8 : Memref sig .tc .smem S1x1 .f32) (harg8 : arg8.IsWhole) (arg9 : Memref sig .tc .vmem S1280x1024 .fp8e5m2) (harg9 : arg9.IsWhole) (arg10 : Memref sig .tc .vmem S1280x4096 .f32) (harg10 : arg10.IsWhole) (arg11 : Memref sig .tc .vmem S16x1280 .f32) (harg11 : arg11.IsWhole) (arg12 : Memref sig .tc .vmem S16x64512 .f32) (harg12 : arg12.IsWhole)
    (hc0 : cond0_0 i) (hc1 : ¬ cond0_1 i)
    (x0 : Vec F S1280x1024 .f32) (x1 : Vec F S1280x128 .f32) (x2 : Vec F S1280x128 .i32) (x3 : Vec F S1024x4096 .bf16) (x4 : Vec F S16x1024 .bf16) (x5 : Vec F S16x1280 .bf16) (x6 : Vec F S1x1 .f32) (x8 : Vec F S1280x4096 .f32) (x9 : Vec F S16x1280 .f32) (x10 : Vec F S16x64512 .f32) :
    Σ' (L7 : List (View.Piece (Elt F) S1280x1024 .fp8e5m2)) (L8 : List (View.Piece (Elt F) S1280x4096 .f32)) (L9 : List (View.Piece (Elt F) S16x1280 .f32)), { L10 : List (View.Piece (Elt F) S16x64512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare x8 ∗ owns (c : Thread nD τ) arg11 fullShare x9 ∗ owns (c : Thread nD τ) arg12 fullShare x10
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread x8) L8) ∗ (arg11.view.loc (c : Thread nD τ) ↦[arg11.view.set]{fullShare} arg11.view.writes (Elt F) (harg11.unread x9) L9) ∗ (arg12.view.loc (c : Thread nD τ) ↦[arg12.view.set]{fullShare} arg12.view.writes (Elt F) (harg12.unread x10) L10)) -∗ K ⟨⟩))
          ⊢ wp frame (wpE (defs₀ (F := F)) Variants.none c none) E (cc0_backward i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_backward_eq_skeleton]; unfold cc0_backward_skel
    simp only [k0_part7_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9; obtain rfl := harg12.eq_unread hf10
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [H8]
    · iexact H8
    isplitl [H9]
    · iexact H9
    iexact H10

end Cert.BackwardIdeal.Own

end
-- ==== Proof.BwdElC.lean ====
/- What one run of the backward body leaves in the four output blocks at `Ideal`, case C of its two conditionals. -/
module

public import proofs.«01_k».proof.Proof.BwdChunks
public import proofs.«01_k».proof.Proof.BwdC

@[expose] public section

set_option maxRecDepth 16384

noncomputable section

namespace Cert.BackwardIdeal.Own

open Idealize.ShloMosaic Idealize.ShloMosaic.TcCoe Idealize.SL.Sem Idealize.ShloMosaic.Pointwise
open Cert.BackwardIdeal Cert.BackwardIdeal.Gen

variable (c : Dev nD) (i : grid0.Coords) (arg2 : Memref sig .tc .vmem S1280x1024 .f32) (harg2 : arg2.IsWhole) (arg3 : Memref sig .tc .vmem S1280x128 .f32) (harg3 : arg3.IsWhole) (arg4 : Memref sig .tc .vmem S1280x128 .i32) (harg4 : arg4.IsWhole) (arg5 : Memref sig .tc .vmem S1024x4096 .bf16) (harg5 : arg5.IsWhole) (arg6 : Memref sig .tc .vmem S16x1024 .bf16) (harg6 : arg6.IsWhole) (arg7 : Memref sig .tc .vmem S16x1280 .bf16) (harg7 : arg7.IsWhole) (arg8 : Memref sig .tc .smem S1x1 .f32) (harg8 : arg8.IsWhole) (arg9 : Memref sig .tc .vmem S1280x1024 .fp8e5m2) (harg9 : arg9.IsWhole) (arg10 : Memref sig .tc .vmem S1280x4096 .f32) (harg10 : arg10.IsWhole) (arg11 : Memref sig .tc .vmem S16x1280 .f32) (harg11 : arg11.IsWhole) (arg12 : Memref sig .tc .vmem S16x64512 .f32) (harg12 : arg12.IsWhole)
  (hc0 : cond0_0 i) (hc1 : ¬ cond0_1 i)
  (x0 : Vec Ideal S1280x1024 .f32) (x1 : Vec Ideal S1280x128 .f32) (x2 : Vec Ideal S1280x128 .i32) (x3 : Vec Ideal S1024x4096 .bf16) (x4 : Vec Ideal S16x1024 .bf16) (x5 : Vec Ideal S16x1280 .bf16) (x6 : Vec Ideal S1x1 .f32) (x8 : Vec Ideal S1280x4096 .f32) (x9 : Vec Ideal S16x1280 .f32) (x10 : Vec Ideal S16x64512 .f32)

theorem read7_C (f : arg9.view.ty.Contents (Elt Ideal)) (r : Fin 1280) (k : Fin 1024) :
    arg9.view.read (Elt Ideal) (arg9.view.writes (Elt Ideal) f (bodyRun_C c i arg2 harg2 arg3 harg3 arg4 harg4 arg5 harg5 arg6 harg6 arg7 harg7 arg8 harg8 arg9 harg9 arg10 harg10 arg11 harg11 arg12 harg12 hc0 hc1 x0 x1 x2 x3 x4 x5 x6 x8 x9 x10).1) (ix2 r k) = gB i x0 x1 x2 x6 r k :=
  chunks7 i arg2 harg2 arg3 harg3 arg4 harg4 arg8 harg8 x0 x1 x2 x6 arg9 f _ r k

theorem read8_C (f : arg10.view.ty.Contents (Elt Ideal)) (r : Fin 1280) (d : Fin 4096) :
    arg10.view.read (Elt Ideal) (arg10.view.writes (Elt Ideal) f (bodyRun_C c i arg2 harg2 arg3 harg3 arg4 harg4 arg5 harg5 arg6 harg6 arg7 harg7 arg8 harg8 arg9 harg9 arg10 harg10 arg11 harg11 arg12 harg12 hc0 hc1 x0 x1 x2 x3 x4 x5 x6 x8 x9 x10).2.1) (ix2 r d) = (0 : EReal) + ∑ k : Fin 1024, gB i x0 x1 x2 x6 r k * x3 (ix2 k d) :=
  chunks8 i arg2 harg2 arg3 harg3 arg4 harg4 arg5 harg5 arg8 harg8 x0 x1 x2 x3 x6 arg10 f _ _ _ _ _ _ (fun r d => (0 : EReal))
        (fun r d => zero8_1024 arg10.view _ _ _ _ (ix2 r d))
    (fun r d => zero8_768 arg10.view _ _ _ (ix2 r d))
    (fun r d => zero8_512 arg10.view _ _ (ix2 r d))
    (fun r d => zero8_256 arg10.view _ (ix2 r d))
    (fun r d => zero8_0 arg10.view (ix2 r d)) r d

theorem read9_C (f : arg11.view.ty.Contents (Elt Ideal)) (a : Fin 16) (r : Fin 1280) :
    arg11.view.read (Elt Ideal) (arg11.view.writes (Elt Ideal) f (bodyRun_C c i arg2 harg2 arg3 harg3 arg4 harg4 arg5 harg5 arg6 harg6 arg7 harg7 arg8 harg8 arg9 harg9 arg10 harg10 arg11 harg11 arg12 harg12 hc0 hc1 x0 x1 x2 x3 x4 x5 x6 x8 x9 x10).2.2.1) (ix2 a r) = (0 : EReal) + ∑ k : Fin 1024, x4 (ix2 a k) * gB i x0 x1 x2 x6 r k :=
  chunks9 i arg2 harg2 arg3 harg3 arg4 harg4 arg6 harg6 arg8 harg8 x0 x1 x2 x4 x6 arg11 f _ _ _ _ _ _ (fun a r => (0 : EReal))
        (fun a r => zero9_1024 arg11.view _ _ _ _ (ix2 a r))
    (fun a r => zero9_768 arg11.view _ _ _ (ix2 a r))
    (fun a r => zero9_512 arg11.view _ _ (ix2 a r))
    (fun a r => zero9_256 arg11.view _ (ix2 a r))
    (fun a r => zero9_0 arg11.view (ix2 a r)) a r

theorem read10_C (f : arg12.view.ty.Contents (Elt Ideal)) (a : Fin 16) (k : Fin 1024) (hk : (i 1).val * 1024 + k.val < 64512) :
    arg12.view.read (Elt Ideal) (arg12.view.writes (Elt Ideal) f (bodyRun_C c i arg2 harg2 arg3 harg3 arg4 harg4 arg5 harg5 arg6 harg6 arg7 harg7 arg8 harg8 arg9 harg9 arg10 harg10 arg11 harg11 arg12 harg12 hc0 hc1 x0 x1 x2 x3 x4 x5 x6 x8 x9 x10).2.2.2.1) (ix2 a ⟨(i 1).val * 1024 + k.val, hk⟩) = x10 (ix2 a ⟨(i 1).val * 1024 + k.val, hk⟩) + ∑ t : Fin 1280, x5 (ix2 a t) * gB i x0 x1 x2 x6 t k := by
  refine (View.read_writes_cons_unit_of_mem (Val := Elt Ideal) (s := S16x64512) arg12.view f (off := k0_off2 i) (size := S16x1024.size) _ _ _ (ix2 a ⟨(i 1).val * 1024 + k.val, hk⟩) (ix2 (n0 := 16) (n1 := 1024) a k) (off2_eq i) (Fin.forall_fin_two.mpr ⟨(Nat.zero_add _).symm, rfl⟩)).trans ?_
  refine (chunks10c i arg2 harg2 arg3 harg3 arg4 harg4 arg7 harg7 arg8 harg8 x0 x1 x2 x5 x6 _ ?b0 ?b1 ?b2 ?b3 _ rfl ?h3 ?h2 ?h1 ?h0 a k).trans (congrArg (· + _) ?base)
  case h3 => exact View.readCov_cons_toLoadRect (Val := Elt Ideal) arg12.view _ _ _
  case h2 => exact View.readCov_cons_toLoadRect (Val := Elt Ideal) arg12.view _ _ _
  case h1 => exact View.readCov_cons_toLoadRect (Val := Elt Ideal) arg12.view _ _ _
  case h0 => exact View.readCov_cons_toLoadRect (Val := Elt Ideal) arg12.view _ _ _
  case base => exact (load_at (Val := Elt Ideal) arg12 harg12 x10 (k0_off2 i) 0 ((i 1).val * 1024) (off2_eq i) (k0_off2_inb i) a k (by omega) hk).trans (congrArg x10 (congrArg₂ ix2 (Fin.ext (Nat.zero_add _)) rfl))

theorem keep10_C (a : Fin 16) (y : Fin 64512) (hy : y.val < (i 1).val * 1024 ∨ (i 1).val * 1024 + 1024 ≤ y.val) :
    arg12.view.read (Elt Ideal) (arg12.view.writes (Elt Ideal) (harg12.unread x10) (bodyRun_C c i arg2 harg2 arg3 harg3 arg4 harg4 arg5 harg5 arg6 harg6 arg7 harg7 arg8 harg8 arg9 harg9 arg10 harg10 arg11 harg11 arg12 harg12 hc0 hc1 x0 x1 x2 x3 x4 x5 x6 x8 x9 x10).2.2.2.1) (ix2 a y) = x10 (ix2 a y) := by
  refine (View.read_writes_cons_unit_of_not_mem (Val := Elt Ideal) (s := S16x64512) arg12.view _ (off := k0_off2 i) (size := S16x1024.size) _ _ _ (ix2 a y) (off2_eq i) (1 : Fin 2) hy).trans ?_
  refine (View.read_writes_cons_unit_of_not_mem (Val := Elt Ideal) (s := S16x64512) arg12.view _ (off := k0_off2 i) (size := S16x1024.size) _ _ _ (ix2 a y) (off2_eq i) (1 : Fin 2) hy).trans ?_
  refine (View.read_writes_cons_unit_of_not_mem (Val := Elt Ideal) (s := S16x64512) arg12.view _ (off := k0_off2 i) (size := S16x1024.size) _ _ _ (ix2 a y) (off2_eq i) (1 : Fin 2) hy).trans ?_
  refine (View.read_writes_cons_unit_of_not_mem (Val := Elt Ideal) (s := S16x64512) arg12.view _ (off := k0_off2 i) (size := S16x1024.size) _ _ _ (ix2 a y) (off2_eq i) (1 : Fin 2) hy).trans ?_
  refine (View.read_writes_cons_unit_of_not_mem (Val := Elt Ideal) (s := S16x64512) arg12.view _ (off := k0_off2 i) (size := S16x1024.size) _ _ _ (ix2 a y) (off2_eq i) (1 : Fin 2) hy).trans ?_
  exact congrFun (harg12.read_unread x10) _

end Cert.BackwardIdeal.Own

end
-- ==== Proof.BwdD.lean ====
/- The backward body run in case D of its two conditionals. -/
module

public import proofs.«01_k».proof.Proof.BwdRuns

@[expose] public section

set_option maxRecDepth 16384

noncomputable section

namespace Cert.BackwardIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BackwardIdeal.Gen

variable {F : FTy → Type} [FloatOps F]

local notation "𝕄" => MT nD τ sig Unit (Elt F) ℕ (UR sig nD τ) ℕ

set_option maxHeartbeats 1600000 in
/-- The body's triple in the case `¬ cond0_0 i`, `¬ cond0_1 i`: the inputs are handed back as they were, each output's buffer with the
    pieces the run stored (`L7` the codes, `L8` the hidden-state gradient, `L9` and `L10` the two adapter gradients). -/
noncomputable def bodyRun_D (c : Dev nD) (i : grid0.Coords) (arg2 : Memref sig .tc .vmem S1280x1024 .f32) (harg2 : arg2.IsWhole) (arg3 : Memref sig .tc .vmem S1280x128 .f32) (harg3 : arg3.IsWhole) (arg4 : Memref sig .tc .vmem S1280x128 .i32) (harg4 : arg4.IsWhole) (arg5 : Memref sig .tc .vmem S1024x4096 .bf16) (harg5 : arg5.IsWhole) (arg6 : Memref sig .tc .vmem S16x1024 .bf16) (harg6 : arg6.IsWhole) (arg7 : Memref sig .tc .vmem S16x1280 .bf16) (harg7 : arg7.IsWhole) (arg8 : Memref sig .tc .smem S1x1 .f32) (harg8 : arg8.IsWhole) (arg9 : Memref sig .tc .vmem S1280x1024 .fp8e5m2) (harg9 : arg9.IsWhole) (arg10 : Memref sig .tc .vmem S1280x4096 .f32) (harg10 : arg10.IsWhole) (arg11 : Memref sig .tc .vmem S16x1280 .f32) (harg11 : arg11.IsWhole) (arg12 : Memref sig .tc .vmem S16x64512 .f32) (harg12 : arg12.IsWhole)
    (hc0 : ¬ cond0_0 i) (hc1 : ¬ cond0_1 i)
    (x0 : Vec F S1280x1024 .f32) (x1 : Vec F S1280x128 .f32) (x2 : Vec F S1280x128 .i32) (x3 : Vec F S1024x4096 .bf16) (x4 : Vec F S16x1024 .bf16) (x5 : Vec F S16x1280 .bf16) (x6 : Vec F S1x1 .f32) (x8 : Vec F S1280x4096 .f32) (x9 : Vec F S16x1280 .f32) (x10 : Vec F S16x64512 .f32) :
    Σ' (L7 : List (View.Piece (Elt F) S1280x1024 .fp8e5m2)) (L8 : List (View.Piece (Elt F) S1280x4096 .f32)) (L9 : List (View.Piece (Elt F) S16x1280 .f32)), { L10 : List (View.Piece (Elt F) S16x64512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare x8 ∗ owns (c : Thread nD τ) arg11 fullShare x9 ∗ owns (c : Thread nD τ) arg12 fullShare x10
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread x8) L8) ∗ (arg11.view.loc (c : Thread nD τ) ↦[arg11.view.set]{fullShare} arg11.view.writes (Elt F) (harg11.unread x9) L9) ∗ (arg12.view.loc (c : Thread nD τ) ↦[arg12.view.set]{fullShare} arg12.view.writes (Elt F) (harg12.unread x10) L10)) -∗ K ⟨⟩))
          ⊢ wp frame (wpE (defs₀ (F := F)) Variants.none c none) E (cc0_backward i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_backward_eq_skeleton]; unfold cc0_backward_skel
    simp only [k0_part7_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9; obtain rfl := harg12.eq_unread hf10
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [H8]
    · iexact H8
    isplitl [H9]
    · iexact H9
    iexact H10

end Cert.BackwardIdeal.Own

end
-- ==== Proof.BwdElD.lean ====
/- What one run of the backward body leaves in the four output blocks at `Ideal`, case D of its two conditionals. -/
module

public import proofs.«01_k».proof.Proof.BwdChunks
public import proofs.«01_k».proof.Proof.BwdD

@[expose] public section

set_option maxRecDepth 16384

noncomputable section

namespace Cert.BackwardIdeal.Own

open Idealize.ShloMosaic Idealize.ShloMosaic.TcCoe Idealize.SL.Sem Idealize.ShloMosaic.Pointwise
open Cert.BackwardIdeal Cert.BackwardIdeal.Gen

variable (c : Dev nD) (i : grid0.Coords) (arg2 : Memref sig .tc .vmem S1280x1024 .f32) (harg2 : arg2.IsWhole) (arg3 : Memref sig .tc .vmem S1280x128 .f32) (harg3 : arg3.IsWhole) (arg4 : Memref sig .tc .vmem S1280x128 .i32) (harg4 : arg4.IsWhole) (arg5 : Memref sig .tc .vmem S1024x4096 .bf16) (harg5 : arg5.IsWhole) (arg6 : Memref sig .tc .vmem S16x1024 .bf16) (harg6 : arg6.IsWhole) (arg7 : Memref sig .tc .vmem S16x1280 .bf16) (harg7 : arg7.IsWhole) (arg8 : Memref sig .tc .smem S1x1 .f32) (harg8 : arg8.IsWhole) (arg9 : Memref sig .tc .vmem S1280x1024 .fp8e5m2) (harg9 : arg9.IsWhole) (arg10 : Memref sig .tc .vmem S1280x4096 .f32) (harg10 : arg10.IsWhole) (arg11 : Memref sig .tc .vmem S16x1280 .f32) (harg11 : arg11.IsWhole) (arg12 : Memref sig .tc .vmem S16x64512 .f32) (harg12 : arg12.IsWhole)
  (hc0 : ¬ cond0_0 i) (hc1 : ¬ cond0_1 i)
  (x0 : Vec Ideal S1280x1024 .f32) (x1 : Vec Ideal S1280x128 .f32) (x2 : Vec Ideal S1280x128 .i32) (x3 : Vec Ideal S1024x4096 .bf16) (x4 : Vec Ideal S16x1024 .bf16) (x5 : Vec Ideal S16x1280 .bf16) (x6 : Vec Ideal S1x1 .f32) (x8 : Vec Ideal S1280x4096 .f32) (x9 : Vec Ideal S16x1280 .f32) (x10 : Vec Ideal S16x64512 .f32)

theorem read7_D (f : arg9.view.ty.Contents (Elt Ideal)) (r : Fin 1280) (k : Fin 1024) :
    arg9.view.read (Elt Ideal) (arg9.view.writes (Elt Ideal) f (bodyRun_D c i arg2 harg2 arg3 harg3 arg4 harg4 arg5 harg5 arg6 harg6 arg7 harg7 arg8 harg8 arg9 harg9 arg10 harg10 arg11 harg11 arg12 harg12 hc0 hc1 x0 x1 x2 x3 x4 x5 x6 x8 x9 x10).1) (ix2 r k) = gB i x0 x1 x2 x6 r k :=
  chunks7 i arg2 harg2 arg3 harg3 arg4 harg4 arg8 harg8 x0 x1 x2 x6 arg9 f _ r k

theorem read8_D (f : arg10.view.ty.Contents (Elt Ideal)) (r : Fin 1280) (d : Fin 4096) :
    arg10.view.read (Elt Ideal) (arg10.view.writes (Elt Ideal) f (bodyRun_D c i arg2 harg2 arg3 harg3 arg4 harg4 arg5 harg5 arg6 harg6 arg7 harg7 arg8 harg8 arg9 harg9 arg10 harg10 arg11 harg11 arg12 harg12 hc0 hc1 x0 x1 x2 x3 x4 x5 x6 x8 x9 x10).2.1) (ix2 r d) = x8 (ix2 r d) + ∑ k : Fin 1024, gB i x0 x1 x2 x6 r k * x3 (ix2 k d) :=
  chunks8 i arg2 harg2 arg3 harg3 arg4 harg4 arg5 harg5 arg8 harg8 x0 x1 x2 x3 x6 arg10 f _ _ _ _ _ _ (fun r d => x8 (ix2 r d))
        (fun r d => (load_at (Val := Elt Ideal) arg10 harg10 x8 ![1024, 0] 1024 0 rfl inb_S1280x4096_S256x4096_1024_0 r d (by omega) (by omega)).trans (congrArg x8 (congrArg (ix2 _) (Fin.ext (Nat.zero_add _)))))
    (fun r d => (load_at (Val := Elt Ideal) arg10 harg10 x8 ![768, 0] 768 0 rfl inb_S1280x4096_S256x4096_768_0 r d (by omega) (by omega)).trans (congrArg x8 (congrArg (ix2 _) (Fin.ext (Nat.zero_add _)))))
    (fun r d => (load_at (Val := Elt Ideal) arg10 harg10 x8 ![512, 0] 512 0 rfl inb_S1280x4096_S256x4096_512_0 r d (by omega) (by omega)).trans (congrArg x8 (congrArg (ix2 _) (Fin.ext (Nat.zero_add _)))))
    (fun r d => (load_at (Val := Elt Ideal) arg10 harg10 x8 ![256, 0] 256 0 rfl inb_S1280x4096_S256x4096_256_0 r d (by omega) (by omega)).trans (congrArg x8 (congrArg (ix2 _) (Fin.ext (Nat.zero_add _)))))
    (fun r d => (load_at (Val := Elt Ideal) arg10 harg10 x8 ![0, 0] 0 0 rfl inb_S1280x4096_S256x4096_0_0 r d (by omega) (by omega)).trans (congrArg x8 (congrArg (ix2 _) (Fin.ext (Nat.zero_add _))))) r d

theorem read9_D (f : arg11.view.ty.Contents (Elt Ideal)) (a : Fin 16) (r : Fin 1280) :
    arg11.view.read (Elt Ideal) (arg11.view.writes (Elt Ideal) f (bodyRun_D c i arg2 harg2 arg3 harg3 arg4 harg4 arg5 harg5 arg6 harg6 arg7 harg7 arg8 harg8 arg9 harg9 arg10 harg10 arg11 harg11 arg12 harg12 hc0 hc1 x0 x1 x2 x3 x4 x5 x6 x8 x9 x10).2.2.1) (ix2 a r) = x9 (ix2 a r) + ∑ k : Fin 1024, x4 (ix2 a k) * gB i x0 x1 x2 x6 r k :=
  chunks9 i arg2 harg2 arg3 harg3 arg4 harg4 arg6 harg6 arg8 harg8 x0 x1 x2 x4 x6 arg11 f _ _ _ _ _ _ (fun a r => x9 (ix2 a r))
        (fun a r => (load_at (Val := Elt Ideal) arg11 harg11 x9 ![0, 1024] 0 1024 rfl inb_S16x1280_S16x256_0_1024 a r (by omega) (by omega)).trans (congrArg x9 (congrArg₂ ix2 (Fin.ext (Nat.zero_add _)) rfl)))
    (fun a r => (load_at (Val := Elt Ideal) arg11 harg11 x9 ![0, 768] 0 768 rfl inb_S16x1280_S16x256_0_768 a r (by omega) (by omega)).trans (congrArg x9 (congrArg₂ ix2 (Fin.ext (Nat.zero_add _)) rfl)))
    (fun a r => (load_at (Val := Elt Ideal) arg11 harg11 x9 ![0, 512] 0 512 rfl inb_S16x1280_S16x256_0_512 a r (by omega) (by omega)).trans (congrArg x9 (congrArg₂ ix2 (Fin.ext (Nat.zero_add _)) rfl)))
    (fun a r => (load_at (Val := Elt Ideal) arg11 harg11 x9 ![0, 256] 0 256 rfl inb_S16x1280_S16x256_0_256 a r (by omega) (by omega)).trans (congrArg x9 (congrArg₂ ix2 (Fin.ext (Nat.zero_add _)) rfl)))
    (fun a r => (load_at (Val := Elt Ideal) arg11 harg11 x9 ![0, 0] 0 0 rfl inb_S16x1280_S16x256_0_0 a r (by omega) (by omega)).trans (congrArg x9 (congrArg₂ ix2 (Fin.ext (Nat.zero_add _)) rfl))) a r

theorem read10_D (f : arg12.view.ty.Contents (Elt Ideal)) (a : Fin 16) (k : Fin 1024) (hk : (i 1).val * 1024 + k.val < 64512) :
    arg12.view.read (Elt Ideal) (arg12.view.writes (Elt Ideal) f (bodyRun_D c i arg2 harg2 arg3 harg3 arg4 harg4 arg5 harg5 arg6 harg6 arg7 harg7 arg8 harg8 arg9 harg9 arg10 harg10 arg11 harg11 arg12 harg12 hc0 hc1 x0 x1 x2 x3 x4 x5 x6 x8 x9 x10).2.2.2.1) (ix2 a ⟨(i 1).val * 1024 + k.val, hk⟩) = x10 (ix2 a ⟨(i 1).val * 1024 + k.val, hk⟩) + ∑ t : Fin 1280, x5 (ix2 a t) * gB i x0 x1 x2 x6 t k := by
  refine (View.read_writes_cons_unit_of_mem (Val := Elt Ideal) (s := S16x64512) arg12.view f (off := k0_off2 i) (size := S16x1024.size) _ _ _ (ix2 a ⟨(i 1).val * 1024 + k.val, hk⟩) (ix2 (n0 := 16) (n1 := 1024) a k) (off2_eq i) (Fin.forall_fin_two.mpr ⟨(Nat.zero_add _).symm, rfl⟩)).trans ?_
  refine (chunks10c i arg2 harg2 arg3 harg3 arg4 harg4 arg7 harg7 arg8 harg8 x0 x1 x2 x5 x6 _ ?b0 ?b1 ?b2 ?b3 _ rfl ?h3 ?h2 ?h1 ?h0 a k).trans (congrArg (· + _) ?base)
  case h3 => exact View.readCov_cons_toLoadRect (Val := Elt Ideal) arg12.view _ _ _
  case h2 => exact View.readCov_cons_toLoadRect (Val := Elt Ideal) arg12.view _ _ _
  case h1 => exact View.readCov_cons_toLoadRect (Val := Elt Ideal) arg12.view _ _ _
  case h0 => exact View.readCov_cons_toLoadRect (Val := Elt Ideal) arg12.view _ _ _
  case base => exact (load_at (Val := Elt Ideal) arg12 harg12 x10 (k0_off2 i) 0 ((i 1).val * 1024) (off2_eq i) (k0_off2_inb i) a k (by omega) hk).trans (congrArg x10 (congrArg₂ ix2 (Fin.ext (Nat.zero_add _)) rfl))

theorem keep10_D (a : Fin 16) (y : Fin 64512) (hy : y.val < (i 1).val * 1024 ∨ (i 1).val * 1024 + 1024 ≤ y.val) :
    arg12.view.read (Elt Ideal) (arg12.view.writes (Elt Ideal) (harg12.unread x10) (bodyRun_D c i arg2 harg2 arg3 harg3 arg4 harg4 arg5 harg5 arg6 harg6 arg7 harg7 arg8 harg8 arg9 harg9 arg10 harg10 arg11 harg11 arg12 harg12 hc0 hc1 x0 x1 x2 x3 x4 x5 x6 x8 x9 x10).2.2.2.1) (ix2 a y) = x10 (ix2 a y) := by
  refine (View.read_writes_cons_unit_of_not_mem (Val := Elt Ideal) (s := S16x64512) arg12.view _ (off := k0_off2 i) (size := S16x1024.size) _ _ _ (ix2 a y) (off2_eq i) (1 : Fin 2) hy).trans ?_
  refine (View.read_writes_cons_unit_of_not_mem (Val := Elt Ideal) (s := S16x64512) arg12.view _ (off := k0_off2 i) (size := S16x1024.size) _ _ _ (ix2 a y) (off2_eq i) (1 : Fin 2) hy).trans ?_
  refine (View.read_writes_cons_unit_of_not_mem (Val := Elt Ideal) (s := S16x64512) arg12.view _ (off := k0_off2 i) (size := S16x1024.size) _ _ _ (ix2 a y) (off2_eq i) (1 : Fin 2) hy).trans ?_
  refine (View.read_writes_cons_unit_of_not_mem (Val := Elt Ideal) (s := S16x64512) arg12.view _ (off := k0_off2 i) (size := S16x1024.size) _ _ _ (ix2 a y) (off2_eq i) (1 : Fin 2) hy).trans ?_
  refine (View.read_writes_cons_unit_of_not_mem (Val := Elt Ideal) (s := S16x64512) arg12.view _ (off := k0_off2 i) (size := S16x1024.size) _ _ _ (ix2 a y) (off2_eq i) (1 : Fin 2) hy).trans ?_
  exact congrFun (harg12.read_unread x10) _

end Cert.BackwardIdeal.Own

end
-- ==== Proof.BwdVal.lean ====
/- The backward pipeline's proof data with its four outputs held to what they contain, and the body's triple at every
   grid point: the codes of the point's block, the running sums of the two row-block gradients over the vocabulary
   blocks seen so far, and the running sum of the adapter gradient over the row blocks seen so far. -/
module

public import proofs.«01_k».proof.Proof.BwdElA
public import proofs.«01_k».proof.Proof.BwdElB
public import proofs.«01_k».proof.Proof.BwdElC
public import proofs.«01_k».proof.Proof.BwdElD
public import proofs.«01_k».proof.Proof.Gen.BackwardIdeal.Frame
public import Idealize.ShloMosaic.Lib.Pipeline.DatRel
public import Idealize.ShloMosaic.Lib.Claim

@[expose] public section

set_option maxRecDepth 16384

noncomputable section

namespace Cert.BackwardIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BackwardIdeal Cert.BackwardIdeal.Gen

local notation "𝕄" => MT nD τ sig Unit (Elt Ideal) ℕ (UR sig nD τ) ℕ

variable (m : (ℓ : Loc nD τ sig) → Buf (Elt Ideal) ℓ) (ρ : Dev nD → PrngReg)

/-! ## What the outputs hold -/

/-- Window 0's block at point `t`. -/
abbrev b0 (c : Dev nD) (t : Fin cfg0.N) : Vec Ideal S1280x1024 .f32 := iblk m c 0 t
/-- Window 1's block at point `t`. -/
abbrev b1 (c : Dev nD) (t : Fin cfg0.N) : Vec Ideal S1280x128 .f32 := iblk m c 1 t
/-- Window 2's block at point `t`. -/
abbrev b2 (c : Dev nD) (t : Fin cfg0.N) : Vec Ideal S1280x128 .i32 := iblk m c 2 t
/-- Window 3's block at point `t`. -/
abbrev b3 (c : Dev nD) (t : Fin cfg0.N) : Vec Ideal S1024x4096 .bf16 := iblk m c 3 t
/-- Window 4's block at point `t`. -/
abbrev b4 (c : Dev nD) (t : Fin cfg0.N) : Vec Ideal S16x1024 .bf16 := iblk m c 4 t
/-- Window 5's block at point `t`. -/
abbrev b5 (c : Dev nD) (t : Fin cfg0.N) : Vec Ideal S16x1280 .bf16 := iblk m c 5 t
/-- Window 6's block at point `t`. -/
abbrev b6 (c : Dev nD) (t : Fin cfg0.N) : Vec Ideal S1x1 .f32 := iblk m c 6 t

/-- The codes of the block at point `t`. -/
def gT (c : Dev nD) (t : Fin cfg0.N) (r : Fin 1280) (k : Fin 1024) : EReal :=
  gB (grid0.coords t) (b0 m c t) (b1 m c t) (b2 m c t) (b6 m c t) r k

/-- What point `n` adds to the hidden-state gradient of its row block. -/
def T8 (c : Dev nD) (n : ℕ) (r : Fin 1280) (d : Fin 4096) : EReal :=
  if h : n < cfg0.N then ∑ k : Fin 1024, gT m c ⟨n, h⟩ r k * b3 m c ⟨n, h⟩ (ix2 k d) else 0

/-- What point `n` adds to the low-rank gradient of its row block. -/
def T9 (c : Dev nD) (n : ℕ) (a : Fin 16) (r : Fin 1280) : EReal :=
  if h : n < cfg0.N then ∑ k : Fin 1024, b4 m c ⟨n, h⟩ (ix2 a k) * gT m c ⟨n, h⟩ r k else 0

/-- What point `n` adds to the adapter gradient of its vocabulary block. -/
def T10 (c : Dev nD) (n : ℕ) (a : Fin 16) (k : Fin 1024) : EReal :=
  if h : n < cfg0.N then ∑ t : Fin 1280, b5 m c ⟨n, h⟩ (ix2 a t) * gT m c ⟨n, h⟩ t k else 0

def P7 (c : Dev nD) (t : Fin cfg0.N) (X : Vec Ideal S1280x1024 .fp8e5m2) : Prop :=
  ∀ r k, X (ix2 r k) = gT m c t r k

def P8 (c : Dev nD) (t : Fin cfg0.N) (X : Vec Ideal S1280x4096 .f32) : Prop :=
  ∀ r d, X (ix2 r d) = ∑ n ∈ Finset.Ico (t.val / 63 * 63) (t.val + 1), T8 m c n r d

def P9 (c : Dev nD) (t : Fin cfg0.N) (X : Vec Ideal S16x1280 .f32) : Prop :=
  ∀ a r, X (ix2 a r) = ∑ n ∈ Finset.Ico (t.val / 63 * 63) (t.val + 1), T9 m c n a r

def P10 (c : Dev nD) (t : Fin cfg0.N) (X : Vec Ideal S16x64512 .f32) : Prop :=
  ∀ (a : Fin 16) (y : Fin 64512), y.val / 1024 ≤ t.val → X (ix2 a y) =
    ∑ b ∈ Finset.range ((t.val + 63 - y.val / 1024) / 63), T10 m c (b * 63 + y.val / 1024) a ⟨y.val % 1024, Nat.mod_lt _ (by decide)⟩

/-- The four output windows. -/
def marked : Fin 11 → Bool := fun w => w.val == 7 || w.val == 8 || w.val == 9 || w.val == 10

/-- What the body leaves in each output window at point `t`. -/
def Rl (c : Dev nD) (w : Fin cfg0.W) (t : Fin cfg0.N) : ((cfg0.win w).block.Idx → Elt Ideal (cfg0.win w).elt) → Prop :=
  match w with
  | ⟨7, _⟩ => fun X => P7 m c t X
  | ⟨8, _⟩ => fun X => P8 m c t X
  | ⟨9, _⟩ => fun X => P9 m c t X
  | ⟨10, _⟩ => fun X => P10 m c t X
  | _ => fun _ => True

/-! ## The proof data -/

/-- The pipeline's proof data: inputs at their blocks, the outputs held to `Rl`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

abbrev rdat (c : Dev nD) : Pipeline.RDat τ (Elt Ideal) Unit ℕ (UR sig nD τ) ℕ cfg0 c := (dats m 0 c).toRRel marked (Rl m c)

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## One point's step -/

theorem coord1 (t : Fin cfg0.N) : (grid0.coords t 1).val = t.val % 63 := by
  have e1 : (grid0.coords t 1).val = t.val / 1 % 63 := Pipeline.Grid.coords_val t 1 (by decide) rfl
  rw [e1, Nat.div_one]

theorem found8 (c : Dev nD) (t : Fin cfg0.N) (h0 : ¬ t.val % 63 = 0) (X) (hF : (rdat m c).Finds 8 t X) :
    P8 m c ⟨t.val - 1, Nat.lt_of_le_of_lt (Nat.sub_le _ _) t.isLt⟩ X := by
  rcases ((rdat m c).finds_of_pos (w := 8) (t := t) rfl (by omega) X).mp hF with h | h
  · have := (flush0_8 ⟨t.val - 1, Nat.lt_of_le_of_lt (Nat.sub_le _ _) t.isLt⟩).mp h
    simp only at this
    omega
  · exact (dats m 0 c).toRRel_leaves (w := 8) rfl h

theorem found9 (c : Dev nD) (t : Fin cfg0.N) (h0 : ¬ t.val % 63 = 0) (X) (hF : (rdat m c).Finds 9 t X) :
    P9 m c ⟨t.val - 1, Nat.lt_of_le_of_lt (Nat.sub_le _ _) t.isLt⟩ X := by
  rcases ((rdat m c).finds_of_pos (w := 9) (t := t) rfl (by omega) X).mp hF with h | h
  · have := (flush0_9 ⟨t.val - 1, Nat.lt_of_le_of_lt (Nat.sub_le _ _) t.isLt⟩).mp h
    simp only at this
    omega
  · exact (dats m 0 c).toRRel_leaves (w := 9) rfl h

theorem found10 (c : Dev nD) (t : Fin cfg0.N) (h0 : ¬ t.val = 0) (X) (hF : (rdat m c).Finds 10 t X) :
    P10 m c ⟨t.val - 1, Nat.lt_of_le_of_lt (Nat.sub_le _ _) t.isLt⟩ X := by
  rcases ((rdat m c).finds_of_pos (w := 10) (t := t) rfl h0 X).mp hF with h | h
  · have := (flush0_10 ⟨t.val - 1, Nat.lt_of_le_of_lt (Nat.sub_le _ _) t.isLt⟩).mp h
    have hN : t.val < 252 := lt_of_lt_of_eq t.isLt N_0
    simp only at this
    omega
  · exact (dats m 0 c).toRRel_leaves (w := 10) rfl h

theorem new8 (c : Dev nD) (t : Fin cfg0.N) (h0 : t.val % 63 = 0) (X : Vec Ideal S1280x4096 .f32)
    (hX : ∀ r d, X (ix2 r d) = 0 + ∑ k : Fin 1024, gB (grid0.coords t) (b0 m c t) (b1 m c t) (b2 m c t) (b6 m c t) r k * b3 m c t (ix2 k d)) : P8 m c t X := by
  intro r d
  rw [hX, show t.val / 63 * 63 = t.val by omega, Nat.Ico_succ_singleton, Finset.sum_singleton, zero_add]
  unfold T8 gT
  rw [dif_pos t.isLt]

theorem step8 (c : Dev nD) (t : Fin cfg0.N) (h0 : ¬ t.val % 63 = 0) (x X : Vec Ideal S1280x4096 .f32)
    (hx : P8 m c ⟨t.val - 1, Nat.lt_of_le_of_lt (Nat.sub_le _ _) t.isLt⟩ x)
    (hX : ∀ r d, X (ix2 r d) = x (ix2 r d) + ∑ k : Fin 1024, gB (grid0.coords t) (b0 m c t) (b1 m c t) (b2 m c t) (b6 m c t) r k * b3 m c t (ix2 k d)) : P8 m c t X := by
  intro r d
  have e : T8 m c t.val r d = ∑ k : Fin 1024, gB (grid0.coords t) (b0 m c t) (b1 m c t) (b2 m c t) (b6 m c t) r k * b3 m c t (ix2 k d) := by
    unfold T8 gT
    rw [dif_pos t.isLt]
  rw [hX, hx r d, Finset.sum_Ico_succ_top (by omega : t.val / 63 * 63 ≤ t.val), e]
  simp only
  rw [show (t.val - 1) / 63 = t.val / 63 by omega, show t.val - 1 + 1 = t.val by omega]

theorem new9 (c : Dev nD) (t : Fin cfg0.N) (h0 : t.val % 63 = 0) (X : Vec Ideal S16x1280 .f32)
    (hX : ∀ a r, X (ix2 a r) = 0 + ∑ k : Fin 1024, b4 m c t (ix2 a k) * gB (grid0.coords t) (b0 m c t) (b1 m c t) (b2 m c t) (b6 m c t) r k) : P9 m c t X := by
  intro a r
  rw [hX, show t.val / 63 * 63 = t.val by omega, Nat.Ico_succ_singleton, Finset.sum_singleton, zero_add]
  unfold T9 gT
  rw [dif_pos t.isLt]

theorem step9 (c : Dev nD) (t : Fin cfg0.N) (h0 : ¬ t.val % 63 = 0) (x X : Vec Ideal S16x1280 .f32)
    (hx : P9 m c ⟨t.val - 1, Nat.lt_of_le_of_lt (Nat.sub_le _ _) t.isLt⟩ x)
    (hX : ∀ a r, X (ix2 a r) = x (ix2 a r) + ∑ k : Fin 1024, b4 m c t (ix2 a k) * gB (grid0.coords t) (b0 m c t) (b1 m c t) (b2 m c t) (b6 m c t) r k) : P9 m c t X := by
  intro a r
  have e : T9 m c t.val a r = ∑ k : Fin 1024, b4 m c t (ix2 a k) * gB (grid0.coords t) (b0 m c t) (b1 m c t) (b2 m c t) (b6 m c t) r k := by
    unfold T9 gT
    rw [dif_pos t.isLt]
  rw [hX, hx a r, Finset.sum_Ico_succ_top (by omega : t.val / 63 * 63 ≤ t.val), e]
  simp only
  rw [show (t.val - 1) / 63 = t.val / 63 by omega, show t.val - 1 + 1 = t.val by omega]

theorem step10 (c : Dev nD) (t : Fin cfg0.N) (x X : Vec Ideal S16x64512 .f32)
    (hx : ¬ t.val = 0 → P10 m c ⟨t.val - 1, Nat.lt_of_le_of_lt (Nat.sub_le _ _) t.isLt⟩ x) (base : Fin 16 → Fin 64512 → EReal)
    (hb : ∀ a y, base a y = if t.val < 63 then 0 else x (ix2 a y))
    (hX : ∀ (a : Fin 16) (k : Fin 1024) (hk : (grid0.coords t 1).val * 1024 + k.val < 64512), X (ix2 a ⟨(grid0.coords t 1).val * 1024 + k.val, hk⟩) = base a ⟨(grid0.coords t 1).val * 1024 + k.val, hk⟩ + ∑ q : Fin 1280, b5 m c t (ix2 a q) * gB (grid0.coords t) (b0 m c t) (b1 m c t) (b2 m c t) (b6 m c t) q k)
    (hK : ∀ (a : Fin 16) (y : Fin 64512), (y.val < (grid0.coords t 1).val * 1024 ∨ (grid0.coords t 1).val * 1024 + 1024 ≤ y.val) → X (ix2 a y) = x (ix2 a y)) :
    P10 m c t X := by
  have hN : t.val < 252 := lt_of_lt_of_eq t.isLt N_0
  intro a y hy
  have hy' := y.isLt
  have e (k : Fin 1024) : T10 m c t.val a k = ∑ q : Fin 1280, b5 m c t (ix2 a q) * gB (grid0.coords t) (b0 m c t) (b1 m c t) (b2 m c t) (b6 m c t) q k := by
    unfold T10 gT
    rw [dif_pos t.isLt]
  rw [coord1] at hX hK
  by_cases hj : y.val / 1024 = t.val % 63
  · have ey : y = ⟨t.val % 63 * 1024 + y.val % 1024, by omega⟩ := Fin.ext (by simp only; omega)
    have h1 := hX a ⟨y.val % 1024, Nat.mod_lt _ (by decide)⟩ (by simp only; omega)
    simp only [← ey] at h1
    rw [h1, ← e, hb, show (t.val + 63 - y.val / 1024) / 63 = t.val / 63 + 1 by omega, Finset.sum_range_succ]
    refine congrArg₂ (· + ·) ?_ (by rw [show t.val / 63 * 63 + y.val / 1024 = t.val by omega])
    by_cases ht : t.val < 63
    · rw [if_pos ht, show t.val / 63 = 0 by omega, Finset.sum_range_zero]
    · rw [if_neg ht, hx (by omega) a y (by simp only; omega)]
      simp only
      rw [show (t.val - 1 + 63 - y.val / 1024) / 63 = t.val / 63 by omega]
  · rw [hK a y (by omega), hx (by omega) a y (by simp only; omega)]
    simp only
    rw [show (t.val - 1 + 63 - y.val / 1024) / 63 = (t.val + 63 - y.val / 1024) / 63 by omega]

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ Y, ⌜(rdat m c).Finds 7 t Y⌝ ∗ owns (c : Thread nD τ) (ms0_7 t) fullShare Y)
    ∗ (∃ Y, ⌜(rdat m c).Finds 8 t Y⌝ ∗ owns (c : Thread nD τ) (ms0_8 t) fullShare Y)
    ∗ (∃ Y, ⌜(rdat m c).Finds 9 t Y⌝ ∗ owns (c : Thread nD τ) (ms0_9 t) fullShare Y)
    ∗ (∃ Y, ⌜(rdat m c).Finds 10 t Y⌝ ∗ owns (c : Thread nD τ) (ms0_10 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ X, ⌜P7 m c t X⌝ ∗ owns (c : Thread nD τ) (ms0_7 t) fullShare X)
    ∗ (∃ X, ⌜P8 m c t X⌝ ∗ owns (c : Thread nD τ) (ms0_8 t) fullShare X)
    ∗ (∃ X, ⌜P9 m c t X⌝ ∗ owns (c : Thread nD τ) (ms0_9 t) fullShare X)
    ∗ (∃ X, ⌜P10 m c t X⌝ ∗ owns (c : Thread nD τ) (ms0_10 t) fullShare X))

end Cert.BackwardIdeal.Own

end
-- ==== Proof.BwdClosed.lean ====
/- The backward pass in closed form over plain arrays: the code of one logit, and the four results as sums over the
   whole vocabulary or the whole batch. -/
module

public import proofs.«01_k».proof.Proof.BwdPay

@[expose] public section

set_option maxRecDepth 16384

noncomputable section

namespace Cert.Closed

open Idealize.ShloMosaic

abbrev Arr2 (a b : ℕ) (α : Type) := (⟨2, ![a, b]⟩ : Shape).Idx → α
abbrev Arr1 (a : ℕ) (α : Type) := (⟨1, ![a]⟩ : Shape).Idx → α

/-- The clipped scaled gradient of one logit `x` at column `v`: its token's log-sum-exp `l`, label `lab`, the scale `s`. -/
def gF (s x l : EReal) (lab : BitVec 32) (v : ℕ) : EReal :=
  min (Ideal.ofBits .f32 0x47600000#32) (max (Ideal.ofBits .f32 0xC7600000#32)
    (Ideal.div (Ideal.exp (x - l) - (if BitVec.ofNat 32 v = lab then 1 else 0)) s))

variable (lg : Arr2 5120 64512 EReal) (ls : Arr1 5120 EReal) (lab : Arr1 5120 (BitVec 32)) (w : Arr2 64512 4096 EReal)
  (lb : Arr2 64512 16 EReal) (ku : Arr2 5120 16 EReal) (ds : Arr1 1 EReal)

def gv (t : Fin 5120) (v : Fin 64512) : EReal := gF (ds (ix1 0)) (lg (ix2 t v)) (ls (ix1 t)) (lab (ix1 t)) v.val

def R7 : Arr2 5120 64128 EReal := fun y =>
  gv lg ls lab ds ⟨(y 0).val, (y 0).isLt⟩ ⟨(y 1).val, lt_trans (show (y 1).val < 64128 from (y 1).isLt) (by decide)⟩
def R8 : Arr2 5120 4096 EReal := fun y => ∑ v : Fin 64512, gv lg ls lab ds (y 0) v * w (ix2 v (y 1))
def R9 : Arr2 16 5120 EReal := fun y => ∑ v : Fin 64512, lb (ix2 v (y 0)) * gv lg ls lab ds (y 1) v
def R10 : Arr2 16 64512 EReal := fun y => ∑ t : Fin 5120, ku (ix2 t (y 0)) * gv lg ls lab ds t (y 1)

/-- A sum over blocks of equal length is the sum over all. -/
theorem sum_blocks (F : ℕ → EReal) (p n : ℕ) : ∑ j ∈ Finset.range n, ∑ k ∈ Finset.range p, F (j * p + k) = ∑ v ∈ Finset.range (n * p), F v := by
  induction n with
  | zero => simp
  | succ n ih => rw [Finset.sum_range_succ, ih, Nat.succ_mul, Finset.sum_range_add]

/-- The same over `Fin`. -/
theorem sum_blocks_fin (p n N : ℕ) (hN : N = n * p) (f : Fin N → EReal) (S : ℕ → EReal)
    (hS : ∀ j, j < n → S j = ∑ k : Fin p, if h : j * p + k.val < N then f ⟨j * p + k.val, h⟩ else 0) :
    ∑ j ∈ Finset.range n, S j = ∑ v : Fin N, f v := by
  have e : ∑ v : Fin N, f v = ∑ v ∈ Finset.range N, (fun v => if h : v < N then f ⟨v, h⟩ else 0) v := by
    rw [Finset.sum_range]
    exact Finset.sum_congr rfl fun v _ => by simp only [v.isLt, dif_pos]
  subst hN
  rw [e, ← sum_blocks]
  refine Finset.sum_congr rfl fun j hj => ?_
  rw [hS j (Finset.mem_range.mp hj), Finset.sum_range]

/-- A lane-relative label word meets its chunk's base word exactly at the label's own column. -/
theorem hit_iff (lab : BitVec 32) (j k : ℕ) (hj : j < 63) (hk : k < 1024) :
    (lab - BitVec.ofNat 32 (k % 128) = (BitVec.ofNat 32 k &&& 4294967168#32) + BitVec.ofNat 32 j * 1024#32) ↔ BitVec.ofNat 32 (j * 1024 + k) = lab := by
  have e : ∀ k : Fin 1024, BitVec.ofNat 32 k.val &&& 4294967168#32 = BitVec.ofNat 32 (k.val / 128 * 128) := by decide +kernel
  have e' := e ⟨k, hk⟩
  simp only at e'
  rw [e']
  have h1 : BitVec.ofNat 32 j * 1024#32 = BitVec.ofNat 32 (j * 1024) := by
    apply BitVec.eq_of_toNat_eq; simp
  rw [h1]
  have h2 : BitVec.ofNat 32 (j * 1024 + k) = BitVec.ofNat 32 (k / 128 * 128) + BitVec.ofNat 32 (j * 1024) + BitVec.ofNat 32 (k % 128) := by
    apply BitVec.eq_of_toNat_eq
    simp only [BitVec.toNat_add, BitVec.toNat_ofNat]
    omega
  rw [h2]
  constructor
  · intro h; rw [← h]; exact BitVec.sub_add_cancel _ _
  · intro h; rw [← h]; exact BitVec.add_sub_cancel _ _

end Cert.Closed

end
-- ==== Proof.BwdReads.lean ====
/- What each block of the backward pipeline's inputs holds, in terms of the arguments. -/
module

public import proofs.«01_k».proof.Proof.BwdVal
public import proofs.«01_k».proof.Proof.BwdClosed
public import Idealize.ShloMosaic.Lib.Pipeline.ValueKit

@[expose] public section

set_option maxRecDepth 16384

noncomputable section

namespace Cert.BackwardIdeal.Own

open Idealize.ShloMosaic Idealize.ShloMosaic.TcCoe Idealize.ShloMosaic.Tactic
open Idealize.SL Idealize.SL.Sem
open Cert.BackwardIdeal Cert.BackwardIdeal.Gen Cert.Closed

variable (m : (ℓ : Loc nD τ sig) → Buf (Elt Ideal) ℓ)

def a0 (c : Dev nD) : Arr2 5120 64512 EReal := m ((c.tc : Thread nD τ).loc main_arg0)
def a1 (c : Dev nD) : Arr1 5120 EReal := m ((c.tc : Thread nD τ).loc main_arg1)
def a2 (c : Dev nD) : Arr1 5120 (BitVec 32) := m ((c.tc : Thread nD τ).loc main_arg2)
def a3 (c : Dev nD) : Arr2 64512 4096 EReal := m ((c.tc : Thread nD τ).loc main_arg3)
def a4 (c : Dev nD) : Arr2 64512 16 EReal := m ((c.tc : Thread nD τ).loc main_arg4)
def a5 (c : Dev nD) : Arr2 5120 16 EReal := m ((c.tc : Thread nD τ).loc main_arg5)
def a6 (c : Dev nD) : Arr1 1 EReal := m ((c.tc : Thread nD τ).loc main_arg6)

/-- The array row under row `r` of the block at point `t`, -/
def rowAt (t : Fin cfg0.N) (r : Fin 1280) : Fin 5120 := ⟨t.val / 63 * 1280 + r.val, by have := lt_of_lt_of_eq t.isLt N_0; omega⟩
/-- and the array column under its column `k`. -/
def colAt (t : Fin cfg0.N) (k : Fin 1024) : Fin 64512 := ⟨t.val % 63 * 1024 + k.val, by omega⟩

theorem i0_0 : ∀ t : Fin cfg0.N, win0_0.index t = ![t.val / 63, t.val % 63] := (by decide +kernel : ∀ t : Fin grid0.N, _)
theorem i0_1 : ∀ t : Fin cfg0.N, win0_1.index t = ![t.val / 63, 0] := (by decide +kernel : ∀ t : Fin grid0.N, _)
theorem i0_2 : ∀ t : Fin cfg0.N, win0_2.index t = ![t.val / 63, 0] := (by decide +kernel : ∀ t : Fin grid0.N, _)
theorem i0_3 : ∀ t : Fin cfg0.N, win0_3.index t = ![t.val % 63, 0] := (by decide +kernel : ∀ t : Fin grid0.N, _)
theorem i0_4 : ∀ t : Fin cfg0.N, win0_4.index t = ![0, t.val % 63] := (by decide +kernel : ∀ t : Fin grid0.N, _)
theorem i0_5 : ∀ t : Fin cfg0.N, win0_5.index t = ![0, t.val / 63] := (by decide +kernel : ∀ t : Fin grid0.N, _)
theorem i0_6 : ∀ t : Fin cfg0.N, win0_6.index t = ![0, 0] := (by decide +kernel : ∀ t : Fin grid0.N, _)
theorem i0_7 : ∀ t : Fin cfg0.N, win0_7.index t = ![t.val / 63, t.val % 63] := (by decide +kernel : ∀ t : Fin grid0.N, _)
theorem i0_8 : ∀ t : Fin cfg0.N, win0_8.index t = ![t.val / 63, 0] := (by decide +kernel : ∀ t : Fin grid0.N, _)
theorem i0_9 : ∀ t : Fin cfg0.N, win0_9.index t = ![0, t.val / 63] := (by decide +kernel : ∀ t : Fin grid0.N, _)
theorem i0_10 : ∀ t : Fin cfg0.N, win0_10.index t = ![0, 0] := (by decide +kernel : ∀ t : Fin grid0.N, _)

theorem b0_at (c : Dev nD) (t : Fin cfg0.N) (r : Fin 1280) (k : Fin 1024) : b0 m c t (ix2 r k) = a0 m c (ix2 (rowAt t r) (colAt t k)) := by
  unfold a0 rowAt colAt
  blk_ext! [b0, iblk, V, i0_0 t]

theorem b1_at (c : Dev nD) (t : Fin cfg0.N) (r : Fin 1280) (k : Fin 128) : b1 m c t (ix2 r k) = a1 m c (ix1 (rowAt t r)) := by
  unfold a1 rowAt
  blk_ext! [b1, iblk, i0_1 t]

/-- The label operand: each token's label, less the lane's number. -/
theorem rel_at (c : Dev nD) (r : Fin 5120) (k : Fin 128) :
    (V m c main_v3 : Arr2 5120 128 (BitVec 32)) (ix2 r k) = a2 m c (ix1 r) - BitVec.ofNat 32 k.val := by
  unfold a2
  entry_read
  pointwise
  rfl

theorem b2_at (c : Dev nD) (t : Fin cfg0.N) (r : Fin 1280) (k : Fin 128) :
    b2 m c t (ix2 r k) = a2 m c (ix1 (rowAt t r)) - BitVec.ofNat 32 k.val := by
  rw [← rel_at]
  unfold rowAt
  blk_ext [b2, iblk, i0_2 t]

theorem b3_at (c : Dev nD) (t : Fin cfg0.N) (k : Fin 1024) (d : Fin 4096) : b3 m c t (ix2 k d) = a3 m c (ix2 (colAt t k) d) := by
  unfold a3 colAt
  blk_ext! [b3, iblk, V, i0_3 t]

theorem b4_at (c : Dev nD) (t : Fin cfg0.N) (a : Fin 16) (k : Fin 1024) : b4 m c t (ix2 a k) = a4 m c (ix2 (colAt t k) a) := by
  unfold a4 colAt
  blk_ext! [b4, iblk, i0_4 t]

theorem b5_at (c : Dev nD) (t : Fin cfg0.N) (a : Fin 16) (r : Fin 1280) : b5 m c t (ix2 a r) = a5 m c (ix2 (rowAt t r) a) := by
  unfold a5 rowAt
  blk_ext! [b5, iblk, i0_5 t]

theorem b6_at (c : Dev nD) (t : Fin cfg0.N) : b6 m c t (ix2 0 0) = a6 m c (ix1 0) := by
  unfold a6
  blk_ext! [b6, iblk, i0_6 t]

/-- The codes of a point's block are the closed form's at the array's row and column. -/
theorem gT_eq (c : Dev nD) (t : Fin cfg0.N) (r : Fin 1280) (k : Fin 1024) :
    gT m c t r k = gv (a0 m c) (a1 m c) (a2 m c) (a6 m c) (rowAt t r) (colAt t k) := by
  unfold gT gB gEl gv gF
  rw [b0_at, b1_at, b2_at, b6_at, coord1]
  have e := hit_iff (a2 m c (ix1 (rowAt t r))) (t.val % 63) k.val (Nat.mod_lt _ (by decide)) k.isLt
  rw [if_congr e rfl rfl]
  rfl

end Cert.BackwardIdeal.Own

end
-- ==== Proof.BwdRun.lean ====
/- The backward pipeline's run: from the body's triple at every point to what the arrays hold at the end. -/
module

public import proofs.«01_k».proof.Proof.BwdVal

@[expose] public section

set_option maxRecDepth 16384

noncomputable section

namespace Cert.BackwardIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BackwardIdeal Cert.BackwardIdeal.Gen

local notation "𝕄" => MT nD τ sig Unit (Elt Ideal) ℕ (UR sig nD τ) ℕ

variable (m : (ℓ : Loc nD τ sig) → Buf (Elt Ideal) ℓ) (ρ : Dev nD → PrngReg)

/-- The body's triple at every grid point. -/
def Sound : Prop := ∀ (c : Dev nD) (t : Fin cfg0.N), bodyPre m c t ⊢ wp frame (wpE (defs₀ (F := Ideal)) Variants.none c none) Set.univ (bodyAt0 t) (fun _ => bodyPost m c t)

theorem defs₀_row (t : Fin cfg0.N) :
    defs₀ (F := Ideal) .tc cfg0.body (cfg0.bodyArgs t (cfg0.slots t)) = bodyAt0 t := by
  unfold defs₀; rw [Defs.onTc_tc]

theorem body_obligation (hs : Sound m) (c : Dev nD) : Pipeline.BodyObligationRel (dats m 0 c) (defs₀ (F := Ideal)) Variants.none () Set.univ marked (Rl m c) := fun t => by
  rw [bigSep_W0, bigSep_W0, defs₀_row]
  exact triple_restated (hs c t) rfl .rfl fun _ => .rfl

/-! ## The run -/

set_option backward.isDefEq.respectTransparency.types false in
theorem run_main_quiescent (hs : Sound m) : θ_run defs (onTc (τ := τ) (main (F := Ideal))) (s₀ m ρ) (fun r => (Pipeline.RDat.FramePost (cfgs 0) (fun c => rdat m c) (V m)) r ∧ r.2.sem = fun _ => 0) :=
  Pipeline.RDat.θ_run_frame cfgs (0 : Fin 1) launch0 defs₀ Variants.none (fun c => rdat m c) m ρ main
    (hbody := fun c => (body_obligation m hs c).toRRel) (hshare := fun c => (dats m 0 c).share_full fun _ => rfl)
    (howed := fun _ _ => rfl) (V := V m) (hmain := hmain m Variants.none) (hA := A_eq m) (hΦ := fun _ _ => rfl) (Q' := _)

/-- The argument arrays end as they were, from a run to the pipeline's post. -/
theorem frame_of (rdat : (c : Dev nD) → Pipeline.RDat τ (Elt Ideal) Unit ℕ (UR sig nD τ) ℕ (cfgs 0) c)
    (hA : ∀ c w, (rdat c).A w = V m c (Pipeline.arrRef spec0 w))
    (h : θ_run defs (onTc (τ := τ) (main (F := Ideal))) (s₀ m ρ) (Pipeline.RDat.FramePost (cfgs 0) rdat (V m))) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((hA c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

theorem unchanged (hs : Sound m) : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => rdat m c) (A_eq m) ((θ_run defs _ _).mono (fun _ h => h.1) (run_main_quiescent m ρ hs))

/-- The frame of `BackwardIdeal`. -/
theorem frame_of_sound (hs : Sound m) : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hs) ((θ_run defs _ _).mono (fun _ h => h.2) (run_main_quiescent m ρ hs))

end Cert.BackwardIdeal.Own

end
-- ==== Proof.BwdArr.lean ====
/- The backward pipeline's four result arrays after its run, in closed form. -/
module

public import proofs.«01_k».proof.Proof.BwdReads
public import proofs.«01_k».proof.Proof.BwdRun
public import Idealize.ShloMosaic.Lib.Pipeline.ArrRel

@[expose] public section

set_option maxRecDepth 16384

noncomputable section

namespace Cert.BackwardIdeal.Own

open Idealize.ShloMosaic Idealize.ShloMosaic.TcCoe Idealize.ShloMosaic.Tactic
open Idealize.SL Idealize.SL.Sem
open Cert.BackwardIdeal Cert.BackwardIdeal.Gen Cert.Closed

variable (m : (ℓ : Loc nD τ sig) → Buf (Elt Ideal) ℓ)

/-! ## The running sums at the points that write back -/

theorem acc8 (c : Dev nD) (t : Fin cfg0.N) (ht : t.val % 63 = 62) (r : Fin 1280) (d : Fin 4096) :
    ∑ n ∈ Finset.Ico (t.val / 63 * 63) (t.val + 1), T8 m c n r d
      = R8 (a0 m c) (a1 m c) (a2 m c) (a3 m c) (a6 m c) (ix2 (rowAt t r) d) := by
  have hN : t.val < 252 := lt_of_lt_of_eq t.isLt N_0
  rw [Finset.sum_Ico_eq_sum_range, show t.val + 1 - t.val / 63 * 63 = 63 by omega]
  refine sum_blocks_fin 1024 63 64512 (by decide) (fun v => gv (a0 m c) (a1 m c) (a2 m c) (a6 m c) (rowAt t r) v * a3 m c (ix2 v d)) _ fun j hj => ?_
  unfold T8
  rw [dif_pos (lt_of_lt_of_eq (show t.val / 63 * 63 + j < 252 by omega) N_0.symm)]
  refine Finset.sum_congr rfl fun k _ => ?_
  rw [dif_pos (by omega), gT_eq, b3_at]
  have e1 (h) : rowAt ⟨t.val / 63 * 63 + j, h⟩ r = rowAt t r := Fin.ext (by simp only [rowAt]; omega)
  have e2 (h h') : colAt ⟨t.val / 63 * 63 + j, h⟩ k = ⟨j * 1024 + k.val, h'⟩ := Fin.ext (by simp only [colAt]; omega)
  rw [e1, e2 _ (by omega)]

theorem acc9 (c : Dev nD) (t : Fin cfg0.N) (ht : t.val % 63 = 62) (a : Fin 16) (r : Fin 1280) :
    ∑ n ∈ Finset.Ico (t.val / 63 * 63) (t.val + 1), T9 m c n a r
      = R9 (a0 m c) (a1 m c) (a2 m c) (a4 m c) (a6 m c) (ix2 a (rowAt t r)) := by
  have hN : t.val < 252 := lt_of_lt_of_eq t.isLt N_0
  rw [Finset.sum_Ico_eq_sum_range, show t.val + 1 - t.val / 63 * 63 = 63 by omega]
  refine sum_blocks_fin 1024 63 64512 (by decide) (fun v => a4 m c (ix2 v a) * gv (a0 m c) (a1 m c) (a2 m c) (a6 m c) (rowAt t r) v) _ fun j hj => ?_
  unfold T9
  rw [dif_pos (lt_of_lt_of_eq (show t.val / 63 * 63 + j < 252 by omega) N_0.symm)]
  refine Finset.sum_congr rfl fun k _ => ?_
  rw [dif_pos (by omega), gT_eq, b4_at]
  have e1 (h) : rowAt ⟨t.val / 63 * 63 + j, h⟩ r = rowAt t r := Fin.ext (by simp only [rowAt]; omega)
  have e2 (h h') : colAt ⟨t.val / 63 * 63 + j, h⟩ k = ⟨j * 1024 + k.val, h'⟩ := Fin.ext (by simp only [colAt]; omega)
  rw [e1, e2 _ (by omega)]

theorem acc10 (c : Dev nD) (a : Fin 16) (y : Fin 64512) :
    ∑ b ∈ Finset.range ((251 + 63 - y.val / 1024) / 63), T10 m c (b * 63 + y.val / 1024) a ⟨y.val % 1024, Nat.mod_lt _ (by decide)⟩
      = R10 (a0 m c) (a1 m c) (a2 m c) (a5 m c) (a6 m c) (ix2 a y) := by
  have hy := y.isLt
  rw [show (251 + 63 - y.val / 1024) / 63 = 4 by omega]
  refine sum_blocks_fin 1280 4 5120 (by decide) (fun t => a5 m c (ix2 t a) * gv (a0 m c) (a1 m c) (a2 m c) (a6 m c) t y) _ fun j hj => ?_
  unfold T10
  rw [dif_pos (lt_of_lt_of_eq (show j * 63 + y.val / 1024 < 252 by omega) N_0.symm)]
  refine Finset.sum_congr rfl fun k _ => ?_
  rw [dif_pos (by omega), gT_eq, b5_at]
  have e1 (h h') : rowAt ⟨j * 63 + y.val / 1024, h⟩ k = ⟨j * 1280 + k.val, h'⟩ := Fin.ext (by simp only [rowAt]; omega)
  have e2 (h h') : colAt ⟨j * 63 + y.val / 1024, h⟩ ⟨y.val % 1024, h'⟩ = y := Fin.ext (by simp only [colAt]; omega)
  rw [e1 _ (by omega), e2]

/-! ## The arrays -/

variable (c : Dev nD) (after : (w' : Fin cfg0.W) → Fin cfg0.N → (cfg0.win w').block.Idx → Elt Ideal (cfg0.win w').elt)

theorem at7 (t : Fin cfg0.N) (X : Vec Ideal S1280x1024 .fp8e5m2) (h : P7 m c t X) (x : S1280x1024.Idx) :
    X x = gv (a0 m c) (a1 m c) (a2 m c) (a6 m c) (rowAt t (x 0)) (colAt t (x 1)) := by
  have e : x = ix2 (x 0) (x 1) := by
    funext a; match a with
    | ⟨0, _⟩ => rfl
    | ⟨1, _⟩ => rfl
  exact (congrArg X e).trans ((h (x 0) (x 1)).trans (gT_eq m c t (x 0) (x 1)))

theorem gv_eq (t t' : Fin 5120) (v v' : Fin 64512) (h : t.val = t'.val) (h' : v.val = v'.val) :
    gv (a0 m c) (a1 m c) (a2 m c) (a6 m c) t v = gv (a0 m c) (a1 m c) (a2 m c) (a6 m c) t' v' := by
  rw [Fin.ext h, Fin.ext h']

theorem row7 (t : Fin cfg0.N) (y : ((cfg0.win 7).xblock (cfg0.grid.coords t)).Idx) :
    (((((cfg0.win 7).blk t).view.emb y) 0 : Fin _) : ℕ) = t.val / 63 * 1280 + (y 0).val := by
  blk_simp [i0_7 t]

theorem col7 (t : Fin cfg0.N) (y : ((cfg0.win 7).xblock (cfg0.grid.coords t)).Idx) :
    (((((cfg0.win 7).blk t).view.emb y) 1 : Fin _) : ℕ) = t.val % 63 * 1024 + (y 1).val := by
  blk_simp [i0_7 t]

theorem arr7 (hL : ∀ u, (cfg0.win 7).flush u = true → (rdat m c).Leaves 7 u (after 7 u)) :
    ((rdat m c).withAfter after).arrAt 7 cfg0.N = R7 (a0 m c) (a1 m c) (a2 m c) (a6 m c) := by
  refine Pipeline.Dat.arrAt_eq_of_covers _ 7 _ (by decide +kernel) fun t hf y => ?_
  have h : P7 m c t (after 7 t) := (dats m 0 c).toRRel_leaves (w := 7) rfl (hL t hf)
  refine (at7 m c t (after 7 t) h ((cfg0.win 7).xinj (cfg0.grid.coords t) y)).trans ?_
  exact gv_eq m c _ _ _ _ (row7 t y).symm (col7 t y).symm

theorem arr8 (hL : ∀ u, (cfg0.win 8).flush u = true → (rdat m c).Leaves 8 u (after 8 u)) :
    ((rdat m c).withAfter after).arrAt 8 cfg0.N = R8 (a0 m c) (a1 m c) (a2 m c) (a3 m c) (a6 m c) := by
  refine Pipeline.Dat.arrAt_eq_of_covers _ 8 _ (by decide +kernel) fun t hf y => ?_
  have h : P8 m c t (after 8 t) := (dats m 0 c).toRRel_leaves (w := 8) rfl (hL t hf)
  have e : (cfg0.win 8).xinj (cfg0.grid.coords t) y = ix2 ⟨(y 0).val, (y 0).isLt⟩ ⟨(y 1).val, (y 1).isLt⟩ := by
    funext a; match a with
    | ⟨0, _⟩ => rfl
    | ⟨1, _⟩ => rfl
  refine (congrArg (after 8 t) e).trans ((h _ _).trans ((acc8 m c t ((flush0_8 t).mp hf) _ _).trans (congrArg _ ?_)))
  unfold rowAt
  blk_ext [i0_8 t]

theorem arr9 (hL : ∀ u, (cfg0.win 9).flush u = true → (rdat m c).Leaves 9 u (after 9 u)) :
    ((rdat m c).withAfter after).arrAt 9 cfg0.N = R9 (a0 m c) (a1 m c) (a2 m c) (a4 m c) (a6 m c) := by
  refine Pipeline.Dat.arrAt_eq_of_covers _ 9 _ (by decide +kernel) fun t hf y => ?_
  have h : P9 m c t (after 9 t) := (dats m 0 c).toRRel_leaves (w := 9) rfl (hL t hf)
  have e : (cfg0.win 9).xinj (cfg0.grid.coords t) y = ix2 ⟨(y 0).val, (y 0).isLt⟩ ⟨(y 1).val, (y 1).isLt⟩ := by
    funext a; match a with
    | ⟨0, _⟩ => rfl
    | ⟨1, _⟩ => rfl
  refine (congrArg (after 9 t) e).trans ((h _ _).trans ((acc9 m c t ((flush0_9 t).mp hf) _ _).trans (congrArg _ ?_)))
  unfold rowAt
  blk_ext [i0_9 t]

theorem arr10 (hL : ∀ u, (cfg0.win 10).flush u = true → (rdat m c).Leaves 10 u (after 10 u)) :
    ((rdat m c).withAfter after).arrAt 10 cfg0.N = R10 (a0 m c) (a1 m c) (a2 m c) (a5 m c) (a6 m c) := by
  refine Pipeline.Dat.arrAt_eq_of_covers _ 10 _ (by decide +kernel) fun t hf y => ?_
  have h : P10 m c t (after 10 t) := (dats m 0 c).toRRel_leaves (w := 10) rfl (hL t hf)
  have e : (cfg0.win 10).xinj (cfg0.grid.coords t) y = ix2 ⟨(y 0).val, (y 0).isLt⟩ ⟨(y 1).val, (y 1).isLt⟩ := by
    funext a; match a with
    | ⟨0, _⟩ => rfl
    | ⟨1, _⟩ => rfl
  have hN : t.val < 252 := lt_of_lt_of_eq t.isLt N_0
  have ht : t.val = 251 := by have := (flush0_10 t).mp hf; omega
  have hy : (y 1).val < 64512 := (y 1).isLt
  have h' := h ⟨(y 0).val, (y 0).isLt⟩ ⟨(y 1).val, hy⟩ (by simp only; omega)
  rw [ht] at h'
  refine (congrArg (after 10 t) e).trans (h'.trans ((acc10 m c _ _).trans (congrArg _ ?_)))
  blk_ext [i0_10 t]

end Cert.BackwardIdeal.Own

end
-- ==== Proof.RefValue.lean ====
/- The reference's output arrays after its run, named; taken over from the generated value leg of its certificate. -/
module

public import proofs.«01_k».proof.Proof.Gen.BackwardRefIdeal.Frame
public import Idealize.ShloMosaic.Lib.Pipeline.Value

@[expose] public section

noncomputable section

namespace Cert.BackwardRefIdeal.Value

open Cert.BackwardRefIdeal Cert.BackwardRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t) (iblk m c 6 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S5120x64128.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t) (iblk m c 6 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S5120x4096.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t) (iblk m c 6 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S16x5120.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t) (iblk m c 6 t)) := by
  show (cfg0.win 10).cut (grid0.coords t) ((dats m 0 c).after 10 t) = _
  rw [after0_10]

/-- The index map sends distinct grid points to distinct block indices (decided over the 1 point). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S16x64512.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v3_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v3_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v3_2) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v3_3) = (dats m 0 c).arrAt 10 cfg0.N :=
  (h c).1 10

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 7 cfg0.N
      ∧ r.2.mem ((c : Thread nD τ).loc main_v3_1) = (dats m 0 c).arrAt 8 cfg0.N
      ∧ r.2.mem ((c : Thread nD τ).loc main_v3_2) = (dats m 0 c).arrAt 9 cfg0.N
      ∧ r.2.mem ((c : Thread nD τ).loc main_v3_3) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      post8 m r h c,
      post9 m r h c,
      post10 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.BackwardRefIdeal.Value

end
-- ==== Proof.RefArr.lean ====
/- The reference's four result arrays after its run, in closed form. -/
module

public import proofs.«01_k».proof.Proof.RefValue
public import proofs.«01_k».proof.Proof.BwdClosed
public import Idealize.ShloMosaic.Lib.Pipeline.ValueKit

@[expose] public section

set_option maxRecDepth 16384

noncomputable section

namespace Cert.BackwardRefIdeal.Own

open Idealize.ShloMosaic Idealize.ShloMosaic.TcCoe Idealize.ShloMosaic.Tactic
open Idealize.SL Idealize.SL.Sem
open Cert.BackwardRefIdeal Cert.BackwardRefIdeal.Gen Cert.Closed

variable (m : (ℓ : Loc nD τ sig) → Buf (Elt Ideal) ℓ)

def a0 (c : Dev nD) : Arr2 5120 64512 EReal := m ((c.tc : Thread nD τ).loc main_arg0)
def a1 (c : Dev nD) : Arr1 5120 EReal := m ((c.tc : Thread nD τ).loc main_arg1)
def a2 (c : Dev nD) : Arr1 5120 (BitVec 32) := m ((c.tc : Thread nD τ).loc main_arg2)
def a3 (c : Dev nD) : Arr2 64512 4096 EReal := m ((c.tc : Thread nD τ).loc main_arg3)
def a4 (c : Dev nD) : Arr2 64512 16 EReal := m ((c.tc : Thread nD τ).loc main_arg4)
def a5 (c : Dev nD) : Arr2 5120 16 EReal := m ((c.tc : Thread nD τ).loc main_arg5)
def a6 (c : Dev nD) : Arr1 1 EReal := m ((c.tc : Thread nD τ).loc main_arg6)

abbrev b0 (c : Dev nD) (t : Fin cfg0.N) : Vec Ideal S5120x64512 .f32 := iblk m c 0 t
abbrev b1 (c : Dev nD) (t : Fin cfg0.N) : Vec Ideal S5120x1 .f32 := iblk m c 1 t
abbrev b2 (c : Dev nD) (t : Fin cfg0.N) : Vec Ideal S5120x1 .i32 := iblk m c 2 t
abbrev b3 (c : Dev nD) (t : Fin cfg0.N) : Vec Ideal S64512x4096 .bf16 := iblk m c 3 t
abbrev b4 (c : Dev nD) (t : Fin cfg0.N) : Vec Ideal S64512x16 .bf16 := iblk m c 4 t
abbrev b5 (c : Dev nD) (t : Fin cfg0.N) : Vec Ideal S5120x16 .bf16 := iblk m c 5 t
abbrev b6 (c : Dev nD) (t : Fin cfg0.N) : Vec Ideal S1x1 .f32 := iblk m c 6 t

theorem i0_0 : ∀ t : Fin cfg0.N, win0_0.index t = ![0, 0] := (by decide +kernel : ∀ t : Fin grid0.N, _)
theorem i0_1 : ∀ t : Fin cfg0.N, win0_1.index t = ![0, 0] := (by decide +kernel : ∀ t : Fin grid0.N, _)
theorem i0_2 : ∀ t : Fin cfg0.N, win0_2.index t = ![0, 0] := (by decide +kernel : ∀ t : Fin grid0.N, _)
theorem i0_3 : ∀ t : Fin cfg0.N, win0_3.index t = ![0, 0] := (by decide +kernel : ∀ t : Fin grid0.N, _)
theorem i0_4 : ∀ t : Fin cfg0.N, win0_4.index t = ![0, 0] := (by decide +kernel : ∀ t : Fin grid0.N, _)
theorem i0_5 : ∀ t : Fin cfg0.N, win0_5.index t = ![0, 0] := (by decide +kernel : ∀ t : Fin grid0.N, _)
theorem i0_6 : ∀ t : Fin cfg0.N, win0_6.index t = ![0, 0] := (by decide +kernel : ∀ t : Fin grid0.N, _)
theorem i0_7 : ∀ t : Fin cfg0.N, win0_7.index t = ![0, 0] := (by decide +kernel : ∀ t : Fin grid0.N, _)
theorem i0_8 : ∀ t : Fin cfg0.N, win0_8.index t = ![0, 0] := (by decide +kernel : ∀ t : Fin grid0.N, _)
theorem i0_9 : ∀ t : Fin cfg0.N, win0_9.index t = ![0, 0] := (by decide +kernel : ∀ t : Fin grid0.N, _)
theorem i0_10 : ∀ t : Fin cfg0.N, win0_10.index t = ![0, 0] := (by decide +kernel : ∀ t : Fin grid0.N, _)

theorem b0_at (c : Dev nD) (t : Fin cfg0.N) (r : Fin 5120) (k : Fin 64512) : b0 m c t (ix2 r k) = a0 m c (ix2 r k) := by
  unfold a0
  blk_ext! [b0, iblk, V, i0_0 t]
theorem b1_at (c : Dev nD) (t : Fin cfg0.N) (r : Fin 5120) : b1 m c t (ix2 r 0) = a1 m c (ix1 r) := by
  unfold a1
  blk_ext! [b1, iblk, i0_1 t]
theorem b2_at (c : Dev nD) (t : Fin cfg0.N) (r : Fin 5120) : b2 m c t (ix2 r 0) = a2 m c (ix1 r) := by
  unfold a2
  blk_ext! [b2, iblk, i0_2 t]
theorem b3_at (c : Dev nD) (t : Fin cfg0.N) (k : Fin 64512) (d : Fin 4096) : b3 m c t (ix2 k d) = a3 m c (ix2 k d) := by
  unfold a3
  blk_ext! [b3, iblk, V, i0_3 t]
theorem b4_at (c : Dev nD) (t : Fin cfg0.N) (k : Fin 64512) (d : Fin 16) : b4 m c t (ix2 k d) = a4 m c (ix2 k d) := by
  unfold a4
  blk_ext! [b4, iblk, V, i0_4 t]
theorem b5_at (c : Dev nD) (t : Fin cfg0.N) (k : Fin 5120) (d : Fin 16) : b5 m c t (ix2 k d) = a5 m c (ix2 k d) := by
  unfold a5
  blk_ext! [b5, iblk, V, i0_5 t]
theorem b6_at (c : Dev nD) (t : Fin cfg0.N) : b6 m c t (ix2 0 0) = a6 m c (ix1 0) := by
  unfold a6
  blk_ext! [b6, iblk, i0_6 t]

theorem pay2_at (v1 : Vec Ideal S5120x1 .i32) (v5 : Vec Ideal S5120x64512 .f32) (v6 : Vec Ideal S5120x1 .f32) (v14 : Vec Ideal S1x1 .f32)
    (r : Fin 5120) (k : Fin 64512) :
    k0_pay2 v1 v5 v6 v14 (ix2 r k) = gF (v14 (ix2 0 0)) (v5 (ix2 r k)) (v6 (ix2 r 0)) (v1 (ix2 r 0)) k.val := by
  unfold k0_pay2 gF
  pointwise
  rw [Cert.BackwardIdeal.Own.hit_word]

theorem pay2_gv (c : Dev nD) (t : Fin cfg0.N) (r : Fin 5120) (k : Fin 64512) :
    k0_pay2 (b2 m c t) (b0 m c t) (b1 m c t) (b6 m c t) (ix2 r k) = gv (a0 m c) (a1 m c) (a2 m c) (a6 m c) r k := by
  rw [pay2_at, b0_at, b1_at, b2_at, b6_at]
  rfl

theorem pay4_at (c : Dev nD) (t : Fin cfg0.N) (y : S5120x64128.Idx) :
    k0_pay4 (b2 m c t) (b0 m c t) (b1 m c t) (b6 m c t) y = R7 (a0 m c) (a1 m c) (a2 m c) (a6 m c) y := by
  unfold k0_pay4 R7
  idx_vars y
  pointwise
  exact pay2_gv m c t _ _

theorem pay5_at (c : Dev nD) (t : Fin cfg0.N) (y : S5120x4096.Idx) :
    k0_pay5 (b2 m c t) (b0 m c t) (b1 m c t) (b6 m c t) (b3 m c t) y = R8 (a0 m c) (a1 m c) (a2 m c) (a3 m c) (a6 m c) y := by
  unfold k0_pay5 k0_pay3 R8
  idx_vars y
  pointwise
  simp only [pay2_gv, b3_at]

theorem pay6_at (c : Dev nD) (t : Fin cfg0.N) (y : S16x5120.Idx) :
    k0_pay6 (b2 m c t) (b0 m c t) (b1 m c t) (b6 m c t) (b4 m c t) y = R9 (a0 m c) (a1 m c) (a2 m c) (a4 m c) (a6 m c) y := by
  unfold k0_pay6 k0_pay3 R9
  idx_vars y
  pointwise
  simp only [pay2_gv, b4_at]

theorem pay1_at (c : Dev nD) (t : Fin cfg0.N) (y : S16x64512.Idx) :
    k0_pay1 (k0_pay3 (b2 m c t) (b0 m c t) (b1 m c t) (b6 m c t)) (b5 m c t) y = R10 (a0 m c) (a1 m c) (a2 m c) (a5 m c) (a6 m c) y := by
  unfold k0_pay1 k0_pay3 R10
  idx_vars y
  pointwise
  simp only [pay2_gv, b5_at]

theorem arr7 (c : Dev nD) : (dats m 0 c).arrAt 7 cfg0.N = R7 (a0 m c) (a1 m c) (a2 m c) (a6 m c) := by
  refine (dats m 0 c).arrAt_eq_of_covers 7 _ (by decide +kernel) fun t hf y => ?_
  blk_simp
  rw [after0_7]
  frame_out
  refine (pay4_at m c t y).trans (congrArg _ ?_)
  blk_ext [i0_7 t]

theorem arr8 (c : Dev nD) : (dats m 0 c).arrAt 8 cfg0.N = R8 (a0 m c) (a1 m c) (a2 m c) (a3 m c) (a6 m c) := by
  refine (dats m 0 c).arrAt_eq_of_covers 8 _ (by decide +kernel) fun t hf y => ?_
  blk_simp
  rw [after0_8]
  frame_out
  refine (pay5_at m c t y).trans (congrArg _ ?_)
  blk_ext [i0_8 t]

theorem arr9 (c : Dev nD) : (dats m 0 c).arrAt 9 cfg0.N = R9 (a0 m c) (a1 m c) (a2 m c) (a4 m c) (a6 m c) := by
  refine (dats m 0 c).arrAt_eq_of_covers 9 _ (by decide +kernel) fun t hf y => ?_
  blk_simp
  rw [after0_9]
  frame_out
  refine (pay6_at m c t y).trans (congrArg _ ?_)
  blk_ext [i0_9 t]

theorem arr10 (c : Dev nD) : (dats m 0 c).arrAt 10 cfg0.N = R10 (a0 m c) (a1 m c) (a2 m c) (a5 m c) (a6 m c) := by
  refine (dats m 0 c).arrAt_eq_of_covers 10 _ (by decide +kernel) fun t hf y => ?_
  blk_simp
  rw [after0_10]
  frame_out
  refine (pay1_at m c t y).trans (congrArg _ ?_)
  blk_ext [i0_10 t]

end Cert.BackwardRefIdeal.Own

end
-- ==== Proof.BwdSoundA.lean ====
/- The body's triple at the grid points of case A. -/
module

public import proofs.«01_k».proof.Proof.BwdVal

@[expose] public section

set_option maxRecDepth 16384

noncomputable section

namespace Cert.BackwardIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BackwardIdeal Cert.BackwardIdeal.Gen

local notation "𝕄" => MT nD τ sig Unit (Elt Ideal) ℕ (UR sig nD τ) ℕ

variable (m : (ℓ : Loc nD τ sig) → Buf (Elt Ideal) ℓ) (ρ : Dev nD → PrngReg)

set_option maxHeartbeats 3200000 in
theorem sound_A (c : Dev nD) (t : Fin cfg0.N) (h0 : t.val % 63 = 0) (h1 : t.val < 63) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, %hd7, H7⟩, ⟨%d8, %hd8, H8⟩, ⟨%d9, %hd9, H9⟩, ⟨%d10, %hd10, H10⟩⟩
  iapply ((bodyRun_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) ((hcond0_1 t).mpr h1) (b0 m c t) (b1 m c t) (b2 m c t) (b3 m c t) (b4 m c t) (b5 m c t) (b6 m c t) d8 d9 d10).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexact H10
  iintro ⟨H0, H1, H2, H3, H4, H5, H6, ⟨%f7, H7⟩, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  have hp7 : P7 m c t _ := fun r k => read7_A c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) ((hcond0_0 t).mpr h0) ((hcond0_1 t).mpr h1) (b0 m c t) (b1 m c t) (b2 m c t) (b3 m c t) (b4 m c t) (b5 m c t) (b6 m c t) d8 d9 d10 f7 r k
  have hp8 : P8 m c t _ := new8 m c t h0 _ fun p q => read8_A c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) ((hcond0_0 t).mpr h0) ((hcond0_1 t).mpr h1) (b0 m c t) (b1 m c t) (b2 m c t) (b3 m c t) (b4 m c t) (b5 m c t) (b6 m c t) d8 d9 d10 ((hs0_8 t).unread d8) p q
  have hp9 : P9 m c t _ := new9 m c t h0 _ fun p q => read9_A c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) ((hcond0_0 t).mpr h0) ((hcond0_1 t).mpr h1) (b0 m c t) (b1 m c t) (b2 m c t) (b3 m c t) (b4 m c t) (b5 m c t) (b6 m c t) d8 d9 d10 ((hs0_9 t).unread d9) p q
  have hp10 : P10 m c t _ := step10 m c t d10 _ (fun h => found10 m c t h d10 hd10) (fun _ _ => 0) (fun _ _ => (if_pos h1).symm) (fun a k hk => read10_A c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) ((hcond0_0 t).mpr h0) ((hcond0_1 t).mpr h1) (b0 m c t) (b1 m c t) (b2 m c t) (b3 m c t) (b4 m c t) (b5 m c t) (b6 m c t) d8 d9 d10 ((hs0_10 t).unread d10) a k hk) (fun a y hy => keep10_A c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) ((hcond0_0 t).mpr h0) ((hcond0_1 t).mpr h1) (b0 m c t) (b1 m c t) (b2 m c t) (b3 m c t) (b4 m c t) (b5 m c t) (b6 m c t) d8 d9 d10 a y hy)
  isplitl [H7]
  · iexists _; isplitr; · ipureintro; exact hp7
    unfold owns; iexists _; isplitr; · ipureintro; rfl
    iexact H7
  isplitl [H8]
  · iexists _; isplitr; · ipureintro; exact hp8
    unfold owns; iexists _; isplitr; · ipureintro; rfl
    iexact H8
  isplitl [H9]
  · iexists _; isplitr; · ipureintro; exact hp9
    unfold owns; iexists _; isplitr; · ipureintro; rfl
    iexact H9
  iexists _; isplitr; · ipureintro; exact hp10
  unfold owns; iexists _; isplitr; · ipureintro; rfl
  iexact H10

end Cert.BackwardIdeal.Own

end
-- ==== Proof.BwdSoundB.lean ====
/- The body's triple at the grid points of case B. -/
module

public import proofs.«01_k».proof.Proof.BwdVal

@[expose] public section

set_option maxRecDepth 16384

noncomputable section

namespace Cert.BackwardIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BackwardIdeal Cert.BackwardIdeal.Gen

local notation "𝕄" => MT nD τ sig Unit (Elt Ideal) ℕ (UR sig nD τ) ℕ

variable (m : (ℓ : Loc nD τ sig) → Buf (Elt Ideal) ℓ) (ρ : Dev nD → PrngReg)

set_option maxHeartbeats 3200000 in
theorem sound_B (c : Dev nD) (t : Fin cfg0.N) (h0 : ¬ t.val % 63 = 0) (h1 : t.val < 63) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, %hd7, H7⟩, ⟨%d8, %hd8, H8⟩, ⟨%d9, %hd9, H9⟩, ⟨%d10, %hd10, H10⟩⟩
  iapply ((bodyRun_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) ((hcond0_1 t).mpr h1) (b0 m c t) (b1 m c t) (b2 m c t) (b3 m c t) (b4 m c t) (b5 m c t) (b6 m c t) d8 d9 d10).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexact H10
  iintro ⟨H0, H1, H2, H3, H4, H5, H6, ⟨%f7, H7⟩, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  have hp7 : P7 m c t _ := fun r k => read7_B c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) (fun h => h0 ((hcond0_0 t).mp h)) ((hcond0_1 t).mpr h1) (b0 m c t) (b1 m c t) (b2 m c t) (b3 m c t) (b4 m c t) (b5 m c t) (b6 m c t) d8 d9 d10 f7 r k
  have hp8 : P8 m c t _ := step8 m c t h0 d8 _ (found8 m c t h0 d8 hd8) fun p q => read8_B c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) (fun h => h0 ((hcond0_0 t).mp h)) ((hcond0_1 t).mpr h1) (b0 m c t) (b1 m c t) (b2 m c t) (b3 m c t) (b4 m c t) (b5 m c t) (b6 m c t) d8 d9 d10 ((hs0_8 t).unread d8) p q
  have hp9 : P9 m c t _ := step9 m c t h0 d9 _ (found9 m c t h0 d9 hd9) fun p q => read9_B c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) (fun h => h0 ((hcond0_0 t).mp h)) ((hcond0_1 t).mpr h1) (b0 m c t) (b1 m c t) (b2 m c t) (b3 m c t) (b4 m c t) (b5 m c t) (b6 m c t) d8 d9 d10 ((hs0_9 t).unread d9) p q
  have hp10 : P10 m c t _ := step10 m c t d10 _ (fun h => found10 m c t h d10 hd10) (fun _ _ => 0) (fun _ _ => (if_pos h1).symm) (fun a k hk => read10_B c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) (fun h => h0 ((hcond0_0 t).mp h)) ((hcond0_1 t).mpr h1) (b0 m c t) (b1 m c t) (b2 m c t) (b3 m c t) (b4 m c t) (b5 m c t) (b6 m c t) d8 d9 d10 ((hs0_10 t).unread d10) a k hk) (fun a y hy => keep10_B c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) (fun h => h0 ((hcond0_0 t).mp h)) ((hcond0_1 t).mpr h1) (b0 m c t) (b1 m c t) (b2 m c t) (b3 m c t) (b4 m c t) (b5 m c t) (b6 m c t) d8 d9 d10 a y hy)
  isplitl [H7]
  · iexists _; isplitr; · ipureintro; exact hp7
    unfold owns; iexists _; isplitr; · ipureintro; rfl
    iexact H7
  isplitl [H8]
  · iexists _; isplitr; · ipureintro; exact hp8
    unfold owns; iexists _; isplitr; · ipureintro; rfl
    iexact H8
  isplitl [H9]
  · iexists _; isplitr; · ipureintro; exact hp9
    unfold owns; iexists _; isplitr; · ipureintro; rfl
    iexact H9
  iexists _; isplitr; · ipureintro; exact hp10
  unfold owns; iexists _; isplitr; · ipureintro; rfl
  iexact H10

end Cert.BackwardIdeal.Own

end
-- ==== Proof.BwdSoundC.lean ====
/- The body's triple at the grid points of case C. -/
module

public import proofs.«01_k».proof.Proof.BwdVal

@[expose] public section

set_option maxRecDepth 16384

noncomputable section

namespace Cert.BackwardIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BackwardIdeal Cert.BackwardIdeal.Gen

local notation "𝕄" => MT nD τ sig Unit (Elt Ideal) ℕ (UR sig nD τ) ℕ

variable (m : (ℓ : Loc nD τ sig) → Buf (Elt Ideal) ℓ) (ρ : Dev nD → PrngReg)

set_option maxHeartbeats 3200000 in
theorem sound_C (c : Dev nD) (t : Fin cfg0.N) (h0 : t.val % 63 = 0) (h1 : ¬ t.val < 63) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, %hd7, H7⟩, ⟨%d8, %hd8, H8⟩, ⟨%d9, %hd9, H9⟩, ⟨%d10, %hd10, H10⟩⟩
  iapply ((bodyRun_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (fun h => h1 ((hcond0_1 t).mp h)) (b0 m c t) (b1 m c t) (b2 m c t) (b3 m c t) (b4 m c t) (b5 m c t) (b6 m c t) d8 d9 d10).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexact H10
  iintro ⟨H0, H1, H2, H3, H4, H5, H6, ⟨%f7, H7⟩, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  have hp7 : P7 m c t _ := fun r k => read7_C c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) ((hcond0_0 t).mpr h0) (fun h => h1 ((hcond0_1 t).mp h)) (b0 m c t) (b1 m c t) (b2 m c t) (b3 m c t) (b4 m c t) (b5 m c t) (b6 m c t) d8 d9 d10 f7 r k
  have hp8 : P8 m c t _ := new8 m c t h0 _ fun p q => read8_C c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) ((hcond0_0 t).mpr h0) (fun h => h1 ((hcond0_1 t).mp h)) (b0 m c t) (b1 m c t) (b2 m c t) (b3 m c t) (b4 m c t) (b5 m c t) (b6 m c t) d8 d9 d10 ((hs0_8 t).unread d8) p q
  have hp9 : P9 m c t _ := new9 m c t h0 _ fun p q => read9_C c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) ((hcond0_0 t).mpr h0) (fun h => h1 ((hcond0_1 t).mp h)) (b0 m c t) (b1 m c t) (b2 m c t) (b3 m c t) (b4 m c t) (b5 m c t) (b6 m c t) d8 d9 d10 ((hs0_9 t).unread d9) p q
  have hp10 : P10 m c t _ := step10 m c t d10 _ (fun h => found10 m c t h d10 hd10) (fun a y => (d10 : Vec Ideal S16x64512 .f32) (ix2 a y)) (fun _ _ => (if_neg h1).symm) (fun a k hk => read10_C c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) ((hcond0_0 t).mpr h0) (fun h => h1 ((hcond0_1 t).mp h)) (b0 m c t) (b1 m c t) (b2 m c t) (b3 m c t) (b4 m c t) (b5 m c t) (b6 m c t) d8 d9 d10 ((hs0_10 t).unread d10) a k hk) (fun a y hy => keep10_C c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) ((hcond0_0 t).mpr h0) (fun h => h1 ((hcond0_1 t).mp h)) (b0 m c t) (b1 m c t) (b2 m c t) (b3 m c t) (b4 m c t) (b5 m c t) (b6 m c t) d8 d9 d10 a y hy)
  isplitl [H7]
  · iexists _; isplitr; · ipureintro; exact hp7
    unfold owns; iexists _; isplitr; · ipureintro; rfl
    iexact H7
  isplitl [H8]
  · iexists _; isplitr; · ipureintro; exact hp8
    unfold owns; iexists _; isplitr; · ipureintro; rfl
    iexact H8
  isplitl [H9]
  · iexists _; isplitr; · ipureintro; exact hp9
    unfold owns; iexists _; isplitr; · ipureintro; rfl
    iexact H9
  iexists _; isplitr; · ipureintro; exact hp10
  unfold owns; iexists _; isplitr; · ipureintro; rfl
  iexact H10

end Cert.BackwardIdeal.Own

end
-- ==== Proof.BwdSoundD.lean ====
/- The body's triple at the grid points of case D. -/
module

public import proofs.«01_k».proof.Proof.BwdVal

@[expose] public section

set_option maxRecDepth 16384

noncomputable section

namespace Cert.BackwardIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BackwardIdeal Cert.BackwardIdeal.Gen

local notation "𝕄" => MT nD τ sig Unit (Elt Ideal) ℕ (UR sig nD τ) ℕ

variable (m : (ℓ : Loc nD τ sig) → Buf (Elt Ideal) ℓ) (ρ : Dev nD → PrngReg)

set_option maxHeartbeats 3200000 in
theorem sound_D (c : Dev nD) (t : Fin cfg0.N) (h0 : ¬ t.val % 63 = 0) (h1 : ¬ t.val < 63) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, %hd7, H7⟩, ⟨%d8, %hd8, H8⟩, ⟨%d9, %hd9, H9⟩, ⟨%d10, %hd10, H10⟩⟩
  iapply ((bodyRun_D (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (fun h => h1 ((hcond0_1 t).mp h)) (b0 m c t) (b1 m c t) (b2 m c t) (b3 m c t) (b4 m c t) (b5 m c t) (b6 m c t) d8 d9 d10).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexact H10
  iintro ⟨H0, H1, H2, H3, H4, H5, H6, ⟨%f7, H7⟩, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  have hp7 : P7 m c t _ := fun r k => read7_D c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) (fun h => h0 ((hcond0_0 t).mp h)) (fun h => h1 ((hcond0_1 t).mp h)) (b0 m c t) (b1 m c t) (b2 m c t) (b3 m c t) (b4 m c t) (b5 m c t) (b6 m c t) d8 d9 d10 f7 r k
  have hp8 : P8 m c t _ := step8 m c t h0 d8 _ (found8 m c t h0 d8 hd8) fun p q => read8_D c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) (fun h => h0 ((hcond0_0 t).mp h)) (fun h => h1 ((hcond0_1 t).mp h)) (b0 m c t) (b1 m c t) (b2 m c t) (b3 m c t) (b4 m c t) (b5 m c t) (b6 m c t) d8 d9 d10 ((hs0_8 t).unread d8) p q
  have hp9 : P9 m c t _ := step9 m c t h0 d9 _ (found9 m c t h0 d9 hd9) fun p q => read9_D c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) (fun h => h0 ((hcond0_0 t).mp h)) (fun h => h1 ((hcond0_1 t).mp h)) (b0 m c t) (b1 m c t) (b2 m c t) (b3 m c t) (b4 m c t) (b5 m c t) (b6 m c t) d8 d9 d10 ((hs0_9 t).unread d9) p q
  have hp10 : P10 m c t _ := step10 m c t d10 _ (fun h => found10 m c t h d10 hd10) (fun a y => (d10 : Vec Ideal S16x64512 .f32) (ix2 a y)) (fun _ _ => (if_neg h1).symm) (fun a k hk => read10_D c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) (fun h => h0 ((hcond0_0 t).mp h)) (fun h => h1 ((hcond0_1 t).mp h)) (b0 m c t) (b1 m c t) (b2 m c t) (b3 m c t) (b4 m c t) (b5 m c t) (b6 m c t) d8 d9 d10 ((hs0_10 t).unread d10) a k hk) (fun a y hy => keep10_D c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) (fun h => h0 ((hcond0_0 t).mp h)) (fun h => h1 ((hcond0_1 t).mp h)) (b0 m c t) (b1 m c t) (b2 m c t) (b3 m c t) (b4 m c t) (b5 m c t) (b6 m c t) d8 d9 d10 a y hy)
  isplitl [H7]
  · iexists _; isplitr; · ipureintro; exact hp7
    unfold owns; iexists _; isplitr; · ipureintro; rfl
    iexact H7
  isplitl [H8]
  · iexists _; isplitr; · ipureintro; exact hp8
    unfold owns; iexists _; isplitr; · ipureintro; rfl
    iexact H8
  isplitl [H9]
  · iexists _; isplitr; · ipureintro; exact hp9
    unfold owns; iexists _; isplitr; · ipureintro; rfl
    iexact H9
  iexists _; isplitr; · ipureintro; exact hp10
  unfold owns; iexists _; isplitr; · ipureintro; rfl
  iexact H10

end Cert.BackwardIdeal.Own

end
-- ==== Proof.BwdCert.lean ====
/- The backward pipeline's run, whole: its results in closed form, its arguments unchanged, its semaphores back at zero. -/
module

public import proofs.«01_k».proof.Proof.BwdArr
public import proofs.«01_k».proof.Proof.RefArr
public import proofs.«01_k».proof.Proof.BwdSoundA
public import proofs.«01_k».proof.Proof.BwdSoundB
public import proofs.«01_k».proof.Proof.BwdSoundC
public import proofs.«01_k».proof.Proof.BwdSoundD

@[expose] public section

set_option maxRecDepth 16384

noncomputable section

namespace Cert.BackwardIdeal.Own

open Idealize.ShloMosaic Idealize.ShloMosaic.TcCoe Idealize.ShloMosaic.Tactic
open Idealize.SL Idealize.SL.Sem
open Cert.BackwardIdeal Cert.BackwardIdeal.Gen Cert.Closed

variable (m : (ℓ : Loc nD τ sig) → Buf (Elt Ideal) ℓ) (ρ : Dev nD → PrngReg)

/-- The body's triple at every point: by the case the point is. -/
theorem sound : Sound m := fun c t => by
  by_cases h0 : t.val % 63 = 0
  · by_cases h1 : t.val < 63
    · exact sound_A m c t h0 h1
    · exact sound_C m c t h0 h1
  · by_cases h1 : t.val < 63
    · exact sound_B m c t h0 h1
    · exact sound_D m c t h0 h1

/-- The results after the run. -/
theorem results : θ_run defs (onTc (τ := τ) (main (F := Ideal))) ⟨m, fun _ => 0, ρ⟩ (fun r => ∀ c : Dev nD,
      r.2.mem ((c.tc : Thread nD τ).loc main_v9_0) = R7 (a0 m c) (a1 m c) (a2 m c) (a6 m c)
      ∧ r.2.mem ((c.tc : Thread nD τ).loc main_v9_1) = R8 (a0 m c) (a1 m c) (a2 m c) (a3 m c) (a6 m c)
      ∧ r.2.mem ((c.tc : Thread nD τ).loc main_v9_2) = R9 (a0 m c) (a1 m c) (a2 m c) (a4 m c) (a6 m c)
      ∧ r.2.mem ((c.tc : Thread nD τ).loc main_v9_3) = R10 (a0 m c) (a1 m c) (a2 m c) (a5 m c) (a6 m c)) :=
  (θ_run defs _ _).mono (fun r h c => by
    obtain ⟨after, hL, hA⟩ := h.1.exists_exact c
    exact ⟨(hA 7).trans (arr7 m c after fun u hf => hL 7 u hf), (hA 8).trans (arr8 m c after fun u hf => hL 8 u hf),
      (hA 9).trans (arr9 m c after fun u hf => hL 9 u hf), (hA 10).trans (arr10 m c after fun u hf => hL 10 u hf)⟩)
    (run_main_quiescent m ρ (sound m))

/-- The results and the arguments after the run. -/
theorem run : θ_run defs (onTc (τ := τ) (main (F := Ideal))) ⟨m, fun _ => 0, ρ⟩ (fun r => ∀ c : Dev nD,
      r.2.mem ((c.tc : Thread nD τ).loc main_v9_0) = R7 (a0 m c) (a1 m c) (a2 m c) (a6 m c)
      ∧ r.2.mem ((c.tc : Thread nD τ).loc main_v9_1) = R8 (a0 m c) (a1 m c) (a2 m c) (a3 m c) (a6 m c)
      ∧ r.2.mem ((c.tc : Thread nD τ).loc main_v9_2) = R9 (a0 m c) (a1 m c) (a2 m c) (a4 m c) (a6 m c)
      ∧ r.2.mem ((c.tc : Thread nD τ).loc main_v9_3) = R10 (a0 m c) (a1 m c) (a2 m c) (a5 m c) (a6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.1 c).1, (h.1 c).2.1, (h.1 c).2.2.1, (h.1 c).2.2.2, h.2 c⟩)
    (θ_run_and (results m ρ) (unchanged m ρ (sound m)))

/-- The frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := frame_of_sound m ρ (sound m)

end Cert.BackwardIdeal.Own

namespace Cert.BackwardRefIdeal.Own

open Idealize.ShloMosaic Idealize.ShloMosaic.TcCoe Idealize.ShloMosaic.Tactic
open Idealize.SL Idealize.SL.Sem
open Cert.BackwardRefIdeal Cert.BackwardRefIdeal.Gen Cert.Closed

variable (m : (ℓ : Loc nD τ sig) → Buf (Elt Ideal) ℓ) (ρ : Dev nD → PrngReg)

/-- The reference's results and arguments after its run. -/
theorem run : θ_run defs (onTc (τ := τ) (main (F := Ideal))) ⟨m, fun _ => 0, ρ⟩ (fun r => ∀ c : Dev nD,
      r.2.mem ((c.tc : Thread nD τ).loc main_v3_0) = R7 (a0 m c) (a1 m c) (a2 m c) (a6 m c)
      ∧ r.2.mem ((c.tc : Thread nD τ).loc main_v3_1) = R8 (a0 m c) (a1 m c) (a2 m c) (a3 m c) (a6 m c)
      ∧ r.2.mem ((c.tc : Thread nD τ).loc main_v3_2) = R9 (a0 m c) (a1 m c) (a2 m c) (a4 m c) (a6 m c)
      ∧ r.2.mem ((c.tc : Thread nD τ).loc main_v3_3) = R10 (a0 m c) (a1 m c) (a2 m c) (a5 m c) (a6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (arr7 m c), (h c).2.1.trans (arr8 m c), (h c).2.2.1.trans (arr9 m c),
    (h c).2.2.2.1.trans (arr10 m c), (h c).2.2.2.2⟩) (Cert.BackwardRefIdeal.Value.run_blocks m ρ)

end Cert.BackwardRefIdeal.Own

end
-- ==== Proof.ForwardRuns.lean ====
/- The branch conditions of the forward body in closed form, and the staging memrefs by name. -/
module

public import proofs.«01_k».proof.Proof.Gen.Forward.Launch
public import proofs.«01_k».proof.Proof.Gen.Forward.Skeleton
public import proofs.«01_k».proof.Proof.Gen.Forward.Points
public import proofs.«01_k».proof.Proof.Gen.Forward.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 65536

noncomputable section

namespace Cert.Forward.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Forward Cert.Forward.Gen

variable {F : FTy → Type} [FloatOps F]

/-! ## The body's branch conditions -/

/-- The condition of the body's first conditional (the first vocabulary block of a row block), from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 63 = 0 :=
  (fun t => by
    have ht : t.val < 252 := Nat.lt_of_lt_of_eq t.isLt N_0
    have e1 : (grid0.coords t 1).val = t.val / 1 % 63 := Pipeline.Grid.coords_val t 1 (by decide) rfl
    simp only [cond0_0, e1]
    word_cmp
   : ∀ t : Fin grid0.N, cond0_0 (grid0.coords t) ↔ t.val % 63 = 0)

/-- The condition of the second conditional (the last vocabulary block), from the grid coordinates. -/
abbrev cond0_1 (i : grid0.Coords) : Prop := k0_cond2 i = 1#1
theorem hcond0_1 : ∀ t : Fin cfg0.N, cond0_1 (grid0.coords t) ↔ t.val % 63 = 62 :=
  (fun t => by
    have ht : t.val < 252 := Nat.lt_of_lt_of_eq t.isLt N_0
    have e1 : (grid0.coords t 1).val = t.val / 1 % 63 := Pipeline.Grid.coords_val t 1 (by decide) rfl
    simp only [cond0_1, k0_cond2, e1]
    word_cmp
   : ∀ t : Fin grid0.N, cond0_1 (grid0.coords t) ↔ t.val % 63 = 62)

/-! ## The staging memrefs -/

abbrev ms0_0 (t : Fin cfg0.N) : Memref sig .tc .vmem S1280x4096 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x4096 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1280x16 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1280x128 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x4096 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x4096 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S16x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1280x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x4096 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1280x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1280x128 .f32 := win0_14.stage (cfg0.slots t 14)
abbrev hs0_14 (t : Fin cfg0.N) : (ms0_14 t).IsWhole := hstage0_14 ((cfg0.slots t 14).cast nbuf0_14)

end Cert.Forward.Own

end
-- ==== Proof.ForwardRunA.lean ====
/- The forward body run in case A of its two conditionals. -/
module

public import proofs.«01_k».proof.Proof.ForwardRuns

@[expose] public section

set_option maxRecDepth 65536

noncomputable section

namespace Cert.Forward.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Forward Cert.Forward.Gen

variable {F : FTy → Type} [FloatOps F]

local notation "𝕄" => MT nD τ sig Unit (Elt F) ℕ (UR sig nD τ) ℕ

set_option maxHeartbeats 16000000 in
/-- The body's triple in the case `cond0_0 i`, `¬ cond0_1 i`: the inputs are handed back as they were, each buffer stored to with the
    pieces the run stored (`L11` the logits, `L12` the cast weights, `L13` and `L14` the row results at the last block, `L15` … `L20` the running states). -/
noncomputable def bodyRun_A (c : Dev nD) (i : grid0.Coords) (arg2 : Memref sig .tc .vmem S1280x4096 .fp8e4m3) (harg2 : arg2.IsWhole) (arg3 : Memref sig .tc .vmem S1280x4096 .fp8e4m3) (harg3 : arg3.IsWhole) (arg4 : Memref sig .tc .vmem S1280x128 .f32) (harg4 : arg4.IsWhole) (arg5 : Memref sig .tc .vmem S1280x128 .f32) (harg5 : arg5.IsWhole) (arg6 : Memref sig .tc .vmem S1280x16 .bf16) (harg6 : arg6.IsWhole) (arg7 : Memref sig .tc .vmem S1280x128 .i32) (harg7 : arg7.IsWhole) (arg8 : Memref sig .tc .vmem S1024x4096 .fp8e4m3) (harg8 : arg8.IsWhole) (arg9 : Memref sig .tc .vmem S1x1024 .f32) (harg9 : arg9.IsWhole) (arg10 : Memref sig .tc .vmem S256x4096 .fp8e4m3) (harg10 : arg10.IsWhole) (arg11 : Memref sig .tc .vmem S1x256 .f32) (harg11 : arg11.IsWhole) (arg12 : Memref sig .tc .vmem S16x1024 .bf16) (harg12 : arg12.IsWhole) (arg13 : Memref sig .tc .vmem S1280x1024 .f32) (harg13 : arg13.IsWhole) (arg14 : Memref sig .tc .vmem S256x4096 .bf16) (harg14 : arg14.IsWhole) (arg15 : Memref sig .tc .vmem S1280x128 .f32) (harg15 : arg15.IsWhole) (arg16 : Memref sig .tc .vmem S1280x128 .f32) (harg16 : arg16.IsWhole) (arg17 : Memref sig .tc .vmem S1280x128 .f32) (harg17 : arg17.IsWhole) (arg18 : Memref sig .tc .vmem S1280x128 .f32) (harg18 : arg18.IsWhole) (arg19 : Memref sig .tc .vmem S1280x128 .f32) (harg19 : arg19.IsWhole) (arg20 : Memref sig .tc .vmem S1280x128 .f32) (harg20 : arg20.IsWhole) (arg21 : Memref sig .tc .vmem S1280x128 .f32) (harg21 : arg21.IsWhole) (arg22 : Memref sig .tc .vmem S1280x128 .f32) (harg22 : arg22.IsWhole)
    (hc0 : cond0_0 i) (hc1 : ¬ cond0_1 i)
    (x0 : Vec F S1280x4096 .fp8e4m3) (x1 : Vec F S1280x4096 .fp8e4m3) (x2 : Vec F S1280x128 .f32) (x3 : Vec F S1280x128 .f32) (x4 : Vec F S1280x16 .bf16) (x5 : Vec F S1280x128 .i32) (x6 : Vec F S1024x4096 .fp8e4m3) (x7 : Vec F S1x1024 .f32) (x8 : Vec F S256x4096 .fp8e4m3) (x9 : Vec F S1x256 .f32) (x10 : Vec F S16x1024 .bf16) (x15 : Vec F S1280x128 .f32) (x16 : Vec F S1280x128 .f32) (x17 : Vec F S1280x128 .f32) (x18 : Vec F S1280x128 .f32) (x19 : Vec F S1280x128 .f32) (x20 : Vec F S1280x128 .f32) :
    Σ' (L11 : List (View.Piece (Elt F) S1280x1024 .f32)), Σ' (L12 : List (View.Piece (Elt F) S256x4096 .bf16)), Σ' (L15 : List (View.Piece (Elt F) S1280x128 .f32)), Σ' (L16 : List (View.Piece (Elt F) S1280x128 .f32)), Σ' (L17 : List (View.Piece (Elt F) S1280x128 .f32)), Σ' (L18 : List (View.Piece (Elt F) S1280x128 .f32)), Σ' (L19 : List (View.Piece (Elt F) S1280x128 .f32)), { L20 : List (View.Piece (Elt F) S1280x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (arg17.view.loc (c : Thread nD τ) ↦[arg17.view.set]{fullShare} arg17.view.writes (Elt F) (harg17.unread x15) L15) ∗ (arg18.view.loc (c : Thread nD τ) ↦[arg18.view.set]{fullShare} arg18.view.writes (Elt F) (harg18.unread x16) L16) ∗ (arg19.view.loc (c : Thread nD τ) ↦[arg19.view.set]{fullShare} arg19.view.writes (Elt F) (harg19.unread x17) L17) ∗ (arg20.view.loc (c : Thread nD τ) ↦[arg20.view.set]{fullShare} arg20.view.writes (Elt F) (harg20.unread x18) L18) ∗ (arg21.view.loc (c : Thread nD τ) ↦[arg21.view.set]{fullShare} arg21.view.writes (Elt F) (harg21.unread x19) L19) ∗ (arg22.view.loc (c : Thread nD τ) ↦[arg22.view.set]{fullShare} arg22.view.writes (Elt F) (harg22.unread x20) L20)) -∗ K ⟨⟩))
          ⊢ wp frame (wpE (defs₀ (F := F)) Variants.none c none) E (cc0_forward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, fun E K => ?run⟩
  case run =>
    simp only [cc0_forward_eq_skeleton]; unfold cc0_forward_skel
    simp only [k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg17.eq_unread hf15; obtain rfl := harg18.eq_unread hf16; obtain rfl := harg19.eq_unread hf17; obtain rfl := harg20.eq_unread hf18; obtain rfl := harg21.eq_unread hf19; obtain rfl := harg22.eq_unread hf20
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; iexact H11
    isplitl [H12]
    · iexists _; iexact H12
    isplitl [H15]
    · iexact H15
    isplitl [H16]
    · iexact H16
    isplitl [H17]
    · iexact H17
    isplitl [H18]
    · iexact H18
    isplitl [H19]
    · iexact H19
    iexact H20

end Cert.Forward.Own

end
-- ==== Proof.ForwardRunB.lean ====
/- The forward body run in case B of its two conditionals. -/
module

public import proofs.«01_k».proof.Proof.ForwardRuns

@[expose] public section

set_option maxRecDepth 65536

noncomputable section

namespace Cert.Forward.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Forward Cert.Forward.Gen

variable {F : FTy → Type} [FloatOps F]

local notation "𝕄" => MT nD τ sig Unit (Elt F) ℕ (UR sig nD τ) ℕ

set_option maxHeartbeats 16000000 in
/-- The body's triple in the case `¬ cond0_0 i`, `¬ cond0_1 i`: the inputs are handed back as they were, each buffer stored to with the
    pieces the run stored (`L11` the logits, `L12` the cast weights, `L13` and `L14` the row results at the last block, `L15` … `L20` the running states). -/
noncomputable def bodyRun_B (c : Dev nD) (i : grid0.Coords) (arg2 : Memref sig .tc .vmem S1280x4096 .fp8e4m3) (harg2 : arg2.IsWhole) (arg3 : Memref sig .tc .vmem S1280x4096 .fp8e4m3) (harg3 : arg3.IsWhole) (arg4 : Memref sig .tc .vmem S1280x128 .f32) (harg4 : arg4.IsWhole) (arg5 : Memref sig .tc .vmem S1280x128 .f32) (harg5 : arg5.IsWhole) (arg6 : Memref sig .tc .vmem S1280x16 .bf16) (harg6 : arg6.IsWhole) (arg7 : Memref sig .tc .vmem S1280x128 .i32) (harg7 : arg7.IsWhole) (arg8 : Memref sig .tc .vmem S1024x4096 .fp8e4m3) (harg8 : arg8.IsWhole) (arg9 : Memref sig .tc .vmem S1x1024 .f32) (harg9 : arg9.IsWhole) (arg10 : Memref sig .tc .vmem S256x4096 .fp8e4m3) (harg10 : arg10.IsWhole) (arg11 : Memref sig .tc .vmem S1x256 .f32) (harg11 : arg11.IsWhole) (arg12 : Memref sig .tc .vmem S16x1024 .bf16) (harg12 : arg12.IsWhole) (arg13 : Memref sig .tc .vmem S1280x1024 .f32) (harg13 : arg13.IsWhole) (arg14 : Memref sig .tc .vmem S256x4096 .bf16) (harg14 : arg14.IsWhole) (arg15 : Memref sig .tc .vmem S1280x128 .f32) (harg15 : arg15.IsWhole) (arg16 : Memref sig .tc .vmem S1280x128 .f32) (harg16 : arg16.IsWhole) (arg17 : Memref sig .tc .vmem S1280x128 .f32) (harg17 : arg17.IsWhole) (arg18 : Memref sig .tc .vmem S1280x128 .f32) (harg18 : arg18.IsWhole) (arg19 : Memref sig .tc .vmem S1280x128 .f32) (harg19 : arg19.IsWhole) (arg20 : Memref sig .tc .vmem S1280x128 .f32) (harg20 : arg20.IsWhole) (arg21 : Memref sig .tc .vmem S1280x128 .f32) (harg21 : arg21.IsWhole) (arg22 : Memref sig .tc .vmem S1280x128 .f32) (harg22 : arg22.IsWhole)
    (hc0 : ¬ cond0_0 i) (hc1 : ¬ cond0_1 i)
    (x0 : Vec F S1280x4096 .fp8e4m3) (x1 : Vec F S1280x4096 .fp8e4m3) (x2 : Vec F S1280x128 .f32) (x3 : Vec F S1280x128 .f32) (x4 : Vec F S1280x16 .bf16) (x5 : Vec F S1280x128 .i32) (x6 : Vec F S1024x4096 .fp8e4m3) (x7 : Vec F S1x1024 .f32) (x8 : Vec F S256x4096 .fp8e4m3) (x9 : Vec F S1x256 .f32) (x10 : Vec F S16x1024 .bf16) (x15 : Vec F S1280x128 .f32) (x16 : Vec F S1280x128 .f32) (x17 : Vec F S1280x128 .f32) (x18 : Vec F S1280x128 .f32) (x19 : Vec F S1280x128 .f32) (x20 : Vec F S1280x128 .f32) :
    Σ' (L11 : List (View.Piece (Elt F) S1280x1024 .f32)), Σ' (L12 : List (View.Piece (Elt F) S256x4096 .bf16)), Σ' (L15 : List (View.Piece (Elt F) S1280x128 .f32)), Σ' (L16 : List (View.Piece (Elt F) S1280x128 .f32)), Σ' (L17 : List (View.Piece (Elt F) S1280x128 .f32)), Σ' (L18 : List (View.Piece (Elt F) S1280x128 .f32)), Σ' (L19 : List (View.Piece (Elt F) S1280x128 .f32)), { L20 : List (View.Piece (Elt F) S1280x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (arg17.view.loc (c : Thread nD τ) ↦[arg17.view.set]{fullShare} arg17.view.writes (Elt F) (harg17.unread x15) L15) ∗ (arg18.view.loc (c : Thread nD τ) ↦[arg18.view.set]{fullShare} arg18.view.writes (Elt F) (harg18.unread x16) L16) ∗ (arg19.view.loc (c : Thread nD τ) ↦[arg19.view.set]{fullShare} arg19.view.writes (Elt F) (harg19.unread x17) L17) ∗ (arg20.view.loc (c : Thread nD τ) ↦[arg20.view.set]{fullShare} arg20.view.writes (Elt F) (harg20.unread x18) L18) ∗ (arg21.view.loc (c : Thread nD τ) ↦[arg21.view.set]{fullShare} arg21.view.writes (Elt F) (harg21.unread x19) L19) ∗ (arg22.view.loc (c : Thread nD τ) ↦[arg22.view.set]{fullShare} arg22.view.writes (Elt F) (harg22.unread x20) L20)) -∗ K ⟨⟩))
          ⊢ wp frame (wpE (defs₀ (F := F)) Variants.none c none) E (cc0_forward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, fun E K => ?run⟩
  case run =>
    simp only [cc0_forward_eq_skeleton]; unfold cc0_forward_skel
    simp only [k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg17.eq_unread hf15; obtain rfl := harg18.eq_unread hf16; obtain rfl := harg19.eq_unread hf17; obtain rfl := harg20.eq_unread hf18; obtain rfl := harg21.eq_unread hf19; obtain rfl := harg22.eq_unread hf20
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; iexact H11
    isplitl [H12]
    · iexists _; iexact H12
    isplitl [H15]
    · iexact H15
    isplitl [H16]
    · iexact H16
    isplitl [H17]
    · iexact H17
    isplitl [H18]
    · iexact H18
    isplitl [H19]
    · iexact H19
    iexact H20

end Cert.Forward.Own

end
-- ==== Proof.ForwardRunC.lean ====
/- The forward body run in case C of its two conditionals. -/
module

public import proofs.«01_k».proof.Proof.ForwardRuns

@[expose] public section

set_option maxRecDepth 65536

noncomputable section

namespace Cert.Forward.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Forward Cert.Forward.Gen

variable {F : FTy → Type} [FloatOps F]

local notation "𝕄" => MT nD τ sig Unit (Elt F) ℕ (UR sig nD τ) ℕ

set_option maxHeartbeats 16000000 in
/-- The body's triple in the case `¬ cond0_0 i`, `cond0_1 i`: the inputs are handed back as they were, each buffer stored to with the
    pieces the run stored (`L11` the logits, `L12` the cast weights, `L13` and `L14` the row results at the last block, `L15` … `L20` the running states). -/
noncomputable def bodyRun_C (c : Dev nD) (i : grid0.Coords) (arg2 : Memref sig .tc .vmem S1280x4096 .fp8e4m3) (harg2 : arg2.IsWhole) (arg3 : Memref sig .tc .vmem S1280x4096 .fp8e4m3) (harg3 : arg3.IsWhole) (arg4 : Memref sig .tc .vmem S1280x128 .f32) (harg4 : arg4.IsWhole) (arg5 : Memref sig .tc .vmem S1280x128 .f32) (harg5 : arg5.IsWhole) (arg6 : Memref sig .tc .vmem S1280x16 .bf16) (harg6 : arg6.IsWhole) (arg7 : Memref sig .tc .vmem S1280x128 .i32) (harg7 : arg7.IsWhole) (arg8 : Memref sig .tc .vmem S1024x4096 .fp8e4m3) (harg8 : arg8.IsWhole) (arg9 : Memref sig .tc .vmem S1x1024 .f32) (harg9 : arg9.IsWhole) (arg10 : Memref sig .tc .vmem S256x4096 .fp8e4m3) (harg10 : arg10.IsWhole) (arg11 : Memref sig .tc .vmem S1x256 .f32) (harg11 : arg11.IsWhole) (arg12 : Memref sig .tc .vmem S16x1024 .bf16) (harg12 : arg12.IsWhole) (arg13 : Memref sig .tc .vmem S1280x1024 .f32) (harg13 : arg13.IsWhole) (arg14 : Memref sig .tc .vmem S256x4096 .bf16) (harg14 : arg14.IsWhole) (arg15 : Memref sig .tc .vmem S1280x128 .f32) (harg15 : arg15.IsWhole) (arg16 : Memref sig .tc .vmem S1280x128 .f32) (harg16 : arg16.IsWhole) (arg17 : Memref sig .tc .vmem S1280x128 .f32) (harg17 : arg17.IsWhole) (arg18 : Memref sig .tc .vmem S1280x128 .f32) (harg18 : arg18.IsWhole) (arg19 : Memref sig .tc .vmem S1280x128 .f32) (harg19 : arg19.IsWhole) (arg20 : Memref sig .tc .vmem S1280x128 .f32) (harg20 : arg20.IsWhole) (arg21 : Memref sig .tc .vmem S1280x128 .f32) (harg21 : arg21.IsWhole) (arg22 : Memref sig .tc .vmem S1280x128 .f32) (harg22 : arg22.IsWhole)
    (hc0 : ¬ cond0_0 i) (hc1 : cond0_1 i)
    (x0 : Vec F S1280x4096 .fp8e4m3) (x1 : Vec F S1280x4096 .fp8e4m3) (x2 : Vec F S1280x128 .f32) (x3 : Vec F S1280x128 .f32) (x4 : Vec F S1280x16 .bf16) (x5 : Vec F S1280x128 .i32) (x6 : Vec F S1024x4096 .fp8e4m3) (x7 : Vec F S1x1024 .f32) (x8 : Vec F S256x4096 .fp8e4m3) (x9 : Vec F S1x256 .f32) (x10 : Vec F S16x1024 .bf16) (x15 : Vec F S1280x128 .f32) (x16 : Vec F S1280x128 .f32) (x17 : Vec F S1280x128 .f32) (x18 : Vec F S1280x128 .f32) (x19 : Vec F S1280x128 .f32) (x20 : Vec F S1280x128 .f32) :
    Σ' (L11 : List (View.Piece (Elt F) S1280x1024 .f32)), Σ' (L12 : List (View.Piece (Elt F) S256x4096 .bf16)), Σ' (L13 : List (View.Piece (Elt F) S1280x128 .f32)), Σ' (L14 : List (View.Piece (Elt F) S1280x128 .f32)), Σ' (L15 : List (View.Piece (Elt F) S1280x128 .f32)), Σ' (L16 : List (View.Piece (Elt F) S1280x128 .f32)), Σ' (L17 : List (View.Piece (Elt F) S1280x128 .f32)), Σ' (L18 : List (View.Piece (Elt F) S1280x128 .f32)), Σ' (L19 : List (View.Piece (Elt F) S1280x128 .f32)), { L20 : List (View.Piece (Elt F) S1280x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (arg17.view.loc (c : Thread nD τ) ↦[arg17.view.set]{fullShare} arg17.view.writes (Elt F) (harg17.unread x15) L15) ∗ (arg18.view.loc (c : Thread nD τ) ↦[arg18.view.set]{fullShare} arg18.view.writes (Elt F) (harg18.unread x16) L16) ∗ (arg19.view.loc (c : Thread nD τ) ↦[arg19.view.set]{fullShare} arg19.view.writes (Elt F) (harg19.unread x17) L17) ∗ (arg20.view.loc (c : Thread nD τ) ↦[arg20.view.set]{fullShare} arg20.view.writes (Elt F) (harg20.unread x18) L18) ∗ (arg21.view.loc (c : Thread nD τ) ↦[arg21.view.set]{fullShare} arg21.view.writes (Elt F) (harg21.unread x19) L19) ∗ (arg22.view.loc (c : Thread nD τ) ↦[arg22.view.set]{fullShare} arg22.view.writes (Elt F) (harg22.unread x20) L20)) -∗ K ⟨⟩))
          ⊢ wp frame (wpE (defs₀ (F := F)) Variants.none c none) E (cc0_forward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, fun E K => ?run⟩
  case run =>
    simp only [cc0_forward_eq_skeleton]; unfold cc0_forward_skel
    simp only [k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg17.eq_unread hf15; obtain rfl := harg18.eq_unread hf16; obtain rfl := harg19.eq_unread hf17; obtain rfl := harg20.eq_unread hf18; obtain rfl := harg21.eq_unread hf19; obtain rfl := harg22.eq_unread hf20
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; iexact H11
    isplitl [H12]
    · iexists _; iexact H12
    isplitl [H13]
    · iexists _; iexact H13
    isplitl [H14]
    · iexists _; iexact H14
    isplitl [H15]
    · iexact H15
    isplitl [H16]
    · iexact H16
    isplitl [H17]
    · iexact H17
    isplitl [H18]
    · iexact H18
    isplitl [H19]
    · iexact H19
    iexact H20

end Cert.Forward.Own

end
-- ==== Proof.ForwardFrame.lean ====
/- The frame of `Forward`: it runs, leaves its arguments as they were, and ends quiescent. -/
module

public import proofs.«01_k».proof.Proof.ForwardRunA
public import proofs.«01_k».proof.Proof.ForwardRunB
public import proofs.«01_k».proof.Proof.ForwardRunC
public import Idealize.ShloMosaic.Lib.Pipeline.DatRel
public import Idealize.ShloMosaic.Lib.Claim
public import Idealize.ShloMosaic.PureOps.BitExact

@[expose] public section

set_option maxRecDepth 16384

noncomputable section

namespace Cert.Forward.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Forward Cert.Forward.Gen Cert.Forward.Own

local notation "𝕄" => MT nD τ sig Unit (Elt Bits) ℕ (UR sig nD τ) ℕ

variable (m : (ℓ : Loc nD τ sig) → Buf (Elt Bits) ℓ) (ρ : Dev nD → PrngReg)

/-- The two windows whose blocks may overhang their array, and the four output windows: nothing is said of what they hold. -/
def marked : Fin 15 → Bool := fun w => w.val == 6 || w.val == 8 || w.val == 11 || w.val == 12 || w.val == 13 || w.val == 14

def Rl (c : Dev nD) (w : Fin cfg0.W) (t : Fin cfg0.N) : ((cfg0.win w).block.Idx → Elt Bits (cfg0.win w).elt) → Prop := fun _ => True

/-- The scratch buffers before the point of number `n`. -/
def Scr (c : Dev nD) (n : ℕ) : sProp 𝕄 :=
  iprop(∃ S0 S1 S2 S3 S4 S5 : Vec Bits S1280x128 .f32, owns (c : Thread nD τ) (Memref.whole cc0_scratch0) fullShare S0
    ∗ owns (c : Thread nD τ) (Memref.whole cc0_scratch1) fullShare S1
    ∗ owns (c : Thread nD τ) (Memref.whole cc0_scratch2) fullShare S2
    ∗ owns (c : Thread nD τ) (Memref.whole cc0_scratch3) fullShare S3
    ∗ owns (c : Thread nD τ) (Memref.whole cc0_scratch4) fullShare S4
    ∗ owns (c : Thread nD τ) (Memref.whole cc0_scratch5) fullShare S5
    ∗ ∃ r, prngReg c r)

/-- The pipeline's proof data: inputs at their blocks, the marked windows and the scratch buffers at anything. -/
def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, _⟩ => iblk m c 7 t
    | ⟨8, h⟩ => Pipeline.Dat.unnamed (cfg := cfg0) ⟨8, h⟩ t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ t := Scr c t.val
  q := Pipeline.shareOf spec0
  owed _ := 0

abbrev rdat (c : Dev nD) : Pipeline.RDat τ (Elt Bits) Unit ℕ (UR sig nD τ) ℕ cfg0 c := (dats m 0 c).toRRel marked (Rl c)

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_7 (c : Dev nD) (t : Fin cfg0.N) : (dats m 0 c).after 7 t = iblk m c 7 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_7 (c : Dev nD) (t : Fin cfg0.N) (d) : (dats m 0 c).before 7 t d = iblk m c 7 t :=
  before0_7_of m (dats m 0 c) (A_eq m c 7) (after0_7 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜(rdat m c).Finds 6 t Y⌝ ∗ owns (c : Thread nD τ) (ms0_6 t) fullShare Y)
    ∗ (∃ d, owns (c : Thread nD τ) (ms0_7 t) fullShare ((dats m 0 c).before 7 t d))
    ∗ (∃ Y, ⌜(rdat m c).Finds 8 t Y⌝ ∗ owns (c : Thread nD τ) (ms0_8 t) fullShare Y)
    ∗ (∃ d, owns (c : Thread nD τ) (ms0_9 t) fullShare ((dats m 0 c).before 9 t d))
    ∗ (∃ d, owns (c : Thread nD τ) (ms0_10 t) fullShare ((dats m 0 c).before 10 t d))
    ∗ (∃ Y, ⌜(rdat m c).Finds 11 t Y⌝ ∗ owns (c : Thread nD τ) (ms0_11 t) fullShare Y)
    ∗ (∃ Y, ⌜(rdat m c).Finds 12 t Y⌝ ∗ owns (c : Thread nD τ) (ms0_12 t) fullShare Y)
    ∗ (∃ Y, ⌜(rdat m c).Finds 13 t Y⌝ ∗ owns (c : Thread nD τ) (ms0_13 t) fullShare Y)
    ∗ (∃ Y, ⌜(rdat m c).Finds 14 t Y⌝ ∗ owns (c : Thread nD τ) (ms0_14 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, ⌜True⌝ ∗ owns (c : Thread nD τ) (ms0_6 t) fullShare X)
    ∗ owns (c : Thread nD τ) (ms0_7 t) fullShare ((dats m 0 c).after 7 t)
    ∗ (∃ X, ⌜True⌝ ∗ owns (c : Thread nD τ) (ms0_8 t) fullShare X)
    ∗ owns (c : Thread nD τ) (ms0_9 t) fullShare ((dats m 0 c).after 9 t)
    ∗ owns (c : Thread nD τ) (ms0_10 t) fullShare ((dats m 0 c).after 10 t)
    ∗ (∃ X, ⌜True⌝ ∗ owns (c : Thread nD τ) (ms0_11 t) fullShare X)
    ∗ (∃ X, ⌜True⌝ ∗ owns (c : Thread nD τ) (ms0_12 t) fullShare X)
    ∗ (∃ X, ⌜True⌝ ∗ owns (c : Thread nD τ) (ms0_13 t) fullShare X)
    ∗ (∃ X, ⌜True⌝ ∗ owns (c : Thread nD τ) (ms0_14 t) fullShare X))

section
variable (c : Dev nD) (t : Fin cfg0.N) (hc0 : cond0_0 (grid0.coords t)) (hc1 : ¬ cond0_1 (grid0.coords t))
  (X6 : Vec Bits S1024x4096 .fp8e4m3) (X8 : Vec Bits S256x4096 .fp8e4m3) (S0 S1 S2 S3 S4 S5 : Vec Bits S1280x128 .f32)

/-- The run at point `t`. -/
abbrev rA := bodyRun_A (F := Bits) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) hc0 hc1 (iblk m c 0 t) (iblk m c 1 t) (iblk m c 2 t) (iblk m c 3 t) (iblk m c 4 t) (iblk m c 5 t) X6 (iblk m c 7 t) X8 (iblk m c 9 t) (iblk m c 10 t) S0 S1 S2 S3 S4 S5

end

set_option maxHeartbeats 3200000 in
theorem sound_A (c : Dev nD) (t : Fin cfg0.N) (hc0 : cond0_0 (grid0.coords t)) (hc1 : ¬ cond0_1 (grid0.coords t)) :
    bodyPre m c t ⊢ wp frame (wpE (defs₀ (F := Bits)) Variants.none c none) Set.univ (bodyAt0 t) (fun _ => bodyPost m c t) := by
  unfold bodyPre bodyPost bodyAt0
  simp only [before0_0, before0_1, before0_2, before0_3, before0_4, before0_5, before0_7, before0_9, before0_10]
  rw [show (dats m 0 c).Φ t.succ = Scr c (t.val + 1) from rfl, show (dats m 0 c).Φ t.castSucc = Scr c t.val from rfl,
    show (dats m 0 c).owesAt () t.succ = (dats m 0 c).owesAt () t.castSucc from rfl,
    after0_0, after0_1, after0_2, after0_3, after0_4, after0_5, after0_7, after0_9, after0_10]
  unfold Scr
  iintro ⟨⟨%S0, %S1, %S2, %S3, %S4, %S5, K0, K1, K2, K3, K4, K5, Hg⟩, Ho, ⟨%d0, H0⟩, ⟨%d1, H1⟩, ⟨%d2, H2⟩, ⟨%d3, H3⟩, ⟨%d4, H4⟩, ⟨%d5, H5⟩, ⟨%X6, %h6, H6⟩, ⟨%d7, H7⟩, ⟨%X8, %h8, H8⟩, ⟨%d9, H9⟩, ⟨%d10, H10⟩, ⟨%X11, %h11, H11⟩, ⟨%X12, %h12, H12⟩, ⟨%X13, %h13, H13⟩, ⟨%X14, %h14, H14⟩⟩
  iapply ((rA m c t hc0 hc1 X6 X8 S0 S1 S2 S3 S4 S5).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [K0]; · iexact K0
  isplitl [K1]; · iexact K1
  isplitl [K2]; · iexact K2
  isplitl [K3]; · iexact K3
  isplitl [K4]; · iexact K4
  isplitl [K5]; · iexact K5
  iintro ⟨H0, H1, H2, H3, H4, H5, H6, H7, H8, H9, H10, ⟨%f11, H11⟩, ⟨%f12, H12⟩, K0, K1, K2, K3, K4, K5⟩
  isplitl [K0 K1 K2 K3 K4 K5 Hg]
  · iexists ((Memref.whole (sig := sig) cc0_scratch0).view.read (Elt Bits) ((Memref.whole (sig := sig) cc0_scratch0).view.writes (Elt Bits) ((Memref.isWhole_whole _).unread S0) (rA m c t hc0 hc1 X6 X8 S0 S1 S2 S3 S4 S5).2.2.1)), ((Memref.whole (sig := sig) cc0_scratch1).view.read (Elt Bits) ((Memref.whole (sig := sig) cc0_scratch1).view.writes (Elt Bits) ((Memref.isWhole_whole _).unread S1) (rA m c t hc0 hc1 X6 X8 S0 S1 S2 S3 S4 S5).2.2.2.1)), ((Memref.whole (sig := sig) cc0_scratch2).view.read (Elt Bits) ((Memref.whole (sig := sig) cc0_scratch2).view.writes (Elt Bits) ((Memref.isWhole_whole _).unread S2) (rA m c t hc0 hc1 X6 X8 S0 S1 S2 S3 S4 S5).2.2.2.2.1)), ((Memref.whole (sig := sig) cc0_scratch3).view.read (Elt Bits) ((Memref.whole (sig := sig) cc0_scratch3).view.writes (Elt Bits) ((Memref.isWhole_whole _).unread S3) (rA m c t hc0 hc1 X6 X8 S0 S1 S2 S3 S4 S5).2.2.2.2.2.1)), ((Memref.whole (sig := sig) cc0_scratch4).view.read (Elt Bits) ((Memref.whole (sig := sig) cc0_scratch4).view.writes (Elt Bits) ((Memref.isWhole_whole _).unread S4) (rA m c t hc0 hc1 X6 X8 S0 S1 S2 S3 S4 S5).2.2.2.2.2.2.1)), ((Memref.whole (sig := sig) cc0_scratch5).view.read (Elt Bits) ((Memref.whole (sig := sig) cc0_scratch5).view.writes (Elt Bits) ((Memref.isWhole_whole _).unread S5) (rA m c t hc0 hc1 X6 X8 S0 S1 S2 S3 S4 S5).2.2.2.2.2.2.2.1))
    isplitl [K0]
    · unfold owns; iexists _; isplitr; · ipureintro; rfl
      iexact K0
    isplitl [K1]
    · unfold owns; iexists _; isplitr; · ipureintro; rfl
      iexact K1
    isplitl [K2]
    · unfold owns; iexists _; isplitr; · ipureintro; rfl
      iexact K2
    isplitl [K3]
    · unfold owns; iexists _; isplitr; · ipureintro; rfl
      iexact K3
    isplitl [K4]
    · unfold owns; iexists _; isplitr; · ipureintro; rfl
      iexact K4
    isplitl [K5]
    · unfold owns; iexists _; isplitr; · ipureintro; rfl
      iexact K5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; · ipureintro; trivial
    iexact H6
  isplitl [H7]; · iexact H7
  isplitl [H8]
  · iexists _; isplitr; · ipureintro; trivial
    iexact H8
  isplitl [H9]; · iexact H9
  isplitl [H10]; · iexact H10
  isplitl [H11]
  · iexists ((ms0_11 t).view.read (Elt Bits) ((ms0_11 t).view.writes (Elt Bits) f11 (rA m c t hc0 hc1 X6 X8 S0 S1 S2 S3 S4 S5).1)); isplitr; · ipureintro; trivial
    unfold owns; iexists _; isplitr; · ipureintro; rfl
    iexact H11
  isplitl [H12]
  · iexists ((ms0_12 t).view.read (Elt Bits) ((ms0_12 t).view.writes (Elt Bits) f12 (rA m c t hc0 hc1 X6 X8 S0 S1 S2 S3 S4 S5).2.1)); isplitr; · ipureintro; trivial
    unfold owns; iexists _; isplitr; · ipureintro; rfl
    iexact H12
  isplitl [H13]
  · iexists X13; isplitr; · ipureintro; trivial
    iexact H13
  iexists X14; isplitr; · ipureintro; trivial
  iexact H14

section
variable (c : Dev nD) (t : Fin cfg0.N) (hc0 : ¬ cond0_0 (grid0.coords t)) (hc1 : ¬ cond0_1 (grid0.coords t))
  (X6 : Vec Bits S1024x4096 .fp8e4m3) (X8 : Vec Bits S256x4096 .fp8e4m3) (S0 S1 S2 S3 S4 S5 : Vec Bits S1280x128 .f32)

/-- The run at point `t`. -/
abbrev rB := bodyRun_B (F := Bits) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) hc0 hc1 (iblk m c 0 t) (iblk m c 1 t) (iblk m c 2 t) (iblk m c 3 t) (iblk m c 4 t) (iblk m c 5 t) X6 (iblk m c 7 t) X8 (iblk m c 9 t) (iblk m c 10 t) S0 S1 S2 S3 S4 S5

end

set_option maxHeartbeats 3200000 in
theorem sound_B (c : Dev nD) (t : Fin cfg0.N) (hc0 : ¬ cond0_0 (grid0.coords t)) (hc1 : ¬ cond0_1 (grid0.coords t)) :
    bodyPre m c t ⊢ wp frame (wpE (defs₀ (F := Bits)) Variants.none c none) Set.univ (bodyAt0 t) (fun _ => bodyPost m c t) := by
  unfold bodyPre bodyPost bodyAt0
  simp only [before0_0, before0_1, before0_2, before0_3, before0_4, before0_5, before0_7, before0_9, before0_10]
  rw [show (dats m 0 c).Φ t.succ = Scr c (t.val + 1) from rfl, show (dats m 0 c).Φ t.castSucc = Scr c t.val from rfl,
    show (dats m 0 c).owesAt () t.succ = (dats m 0 c).owesAt () t.castSucc from rfl,
    after0_0, after0_1, after0_2, after0_3, after0_4, after0_5, after0_7, after0_9, after0_10]
  unfold Scr
  iintro ⟨⟨%S0, %S1, %S2, %S3, %S4, %S5, K0, K1, K2, K3, K4, K5, Hg⟩, Ho, ⟨%d0, H0⟩, ⟨%d1, H1⟩, ⟨%d2, H2⟩, ⟨%d3, H3⟩, ⟨%d4, H4⟩, ⟨%d5, H5⟩, ⟨%X6, %h6, H6⟩, ⟨%d7, H7⟩, ⟨%X8, %h8, H8⟩, ⟨%d9, H9⟩, ⟨%d10, H10⟩, ⟨%X11, %h11, H11⟩, ⟨%X12, %h12, H12⟩, ⟨%X13, %h13, H13⟩, ⟨%X14, %h14, H14⟩⟩
  iapply ((rB m c t hc0 hc1 X6 X8 S0 S1 S2 S3 S4 S5).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [K0]; · iexact K0
  isplitl [K1]; · iexact K1
  isplitl [K2]; · iexact K2
  isplitl [K3]; · iexact K3
  isplitl [K4]; · iexact K4
  isplitl [K5]; · iexact K5
  iintro ⟨H0, H1, H2, H3, H4, H5, H6, H7, H8, H9, H10, ⟨%f11, H11⟩, ⟨%f12, H12⟩, K0, K1, K2, K3, K4, K5⟩
  isplitl [K0 K1 K2 K3 K4 K5 Hg]
  · iexists ((Memref.whole (sig := sig) cc0_scratch0).view.read (Elt Bits) ((Memref.whole (sig := sig) cc0_scratch0).view.writes (Elt Bits) ((Memref.isWhole_whole _).unread S0) (rB m c t hc0 hc1 X6 X8 S0 S1 S2 S3 S4 S5).2.2.1)), ((Memref.whole (sig := sig) cc0_scratch1).view.read (Elt Bits) ((Memref.whole (sig := sig) cc0_scratch1).view.writes (Elt Bits) ((Memref.isWhole_whole _).unread S1) (rB m c t hc0 hc1 X6 X8 S0 S1 S2 S3 S4 S5).2.2.2.1)), ((Memref.whole (sig := sig) cc0_scratch2).view.read (Elt Bits) ((Memref.whole (sig := sig) cc0_scratch2).view.writes (Elt Bits) ((Memref.isWhole_whole _).unread S2) (rB m c t hc0 hc1 X6 X8 S0 S1 S2 S3 S4 S5).2.2.2.2.1)), ((Memref.whole (sig := sig) cc0_scratch3).view.read (Elt Bits) ((Memref.whole (sig := sig) cc0_scratch3).view.writes (Elt Bits) ((Memref.isWhole_whole _).unread S3) (rB m c t hc0 hc1 X6 X8 S0 S1 S2 S3 S4 S5).2.2.2.2.2.1)), ((Memref.whole (sig := sig) cc0_scratch4).view.read (Elt Bits) ((Memref.whole (sig := sig) cc0_scratch4).view.writes (Elt Bits) ((Memref.isWhole_whole _).unread S4) (rB m c t hc0 hc1 X6 X8 S0 S1 S2 S3 S4 S5).2.2.2.2.2.2.1)), ((Memref.whole (sig := sig) cc0_scratch5).view.read (Elt Bits) ((Memref.whole (sig := sig) cc0_scratch5).view.writes (Elt Bits) ((Memref.isWhole_whole _).unread S5) (rB m c t hc0 hc1 X6 X8 S0 S1 S2 S3 S4 S5).2.2.2.2.2.2.2.1))
    isplitl [K0]
    · unfold owns; iexists _; isplitr; · ipureintro; rfl
      iexact K0
    isplitl [K1]
    · unfold owns; iexists _; isplitr; · ipureintro; rfl
      iexact K1
    isplitl [K2]
    · unfold owns; iexists _; isplitr; · ipureintro; rfl
      iexact K2
    isplitl [K3]
    · unfold owns; iexists _; isplitr; · ipureintro; rfl
      iexact K3
    isplitl [K4]
    · unfold owns; iexists _; isplitr; · ipureintro; rfl
      iexact K4
    isplitl [K5]
    · unfold owns; iexists _; isplitr; · ipureintro; rfl
      iexact K5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; · ipureintro; trivial
    iexact H6
  isplitl [H7]; · iexact H7
  isplitl [H8]
  · iexists _; isplitr; · ipureintro; trivial
    iexact H8
  isplitl [H9]; · iexact H9
  isplitl [H10]; · iexact H10
  isplitl [H11]
  · iexists ((ms0_11 t).view.read (Elt Bits) ((ms0_11 t).view.writes (Elt Bits) f11 (rB m c t hc0 hc1 X6 X8 S0 S1 S2 S3 S4 S5).1)); isplitr; · ipureintro; trivial
    unfold owns; iexists _; isplitr; · ipureintro; rfl
    iexact H11
  isplitl [H12]
  · iexists ((ms0_12 t).view.read (Elt Bits) ((ms0_12 t).view.writes (Elt Bits) f12 (rB m c t hc0 hc1 X6 X8 S0 S1 S2 S3 S4 S5).2.1)); isplitr; · ipureintro; trivial
    unfold owns; iexists _; isplitr; · ipureintro; rfl
    iexact H12
  isplitl [H13]
  · iexists X13; isplitr; · ipureintro; trivial
    iexact H13
  iexists X14; isplitr; · ipureintro; trivial
  iexact H14

section
variable (c : Dev nD) (t : Fin cfg0.N) (hc0 : ¬ cond0_0 (grid0.coords t)) (hc1 : cond0_1 (grid0.coords t))
  (X6 : Vec Bits S1024x4096 .fp8e4m3) (X8 : Vec Bits S256x4096 .fp8e4m3) (S0 S1 S2 S3 S4 S5 : Vec Bits S1280x128 .f32)

/-- The run at point `t`. -/
abbrev rC := bodyRun_C (F := Bits) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) hc0 hc1 (iblk m c 0 t) (iblk m c 1 t) (iblk m c 2 t) (iblk m c 3 t) (iblk m c 4 t) (iblk m c 5 t) X6 (iblk m c 7 t) X8 (iblk m c 9 t) (iblk m c 10 t) S0 S1 S2 S3 S4 S5

end

set_option maxHeartbeats 3200000 in
theorem sound_C (c : Dev nD) (t : Fin cfg0.N) (hc0 : ¬ cond0_0 (grid0.coords t)) (hc1 : cond0_1 (grid0.coords t)) :
    bodyPre m c t ⊢ wp frame (wpE (defs₀ (F := Bits)) Variants.none c none) Set.univ (bodyAt0 t) (fun _ => bodyPost m c t) := by
  unfold bodyPre bodyPost bodyAt0
  simp only [before0_0, before0_1, before0_2, before0_3, before0_4, before0_5, before0_7, before0_9, before0_10]
  rw [show (dats m 0 c).Φ t.succ = Scr c (t.val + 1) from rfl, show (dats m 0 c).Φ t.castSucc = Scr c t.val from rfl,
    show (dats m 0 c).owesAt () t.succ = (dats m 0 c).owesAt () t.castSucc from rfl,
    after0_0, after0_1, after0_2, after0_3, after0_4, after0_5, after0_7, after0_9, after0_10]
  unfold Scr
  iintro ⟨⟨%S0, %S1, %S2, %S3, %S4, %S5, K0, K1, K2, K3, K4, K5, Hg⟩, Ho, ⟨%d0, H0⟩, ⟨%d1, H1⟩, ⟨%d2, H2⟩, ⟨%d3, H3⟩, ⟨%d4, H4⟩, ⟨%d5, H5⟩, ⟨%X6, %h6, H6⟩, ⟨%d7, H7⟩, ⟨%X8, %h8, H8⟩, ⟨%d9, H9⟩, ⟨%d10, H10⟩, ⟨%X11, %h11, H11⟩, ⟨%X12, %h12, H12⟩, ⟨%X13, %h13, H13⟩, ⟨%X14, %h14, H14⟩⟩
  iapply ((rC m c t hc0 hc1 X6 X8 S0 S1 S2 S3 S4 S5).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [K0]; · iexact K0
  isplitl [K1]; · iexact K1
  isplitl [K2]; · iexact K2
  isplitl [K3]; · iexact K3
  isplitl [K4]; · iexact K4
  isplitl [K5]; · iexact K5
  iintro ⟨H0, H1, H2, H3, H4, H5, H6, H7, H8, H9, H10, ⟨%f11, H11⟩, ⟨%f12, H12⟩, ⟨%f13, H13⟩, ⟨%f14, H14⟩, K0, K1, K2, K3, K4, K5⟩
  isplitl [K0 K1 K2 K3 K4 K5 Hg]
  · iexists ((Memref.whole (sig := sig) cc0_scratch0).view.read (Elt Bits) ((Memref.whole (sig := sig) cc0_scratch0).view.writes (Elt Bits) ((Memref.isWhole_whole _).unread S0) (rC m c t hc0 hc1 X6 X8 S0 S1 S2 S3 S4 S5).2.2.2.2.1)), ((Memref.whole (sig := sig) cc0_scratch1).view.read (Elt Bits) ((Memref.whole (sig := sig) cc0_scratch1).view.writes (Elt Bits) ((Memref.isWhole_whole _).unread S1) (rC m c t hc0 hc1 X6 X8 S0 S1 S2 S3 S4 S5).2.2.2.2.2.1)), ((Memref.whole (sig := sig) cc0_scratch2).view.read (Elt Bits) ((Memref.whole (sig := sig) cc0_scratch2).view.writes (Elt Bits) ((Memref.isWhole_whole _).unread S2) (rC m c t hc0 hc1 X6 X8 S0 S1 S2 S3 S4 S5).2.2.2.2.2.2.1)), ((Memref.whole (sig := sig) cc0_scratch3).view.read (Elt Bits) ((Memref.whole (sig := sig) cc0_scratch3).view.writes (Elt Bits) ((Memref.isWhole_whole _).unread S3) (rC m c t hc0 hc1 X6 X8 S0 S1 S2 S3 S4 S5).2.2.2.2.2.2.2.1)), ((Memref.whole (sig := sig) cc0_scratch4).view.read (Elt Bits) ((Memref.whole (sig := sig) cc0_scratch4).view.writes (Elt Bits) ((Memref.isWhole_whole _).unread S4) (rC m c t hc0 hc1 X6 X8 S0 S1 S2 S3 S4 S5).2.2.2.2.2.2.2.2.1)), ((Memref.whole (sig := sig) cc0_scratch5).view.read (Elt Bits) ((Memref.whole (sig := sig) cc0_scratch5).view.writes (Elt Bits) ((Memref.isWhole_whole _).unread S5) (rC m c t hc0 hc1 X6 X8 S0 S1 S2 S3 S4 S5).2.2.2.2.2.2.2.2.2.1))
    isplitl [K0]
    · unfold owns; iexists _; isplitr; · ipureintro; rfl
      iexact K0
    isplitl [K1]
    · unfold owns; iexists _; isplitr; · ipureintro; rfl
      iexact K1
    isplitl [K2]
    · unfold owns; iexists _; isplitr; · ipureintro; rfl
      iexact K2
    isplitl [K3]
    · unfold owns; iexists _; isplitr; · ipureintro; rfl
      iexact K3
    isplitl [K4]
    · unfold owns; iexists _; isplitr; · ipureintro; rfl
      iexact K4
    isplitl [K5]
    · unfold owns; iexists _; isplitr; · ipureintro; rfl
      iexact K5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; · ipureintro; trivial
    iexact H6
  isplitl [H7]; · iexact H7
  isplitl [H8]
  · iexists _; isplitr; · ipureintro; trivial
    iexact H8
  isplitl [H9]; · iexact H9
  isplitl [H10]; · iexact H10
  isplitl [H11]
  · iexists ((ms0_11 t).view.read (Elt Bits) ((ms0_11 t).view.writes (Elt Bits) f11 (rC m c t hc0 hc1 X6 X8 S0 S1 S2 S3 S4 S5).1)); isplitr; · ipureintro; trivial
    unfold owns; iexists _; isplitr; · ipureintro; rfl
    iexact H11
  isplitl [H12]
  · iexists ((ms0_12 t).view.read (Elt Bits) ((ms0_12 t).view.writes (Elt Bits) f12 (rC m c t hc0 hc1 X6 X8 S0 S1 S2 S3 S4 S5).2.1)); isplitr; · ipureintro; trivial
    unfold owns; iexists _; isplitr; · ipureintro; rfl
    iexact H12
  isplitl [H13]
  · iexists ((ms0_13 t).view.read (Elt Bits) ((ms0_13 t).view.writes (Elt Bits) f13 (rC m c t hc0 hc1 X6 X8 S0 S1 S2 S3 S4 S5).2.2.1)); isplitr; · ipureintro; trivial
    unfold owns; iexists _; isplitr; · ipureintro; rfl
    iexact H13
  iexists ((ms0_14 t).view.read (Elt Bits) ((ms0_14 t).view.writes (Elt Bits) f14 (rC m c t hc0 hc1 X6 X8 S0 S1 S2 S3 S4 S5).2.2.2.1)); isplitr; · ipureintro; trivial
  unfold owns; iexists _; isplitr; · ipureintro; rfl
  iexact H14

/-- The body's triple at every grid point. -/
def Sound : Prop := ∀ (c : Dev nD) (t : Fin cfg0.N), bodyPre m c t ⊢ wp frame (wpE (defs₀ (F := Bits)) Variants.none c none) Set.univ (bodyAt0 t) (fun _ => bodyPost m c t)

theorem defs₀_row (t : Fin cfg0.N) :
    defs₀ (F := Bits) .tc cfg0.body (cfg0.bodyArgs t (cfg0.slots t)) = bodyAt0 t := by
  unfold defs₀; rw [Defs.onTc_tc]

theorem body_obligation (hs : Sound m) (c : Dev nD) : Pipeline.BodyObligationRel (dats m 0 c) (defs₀ (F := Bits)) Variants.none () Set.univ marked (Rl c) := fun t => by
  rw [bigSep_W0, bigSep_W0, defs₀_row]
  exact triple_restated (hs c t) rfl .rfl fun _ => .rfl

/-! ## The run -/

theorem scr_in (c : Dev nD) : Pipeline.ΦA spec0 c ⊢ (Scr c 0 : sProp 𝕄) := by
  unfold Pipeline.ΦA Scr
  rw [scopedRest0_eq c]
  simp only [owns_whole]
  iintro ⟨⟨⟨%S0, H0⟩, ⟨%S1, H1⟩, ⟨%S2, H2⟩, ⟨%S3, H3⟩, ⟨%S4, H4⟩, ⟨%S5, H5⟩⟩, Hg⟩
  iexists S0, S1, S2, S3, S4, S5
  isplitl [H0]; · iexact H0
  isplitl [H1]; · iexact H1
  isplitl [H2]; · iexact H2
  isplitl [H3]; · iexact H3
  isplitl [H4]; · iexact H4
  isplitl [H5]; · iexact H5
  iexact Hg

theorem scr_out (c : Dev nD) (n : ℕ) : (Scr c n : sProp 𝕄) ⊢ Pipeline.ΦA spec0 c := by
  unfold Pipeline.ΦA Scr
  rw [scopedRest0_eq c]
  simp only [owns_whole]
  iintro ⟨%S0, %S1, %S2, %S3, %S4, %S5, H0, H1, H2, H3, H4, H5, Hg⟩
  isplitl [H0 H1 H2 H3 H4 H5]
  · isplitl [H0]; · iexists _; iexact H0
    isplitl [H1]; · iexists _; iexact H1
    isplitl [H2]; · iexists _; iexact H2
    isplitl [H3]; · iexists _; iexact H3
    isplitl [H4]; · iexists _; iexact H4
    iexists _; iexact H5
  iexact Hg

set_option backward.isDefEq.respectTransparency.types false in
theorem run_main_quiescent (hs : Sound m) : θ_run defs (onTc (τ := τ) (main (F := Bits))) (s₀ m ρ) (fun r => (Pipeline.RDat.FramePost (cfgs 0) (fun c => rdat m c) (V m)) r ∧ r.2.sem = fun _ => 0) :=
  Pipeline.RDat.θ_run_frame_track_shared cfgs (0 : Fin 1) launch₀0 defs₀ Variants.none (fun c => rdat m c) m ρ main
    (hbody := fun c => (body_obligation m hs c).toRRel) (hq := fun _ _ _ => rfl)
    (howed := fun _ _ => rfl) (V := V m) (hmain := hmain m Variants.none) (hA := A_eq m) (hin := fun c => scr_in c) (hout := fun c => scr_out c 0)
    (Q' := _)

/-- The argument arrays end as they were, from a run to the pipeline's post. -/
theorem frame_of (rdat : (c : Dev nD) → Pipeline.RDat τ (Elt Bits) Unit ℕ (UR sig nD τ) ℕ (cfgs 0) c)
    (hA : ∀ c w, (rdat c).A w = V m c (Pipeline.arrRef spec0 w))
    (h : θ_run defs (onTc (τ := τ) (main (F := Bits))) (s₀ m ρ) (Pipeline.RDat.FramePost (cfgs 0) rdat (V m))) :
    θ_run defs (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 4 rfl).trans ((hA c 4).trans (V_main_arg4 m c)),
      ((h c).2 main_arg5 (Pipeline.mem_restRefs_of main_arg5 (by decide) (by decide))).trans (V_main_arg5 m c),
      (Pipeline.RDat.FramePost.arr_in h c 8 rfl).trans ((hA c 8).trans (V_main_arg6 m c)),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

theorem unchanged (hs : Sound m) : θ_run defs (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (fun c => rdat m c) (A_eq m) ((θ_run defs _ _).mono (fun _ h => h.1) (run_main_quiescent m ρ hs))

/-- The frame of `Forward`. -/
theorem frame_of_sound (hs : Sound m) : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hs) ((θ_run defs _ _).mono (fun _ h => h.2) (run_main_quiescent m ρ hs))

theorem sound : Sound m := fun c t => by
  by_cases h0 : t.val % 63 = 0
  · exact sound_A m c t ((hcond0_0 t).mpr h0) fun h => by have := (hcond0_1 t).mp h; omega
  · by_cases h1 : t.val % 63 = 62
    · exact sound_C m c t (fun h => h0 ((hcond0_0 t).mp h)) ((hcond0_1 t).mpr h1)
    · exact sound_B m c t (fun h => h0 ((hcond0_0 t).mp h)) (fun h => h1 ((hcond0_1 t).mp h))

end Cert.Forward.Frm

end
-- ==== Proof.FwdRuns.lean ====
/- The branch conditions of the forward body in closed form, and the staging memrefs by name. -/
module

public import proofs.«01_k».proof.Proof.Gen.ForwardIdeal.Launch
public import proofs.«01_k».proof.Proof.Gen.ForwardIdeal.Skeleton
public import proofs.«01_k».proof.Proof.Gen.ForwardIdeal.Points
public import proofs.«01_k».proof.Proof.Gen.ForwardIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 65536

noncomputable section

namespace Cert.ForwardIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ForwardIdeal Cert.ForwardIdeal.Gen

variable {F : FTy → Type} [FloatOps F] [Named F]

/-! ## The body's branch conditions -/

/-- The condition of the body's first conditional (the first vocabulary block of a row block), from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 63 = 0 :=
  (fun t => by
    have ht : t.val < 252 := Nat.lt_of_lt_of_eq t.isLt N_0
    have e1 : (grid0.coords t 1).val = t.val / 1 % 63 := Pipeline.Grid.coords_val t 1 (by decide) rfl
    simp only [cond0_0, e1]
    word_cmp
   : ∀ t : Fin grid0.N, cond0_0 (grid0.coords t) ↔ t.val % 63 = 0)

/-- The condition of the second conditional (the last vocabulary block), from the grid coordinates. -/
abbrev cond0_1 (i : grid0.Coords) : Prop := k0_cond2 i = 1#1
theorem hcond0_1 : ∀ t : Fin cfg0.N, cond0_1 (grid0.coords t) ↔ t.val % 63 = 62 :=
  (fun t => by
    have ht : t.val < 252 := Nat.lt_of_lt_of_eq t.isLt N_0
    have e1 : (grid0.coords t 1).val = t.val / 1 % 63 := Pipeline.Grid.coords_val t 1 (by decide) rfl
    simp only [cond0_1, k0_cond2, e1]
    word_cmp
   : ∀ t : Fin grid0.N, cond0_1 (grid0.coords t) ↔ t.val % 63 = 62)

/-! ## The staging memrefs -/

abbrev ms0_0 (t : Fin cfg0.N) : Memref sig .tc .vmem S1280x4096 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x4096 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1280x16 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1280x128 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x4096 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x4096 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S16x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1280x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x4096 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1280x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1280x128 .f32 := win0_14.stage (cfg0.slots t 14)
abbrev hs0_14 (t : Fin cfg0.N) : (ms0_14 t).IsWhole := hstage0_14 ((cfg0.slots t 14).cast nbuf0_14)

end Cert.ForwardIdeal.Own

end
-- ==== Proof.FwdMath.lean ====
/- The running log-sum-exp: a maximum and a sum of exponentials kept together, extended four entries at a time and
   combined over lanes, on the extended reals. -/
module

public import Idealize.ShloMosaic.PureOps.Ideal
public import Idealize.ShloMosaic.Lib.Tactic
public import proofs.«01_k».proof.Proof.BwdClosed

@[expose] public section

noncomputable section

namespace Cert.Online

open Idealize.ShloMosaic Cert.Closed

/-- The exponential of a difference. -/
def E (a b : EReal) : EReal := Ideal.exp (a - b)

theorem exp_nonneg (x : EReal) : 0 ≤ Ideal.exp x := by
  induction x with
  | bot => simp
  | top => simp
  | coe r => simp only [Ideal.exp_coe]; exact_mod_cast (Real.exp_pos r).le

theorem E_nonneg (a b : EReal) : 0 ≤ E a b := exp_nonneg _

theorem E_bot (b : EReal) : E ⊥ b = 0 := by
  unfold E
  rw [EReal.bot_sub]
  rfl

theorem E_top (a : EReal) : E a ⊤ = 0 := by
  unfold E
  rw [EReal.sub_top]
  rfl

/-- Exponentials of differences chain along an increasing triple, at the infinities too. -/
theorem E_chain (p a b : EReal) (hp : p ≤ a) (hab : a ≤ b) : E p a * E a b = E p b := by
  induction b with
  | top => rw [E_top, E_top, mul_zero]
  | bot =>
    have ha : a = ⊥ := le_bot_iff.mp hab
    subst ha
    have hp : p = ⊥ := le_bot_iff.mp hp
    subst hp
    rw [E_bot, mul_zero]
  | coe b =>
    induction a with
    | top => exact absurd (top_le_iff.mp hab) (EReal.coe_ne_top b)
    | bot =>
      have hp : p = ⊥ := le_bot_iff.mp hp
      subst hp
      rw [E_bot, E_bot, zero_mul]
    | coe a =>
      induction p with
      | top => exact absurd (top_le_iff.mp hp) (EReal.coe_ne_top a)
      | bot => rw [E_bot, E_bot, zero_mul]
      | coe p =>
        unfold E
        rw [← EReal.coe_sub, ← EReal.coe_sub, ← EReal.coe_sub, Ideal.exp_coe, Ideal.exp_coe, Ideal.exp_coe, ← EReal.coe_mul, ← Real.exp_add]
        congr 2
        ring

theorem sum_nonneg' {ι : Type} (s : Finset ι) (f : ι → EReal) (h : ∀ q ∈ s, 0 ≤ f q) : 0 ≤ ∑ q ∈ s, f q := Finset.sum_nonneg h

/-- A sum of terms not below zero times a factor, term by term. -/
theorem sum_mul' {ι : Type} [DecidableEq ι] (s : Finset ι) (f : ι → EReal) (c : EReal) (h : ∀ q ∈ s, 0 ≤ f q) :
    (∑ q ∈ s, f q) * c = ∑ q ∈ s, f q * c := by
  induction s using Finset.induction_on with
  | empty => simp
  | insert a s ha ih =>
    rw [Finset.sum_insert ha, Finset.sum_insert ha,
      EReal.right_distrib_of_nonneg (h a (Finset.mem_insert_self a s)) (Finset.sum_nonneg fun q hq => h q (Finset.mem_insert_of_mem hq)),
      ih fun q hq => h q (Finset.mem_insert_of_mem hq)]

/-- A sum of exponentials moved from one maximum to a larger one. -/
theorem rescale {ι : Type} [DecidableEq ι] (s : Finset ι) (L : ι → EReal) (a b : EReal) (h : ∀ q ∈ s, L q ≤ a) (hab : a ≤ b) :
    (∑ q ∈ s, E (L q) a) * E a b = ∑ q ∈ s, E (L q) b := by
  rw [sum_mul' _ _ _ fun q _ => E_nonneg _ _]
  exact Finset.sum_congr rfl fun q hq => E_chain _ _ _ (h q hq) hab

/-- The maximum, the sum of exponentials and the picked entry of the first `Q` entries. -/
def mx (L : ℕ → EReal) (Q : ℕ) : EReal := (Finset.range Q).sup L
def sm (L : ℕ → EReal) (Q : ℕ) : EReal := ∑ q ∈ Finset.range Q, E (L q) (mx L Q)
def pk (L : ℕ → EReal) (hit : ℕ → Prop) [DecidablePred hit] (Q : ℕ) : EReal := ∑ q ∈ Finset.range Q, if hit q then L q else 0

theorem mx_succ (L : ℕ → EReal) (Q : ℕ) : mx L (Q + 1) = max (mx L Q) (L Q) := by
  unfold mx
  rw [Finset.range_add_one, Finset.sup_insert, sup_comm]

theorem mx_step (L : ℕ → EReal) (Q : ℕ) : max (max (max (max (mx L Q) (L Q)) (L (Q + 1))) (L (Q + 2))) (L (Q + 3)) = mx L (Q + 4) := by
  rw [← mx_succ, ← mx_succ, ← mx_succ, ← mx_succ]

theorem le_mx (L : ℕ → EReal) (Q q : ℕ) (h : q < Q) : L q ≤ mx L Q := Finset.le_sup (Finset.mem_range.mpr h)

theorem mx_mono (L : ℕ → EReal) {Q Q' : ℕ} (h : Q ≤ Q') : mx L Q ≤ mx L Q' := Finset.sup_mono (Finset.range_subset_range.mpr h)

theorem sm_step (L : ℕ → EReal) (Q : ℕ) :
    sm L Q * E (mx L Q) (mx L (Q + 4)) + E (L Q) (mx L (Q + 4)) + E (L (Q + 1)) (mx L (Q + 4)) + E (L (Q + 2)) (mx L (Q + 4)) + E (L (Q + 3)) (mx L (Q + 4))
      = sm L (Q + 4) := by
  unfold sm
  rw [rescale _ _ _ _ (fun q hq => le_mx L Q q (Finset.mem_range.mp hq)) (mx_mono L (Nat.le_add_right Q 4))]
  rw [Finset.sum_range_succ _ (Q + 3), Finset.sum_range_succ _ (Q + 2), Finset.sum_range_succ _ (Q + 1), Finset.sum_range_succ _ Q]

theorem pk_succ (L : ℕ → EReal) (hit : ℕ → Prop) [DecidablePred hit] (hu : ∀ q q', hit q → hit q' → q = q') (Q : ℕ) :
    (if hit Q then L Q else pk L hit Q) = pk L hit (Q + 1) := by
  unfold pk
  rw [Finset.sum_range_succ]
  by_cases h : hit Q
  · rw [if_pos h, if_pos h, Finset.sum_eq_zero, zero_add]
    intro q hq
    rw [if_neg]
    intro h'
    have := hu q Q h' h
    have := Finset.mem_range.mp hq
    omega
  · rw [if_neg h, if_neg h, add_zero]

theorem pk_step (L : ℕ → EReal) (hit : ℕ → Prop) [DecidablePred hit] (hu : ∀ q q', hit q → hit q' → q = q') (Q : ℕ) :
    (if hit (Q + 3) then L (Q + 3) else if hit (Q + 2) then L (Q + 2) else if hit (Q + 1) then L (Q + 1) else if hit Q then L Q else pk L hit Q)
      = pk L hit (Q + 4) := by
  rw [pk_succ L hit hu, pk_succ L hit hu, pk_succ L hit hu, pk_succ L hit hu]

/-! ## The lanes combined -/

/-- Lane `l`'s entries of a row: every 128th column from `l` on. -/
def lane (R : ℕ → EReal) (l : ℕ) : ℕ → EReal := fun q => R (q * 128 + l)

variable (R : ℕ → EReal) (V : ℕ)

/-- The row's maximum over its first `n · 128` columns, lane by lane; columns from `n · 128` on hold `⊥`. -/
theorem top_lanes (n Q : ℕ) (hQ : n ≤ Q) (hR : ∀ v, n * 128 ≤ v → R v = ⊥) :
    (Finset.univ.sup fun l : Fin 128 => mx (lane R l.val) Q) = Finset.univ.sup fun v : Fin (n * 128) => R v.val := by
  apply le_antisymm
  · refine Finset.sup_le fun l _ => Finset.sup_le fun q hq => ?_
    unfold lane
    by_cases h : q * 128 + l.val < n * 128
    · exact Finset.le_sup (f := fun v : Fin (n * 128) => R v.val) (Finset.mem_univ (⟨q * 128 + l.val, h⟩ : Fin (n * 128)))
    · rw [hR _ (not_lt.mp h)]; exact bot_le
  · refine Finset.sup_le fun v _ => ?_
    have hv := v.isLt
    have e : R v.val = lane R (v.val % 128) (v.val / 128) := by unfold lane; congr 1; omega
    rw [e]
    exact le_trans (le_mx (lane R (v.val % 128)) Q (v.val / 128) (by omega))
      (Finset.le_sup (f := fun l : Fin 128 => mx (lane R l.val) Q) (Finset.mem_univ (⟨v.val % 128, Nat.mod_lt _ (by decide)⟩ : Fin 128)))

/-- A sum over lanes and blocks is the sum over the columns; the columns from `n · 128` on add nothing. -/
theorem sum_lanes (F : ℕ → EReal) (n Q : ℕ) (hQ : n ≤ Q) (hF : ∀ v, n * 128 ≤ v → F v = 0) :
    ∑ l : Fin 128, ∑ q ∈ Finset.range Q, F (q * 128 + l.val) = ∑ v : Fin (n * 128), F v.val := by
  rw [Finset.sum_comm, ← Finset.sum_range (fun v => F v) (n := n * 128), ← sum_blocks F 128 n]
  rw [← Finset.sum_subset (Finset.range_subset_range.mpr hQ)]
  · exact Finset.sum_congr rfl fun q _ => (Finset.sum_range (fun l => F (q * 128 + l))).symm
  · intro q _ hq
    refine Finset.sum_eq_zero fun l _ => hF _ ?_
    have := Finset.mem_range.not.mp hq
    omega

theorem sum_exp_lanes (n Q : ℕ) (hQ : n ≤ Q) (hR : ∀ v, n * 128 ≤ v → R v = ⊥) (top : EReal)
    (ht : top = Finset.univ.sup fun l : Fin 128 => mx (lane R l.val) Q) :
    ∑ l : Fin 128, sm (lane R l.val) Q * E (mx (lane R l.val) Q) top = ∑ v : Fin (n * 128), E (R v.val) top := by
  rw [← sum_lanes (fun v => E (R v) top) n Q hQ fun v hv => by rw [hR v hv, E_bot]]
  refine Finset.sum_congr rfl fun l _ => ?_
  unfold sm
  rw [rescale _ _ _ _ (fun q hq => le_mx _ Q q (Finset.mem_range.mp hq))
    (by rw [ht]; exact Finset.le_sup (f := fun l : Fin 128 => mx (lane R l.val) Q) (Finset.mem_univ l))]
  rfl

theorem sum_pick_lanes (hit : ℕ → Prop) [DecidablePred hit] (n Q : ℕ) (hQ : n ≤ Q) (hV : ∀ v, n * 128 ≤ v → ¬ hit v) :
    ∑ l : Fin 128, pk (lane R l.val) (fun q => hit (q * 128 + l.val)) Q = ∑ v : Fin (n * 128), if hit v.val then R v.val else 0 :=
  sum_lanes (fun v => if hit v then R v else 0) n Q hQ fun v hv => if_neg (hV v hv)

end Cert.Online

end
-- ==== Proof.FwdPay.lean ====
/- The arithmetic of the forward body at `Ideal`, element by element: the two logits of a row chunk against half a block of the
   vocabulary, what a chunk does to the running maximum, sum and picked entry of each lane, the cast weights, and the row results. -/
module

public import proofs.«01_k».proof.Proof.FwdRuns
public import proofs.«01_k».proof.Proof.FwdMath
public import Idealize.ShloMosaic.Lib.Pointwise
public import Idealize.ShloMosaic.Lib.Pipeline.Value
public import Idealize.ShloMosaic.PureOps.Ideal

@[expose] public section

set_option maxRecDepth 65536

noncomputable section

namespace Cert.ForwardIdeal.Own

open Idealize.ShloMosaic Idealize.ShloMosaic.TcCoe Idealize.SL.Sem Idealize.ShloMosaic.Pointwise
open Cert.ForwardIdeal Cert.ForwardIdeal.Gen

/-- The constant the masked columns hold. -/
theorem masked_eq : (Named.named κ "masked" 0xF149F2CA#32 : Ideal .f32) = ⊥ := IdealRules.named_const.ideal_named_scalar _ _ _ _ rfl

/-- Four copies of 128 lanes side by side, read at column `k`: lane `k % 128`. -/
theorem lane4 {α : Type} {k : ℕ} (hk : k < 512) (f : Fin 128 → α) :
    (if h : k < 128 then f ⟨k, h⟩
      else if h : k - 128 < 128 then f ⟨k - 128, h⟩
      else if h : k - 128 - 128 < 128 then f ⟨k - 128 - 128, h⟩
      else f ⟨k - 128 - 128 - 128, by omega⟩) = f ⟨k % 128, Nat.mod_lt _ (by decide)⟩ := by
  split_ifs <;> (congr 1; apply Fin.ext; dsimp only; omega)

/-- Which columns of a half block lie in the vocabulary, as the body tests it. -/
def liveC (i : grid0.Coords) (p : BitVec 32) : IVec S1x512 1 :=
  cmpi .slt (iota .tc S1x512 32 [1] iota_S1x512_d1_w32) (broadcast S1x512 (Scalar.subi 64128#32 (Scalar.addi (Scalar.muli (BitVec.ofNat 32 (i 1).val) 1024#32) p)))

theorem slt_word (a b : BitVec 32) : (IntOp.cmpi CmpIPredicate.slt a b).getLsbD 0 = decide (a.toInt < b.toInt) := by
  simp [IntOp.cmpi, BitVec.slt]

/-- A signed comparison with what is left of the vocabulary after `n` columns. -/
theorem left_word (n k : ℕ) (hn : n < 65536) (hk : k < 65536) :
    BitVec.slt (BitVec.ofNat 32 k) (64128#32 - BitVec.ofNat 32 n) = decide (n + k < 64128) := by
  rw [BitVec.slt, decide_eq_decide]
  have h1 : (BitVec.ofNat 32 k).toInt = (k : ℤ) := by
    rw [BitVec.toInt_eq_toNat_of_lt] <;> simp [BitVec.toNat_ofNat] <;> omega
  have h2 : (64128#32 - BitVec.ofNat 32 n).toInt = 64128 - (n : ℤ) := by
    have h3 : (BitVec.ofNat 32 n).toInt = (n : ℤ) := by
      rw [BitVec.toInt_eq_toNat_of_lt] <;> simp [BitVec.toNat_ofNat] <;> omega
    rw [BitVec.toInt_sub, h3, show (64128#32).toInt = 64128 from rfl]
    simp only [Int.bmod_def]
    omega
  rw [h1, h2]
  omega

/-- The policy logits of a row chunk against half a block. -/
abbrev polP (w : Vec Ideal S512x4096 .fp8e4m3) (s : Vec Ideal S1x512 .f32) (lb : Vec Ideal S16x512 .bf16) (v : IVec S1x512 1) (x : Vec Ideal S256x4096 .fp8e4m3)
    (xs : Vec Ideal S256x128 .f32) (u : Vec Ideal S256x16 .bf16) : FVec Ideal S256x512 .f32 := k0_pay62 w (k0_pay12 s) (k0_pay13 lb) v x xs u

/-- The reference model's logits of a row chunk against half a block. -/
abbrev rfmP (w : Vec Ideal S512x4096 .fp8e4m3) (s : Vec Ideal S1x512 .f32) (v : IVec S1x512 1) (x : Vec Ideal S256x4096 .fp8e4m3)
    (xs : Vec Ideal S256x128 .f32) : FVec Ideal S256x512 .f32 := k0_pay29 w (k0_pay12 s) v x xs

theorem polP_apply (w s lb v x xs u) (r : Fin 256) (k : Fin 512) :
    polP w s lb v x xs u (ix2 r k) = if v (ix2 0 k) = 1#1 then
      (∑ d : Fin 4096, x (ix2 r d) * w (ix2 k d)) * xs (ix2 r ⟨k.val % 128, Nat.mod_lt _ (by decide)⟩) * s (ix2 0 k)
        + Ideal.ofBits .f32 0x40000000#32 * ∑ a : Fin 16, u (ix2 r a) * lb (ix2 a k) else ⊥ := by
  unfold polP k0_pay62 k0_pay12 k0_pay13
  rw [masked_eq]
  pointwise
  rw [lane4 k.isLt fun l => xs (ix2 r l)]
  rfl

theorem rfmP_apply (w s v x xs) (r : Fin 256) (k : Fin 512) :
    rfmP w s v x xs (ix2 r k) = if v (ix2 0 k) = 1#1 then
      (∑ d : Fin 4096, x (ix2 r d) * w (ix2 k d)) * xs (ix2 r ⟨k.val % 128, Nat.mod_lt _ (by decide)⟩) * s (ix2 0 k) else ⊥ := by
  unfold rfmP k0_pay29 k0_pay12
  rw [masked_eq]
  pointwise
  rw [lane4 k.isLt fun l => xs (ix2 r l)]
  rfl

theorem liveC_apply (i : grid0.Coords) (o : ℕ) (ho : o ≤ 512) (k : Fin 512) :
    liveC i (BitVec.ofNat 32 o) (ix2 0 k) = 1#1 ↔ (i 1).val * 1024 + (o + k.val) < 64128 := by
  have hi : (i 1).val < 63 := (i 1).isLt
  have hw : Scalar.addi (Scalar.muli (BitVec.ofNat 32 (i 1).val) 1024#32) (BitVec.ofNat 32 o) = BitVec.ofNat 32 ((i 1).val * 1024 + o) := by
    show BitVec.ofNat 32 (i 1).val * 1024#32 + BitVec.ofNat 32 o = _
    rw [BitVec.ofNat_add, BitVec.ofNat_mul]
  unfold liveC
  rw [hw]
  pointwise
  have h := left_word ((i 1).val * 1024 + o) k.val (by omega) (by omega)
  rw [show (Scalar.subi 64128#32 (BitVec.ofNat 32 ((i 1).val * 1024 + o))) = 64128#32 - BitVec.ofNat 32 ((i 1).val * 1024 + o) from rfl]
  unfold IntOp.cmpi
  rw [h]
  by_cases hk : (i 1).val * 1024 + o + k.val < 64128
  · simp [hk, show (i 1).val * 1024 + (o + k.val) < 64128 by omega]
  · simp [hk, show ¬ (i 1).val * 1024 + (o + k.val) < 64128 by omega]

/-! ## One chunk's update of a lane -/

/-- The running maximum after a chunk's four entries of the lane. -/
def eM (p0 p1 p2 p3 mo : EReal) : EReal := max (max (max (max mo p0) p1) p2) p3
/-- The running sum of exponentials after them. -/
def eS (p0 p1 p2 p3 mo so : EReal) : EReal :=
  so * Online.E mo (eM p0 p1 p2 p3 mo) + Online.E p0 (eM p0 p1 p2 p3 mo) + Online.E p1 (eM p0 p1 p2 p3 mo) + Online.E p2 (eM p0 p1 p2 p3 mo) + Online.E p3 (eM p0 p1 p2 p3 mo)
/-- The picked entry after them. -/
def eL (rel b : BitVec 32) (p0 p1 p2 p3 lo : EReal) : EReal :=
  if rel = b + 384#32 then p3 else if rel = b + 256#32 then p2 else if rel = b + 128#32 then p1 else if rel = b + 0#32 then p0 else lo

section
variable {F : FTy → Type} [FloatOps F]

abbrev part0 (l : FVec F S256x512 .f32) : FVec F S256x128 .f32 := extractStridedSlice S256x128 ![0, 0] l slices_S256x512_o0_0_S256x128
abbrev part1 (l : FVec F S256x512 .f32) : FVec F S256x128 .f32 := extractStridedSlice S256x128 ![0, 128] l slices_S256x512_o0_128_S256x128
abbrev part2 (l : FVec F S256x512 .f32) : FVec F S256x128 .f32 := extractStridedSlice S256x128 ![0, 256] l slices_S256x512_o0_256_S256x128
abbrev part3 (l : FVec F S256x512 .f32) : FVec F S256x128 .f32 := extractStridedSlice S256x128 ![0, 384] l slices_S256x512_o0_384_S256x128

def M0 (l : FVec F S256x512 .f32) (mo : Vec F S256x128 .f32) : FVec F S256x128 .f32 := maximumf (maximumf (maximumf (maximumf mo (part0 l)) (part1 l)) (part2 l)) (part3 l)
def MN (l : FVec F S256x512 .f32) (mo : Vec F S256x128 .f32) : FVec F S256x128 .f32 := shapeCast S256x128 (M0 l mo) shapeCasts_S256x128_S256x128
def SN (l : FVec F S256x512 .f32) (mo so : Vec F S256x128 .f32) : FVec F S256x128 .f32 :=
  shapeCast S256x128 (addf (addf (addf (addf (mulf so (exp (subf mo (M0 l mo)))) (exp (subf (part0 l) (M0 l mo)))) (exp (subf (part1 l) (M0 l mo)))) (exp (subf (part2 l) (M0 l mo))))
    (exp (subf (part3 l) (M0 l mo)))) shapeCasts_S256x128_S256x128
def LN (b : BitVec 32) (rel : Vec F S256x128 .i32) (l : FVec F S256x512 .f32) (lo : Vec F S256x128 .f32) : FVec F S256x128 .f32 :=
  shapeCast S256x128 (select (cmpi .eq (shapeCast S256x128 rel shapeCasts_S256x128_S256x128 : IVec S256x128 32) (broadcast S256x128 (Scalar.addi b 384#32))) (part3 l)
    (select (cmpi .eq (shapeCast S256x128 rel shapeCasts_S256x128_S256x128 : IVec S256x128 32) (broadcast S256x128 (Scalar.addi b 256#32))) (part2 l)
      (select (cmpi .eq (shapeCast S256x128 rel shapeCasts_S256x128_S256x128 : IVec S256x128 32) (broadcast S256x128 (Scalar.addi b 128#32))) (part1 l)
        (select (cmpi .eq (shapeCast S256x128 rel shapeCasts_S256x128_S256x128 : IVec S256x128 32) (broadcast S256x128 (Scalar.addi b 0#32))) (part0 l) lo)))) shapeCasts_S256x128_S256x128

end

variable (l : FVec Ideal S256x512 .f32) (mo so lo : Vec Ideal S256x128 .f32) (r : Fin 256) (q : Fin 128)

theorem MN_apply : MN l mo (ix2 r q) = eM (l (ix2 r ⟨q.val, by omega⟩)) (l (ix2 r ⟨128 + q.val, by omega⟩)) (l (ix2 r ⟨256 + q.val, by omega⟩)) (l (ix2 r ⟨384 + q.val, by omega⟩)) (mo (ix2 r q)) := by
  unfold MN M0 part0 part1 part2 part3 eM
  pointwise

theorem SN_apply : SN l mo so (ix2 r q) = eS (l (ix2 r ⟨q.val, by omega⟩)) (l (ix2 r ⟨128 + q.val, by omega⟩)) (l (ix2 r ⟨256 + q.val, by omega⟩)) (l (ix2 r ⟨384 + q.val, by omega⟩)) (mo (ix2 r q)) (so (ix2 r q)) := by
  unfold SN M0 part0 part1 part2 part3 eS eM Online.E
  pointwise

theorem LN_apply (b : BitVec 32) (rel : Vec Ideal S256x128 .i32) : LN b rel l lo (ix2 r q) = eL (rel (ix2 r q)) b (l (ix2 r ⟨q.val, by omega⟩)) (l (ix2 r ⟨128 + q.val, by omega⟩)) (l (ix2 r ⟨256 + q.val, by omega⟩)) (l (ix2 r ⟨384 + q.val, by omega⟩)) (lo (ix2 r q)) := by
  have hs (a c : BitVec 32) (x y : EReal) : Scalar.select (IntOp.cmpi CmpIPredicate.eq a c) x y = if a = c then x else y := by
    by_cases h : a = c
    · subst h; simp [IntOp.cmpi, Scalar.select]
    · simp [IntOp.cmpi, Scalar.select, h, beq_eq_false_iff_ne.mpr h]
  unfold LN part0 part1 part2 part3 eL
  pointwise
  rw [hs, hs, hs, hs]
  rfl

/-! ## The cast weights -/

/-- Which rows of a quarter block lie in the vocabulary, as the body tests it. -/
def inC (i : grid0.Coords) : IVec S256x128 1 :=
  cmpi .slt (iota .tc S256x128 32 [0] iota_S256x128_d0_w32)
    (broadcast S256x128 (Scalar.subi 64128#32 (Scalar.addi (Scalar.muli (BitVec.ofNat 32 (i 1).val) 1024#32) (Scalar.muli (BitVec.ofNat 32 (i 0).val) 256#32))))

theorem inC_apply (i : grid0.Coords) (r : Fin 256) (q : Fin 128) :
    inC i (ix2 r q) = 1#1 ↔ (i 1).val * 1024 + (i 0).val * 256 + r.val < 64128 := by
  have hi : (i 1).val < 63 := (i 1).isLt
  have hi0 : (i 0).val < 4 := (i 0).isLt
  have hw : Scalar.addi (Scalar.muli (BitVec.ofNat 32 (i 1).val) 1024#32) (Scalar.muli (BitVec.ofNat 32 (i 0).val) 256#32) = BitVec.ofNat 32 ((i 1).val * 1024 + (i 0).val * 256) := by
    show BitVec.ofNat 32 (i 1).val * 1024#32 + BitVec.ofNat 32 (i 0).val * 256#32 = _
    rw [BitVec.ofNat_add, BitVec.ofNat_mul, BitVec.ofNat_mul]
  unfold inC
  rw [hw]
  pointwise
  have h := left_word ((i 1).val * 1024 + (i 0).val * 256) r.val (by omega) (by omega)
  rw [show (Scalar.subi 64128#32 (BitVec.ofNat 32 ((i 1).val * 1024 + (i 0).val * 256))) = 64128#32 - BitVec.ofNat 32 ((i 1).val * 1024 + (i 0).val * 256) from rfl]
  unfold IntOp.cmpi
  rw [h]
  by_cases hk : (i 1).val * 1024 + (i 0).val * 256 + r.val < 64128
  · simp [hk]
  · simp [hk]

/-- Up to 128 columns of the cast weights. -/
def WB {F : FTy → Type} [FloatOps F] (v : IVec S256x128 1) (s : Vec F S1x256 .f32) (x : Vec F S256x128 .fp8e4m3) : FVec F S256x128 .bf16 :=
  truncf .bf16 (select v (extf .f32 (mulf (extf .bf16 x bitsLt_fp8e4m3_bf16) (truncf .bf16 (transpose S256x128 [1, 0] (broadcastTo S128x256
    (shapeCast S1x256 (shapeCast S1x256 s shapeCasts_S1x256_S1x256) shapeCasts_S1x256_S1x256) broadcasts_S1x256_S128x256) transposes_S128x256_p1_0_S256x128) bitsLt_bf16_f32)) bitsLt_bf16_f32)
    (broadcast S256x128 (Scalar.ofBits .f32 0x00000000#32))) bitsLt_bf16_f32

theorem WB_apply (v : IVec S256x128 1) (s : Vec Ideal S1x256 .f32) (x : Vec Ideal S256x128 .fp8e4m3) (r : Fin 256) (q : Fin 128) :
    WB v s x (ix2 r q) = if v (ix2 r q) = 1#1 then x (ix2 r q) * s (ix2 0 r) else (0 : EReal) := by
  unfold WB
  pointwise
  rfl

/-! ## The row results -/

theorem fold_max (f : Fin 128 → EReal) : Finset.fold max (Ideal.ofBits FTy.f32 0xFF800000#32) f Finset.univ = Finset.univ.sup f := by
  rw [show Ideal.ofBits FTy.f32 0xFF800000#32 = (⊥ : EReal) from by simp [Ideal.ofBits, Ideal.ieee]]
  rfl

/-- The logarithm of the sum of exponentials of a row, from its lanes. -/
def eLse (m s : Fin 128 → EReal) : EReal :=
  Finset.univ.sup m + Ideal.log (∑ l, s l * Online.E (m l) (Finset.univ.sup m))

theorem pay3_apply (m s : Vec Ideal S1280x128 .f32) (r : Fin 1280) :
    k0_pay3 (F := Ideal) m s (ix2 r 0) = eLse (fun l => m (ix2 r l)) (fun l => s (ix2 r l)) := by
  unfold k0_pay3 eLse Online.E
  pointwise
  rw [fold_max fun x => m (ix2 r x)]

theorem pay4_apply (m s : Vec Ideal S1280x128 .f32) (r : Fin 1280) (q : Fin 128) :
    k0_pay4 (F := Ideal) m s (ix2 r q) = eLse (fun l => m (ix2 r l)) (fun l => s (ix2 r l)) := by
  rw [← pay3_apply]
  unfold k0_pay4
  pointwise

theorem pay5_apply (m s la m' s' la' : Vec Ideal S1280x128 .f32) (r : Fin 1280) (q : Fin 128) :
    k0_pay5 (F := Ideal) m s la m' s' la' (ix2 r q) = ((∑ l, la (ix2 r l)) - eLse (fun l => m (ix2 r l)) (fun l => s (ix2 r l)))
      - ((∑ l, la' (ix2 r l)) - eLse (fun l => m' (ix2 r l)) (fun l => s' (ix2 r l))) := by
  rw [← pay3_apply, ← pay3_apply]
  unfold k0_pay5 k0_pay3
  pointwise

end Cert.ForwardIdeal.Own

end
-- ==== Proof.FwdChunks.lean ====
/- Reading a lane buffer of the forward body after a point: five row chunks against the first half of the block, then five against
   the second, each load of the second half reading what the first left. -/
module

public import proofs.«01_k».proof.Proof.FwdPay
public import proofs.«01_k».proof.Proof.BwdChunks

@[expose] public section

set_option maxRecDepth 65536

noncomputable section

namespace Cert.ForwardIdeal.Own

open Idealize.ShloMosaic Idealize.ShloMosaic.TcCoe Idealize.SL.Sem Idealize.ShloMosaic.Pointwise
open Cert.ForwardIdeal Cert.ForwardIdeal.Gen

open Cert.BackwardIdeal.Own (store_step load_at)

section
variable {sg : RefSig} {κ' : Kind} {sp : Space}

abbrev Lane := Vec Ideal S256x128 .f32
abbrev PcL := View.Piece (Elt Ideal) S1280x128 .f32

abbrev R0 := Rect.unit (s := S1280x128) ![0, 0] S256x128.size inb_S1280x128_S256x128_0_0
abbrev R256 := Rect.unit (s := S1280x128) ![256, 0] S256x128.size inb_S1280x128_S256x128_256_0
abbrev R512 := Rect.unit (s := S1280x128) ![512, 0] S256x128.size inb_S1280x128_S256x128_512_0
abbrev R768 := Rect.unit (s := S1280x128) ![768, 0] S256x128.size inb_S1280x128_S256x128_768_0
abbrev R1024 := Rect.unit (s := S1280x128) ![1024, 0] S256x128.size inb_S1280x128_S256x128_1024_0

/-- The row chunk at `o` of a block function. -/
def At (G : Fin 1280 → Fin 128 → EReal) (o : ℕ) (w : Lane) : Prop := ∀ (r : Fin 256) (q : Fin 128) (h : o + r.val < 1280), w (ix2 r q) = G ⟨o + r.val, h⟩ q

/-- The stores of the first half. -/
abbrev c0L (w0 w1 w2 w3 w4 : Lane) (L : List PcL) : List PcL := ⟨R1024, w4⟩ :: ⟨R768, w3⟩ :: ⟨R512, w2⟩ :: ⟨R256, w1⟩ :: ⟨R0, w0⟩ :: L

/-- The store at row 0 of the second half, its operand loaded from the buffer as it stands. -/
abbrev d0 (v : View sg κ' sp S1280x128 .f32) (w : Lane → Lane) (H : List PcL) : List PcL := ⟨R0, w (v.readCov H R0.toLoadRect)⟩ :: H

/-- The store at row 256 of the second half, its operand loaded from the buffer as it stands. -/
abbrev d256 (v : View sg κ' sp S1280x128 .f32) (w : Lane → Lane) (H : List PcL) : List PcL := ⟨R256, w (v.readCov H R256.toLoadRect)⟩ :: H

/-- The store at row 512 of the second half, its operand loaded from the buffer as it stands. -/
abbrev d512 (v : View sg κ' sp S1280x128 .f32) (w : Lane → Lane) (H : List PcL) : List PcL := ⟨R512, w (v.readCov H R512.toLoadRect)⟩ :: H

/-- The store at row 768 of the second half, its operand loaded from the buffer as it stands. -/
abbrev d768 (v : View sg κ' sp S1280x128 .f32) (w : Lane → Lane) (H : List PcL) : List PcL := ⟨R768, w (v.readCov H R768.toLoadRect)⟩ :: H

/-- The store at row 1024 of the second half, its operand loaded from the buffer as it stands. -/
abbrev d1024 (v : View sg κ' sp S1280x128 .f32) (w : Lane → Lane) (H : List PcL) : List PcL := ⟨R1024, w (v.readCov H R1024.toLoadRect)⟩ :: H

theorem cov (v : View sg κ' sp S1280x128 .f32) (o : ℕ) (inb : ∀ a : Fin 2, (![o, 0] : Fin 2 → ℕ) a + S256x128.size a ≤ S1280x128.size a) (H : List PcL) (G : Fin 1280 → Fin 128 → EReal)
    (hG : ∀ (f : v.ty.Contents (Elt Ideal)) (r : Fin 1280) (q : Fin 128), o ≤ r.val → r.val < o + 256 → v.read (Elt Ideal) (v.writes (Elt Ideal) f H) (ix2 r q) = G r q) :
    At G o (v.readCov H (Rect.unit (s := S1280x128) ![o, 0] S256x128.size inb).toLoadRect) := by
  intro r q h
  refine Eq.trans ?_ (hG v.junk ⟨o + r.val, h⟩ q (Nat.le_add_right _ _) (Nat.add_lt_add_left r.isLt _))
  show v.read (Elt Ideal) (v.writes (Elt Ideal) v.junk H) _ = _
  refine congrArg _ ?_
  funext a
  revert a
  refine Fin.forall_fin_two.mpr ⟨Fin.ext ?_, Fin.ext ?_⟩
  · show o + 1 * r.val = o + r.val
    rw [Nat.one_mul]
  · show 0 + 1 * q.val = q.val
    rw [Nat.one_mul, Nat.zero_add]

theorem five (v : View sg κ' sp S1280x128 .f32) (f : v.ty.Contents (Elt Ideal)) (w0 w1 w2 w3 w4 : Lane) (L : List PcL) (G : Fin 1280 → Fin 128 → EReal)
    (h0 : At G 0 w0) (h1 : At G 256 w1) (h2 : At G 512 w2) (h3 : At G 768 w3) (h4 : At G 1024 w4) (r : Fin 1280) (q : Fin 128) :
    v.read (Elt Ideal) (v.writes (Elt Ideal) f (c0L w0 w1 w2 w3 w4 L)) (ix2 r q) = G r q := by
  refine store_step (Val := Elt Ideal) v f G ![1024, 0] 1024 0 rfl inb_S1280x128_S256x128_1024_0 _ _ (fun r q e1 _ => ?_) r q fun g1024 => ?_
  · exact (h4 r q e1).trans (congrArg (G _) (Fin.ext (Nat.zero_add _).symm))
  refine store_step (Val := Elt Ideal) v f G ![768, 0] 768 0 rfl inb_S1280x128_S256x128_768_0 _ _ (fun r q e1 _ => ?_) r q fun g768 => ?_
  · exact (h3 r q e1).trans (congrArg (G _) (Fin.ext (Nat.zero_add _).symm))
  refine store_step (Val := Elt Ideal) v f G ![512, 0] 512 0 rfl inb_S1280x128_S256x128_512_0 _ _ (fun r q e1 _ => ?_) r q fun g512 => ?_
  · exact (h2 r q e1).trans (congrArg (G _) (Fin.ext (Nat.zero_add _).symm))
  refine store_step (Val := Elt Ideal) v f G ![256, 0] 256 0 rfl inb_S1280x128_S256x128_256_0 _ _ (fun r q e1 _ => ?_) r q fun g256 => ?_
  · exact (h1 r q e1).trans (congrArg (G _) (Fin.ext (Nat.zero_add _).symm))
  refine store_step (Val := Elt Ideal) v f G ![0, 0] 0 0 rfl inb_S1280x128_S256x128_0_0 _ _ (fun r q e1 _ => ?_) r q fun g0 => ?_
  · exact (h0 r q e1).trans (congrArg (G _) (Fin.ext (Nat.zero_add _).symm))
  exfalso; omega

/-- A read of rows another store does not reach. -/
theorem past (v : View sg κ' sp S1280x128 .f32) (f : v.ty.Contents (Elt Ideal)) (o : ℕ) (inb : ∀ a : Fin 2, (![o, 0] : Fin 2 → ℕ) a + S256x128.size a ≤ S1280x128.size a) (w : Lane) (H : List PcL) (r : Fin 1280) (q : Fin 128)
    (h : r.val < o ∨ o + 256 ≤ r.val) :
    v.read (Elt Ideal) (v.writes (Elt Ideal) f (⟨Rect.unit (s := S1280x128) ![o, 0] S256x128.size inb, w⟩ :: H)) (ix2 r q) = v.read (Elt Ideal) (v.writes (Elt Ideal) f H) (ix2 r q) :=
  View.read_writes_cons_unit_of_not_mem (s := S1280x128) v f inb w H (ix2 r q) rfl (0 : Fin 2) h

section
variable (v : View sg κ' sp S1280x128 .f32) (w0 w1 w2 w3 w4 : Lane) (u0 u1 u2 u3 u4 : Lane → Lane) (L : List PcL)

abbrev H0 : List PcL := c0L w0 w1 w2 w3 w4 L
abbrev H1 : List PcL := d0 v u0 (H0 w0 w1 w2 w3 w4  L)
abbrev H2 : List PcL := d256 v u1 (H1 v w0 w1 w2 w3 w4 u0 L)
abbrev H3 : List PcL := d512 v u2 (H2 v w0 w1 w2 w3 w4 u0 u1 L)
abbrev H4 : List PcL := d768 v u3 (H3 v w0 w1 w2 w3 w4 u0 u1 u2 L)
abbrev H5 : List PcL := d1024 v u4 (H4 v w0 w1 w2 w3 w4 u0 u1 u2 u3 L)

variable (G G' : Fin 1280 → Fin 128 → EReal) (h0 : At G 0 w0) (h1 : At G 256 w1) (h2 : At G 512 w2) (h3 : At G 768 w3) (h4 : At G 1024 w4)
include h0 h1 h2 h3 h4

theorem cov0 : At G 0 (v.readCov (H0 w0 w1 w2 w3 w4  L) R0.toLoadRect) :=
  cov v 0 inb_S1280x128_S256x128_0_0 _ G fun f r q ha hb =>
    five v f w0 w1 w2 w3 w4 L G h0 h1 h2 h3 h4 r q

theorem cov1 : At G 256 (v.readCov (H1 v w0 w1 w2 w3 w4 u0 L) R256.toLoadRect) :=
  cov v 256 inb_S1280x128_S256x128_256_0 _ G fun f r q ha hb =>
    (past v f 0 inb_S1280x128_S256x128_0_0 _ _ r q (by omega)).trans <|
    five v f w0 w1 w2 w3 w4 L G h0 h1 h2 h3 h4 r q

theorem cov2 : At G 512 (v.readCov (H2 v w0 w1 w2 w3 w4 u0 u1 L) R512.toLoadRect) :=
  cov v 512 inb_S1280x128_S256x128_512_0 _ G fun f r q ha hb =>
    (past v f 256 inb_S1280x128_S256x128_256_0 _ _ r q (by omega)).trans <|
    (past v f 0 inb_S1280x128_S256x128_0_0 _ _ r q (by omega)).trans <|
    five v f w0 w1 w2 w3 w4 L G h0 h1 h2 h3 h4 r q

theorem cov3 : At G 768 (v.readCov (H3 v w0 w1 w2 w3 w4 u0 u1 u2 L) R768.toLoadRect) :=
  cov v 768 inb_S1280x128_S256x128_768_0 _ G fun f r q ha hb =>
    (past v f 512 inb_S1280x128_S256x128_512_0 _ _ r q (by omega)).trans <|
    (past v f 256 inb_S1280x128_S256x128_256_0 _ _ r q (by omega)).trans <|
    (past v f 0 inb_S1280x128_S256x128_0_0 _ _ r q (by omega)).trans <|
    five v f w0 w1 w2 w3 w4 L G h0 h1 h2 h3 h4 r q

theorem cov4 : At G 1024 (v.readCov (H4 v w0 w1 w2 w3 w4 u0 u1 u2 u3 L) R1024.toLoadRect) :=
  cov v 1024 inb_S1280x128_S256x128_1024_0 _ G fun f r q ha hb =>
    (past v f 768 inb_S1280x128_S256x128_768_0 _ _ r q (by omega)).trans <|
    (past v f 512 inb_S1280x128_S256x128_512_0 _ _ r q (by omega)).trans <|
    (past v f 256 inb_S1280x128_S256x128_256_0 _ _ r q (by omega)).trans <|
    (past v f 0 inb_S1280x128_S256x128_0_0 _ _ r q (by omega)).trans <|
    five v f w0 w1 w2 w3 w4 L G h0 h1 h2 h3 h4 r q

theorem ten (g0 : ∀ x, At G 0 x → At G' 0 (u0 x)) (g1 : ∀ x, At G 256 x → At G' 256 (u1 x)) (g2 : ∀ x, At G 512 x → At G' 512 (u2 x)) (g3 : ∀ x, At G 768 x → At G' 768 (u3 x))
    (g4 : ∀ x, At G 1024 x → At G' 1024 (u4 x)) (f : v.ty.Contents (Elt Ideal)) (r : Fin 1280) (q : Fin 128) :
    v.read (Elt Ideal) (v.writes (Elt Ideal) f (H5 v w0 w1 w2 w3 w4 u0 u1 u2 u3 u4 L)) (ix2 r q) = G' r q :=
  five v f _ _ _ _ _ _ G' (g0 _ (cov0 v w0 w1 w2 w3 w4  L G h0 h1 h2 h3 h4)) (g1 _ (cov1 v w0 w1 w2 w3 w4 u0 L G h0 h1 h2 h3 h4)) (g2 _ (cov2 v w0 w1 w2 w3 w4 u0 u1 L G h0 h1 h2 h3 h4)) (g3 _ (cov3 v w0 w1 w2 w3 w4 u0 u1 u2 L G h0 h1 h2 h3 h4)) (g4 _ (cov4 v w0 w1 w2 w3 w4 u0 u1 u2 u3 L G h0 h1 h2 h3 h4)) r q

end
end

/-! ## Block functions -/

/-- The policy logits of a block of the vocabulary, from the point's operands. -/
def polB (n : ℕ) (x0 : Vec Ideal S1280x4096 .fp8e4m3) (x2 : Vec Ideal S1280x128 .f32) (x4 : Vec Ideal S1280x16 .bf16) (x6 : Vec Ideal S1024x4096 .fp8e4m3) (x7 : Vec Ideal S1x1024 .f32)
    (x10 : Vec Ideal S16x1024 .bf16) (r : Fin 1280) (k : Fin 1024) : EReal :=
  if n * 1024 + k.val < 64128 then
    (∑ d : Fin 4096, x0 (ix2 r d) * x6 (ix2 k d)) * x2 (ix2 r ⟨k.val % 128, Nat.mod_lt _ (by decide)⟩) * x7 (ix2 0 k)
      + Ideal.ofBits .f32 0x40000000#32 * ∑ a : Fin 16, x4 (ix2 r a) * x10 (ix2 a k) else ⊥

/-- The reference model's. -/
def rfmB (n : ℕ) (x1 : Vec Ideal S1280x4096 .fp8e4m3) (x3 : Vec Ideal S1280x128 .f32) (x6 : Vec Ideal S1024x4096 .fp8e4m3) (x7 : Vec Ideal S1x1024 .f32)
    (r : Fin 1280) (k : Fin 1024) : EReal :=
  if n * 1024 + k.val < 64128 then
    (∑ d : Fin 4096, x1 (ix2 r d) * x6 (ix2 k d)) * x3 (ix2 r ⟨k.val % 128, Nat.mod_lt _ (by decide)⟩) * x7 (ix2 0 k) else ⊥

/-- Half a block's update of every lane: the running maximum, the running sum, the picked entry. -/
def mU (p : ℕ) (hp : p + 512 ≤ 1024) (P : Fin 1280 → Fin 1024 → EReal) (m : Fin 1280 → Fin 128 → EReal) (r : Fin 1280) (q : Fin 128) : EReal :=
  eM (P r ⟨p + q.val, by omega⟩) (P r ⟨p + (128 + q.val), by omega⟩) (P r ⟨p + (256 + q.val), by omega⟩) (P r ⟨p + (384 + q.val), by omega⟩) (m r q)
def sU (p : ℕ) (hp : p + 512 ≤ 1024) (P : Fin 1280 → Fin 1024 → EReal) (m s : Fin 1280 → Fin 128 → EReal) (r : Fin 1280) (q : Fin 128) : EReal :=
  eS (P r ⟨p + q.val, by omega⟩) (P r ⟨p + (128 + q.val), by omega⟩) (P r ⟨p + (256 + q.val), by omega⟩) (P r ⟨p + (384 + q.val), by omega⟩) (m r q) (s r q)
def lU (b : BitVec 32) (rel : Fin 1280 → Fin 128 → BitVec 32) (p : ℕ) (hp : p + 512 ≤ 1024) (P : Fin 1280 → Fin 1024 → EReal) (l : Fin 1280 → Fin 128 → EReal) (r : Fin 1280) (q : Fin 128) : EReal :=
  eL (rel r q) b (P r ⟨p + q.val, by omega⟩) (P r ⟨p + (128 + q.val), by omega⟩) (P r ⟨p + (256 + q.val), by omega⟩) (P r ⟨p + (384 + q.val), by omega⟩) (l r q)

/-- A row chunk against half a block. -/
def AtP (P : Fin 1280 → Fin 1024 → EReal) (o p : ℕ) (w : FVec Ideal S256x512 .f32) : Prop :=
  ∀ (r : Fin 256) (k : Fin 512) (h : o + r.val < 1280) (h2 : p + k.val < 1024), w (ix2 r k) = P ⟨o + r.val, h⟩ ⟨p + k.val, h2⟩

/-- The ten chunks of a block of logits. -/
structure Chunks (P : Fin 1280 → Fin 1024 → EReal) where
  l0 : FVec Ideal S256x512 .f32
  l1 : FVec Ideal S256x512 .f32
  l2 : FVec Ideal S256x512 .f32
  l3 : FVec Ideal S256x512 .f32
  l4 : FVec Ideal S256x512 .f32
  n0 : FVec Ideal S256x512 .f32
  n1 : FVec Ideal S256x512 .f32
  n2 : FVec Ideal S256x512 .f32
  n3 : FVec Ideal S256x512 .f32
  n4 : FVec Ideal S256x512 .f32
  hl0 : AtP P 0 0 l0
  hl1 : AtP P 256 0 l1
  hl2 : AtP P 512 0 l2
  hl3 : AtP P 768 0 l3
  hl4 : AtP P 1024 0 l4
  hn0 : AtP P 0 512 n0
  hn1 : AtP P 256 512 n1
  hn2 : AtP P 512 512 n2
  hn3 : AtP P 768 512 n3
  hn4 : AtP P 1024 512 n4

section
variable (P : Fin 1280 → Fin 1024 → EReal) (o p : ℕ) (hp : p + 512 ≤ 1024) (l : FVec Ideal S256x512 .f32) (hl : AtP P o p l)
include hl

theorem MN_at (m : Fin 1280 → Fin 128 → EReal) (x : Lane) (hx : At m o x) : At (mU p hp P m) o (MN l x) := by
  intro r q h
  refine (MN_apply l x r q).trans ?_
  unfold mU
  rw [hl r ⟨q.val, by omega⟩ h (by simp only; omega), hl r ⟨128 + q.val, by omega⟩ h (by simp only; omega), hl r ⟨256 + q.val, by omega⟩ h (by simp only; omega), hl r ⟨384 + q.val, by omega⟩ h (by simp only; omega), hx r q h]

theorem SN_at (m s : Fin 1280 → Fin 128 → EReal) (x y : Lane) (hx : At m o x) (hy : At s o y) : At (sU p hp P m s) o (SN l x y) := by
  intro r q h
  refine (SN_apply l x y r q).trans ?_
  unfold sU
  rw [hl r ⟨q.val, by omega⟩ h (by simp only; omega), hl r ⟨128 + q.val, by omega⟩ h (by simp only; omega), hl r ⟨256 + q.val, by omega⟩ h (by simp only; omega), hl r ⟨384 + q.val, by omega⟩ h (by simp only; omega), hx r q h, hy r q h]

theorem LN_at (b : BitVec 32) (rel : Vec Ideal S256x128 .i32) (re : Fin 1280 → Fin 128 → BitVec 32) (hre : ∀ (r : Fin 256) (q : Fin 128) (h : o + r.val < 1280), rel (ix2 r q) = re ⟨o + r.val, h⟩ q)
    (m : Fin 1280 → Fin 128 → EReal) (x : Lane) (hx : At m o x) : At (lU b re p hp P m) o (LN b rel l x) := by
  intro r q h
  refine (LN_apply l x r q b rel).trans ?_
  unfold lU
  rw [hl r ⟨q.val, by omega⟩ h (by simp only; omega), hl r ⟨128 + q.val, by omega⟩ h (by simp only; omega), hl r ⟨256 + q.val, by omega⟩ h (by simp only; omega), hl r ⟨384 + q.val, by omega⟩ h (by simp only; omega), hx r q h, hre r q h]

end

/-! ## A lane buffer after the ten stores -/

/-- A load of a row chunk of a lane buffer held at known contents. -/
theorem at_load (m : Memref sig .tc .vmem S1280x128 .f32) (hm : m.IsWhole) (X : Vec Ideal S1280x128 .f32) (o : ℕ) (inb : ∀ a : Fin 2, (![o, 0] : Fin 2 → ℕ) a + S256x128.size a ≤ S1280x128.size a) :
    At (fun r q => X (ix2 r q)) o (View.readAt (Elt Ideal) m.view (Rect.unit (s := S1280x128) ![o, 0] S256x128.size inb).toLoadRect (hm.unread X)) := fun r q h =>
  (load_at (Val := Elt Ideal) m hm X ![o, 0] o 0 rfl inb r q h (by omega)).trans (congrArg X (congrArg (ix2 _) (Fin.ext (Nat.zero_add _))))

section
variable {sg : RefSig} {κ' : Kind} {sp : Space} (v vs : View sg κ' sp S1280x128 .f32)

/-- A read of a buffer filled whole. -/
theorem filled (f : v.ty.Contents (Elt Ideal)) (inb : ∀ a : Fin 2, (![0, 0] : Fin 2 → ℕ) a + S1280x128.size a ≤ S1280x128.size a) (Z : Vec Ideal S1280x128 .f32) (G : Fin 1280 → Fin 128 → EReal)
    (hZ : ∀ r q, Z (ix2 r q) = G r q) (r : Fin 1280) (q : Fin 128) :
    v.read (Elt Ideal) (v.writes (Elt Ideal) f [⟨Rect.unit (s := S1280x128) ![0, 0] S1280x128.size inb, Z⟩]) (ix2 r q) = G r q := by
  refine store_step (Val := Elt Ideal) v f G ![0, 0] 0 0 rfl inb Z [] (fun r q h1 h2 => ?_) r q fun h => ?_
  · exact (hZ r q).trans (congrArg₂ G (Fin.ext (Nat.zero_add _).symm) (Fin.ext (Nat.zero_add _).symm))
  · exfalso; omega

theorem fill0 (inb : ∀ a : Fin 2, (![0, 0] : Fin 2 → ℕ) a + S1280x128.size a ≤ S1280x128.size a) (Z : Vec Ideal S1280x128 .f32) (_z : Lane) (G : Fin 1280 → Fin 128 → EReal)
    (hZ : ∀ r q, Z (ix2 r q) = G r q) : At G 0 (v.readCov ([⟨Rect.unit (s := S1280x128) ![0, 0] S1280x128.size inb, Z⟩] : List PcL) R0.toLoadRect) :=
  cov v 0 inb_S1280x128_S256x128_0_0 _ G fun f r q ha hb =>
    filled v f inb Z G hZ r q
theorem fill1 (inb : ∀ a : Fin 2, (![0, 0] : Fin 2 → ℕ) a + S1280x128.size a ≤ S1280x128.size a) (Z : Vec Ideal S1280x128 .f32) (w0 : Lane) (G : Fin 1280 → Fin 128 → EReal)
    (hZ : ∀ r q, Z (ix2 r q) = G r q) : At G 256 (v.readCov (⟨R0, w0⟩ :: [⟨Rect.unit (s := S1280x128) ![0, 0] S1280x128.size inb, Z⟩] : List PcL) R256.toLoadRect) :=
  cov v 256 inb_S1280x128_S256x128_256_0 _ G fun f r q ha hb =>
    (past v f 0 inb_S1280x128_S256x128_0_0 _ _ r q (by omega)).trans <|
    filled v f inb Z G hZ r q
theorem fill2 (inb : ∀ a : Fin 2, (![0, 0] : Fin 2 → ℕ) a + S1280x128.size a ≤ S1280x128.size a) (Z : Vec Ideal S1280x128 .f32) (w0 w1 : Lane) (G : Fin 1280 → Fin 128 → EReal)
    (hZ : ∀ r q, Z (ix2 r q) = G r q) : At G 512 (v.readCov (⟨R256, w1⟩ :: ⟨R0, w0⟩ :: [⟨Rect.unit (s := S1280x128) ![0, 0] S1280x128.size inb, Z⟩] : List PcL) R512.toLoadRect) :=
  cov v 512 inb_S1280x128_S256x128_512_0 _ G fun f r q ha hb =>
    (past v f 256 inb_S1280x128_S256x128_256_0 _ _ r q (by omega)).trans <|
    (past v f 0 inb_S1280x128_S256x128_0_0 _ _ r q (by omega)).trans <|
    filled v f inb Z G hZ r q
theorem fill3 (inb : ∀ a : Fin 2, (![0, 0] : Fin 2 → ℕ) a + S1280x128.size a ≤ S1280x128.size a) (Z : Vec Ideal S1280x128 .f32) (w0 w1 w2 : Lane) (G : Fin 1280 → Fin 128 → EReal)
    (hZ : ∀ r q, Z (ix2 r q) = G r q) : At G 768 (v.readCov (⟨R512, w2⟩ :: ⟨R256, w1⟩ :: ⟨R0, w0⟩ :: [⟨Rect.unit (s := S1280x128) ![0, 0] S1280x128.size inb, Z⟩] : List PcL) R768.toLoadRect) :=
  cov v 768 inb_S1280x128_S256x128_768_0 _ G fun f r q ha hb =>
    (past v f 512 inb_S1280x128_S256x128_512_0 _ _ r q (by omega)).trans <|
    (past v f 256 inb_S1280x128_S256x128_256_0 _ _ r q (by omega)).trans <|
    (past v f 0 inb_S1280x128_S256x128_0_0 _ _ r q (by omega)).trans <|
    filled v f inb Z G hZ r q
theorem fill4 (inb : ∀ a : Fin 2, (![0, 0] : Fin 2 → ℕ) a + S1280x128.size a ≤ S1280x128.size a) (Z : Vec Ideal S1280x128 .f32) (w0 w1 w2 w3 : Lane) (G : Fin 1280 → Fin 128 → EReal)
    (hZ : ∀ r q, Z (ix2 r q) = G r q) : At G 1024 (v.readCov (⟨R768, w3⟩ :: ⟨R512, w2⟩ :: ⟨R256, w1⟩ :: ⟨R0, w0⟩ :: [⟨Rect.unit (s := S1280x128) ![0, 0] S1280x128.size inb, Z⟩] : List PcL) R1024.toLoadRect) :=
  cov v 1024 inb_S1280x128_S256x128_1024_0 _ G fun f r q ha hb =>
    (past v f 768 inb_S1280x128_S256x128_768_0 _ _ r q (by omega)).trans <|
    (past v f 512 inb_S1280x128_S256x128_512_0 _ _ r q (by omega)).trans <|
    (past v f 256 inb_S1280x128_S256x128_256_0 _ _ r q (by omega)).trans <|
    (past v f 0 inb_S1280x128_S256x128_0_0 _ _ r q (by omega)).trans <|
    filled v f inb Z G hZ r q
variable (P : Fin 1280 → Fin 1024 → EReal) (l0 l1 l2 l3 l4 n0 n1 n2 n3 n4 : FVec Ideal S256x512 .f32) (m0 m1 m2 m3 m4 s0 s1 s2 s3 s4 : Lane) (L Ls : List PcL)
  (hl0 : AtP P 0 0 l0) (hn0 : AtP P 0 512 n0) (hl1 : AtP P 256 0 l1) (hn1 : AtP P 256 512 n1) (hl2 : AtP P 512 0 l2) (hn2 : AtP P 512 512 n2) (hl3 : AtP P 768 0 l3) (hn3 : AtP P 768 512 n3) (hl4 : AtP P 1024 0 l4) (hn4 : AtP P 1024 512 n4)
  (G Gs : Fin 1280 → Fin 128 → EReal) (hm0 : At G 0 m0) (hm1 : At G 256 m1) (hm2 : At G 512 m2) (hm3 : At G 768 m3) (hm4 : At G 1024 m4)

section
include hl0 hn0 hm0 hl1 hn1 hm1 hl2 hn2 hm2 hl3 hn3 hm3 hl4 hn4 hm4
theorem tenM (f : v.ty.Contents (Elt Ideal)) (r : Fin 1280) (q : Fin 128) :
    v.read (Elt Ideal) (v.writes (Elt Ideal) f (H5 v (MN l0 m0) (MN l1 m1) (MN l2 m2) (MN l3 m3) (MN l4 m4) (MN n0) (MN n1) (MN n2) (MN n3) (MN n4) L)) (ix2 r q) = mU 512 (by decide) P (mU 0 (by decide) P G) r q :=
  ten v _ _ _ _ _ _ _ _ _ _ L (mU 0 (by decide) P G) _ (MN_at P 0 0 (by decide) l0 hl0 G m0 hm0) (MN_at P 256 0 (by decide) l1 hl1 G m1 hm1) (MN_at P 512 0 (by decide) l2 hl2 G m2 hm2) (MN_at P 768 0 (by decide) l3 hl3 G m3 hm3) (MN_at P 1024 0 (by decide) l4 hl4 G m4 hm4)
    (fun x hx => MN_at P 0 512 (by decide) n0 hn0 _ x hx) (fun x hx => MN_at P 256 512 (by decide) n1 hn1 _ x hx) (fun x hx => MN_at P 512 512 (by decide) n2 hn2 _ x hx) (fun x hx => MN_at P 768 512 (by decide) n3 hn3 _ x hx) (fun x hx => MN_at P 1024 512 (by decide) n4 hn4 _ x hx) f r q

theorem tenS (hs0 : At Gs 0 s0) (hs1 : At Gs 256 s1) (hs2 : At Gs 512 s2) (hs3 : At Gs 768 s3) (hs4 : At Gs 1024 s4) (f : vs.ty.Contents (Elt Ideal)) (r : Fin 1280) (q : Fin 128) :
    vs.read (Elt Ideal) (vs.writes (Elt Ideal) f (H5 vs (SN l0 m0 s0) (SN l1 m1 s1) (SN l2 m2 s2) (SN l3 m3 s3) (SN l4 m4 s4)
      (SN n0 (v.readCov (H0 (MN l0 m0) (MN l1 m1) (MN l2 m2) (MN l3 m3) (MN l4 m4)  L) R0.toLoadRect))
      (SN n1 (v.readCov (H1 v (MN l0 m0) (MN l1 m1) (MN l2 m2) (MN l3 m3) (MN l4 m4) (MN n0) L) R256.toLoadRect))
      (SN n2 (v.readCov (H2 v (MN l0 m0) (MN l1 m1) (MN l2 m2) (MN l3 m3) (MN l4 m4) (MN n0) (MN n1) L) R512.toLoadRect))
      (SN n3 (v.readCov (H3 v (MN l0 m0) (MN l1 m1) (MN l2 m2) (MN l3 m3) (MN l4 m4) (MN n0) (MN n1) (MN n2) L) R768.toLoadRect))
      (SN n4 (v.readCov (H4 v (MN l0 m0) (MN l1 m1) (MN l2 m2) (MN l3 m3) (MN l4 m4) (MN n0) (MN n1) (MN n2) (MN n3) L) R1024.toLoadRect)) Ls)) (ix2 r q) = sU 512 (by decide) P (mU 0 (by decide) P G) (sU 0 (by decide) P G Gs) r q :=
  ten vs _ _ _ _ _ _ _ _ _ _ Ls (sU 0 (by decide) P G Gs) _ (SN_at P 0 0 (by decide) l0 hl0 G Gs m0 s0 hm0 hs0) (SN_at P 256 0 (by decide) l1 hl1 G Gs m1 s1 hm1 hs1) (SN_at P 512 0 (by decide) l2 hl2 G Gs m2 s2 hm2 hs2) (SN_at P 768 0 (by decide) l3 hl3 G Gs m3 s3 hm3 hs3) (SN_at P 1024 0 (by decide) l4 hl4 G Gs m4 s4 hm4 hs4)
    (fun x hx => SN_at P 0 512 (by decide) n0 hn0 _ _ _ x (cov0 v (MN l0 m0) (MN l1 m1) (MN l2 m2) (MN l3 m3) (MN l4 m4)  L (mU 0 (by decide) P G) (MN_at P 0 0 (by decide) l0 hl0 G m0 hm0) (MN_at P 256 0 (by decide) l1 hl1 G m1 hm1) (MN_at P 512 0 (by decide) l2 hl2 G m2 hm2) (MN_at P 768 0 (by decide) l3 hl3 G m3 hm3) (MN_at P 1024 0 (by decide) l4 hl4 G m4 hm4)) hx)
    (fun x hx => SN_at P 256 512 (by decide) n1 hn1 _ _ _ x (cov1 v (MN l0 m0) (MN l1 m1) (MN l2 m2) (MN l3 m3) (MN l4 m4) (MN n0) L (mU 0 (by decide) P G) (MN_at P 0 0 (by decide) l0 hl0 G m0 hm0) (MN_at P 256 0 (by decide) l1 hl1 G m1 hm1) (MN_at P 512 0 (by decide) l2 hl2 G m2 hm2) (MN_at P 768 0 (by decide) l3 hl3 G m3 hm3) (MN_at P 1024 0 (by decide) l4 hl4 G m4 hm4)) hx)
    (fun x hx => SN_at P 512 512 (by decide) n2 hn2 _ _ _ x (cov2 v (MN l0 m0) (MN l1 m1) (MN l2 m2) (MN l3 m3) (MN l4 m4) (MN n0) (MN n1) L (mU 0 (by decide) P G) (MN_at P 0 0 (by decide) l0 hl0 G m0 hm0) (MN_at P 256 0 (by decide) l1 hl1 G m1 hm1) (MN_at P 512 0 (by decide) l2 hl2 G m2 hm2) (MN_at P 768 0 (by decide) l3 hl3 G m3 hm3) (MN_at P 1024 0 (by decide) l4 hl4 G m4 hm4)) hx)
    (fun x hx => SN_at P 768 512 (by decide) n3 hn3 _ _ _ x (cov3 v (MN l0 m0) (MN l1 m1) (MN l2 m2) (MN l3 m3) (MN l4 m4) (MN n0) (MN n1) (MN n2) L (mU 0 (by decide) P G) (MN_at P 0 0 (by decide) l0 hl0 G m0 hm0) (MN_at P 256 0 (by decide) l1 hl1 G m1 hm1) (MN_at P 512 0 (by decide) l2 hl2 G m2 hm2) (MN_at P 768 0 (by decide) l3 hl3 G m3 hm3) (MN_at P 1024 0 (by decide) l4 hl4 G m4 hm4)) hx)
    (fun x hx => SN_at P 1024 512 (by decide) n4 hn4 _ _ _ x (cov4 v (MN l0 m0) (MN l1 m1) (MN l2 m2) (MN l3 m3) (MN l4 m4) (MN n0) (MN n1) (MN n2) (MN n3) L (mU 0 (by decide) P G) (MN_at P 0 0 (by decide) l0 hl0 G m0 hm0) (MN_at P 256 0 (by decide) l1 hl1 G m1 hm1) (MN_at P 512 0 (by decide) l2 hl2 G m2 hm2) (MN_at P 768 0 (by decide) l3 hl3 G m3 hm3) (MN_at P 1024 0 (by decide) l4 hl4 G m4 hm4)) hx) f r q

theorem tenL (b b' : BitVec 32) (e0 e1 e2 e3 e4 : Vec Ideal S256x128 .i32) (re : Fin 1280 → Fin 128 → BitVec 32)
    (he0 : ∀ (r : Fin 256) (q : Fin 128) (h : 0 + r.val < 1280), e0 (ix2 r q) = re ⟨0 + r.val, h⟩ q) (he1 : ∀ (r : Fin 256) (q : Fin 128) (h : 256 + r.val < 1280), e1 (ix2 r q) = re ⟨256 + r.val, h⟩ q) (he2 : ∀ (r : Fin 256) (q : Fin 128) (h : 512 + r.val < 1280), e2 (ix2 r q) = re ⟨512 + r.val, h⟩ q) (he3 : ∀ (r : Fin 256) (q : Fin 128) (h : 768 + r.val < 1280), e3 (ix2 r q) = re ⟨768 + r.val, h⟩ q) (he4 : ∀ (r : Fin 256) (q : Fin 128) (h : 1024 + r.val < 1280), e4 (ix2 r q) = re ⟨1024 + r.val, h⟩ q) (f : v.ty.Contents (Elt Ideal)) (r : Fin 1280) (q : Fin 128) :
    v.read (Elt Ideal) (v.writes (Elt Ideal) f (H5 v (LN b e0 l0 m0) (LN b e1 l1 m1) (LN b e2 l2 m2) (LN b e3 l3 m3) (LN b e4 l4 m4) (LN b' e0 n0) (LN b' e1 n1) (LN b' e2 n2) (LN b' e3 n3) (LN b' e4 n4) L)) (ix2 r q) = lU b' re 512 (by decide) P (lU b re 0 (by decide) P G) r q :=
  ten v _ _ _ _ _ _ _ _ _ _ L (lU b re 0 (by decide) P G) _ (LN_at P 0 0 (by decide) l0 hl0 b e0 re he0 G m0 hm0) (LN_at P 256 0 (by decide) l1 hl1 b e1 re he1 G m1 hm1) (LN_at P 512 0 (by decide) l2 hl2 b e2 re he2 G m2 hm2) (LN_at P 768 0 (by decide) l3 hl3 b e3 re he3 G m3 hm3) (LN_at P 1024 0 (by decide) l4 hl4 b e4 re he4 G m4 hm4)
    (fun x hx => LN_at P 0 512 (by decide) n0 hn0 b' e0 re he0 _ x hx) (fun x hx => LN_at P 256 512 (by decide) n1 hn1 b' e1 re he1 _ x hx) (fun x hx => LN_at P 512 512 (by decide) n2 hn2 b' e2 re he2 _ x hx) (fun x hx => LN_at P 768 512 (by decide) n3 hn3 b' e3 re he3 _ x hx) (fun x hx => LN_at P 1024 512 (by decide) n4 hn4 b' e4 re he4 _ x hx) f r q
end
end

section
variable (i : grid0.Coords) (arg2 : Memref sig .tc .vmem S1280x4096 .fp8e4m3) (harg2 : arg2.IsWhole) (arg4 : Memref sig .tc .vmem S1280x128 .f32) (harg4 : arg4.IsWhole) (arg6 : Memref sig .tc .vmem S1280x16 .bf16) (harg6 : arg6.IsWhole)
  (arg8 : Memref sig .tc .vmem S1024x4096 .fp8e4m3) (harg8 : arg8.IsWhole) (arg9 : Memref sig .tc .vmem S1x1024 .f32) (harg9 : arg9.IsWhole) (arg12 : Memref sig .tc .vmem S16x1024 .bf16) (harg12 : arg12.IsWhole)
  (x0 : Vec Ideal S1280x4096 .fp8e4m3) (x2 : Vec Ideal S1280x128 .f32) (x4 : Vec Ideal S1280x16 .bf16) (x6 : Vec Ideal S1024x4096 .fp8e4m3) (x7 : Vec Ideal S1x1024 .f32) (x10 : Vec Ideal S16x1024 .bf16)

/-- The policy logits of the row chunk at `o` against the half block at `p`, as the body loads their operands. -/
@[reducible] def Pc (o p : ℕ) (n8 : ∀ a : Fin 2, (![p, 0] : Fin 2 → ℕ) a + S512x4096.size a ≤ S1024x4096.size a) (n9 : ∀ a : Fin 2, (![0, p] : Fin 2 → ℕ) a + S1x512.size a ≤ S1x1024.size a)
    (n12 : ∀ a : Fin 2, (![0, p] : Fin 2 → ℕ) a + S16x512.size a ≤ S16x1024.size a) (n2 : ∀ a : Fin 2, (![o, 0] : Fin 2 → ℕ) a + S256x4096.size a ≤ S1280x4096.size a)
    (n4 : ∀ a : Fin 2, (![o, 0] : Fin 2 → ℕ) a + S256x128.size a ≤ S1280x128.size a) (n6 : ∀ a : Fin 2, (![o, 0] : Fin 2 → ℕ) a + S256x16.size a ≤ S1280x16.size a) : FVec Ideal S256x512 .f32 :=
  polP (View.readAt (Elt Ideal) arg8.view (Rect.unit (s := S1024x4096) ![p, 0] S512x4096.size n8).toLoadRect (harg8.unread x6))
    (View.readAt (Elt Ideal) arg9.view (Rect.unit (s := S1x1024) ![0, p] S1x512.size n9).toLoadRect (harg9.unread x7))
    (View.readAt (Elt Ideal) arg12.view (Rect.unit (s := S16x1024) ![0, p] S16x512.size n12).toLoadRect (harg12.unread x10)) (liveC i (BitVec.ofNat 32 p))
    (View.readAt (Elt Ideal) arg2.view (Rect.unit (s := S1280x4096) ![o, 0] S256x4096.size n2).toLoadRect (harg2.unread x0))
    (View.readAt (Elt Ideal) arg4.view (Rect.unit (s := S1280x128) ![o, 0] S256x128.size n4).toLoadRect (harg4.unread x2))
    (View.readAt (Elt Ideal) arg6.view (Rect.unit (s := S1280x16) ![o, 0] S256x16.size n6).toLoadRect (harg6.unread x4))

/-- The reference model's. -/
@[reducible] def Rc (o p : ℕ) (n8 : ∀ a : Fin 2, (![p, 0] : Fin 2 → ℕ) a + S512x4096.size a ≤ S1024x4096.size a) (n9 : ∀ a : Fin 2, (![0, p] : Fin 2 → ℕ) a + S1x512.size a ≤ S1x1024.size a)
    (n2 : ∀ a : Fin 2, (![o, 0] : Fin 2 → ℕ) a + S256x4096.size a ≤ S1280x4096.size a)
    (n4 : ∀ a : Fin 2, (![o, 0] : Fin 2 → ℕ) a + S256x128.size a ≤ S1280x128.size a) : FVec Ideal S256x512 .f32 :=
  rfmP (View.readAt (Elt Ideal) arg8.view (Rect.unit (s := S1024x4096) ![p, 0] S512x4096.size n8).toLoadRect (harg8.unread x6))
    (View.readAt (Elt Ideal) arg9.view (Rect.unit (s := S1x1024) ![0, p] S1x512.size n9).toLoadRect (harg9.unread x7)) (liveC i (BitVec.ofNat 32 p))
    (View.readAt (Elt Ideal) arg2.view (Rect.unit (s := S1280x4096) ![o, 0] S256x4096.size n2).toLoadRect (harg2.unread x0))
    (View.readAt (Elt Ideal) arg4.view (Rect.unit (s := S1280x128) ![o, 0] S256x128.size n4).toLoadRect (harg4.unread x2))

theorem Pc_at (o p : ℕ) (hp : p ≤ 512) (hp' : p % 128 = 0) (n8 n9 n12 n2 n4 n6) :
    AtP (polB (i 1).val x0 x2 x4 x6 x7 x10) o p (Pc i arg2 harg2 arg4 harg4 arg6 harg6 arg8 harg8 arg9 harg9 arg12 harg12 x0 x2 x4 x6 x7 x10 o p n8 n9 n12 n2 n4 n6) := by
  intro r k h h2
  refine (polP_apply _ _ _ _ _ _ _ r k).trans ?_
  unfold polB
  refine if_congr (liveC_apply i p hp k) ?_ rfl
  have eL : (⟨0 + k.val % 128, by omega⟩ : Fin 128) = ⟨(p + k.val) % 128, Nat.mod_lt _ (by decide)⟩ := Fin.ext (by simp only; omega)
  refine congrArg₂ (· + ·) (congrArg₂ (· * ·) (congrArg₂ (· * ·) (Finset.sum_congr rfl fun d _ => congrArg₂ (· * ·) ?_ ?_) ?_) ?_)
    (congrArg (_ * ·) (Finset.sum_congr rfl fun a _ => congrArg₂ (· * ·) ?_ ?_))
  · exact (load_at (Val := Elt Ideal) arg2 harg2 x0 ![o, 0] o 0 rfl n2 r d h (by omega)).trans (congrArg x0 (congrArg (ix2 _) (Fin.ext (Nat.zero_add _))))
  · exact (load_at (Val := Elt Ideal) arg8 harg8 x6 ![p, 0] p 0 rfl n8 k d h2 (by omega)).trans (congrArg x6 (congrArg (ix2 _) (Fin.ext (Nat.zero_add _))))
  · exact (load_at (Val := Elt Ideal) arg4 harg4 x2 ![o, 0] o 0 rfl n4 r ⟨k.val % 128, Nat.mod_lt _ (by decide)⟩ h (by simp only; omega)).trans (congrArg x2 (congrArg (ix2 _) eL))
  · exact (load_at (Val := Elt Ideal) arg9 harg9 x7 ![0, p] 0 p rfl n9 (0 : Fin 1) k (by decide) h2)
  · exact (load_at (Val := Elt Ideal) arg6 harg6 x4 ![o, 0] o 0 rfl n6 r a h (by omega)).trans (congrArg x4 (congrArg (ix2 _) (Fin.ext (Nat.zero_add _))))
  · exact (load_at (Val := Elt Ideal) arg12 harg12 x10 ![0, p] 0 p rfl n12 a k (by omega) h2).trans (congrArg x10 (congrArg (fun z => ix2 z _) (Fin.ext (Nat.zero_add _))))

theorem Rc_at (o p : ℕ) (hp : p ≤ 512) (hp' : p % 128 = 0) (n8 n9 n2 n4) :
    AtP (rfmB (i 1).val x0 x2 x6 x7) o p (Rc i arg2 harg2 arg4 harg4 arg8 harg8 arg9 harg9 x0 x2 x6 x7 o p n8 n9 n2 n4) := by
  intro r k h h2
  refine (rfmP_apply _ _ _ _ _ r k).trans ?_
  unfold rfmB
  refine if_congr (liveC_apply i p hp k) ?_ rfl
  have eL : (⟨0 + k.val % 128, by omega⟩ : Fin 128) = ⟨(p + k.val) % 128, Nat.mod_lt _ (by decide)⟩ := Fin.ext (by simp only; omega)
  refine (congrArg₂ (· * ·) (congrArg₂ (· * ·) (Finset.sum_congr rfl fun d _ => congrArg₂ (· * ·) ?_ ?_) ?_) ?_)
  · exact (load_at (Val := Elt Ideal) arg2 harg2 x0 ![o, 0] o 0 rfl n2 r d h (by omega)).trans (congrArg x0 (congrArg (ix2 _) (Fin.ext (Nat.zero_add _))))
  · exact (load_at (Val := Elt Ideal) arg8 harg8 x6 ![p, 0] p 0 rfl n8 k d h2 (by omega)).trans (congrArg x6 (congrArg (ix2 _) (Fin.ext (Nat.zero_add _))))
  · exact (load_at (Val := Elt Ideal) arg4 harg4 x2 ![o, 0] o 0 rfl n4 r ⟨k.val % 128, Nat.mod_lt _ (by decide)⟩ h (by simp only; omega)).trans (congrArg x2 (congrArg (ix2 _) eL))
  · exact (load_at (Val := Elt Ideal) arg9 harg9 x7 ![0, p] 0 p rfl n9 (0 : Fin 1) k (by decide) h2)

/-- The policy logits' chunks. -/
@[reducible] def pChunks : Chunks (polB (i 1).val x0 x2 x4 x6 x7 x10) :=
  ⟨(Pc i arg2 harg2 arg4 harg4 arg6 harg6 arg8 harg8 arg9 harg9 arg12 harg12 x0 x2 x4 x6 x7 x10 0 0 inb_S1024x4096_S512x4096_0_0 inb_S1x1024_S1x512_0_0 inb_S16x1024_S16x512_0_0 inb_S1280x4096_S256x4096_0_0 inb_S1280x128_S256x128_0_0 inb_S1280x16_S256x16_0_0),
    (Pc i arg2 harg2 arg4 harg4 arg6 harg6 arg8 harg8 arg9 harg9 arg12 harg12 x0 x2 x4 x6 x7 x10 256 0 inb_S1024x4096_S512x4096_0_0 inb_S1x1024_S1x512_0_0 inb_S16x1024_S16x512_0_0 inb_S1280x4096_S256x4096_256_0 inb_S1280x128_S256x128_256_0 inb_S1280x16_S256x16_256_0),
    (Pc i arg2 harg2 arg4 harg4 arg6 harg6 arg8 harg8 arg9 harg9 arg12 harg12 x0 x2 x4 x6 x7 x10 512 0 inb_S1024x4096_S512x4096_0_0 inb_S1x1024_S1x512_0_0 inb_S16x1024_S16x512_0_0 inb_S1280x4096_S256x4096_512_0 inb_S1280x128_S256x128_512_0 inb_S1280x16_S256x16_512_0),
    (Pc i arg2 harg2 arg4 harg4 arg6 harg6 arg8 harg8 arg9 harg9 arg12 harg12 x0 x2 x4 x6 x7 x10 768 0 inb_S1024x4096_S512x4096_0_0 inb_S1x1024_S1x512_0_0 inb_S16x1024_S16x512_0_0 inb_S1280x4096_S256x4096_768_0 inb_S1280x128_S256x128_768_0 inb_S1280x16_S256x16_768_0),
    (Pc i arg2 harg2 arg4 harg4 arg6 harg6 arg8 harg8 arg9 harg9 arg12 harg12 x0 x2 x4 x6 x7 x10 1024 0 inb_S1024x4096_S512x4096_0_0 inb_S1x1024_S1x512_0_0 inb_S16x1024_S16x512_0_0 inb_S1280x4096_S256x4096_1024_0 inb_S1280x128_S256x128_1024_0 inb_S1280x16_S256x16_1024_0),
    (Pc i arg2 harg2 arg4 harg4 arg6 harg6 arg8 harg8 arg9 harg9 arg12 harg12 x0 x2 x4 x6 x7 x10 0 512 inb_S1024x4096_S512x4096_512_0 inb_S1x1024_S1x512_0_512 inb_S16x1024_S16x512_0_512 inb_S1280x4096_S256x4096_0_0 inb_S1280x128_S256x128_0_0 inb_S1280x16_S256x16_0_0),
    (Pc i arg2 harg2 arg4 harg4 arg6 harg6 arg8 harg8 arg9 harg9 arg12 harg12 x0 x2 x4 x6 x7 x10 256 512 inb_S1024x4096_S512x4096_512_0 inb_S1x1024_S1x512_0_512 inb_S16x1024_S16x512_0_512 inb_S1280x4096_S256x4096_256_0 inb_S1280x128_S256x128_256_0 inb_S1280x16_S256x16_256_0),
    (Pc i arg2 harg2 arg4 harg4 arg6 harg6 arg8 harg8 arg9 harg9 arg12 harg12 x0 x2 x4 x6 x7 x10 512 512 inb_S1024x4096_S512x4096_512_0 inb_S1x1024_S1x512_0_512 inb_S16x1024_S16x512_0_512 inb_S1280x4096_S256x4096_512_0 inb_S1280x128_S256x128_512_0 inb_S1280x16_S256x16_512_0),
    (Pc i arg2 harg2 arg4 harg4 arg6 harg6 arg8 harg8 arg9 harg9 arg12 harg12 x0 x2 x4 x6 x7 x10 768 512 inb_S1024x4096_S512x4096_512_0 inb_S1x1024_S1x512_0_512 inb_S16x1024_S16x512_0_512 inb_S1280x4096_S256x4096_768_0 inb_S1280x128_S256x128_768_0 inb_S1280x16_S256x16_768_0),
    (Pc i arg2 harg2 arg4 harg4 arg6 harg6 arg8 harg8 arg9 harg9 arg12 harg12 x0 x2 x4 x6 x7 x10 1024 512 inb_S1024x4096_S512x4096_512_0 inb_S1x1024_S1x512_0_512 inb_S16x1024_S16x512_0_512 inb_S1280x4096_S256x4096_1024_0 inb_S1280x128_S256x128_1024_0 inb_S1280x16_S256x16_1024_0),
    (Pc_at _ _ _ _ _ _ _ _ _ _ _ _ _ _ _ _ _ _ _ 0 0 (by decide) (by decide) _ _ _ _ _ _),
    (Pc_at _ _ _ _ _ _ _ _ _ _ _ _ _ _ _ _ _ _ _ 256 0 (by decide) (by decide) _ _ _ _ _ _),
    (Pc_at _ _ _ _ _ _ _ _ _ _ _ _ _ _ _ _ _ _ _ 512 0 (by decide) (by decide) _ _ _ _ _ _),
    (Pc_at _ _ _ _ _ _ _ _ _ _ _ _ _ _ _ _ _ _ _ 768 0 (by decide) (by decide) _ _ _ _ _ _),
    (Pc_at _ _ _ _ _ _ _ _ _ _ _ _ _ _ _ _ _ _ _ 1024 0 (by decide) (by decide) _ _ _ _ _ _),
    (Pc_at _ _ _ _ _ _ _ _ _ _ _ _ _ _ _ _ _ _ _ 0 512 (by decide) (by decide) _ _ _ _ _ _),
    (Pc_at _ _ _ _ _ _ _ _ _ _ _ _ _ _ _ _ _ _ _ 256 512 (by decide) (by decide) _ _ _ _ _ _),
    (Pc_at _ _ _ _ _ _ _ _ _ _ _ _ _ _ _ _ _ _ _ 512 512 (by decide) (by decide) _ _ _ _ _ _),
    (Pc_at _ _ _ _ _ _ _ _ _ _ _ _ _ _ _ _ _ _ _ 768 512 (by decide) (by decide) _ _ _ _ _ _),
    (Pc_at _ _ _ _ _ _ _ _ _ _ _ _ _ _ _ _ _ _ _ 1024 512 (by decide) (by decide) _ _ _ _ _ _)⟩

/-- The reference logits' chunks. -/
@[reducible] def rChunks : Chunks (rfmB (i 1).val x0 x2 x6 x7) :=
  ⟨(Rc i arg2 harg2 arg4 harg4 arg8 harg8 arg9 harg9 x0 x2 x6 x7 0 0 inb_S1024x4096_S512x4096_0_0 inb_S1x1024_S1x512_0_0 inb_S1280x4096_S256x4096_0_0 inb_S1280x128_S256x128_0_0),
    (Rc i arg2 harg2 arg4 harg4 arg8 harg8 arg9 harg9 x0 x2 x6 x7 256 0 inb_S1024x4096_S512x4096_0_0 inb_S1x1024_S1x512_0_0 inb_S1280x4096_S256x4096_256_0 inb_S1280x128_S256x128_256_0),
    (Rc i arg2 harg2 arg4 harg4 arg8 harg8 arg9 harg9 x0 x2 x6 x7 512 0 inb_S1024x4096_S512x4096_0_0 inb_S1x1024_S1x512_0_0 inb_S1280x4096_S256x4096_512_0 inb_S1280x128_S256x128_512_0),
    (Rc i arg2 harg2 arg4 harg4 arg8 harg8 arg9 harg9 x0 x2 x6 x7 768 0 inb_S1024x4096_S512x4096_0_0 inb_S1x1024_S1x512_0_0 inb_S1280x4096_S256x4096_768_0 inb_S1280x128_S256x128_768_0),
    (Rc i arg2 harg2 arg4 harg4 arg8 harg8 arg9 harg9 x0 x2 x6 x7 1024 0 inb_S1024x4096_S512x4096_0_0 inb_S1x1024_S1x512_0_0 inb_S1280x4096_S256x4096_1024_0 inb_S1280x128_S256x128_1024_0),
    (Rc i arg2 harg2 arg4 harg4 arg8 harg8 arg9 harg9 x0 x2 x6 x7 0 512 inb_S1024x4096_S512x4096_512_0 inb_S1x1024_S1x512_0_512 inb_S1280x4096_S256x4096_0_0 inb_S1280x128_S256x128_0_0),
    (Rc i arg2 harg2 arg4 harg4 arg8 harg8 arg9 harg9 x0 x2 x6 x7 256 512 inb_S1024x4096_S512x4096_512_0 inb_S1x1024_S1x512_0_512 inb_S1280x4096_S256x4096_256_0 inb_S1280x128_S256x128_256_0),
    (Rc i arg2 harg2 arg4 harg4 arg8 harg8 arg9 harg9 x0 x2 x6 x7 512 512 inb_S1024x4096_S512x4096_512_0 inb_S1x1024_S1x512_0_512 inb_S1280x4096_S256x4096_512_0 inb_S1280x128_S256x128_512_0),
    (Rc i arg2 harg2 arg4 harg4 arg8 harg8 arg9 harg9 x0 x2 x6 x7 768 512 inb_S1024x4096_S512x4096_512_0 inb_S1x1024_S1x512_0_512 inb_S1280x4096_S256x4096_768_0 inb_S1280x128_S256x128_768_0),
    (Rc i arg2 harg2 arg4 harg4 arg8 harg8 arg9 harg9 x0 x2 x6 x7 1024 512 inb_S1024x4096_S512x4096_512_0 inb_S1x1024_S1x512_0_512 inb_S1280x4096_S256x4096_1024_0 inb_S1280x128_S256x128_1024_0),
    (Rc_at _ _ _ _ _ _ _ _ _ _ _ _ _ 0 0 (by decide) (by decide) _ _ _ _),
    (Rc_at _ _ _ _ _ _ _ _ _ _ _ _ _ 256 0 (by decide) (by decide) _ _ _ _),
    (Rc_at _ _ _ _ _ _ _ _ _ _ _ _ _ 512 0 (by decide) (by decide) _ _ _ _),
    (Rc_at _ _ _ _ _ _ _ _ _ _ _ _ _ 768 0 (by decide) (by decide) _ _ _ _),
    (Rc_at _ _ _ _ _ _ _ _ _ _ _ _ _ 1024 0 (by decide) (by decide) _ _ _ _),
    (Rc_at _ _ _ _ _ _ _ _ _ _ _ _ _ 0 512 (by decide) (by decide) _ _ _ _),
    (Rc_at _ _ _ _ _ _ _ _ _ _ _ _ _ 256 512 (by decide) (by decide) _ _ _ _),
    (Rc_at _ _ _ _ _ _ _ _ _ _ _ _ _ 512 512 (by decide) (by decide) _ _ _ _),
    (Rc_at _ _ _ _ _ _ _ _ _ _ _ _ _ 768 512 (by decide) (by decide) _ _ _ _),
    (Rc_at _ _ _ _ _ _ _ _ _ _ _ _ _ 1024 512 (by decide) (by decide) _ _ _ _)⟩

end

section
variable {sg : RefSig} {κ' : Kind} {sp : Space} (v vs : View sg κ' sp S1280x128 .f32) {P : Fin 1280 → Fin 1024 → EReal} (C : Chunks P) (m0 m1 m2 m3 m4 s0 s1 s2 s3 s4 : Lane) (L Ls : List PcL)
/-- `tenM` of chunks. -/
def tenMc := tenM v P C.l0 C.l1 C.l2 C.l3 C.l4 C.n0 C.n1 C.n2 C.n3 C.n4 m0 m1 m2 m3 m4 L C.hl0 C.hn0 C.hl1 C.hn1 C.hl2 C.hn2 C.hl3 C.hn3 C.hl4 C.hn4
/-- `tenS` of chunks. -/
def tenSc := tenS v vs P C.l0 C.l1 C.l2 C.l3 C.l4 C.n0 C.n1 C.n2 C.n3 C.n4 m0 m1 m2 m3 m4 s0 s1 s2 s3 s4 L Ls C.hl0 C.hn0 C.hl1 C.hn1 C.hl2 C.hn2 C.hl3 C.hn3 C.hl4 C.hn4
/-- `tenL` of chunks. -/
def tenLc := tenL v P C.l0 C.l1 C.l2 C.l3 C.l4 C.n0 C.n1 C.n2 C.n3 C.n4 m0 m1 m2 m3 m4 L C.hl0 C.hn0 C.hl1 C.hn1 C.hl2 C.hn2 C.hl3 C.hn3 C.hl4 C.hn4
end

end Cert.ForwardIdeal.Own

end
-- ==== Proof.FwdOut.lean ====
/- Reading the logits block and the cast-weight block of the forward body after a point. -/
module

public import proofs.«01_k».proof.Proof.FwdChunks

@[expose] public section

set_option maxRecDepth 65536

noncomputable section

namespace Cert.ForwardIdeal.Own

open Idealize.ShloMosaic Idealize.ShloMosaic.TcCoe Idealize.SL.Sem Idealize.ShloMosaic.Pointwise
open Cert.ForwardIdeal Cert.ForwardIdeal.Gen

open Cert.BackwardIdeal.Own (store_step load_at)

theorem logits_read (v : View sig .tc .vmem S1280x1024 .f32) (f : v.ty.Contents (Elt Ideal)) (P : Fin 1280 → Fin 1024 → EReal) (l0 l1 l2 l3 l4 n0 n1 n2 n3 n4 : FVec Ideal S256x512 .f32)
    (hl0 : AtP P 0 0 l0) (hl1 : AtP P 256 0 l1) (hl2 : AtP P 512 0 l2) (hl3 : AtP P 768 0 l3) (hl4 : AtP P 1024 0 l4) (hn0 : AtP P 0 512 n0) (hn1 : AtP P 256 512 n1) (hn2 : AtP P 512 512 n2) (hn3 : AtP P 768 512 n3) (hn4 : AtP P 1024 512 n4) (r : Fin 1280) (k : Fin 1024) :
    v.read (Elt Ideal) (v.writes (Elt Ideal) f (⟨Rect.unit (s := S1280x1024) ![1024, 512] S256x512.size inb_S1280x1024_S256x512_1024_512, n4⟩ :: ⟨Rect.unit (s := S1280x1024) ![768, 512] S256x512.size inb_S1280x1024_S256x512_768_512, n3⟩ :: ⟨Rect.unit (s := S1280x1024) ![512, 512] S256x512.size inb_S1280x1024_S256x512_512_512, n2⟩ :: ⟨Rect.unit (s := S1280x1024) ![256, 512] S256x512.size inb_S1280x1024_S256x512_256_512, n1⟩ :: ⟨Rect.unit (s := S1280x1024) ![0, 512] S256x512.size inb_S1280x1024_S256x512_0_512, n0⟩ :: ⟨Rect.unit (s := S1280x1024) ![1024, 0] S256x512.size inb_S1280x1024_S256x512_1024_0, l4⟩ :: ⟨Rect.unit (s := S1280x1024) ![768, 0] S256x512.size inb_S1280x1024_S256x512_768_0, l3⟩ :: ⟨Rect.unit (s := S1280x1024) ![512, 0] S256x512.size inb_S1280x1024_S256x512_512_0, l2⟩ :: ⟨Rect.unit (s := S1280x1024) ![256, 0] S256x512.size inb_S1280x1024_S256x512_256_0, l1⟩ :: ⟨Rect.unit (s := S1280x1024) ![0, 0] S256x512.size inb_S1280x1024_S256x512_0_0, l0⟩ :: [])) (ix2 r k) = P r k := by
  refine store_step (Val := Elt Ideal) v f P ![1024, 512] 1024 512 rfl inb_S1280x1024_S256x512_1024_512 _ _ (fun r k e1 e2 => hn4 r k e1 e2) r k fun gn4 => ?_
  refine store_step (Val := Elt Ideal) v f P ![768, 512] 768 512 rfl inb_S1280x1024_S256x512_768_512 _ _ (fun r k e1 e2 => hn3 r k e1 e2) r k fun gn3 => ?_
  refine store_step (Val := Elt Ideal) v f P ![512, 512] 512 512 rfl inb_S1280x1024_S256x512_512_512 _ _ (fun r k e1 e2 => hn2 r k e1 e2) r k fun gn2 => ?_
  refine store_step (Val := Elt Ideal) v f P ![256, 512] 256 512 rfl inb_S1280x1024_S256x512_256_512 _ _ (fun r k e1 e2 => hn1 r k e1 e2) r k fun gn1 => ?_
  refine store_step (Val := Elt Ideal) v f P ![0, 512] 0 512 rfl inb_S1280x1024_S256x512_0_512 _ _ (fun r k e1 e2 => hn0 r k e1 e2) r k fun gn0 => ?_
  refine store_step (Val := Elt Ideal) v f P ![1024, 0] 1024 0 rfl inb_S1280x1024_S256x512_1024_0 _ _ (fun r k e1 e2 => hl4 r k e1 e2) r k fun gl4 => ?_
  refine store_step (Val := Elt Ideal) v f P ![768, 0] 768 0 rfl inb_S1280x1024_S256x512_768_0 _ _ (fun r k e1 e2 => hl3 r k e1 e2) r k fun gl3 => ?_
  refine store_step (Val := Elt Ideal) v f P ![512, 0] 512 0 rfl inb_S1280x1024_S256x512_512_0 _ _ (fun r k e1 e2 => hl2 r k e1 e2) r k fun gl2 => ?_
  refine store_step (Val := Elt Ideal) v f P ![256, 0] 256 0 rfl inb_S1280x1024_S256x512_256_0 _ _ (fun r k e1 e2 => hl1 r k e1 e2) r k fun gl1 => ?_
  refine store_step (Val := Elt Ideal) v f P ![0, 0] 0 0 rfl inb_S1280x1024_S256x512_0_0 _ _ (fun r k e1 e2 => hl0 r k e1 e2) r k fun gl0 => ?_
  exfalso; omega

/-- The cast weights of a quarter block, from its operands. -/
def wbB (n : ℕ) (x8 : Vec Ideal S256x4096 .fp8e4m3) (x9 : Vec Ideal S1x256 .f32) (r : Fin 256) (d : Fin 4096) : EReal :=
  if n + r.val < 64128 then x8 (ix2 r d) * x9 (ix2 0 r) else 0

section
variable (i : grid0.Coords) (arg10 : Memref sig .tc .vmem S256x4096 .fp8e4m3) (harg10 : arg10.IsWhole) (arg11 : Memref sig .tc .vmem S1x256 .f32) (harg11 : arg11.IsWhole)
  (x8 : Vec Ideal S256x4096 .fp8e4m3) (x9 : Vec Ideal S1x256 .f32)

@[reducible] def Wc (p : ℕ) (n10 : ∀ a : Fin 2, (![0, p] : Fin 2 → ℕ) a + S256x128.size a ≤ S256x4096.size a) : FVec Ideal S256x128 .bf16 :=
  WB (inC i) (View.readAt (Elt Ideal) arg11.view (Rect.unit (s := S1x256) ![0, 0] S1x256.size inb_S1x256_S1x256_0_0).toLoadRect (harg11.unread x9))
    (View.readAt (Elt Ideal) arg10.view (Rect.unit (s := S256x4096) ![0, p] S256x128.size n10).toLoadRect (harg10.unread x8))

theorem Wc_at (p : ℕ) (n10) (r : Fin 256) (q : Fin 128) (h1 : 0 + r.val < 256) (h2 : p + q.val < 4096) :
    Wc i arg10 harg10 arg11 harg11 x8 x9 p n10 (ix2 r q) = wbB ((i 1).val * 1024 + (i 0).val * 256) x8 x9 ⟨0 + r.val, h1⟩ ⟨p + q.val, h2⟩ := by
  refine (WB_apply _ _ _ r q).trans ?_
  unfold wbB
  have er : (⟨0 + r.val, h1⟩ : Fin 256) = r := Fin.ext (Nat.zero_add _)
  rw [er]
  refine if_congr (inC_apply i r q) (congrArg₂ (· * ·) ?_ ?_) rfl
  · exact (load_at (Val := Elt Ideal) arg10 harg10 x8 ![0, p] 0 p rfl n10 r q h1 h2).trans (congrArg x8 (congrArg (fun z => ix2 z _) er))
  · exact (load_at (Val := Elt Ideal) arg11 harg11 x9 ![0, 0] 0 0 rfl inb_S1x256_S1x256_0_0 (0 : Fin 1) r (by decide) (by omega)).trans (congrArg x9 (congrArg (ix2 _) (Fin.ext (Nat.zero_add _))))

theorem weights_read (v : View sig .tc .vmem S256x4096 .bf16) (f : v.ty.Contents (Elt Ideal)) (r : Fin 256) (d : Fin 4096) :
    v.read (Elt Ideal) (v.writes (Elt Ideal) f (⟨Rect.unit (s := S256x4096) ![0, 3968] S256x128.size inb_S256x4096_S256x128_0_3968, Wc i arg10 harg10 arg11 harg11 x8 x9 3968 inb_S256x4096_S256x128_0_3968⟩ :: ⟨Rect.unit (s := S256x4096) ![0, 3840] S256x128.size inb_S256x4096_S256x128_0_3840, Wc i arg10 harg10 arg11 harg11 x8 x9 3840 inb_S256x4096_S256x128_0_3840⟩ :: ⟨Rect.unit (s := S256x4096) ![0, 3712] S256x128.size inb_S256x4096_S256x128_0_3712, Wc i arg10 harg10 arg11 harg11 x8 x9 3712 inb_S256x4096_S256x128_0_3712⟩ :: ⟨Rect.unit (s := S256x4096) ![0, 3584] S256x128.size inb_S256x4096_S256x128_0_3584, Wc i arg10 harg10 arg11 harg11 x8 x9 3584 inb_S256x4096_S256x128_0_3584⟩ :: ⟨Rect.unit (s := S256x4096) ![0, 3456] S256x128.size inb_S256x4096_S256x128_0_3456, Wc i arg10 harg10 arg11 harg11 x8 x9 3456 inb_S256x4096_S256x128_0_3456⟩ :: ⟨Rect.unit (s := S256x4096) ![0, 3328] S256x128.size inb_S256x4096_S256x128_0_3328, Wc i arg10 harg10 arg11 harg11 x8 x9 3328 inb_S256x4096_S256x128_0_3328⟩ :: ⟨Rect.unit (s := S256x4096) ![0, 3200] S256x128.size inb_S256x4096_S256x128_0_3200, Wc i arg10 harg10 arg11 harg11 x8 x9 3200 inb_S256x4096_S256x128_0_3200⟩ :: ⟨Rect.unit (s := S256x4096) ![0, 3072] S256x128.size inb_S256x4096_S256x128_0_3072, Wc i arg10 harg10 arg11 harg11 x8 x9 3072 inb_S256x4096_S256x128_0_3072⟩ :: ⟨Rect.unit (s := S256x4096) ![0, 2944] S256x128.size inb_S256x4096_S256x128_0_2944, Wc i arg10 harg10 arg11 harg11 x8 x9 2944 inb_S256x4096_S256x128_0_2944⟩ :: ⟨Rect.unit (s := S256x4096) ![0, 2816] S256x128.size inb_S256x4096_S256x128_0_2816, Wc i arg10 harg10 arg11 harg11 x8 x9 2816 inb_S256x4096_S256x128_0_2816⟩ :: ⟨Rect.unit (s := S256x4096) ![0, 2688] S256x128.size inb_S256x4096_S256x128_0_2688, Wc i arg10 harg10 arg11 harg11 x8 x9 2688 inb_S256x4096_S256x128_0_2688⟩ :: ⟨Rect.unit (s := S256x4096) ![0, 2560] S256x128.size inb_S256x4096_S256x128_0_2560, Wc i arg10 harg10 arg11 harg11 x8 x9 2560 inb_S256x4096_S256x128_0_2560⟩ :: ⟨Rect.unit (s := S256x4096) ![0, 2432] S256x128.size inb_S256x4096_S256x128_0_2432, Wc i arg10 harg10 arg11 harg11 x8 x9 2432 inb_S256x4096_S256x128_0_2432⟩ :: ⟨Rect.unit (s := S256x4096) ![0, 2304] S256x128.size inb_S256x4096_S256x128_0_2304, Wc i arg10 harg10 arg11 harg11 x8 x9 2304 inb_S256x4096_S256x128_0_2304⟩ :: ⟨Rect.unit (s := S256x4096) ![0, 2176] S256x128.size inb_S256x4096_S256x128_0_2176, Wc i arg10 harg10 arg11 harg11 x8 x9 2176 inb_S256x4096_S256x128_0_2176⟩ :: ⟨Rect.unit (s := S256x4096) ![0, 2048] S256x128.size inb_S256x4096_S256x128_0_2048, Wc i arg10 harg10 arg11 harg11 x8 x9 2048 inb_S256x4096_S256x128_0_2048⟩ :: ⟨Rect.unit (s := S256x4096) ![0, 1920] S256x128.size inb_S256x4096_S256x128_0_1920, Wc i arg10 harg10 arg11 harg11 x8 x9 1920 inb_S256x4096_S256x128_0_1920⟩ :: ⟨Rect.unit (s := S256x4096) ![0, 1792] S256x128.size inb_S256x4096_S256x128_0_1792, Wc i arg10 harg10 arg11 harg11 x8 x9 1792 inb_S256x4096_S256x128_0_1792⟩ :: ⟨Rect.unit (s := S256x4096) ![0, 1664] S256x128.size inb_S256x4096_S256x128_0_1664, Wc i arg10 harg10 arg11 harg11 x8 x9 1664 inb_S256x4096_S256x128_0_1664⟩ :: ⟨Rect.unit (s := S256x4096) ![0, 1536] S256x128.size inb_S256x4096_S256x128_0_1536, Wc i arg10 harg10 arg11 harg11 x8 x9 1536 inb_S256x4096_S256x128_0_1536⟩ :: ⟨Rect.unit (s := S256x4096) ![0, 1408] S256x128.size inb_S256x4096_S256x128_0_1408, Wc i arg10 harg10 arg11 harg11 x8 x9 1408 inb_S256x4096_S256x128_0_1408⟩ :: ⟨Rect.unit (s := S256x4096) ![0, 1280] S256x128.size inb_S256x4096_S256x128_0_1280, Wc i arg10 harg10 arg11 harg11 x8 x9 1280 inb_S256x4096_S256x128_0_1280⟩ :: ⟨Rect.unit (s := S256x4096) ![0, 1152] S256x128.size inb_S256x4096_S256x128_0_1152, Wc i arg10 harg10 arg11 harg11 x8 x9 1152 inb_S256x4096_S256x128_0_1152⟩ :: ⟨Rect.unit (s := S256x4096) ![0, 1024] S256x128.size inb_S256x4096_S256x128_0_1024, Wc i arg10 harg10 arg11 harg11 x8 x9 1024 inb_S256x4096_S256x128_0_1024⟩ :: ⟨Rect.unit (s := S256x4096) ![0, 896] S256x128.size inb_S256x4096_S256x128_0_896, Wc i arg10 harg10 arg11 harg11 x8 x9 896 inb_S256x4096_S256x128_0_896⟩ :: ⟨Rect.unit (s := S256x4096) ![0, 768] S256x128.size inb_S256x4096_S256x128_0_768, Wc i arg10 harg10 arg11 harg11 x8 x9 768 inb_S256x4096_S256x128_0_768⟩ :: ⟨Rect.unit (s := S256x4096) ![0, 640] S256x128.size inb_S256x4096_S256x128_0_640, Wc i arg10 harg10 arg11 harg11 x8 x9 640 inb_S256x4096_S256x128_0_640⟩ :: ⟨Rect.unit (s := S256x4096) ![0, 512] S256x128.size inb_S256x4096_S256x128_0_512, Wc i arg10 harg10 arg11 harg11 x8 x9 512 inb_S256x4096_S256x128_0_512⟩ :: ⟨Rect.unit (s := S256x4096) ![0, 384] S256x128.size inb_S256x4096_S256x128_0_384, Wc i arg10 harg10 arg11 harg11 x8 x9 384 inb_S256x4096_S256x128_0_384⟩ :: ⟨Rect.unit (s := S256x4096) ![0, 256] S256x128.size inb_S256x4096_S256x128_0_256, Wc i arg10 harg10 arg11 harg11 x8 x9 256 inb_S256x4096_S256x128_0_256⟩ :: ⟨Rect.unit (s := S256x4096) ![0, 128] S256x128.size inb_S256x4096_S256x128_0_128, Wc i arg10 harg10 arg11 harg11 x8 x9 128 inb_S256x4096_S256x128_0_128⟩ :: ⟨Rect.unit (s := S256x4096) ![0, 0] S256x128.size inb_S256x4096_S256x128_0_0, Wc i arg10 harg10 arg11 harg11 x8 x9 0 inb_S256x4096_S256x128_0_0⟩ :: [])) (ix2 r d) = wbB ((i 1).val * 1024 + (i 0).val * 256) x8 x9 r d := by
  refine store_step (Val := Elt Ideal) v f (wbB ((i 1).val * 1024 + (i 0).val * 256) x8 x9) ![0, 3968] 0 3968 rfl inb_S256x4096_S256x128_0_3968 _ _ (fun r q e1 e2 => Wc_at i arg10 harg10 arg11 harg11 x8 x9 3968 _ r q e1 e2) r d fun g3968 => ?_
  refine store_step (Val := Elt Ideal) v f (wbB ((i 1).val * 1024 + (i 0).val * 256) x8 x9) ![0, 3840] 0 3840 rfl inb_S256x4096_S256x128_0_3840 _ _ (fun r q e1 e2 => Wc_at i arg10 harg10 arg11 harg11 x8 x9 3840 _ r q e1 e2) r d fun g3840 => ?_
  refine store_step (Val := Elt Ideal) v f (wbB ((i 1).val * 1024 + (i 0).val * 256) x8 x9) ![0, 3712] 0 3712 rfl inb_S256x4096_S256x128_0_3712 _ _ (fun r q e1 e2 => Wc_at i arg10 harg10 arg11 harg11 x8 x9 3712 _ r q e1 e2) r d fun g3712 => ?_
  refine store_step (Val := Elt Ideal) v f (wbB ((i 1).val * 1024 + (i 0).val * 256) x8 x9) ![0, 3584] 0 3584 rfl inb_S256x4096_S256x128_0_3584 _ _ (fun r q e1 e2 => Wc_at i arg10 harg10 arg11 harg11 x8 x9 3584 _ r q e1 e2) r d fun g3584 => ?_
  refine store_step (Val := Elt Ideal) v f (wbB ((i 1).val * 1024 + (i 0).val * 256) x8 x9) ![0, 3456] 0 3456 rfl inb_S256x4096_S256x128_0_3456 _ _ (fun r q e1 e2 => Wc_at i arg10 harg10 arg11 harg11 x8 x9 3456 _ r q e1 e2) r d fun g3456 => ?_
  refine store_step (Val := Elt Ideal) v f (wbB ((i 1).val * 1024 + (i 0).val * 256) x8 x9) ![0, 3328] 0 3328 rfl inb_S256x4096_S256x128_0_3328 _ _ (fun r q e1 e2 => Wc_at i arg10 harg10 arg11 harg11 x8 x9 3328 _ r q e1 e2) r d fun g3328 => ?_
  refine store_step (Val := Elt Ideal) v f (wbB ((i 1).val * 1024 + (i 0).val * 256) x8 x9) ![0, 3200] 0 3200 rfl inb_S256x4096_S256x128_0_3200 _ _ (fun r q e1 e2 => Wc_at i arg10 harg10 arg11 harg11 x8 x9 3200 _ r q e1 e2) r d fun g3200 => ?_
  refine store_step (Val := Elt Ideal) v f (wbB ((i 1).val * 1024 + (i 0).val * 256) x8 x9) ![0, 3072] 0 3072 rfl inb_S256x4096_S256x128_0_3072 _ _ (fun r q e1 e2 => Wc_at i arg10 harg10 arg11 harg11 x8 x9 3072 _ r q e1 e2) r d fun g3072 => ?_
  refine store_step (Val := Elt Ideal) v f (wbB ((i 1).val * 1024 + (i 0).val * 256) x8 x9) ![0, 2944] 0 2944 rfl inb_S256x4096_S256x128_0_2944 _ _ (fun r q e1 e2 => Wc_at i arg10 harg10 arg11 harg11 x8 x9 2944 _ r q e1 e2) r d fun g2944 => ?_
  refine store_step (Val := Elt Ideal) v f (wbB ((i 1).val * 1024 + (i 0).val * 256) x8 x9) ![0, 2816] 0 2816 rfl inb_S256x4096_S256x128_0_2816 _ _ (fun r q e1 e2 => Wc_at i arg10 harg10 arg11 harg11 x8 x9 2816 _ r q e1 e2) r d fun g2816 => ?_
  refine store_step (Val := Elt Ideal) v f (wbB ((i 1).val * 1024 + (i 0).val * 256) x8 x9) ![0, 2688] 0 2688 rfl inb_S256x4096_S256x128_0_2688 _ _ (fun r q e1 e2 => Wc_at i arg10 harg10 arg11 harg11 x8 x9 2688 _ r q e1 e2) r d fun g2688 => ?_
  refine store_step (Val := Elt Ideal) v f (wbB ((i 1).val * 1024 + (i 0).val * 256) x8 x9) ![0, 2560] 0 2560 rfl inb_S256x4096_S256x128_0_2560 _ _ (fun r q e1 e2 => Wc_at i arg10 harg10 arg11 harg11 x8 x9 2560 _ r q e1 e2) r d fun g2560 => ?_
  refine store_step (Val := Elt Ideal) v f (wbB ((i 1).val * 1024 + (i 0).val * 256) x8 x9) ![0, 2432] 0 2432 rfl inb_S256x4096_S256x128_0_2432 _ _ (fun r q e1 e2 => Wc_at i arg10 harg10 arg11 harg11 x8 x9 2432 _ r q e1 e2) r d fun g2432 => ?_
  refine store_step (Val := Elt Ideal) v f (wbB ((i 1).val * 1024 + (i 0).val * 256) x8 x9) ![0, 2304] 0 2304 rfl inb_S256x4096_S256x128_0_2304 _ _ (fun r q e1 e2 => Wc_at i arg10 harg10 arg11 harg11 x8 x9 2304 _ r q e1 e2) r d fun g2304 => ?_
  refine store_step (Val := Elt Ideal) v f (wbB ((i 1).val * 1024 + (i 0).val * 256) x8 x9) ![0, 2176] 0 2176 rfl inb_S256x4096_S256x128_0_2176 _ _ (fun r q e1 e2 => Wc_at i arg10 harg10 arg11 harg11 x8 x9 2176 _ r q e1 e2) r d fun g2176 => ?_
  refine store_step (Val := Elt Ideal) v f (wbB ((i 1).val * 1024 + (i 0).val * 256) x8 x9) ![0, 2048] 0 2048 rfl inb_S256x4096_S256x128_0_2048 _ _ (fun r q e1 e2 => Wc_at i arg10 harg10 arg11 harg11 x8 x9 2048 _ r q e1 e2) r d fun g2048 => ?_
  refine store_step (Val := Elt Ideal) v f (wbB ((i 1).val * 1024 + (i 0).val * 256) x8 x9) ![0, 1920] 0 1920 rfl inb_S256x4096_S256x128_0_1920 _ _ (fun r q e1 e2 => Wc_at i arg10 harg10 arg11 harg11 x8 x9 1920 _ r q e1 e2) r d fun g1920 => ?_
  refine store_step (Val := Elt Ideal) v f (wbB ((i 1).val * 1024 + (i 0).val * 256) x8 x9) ![0, 1792] 0 1792 rfl inb_S256x4096_S256x128_0_1792 _ _ (fun r q e1 e2 => Wc_at i arg10 harg10 arg11 harg11 x8 x9 1792 _ r q e1 e2) r d fun g1792 => ?_
  refine store_step (Val := Elt Ideal) v f (wbB ((i 1).val * 1024 + (i 0).val * 256) x8 x9) ![0, 1664] 0 1664 rfl inb_S256x4096_S256x128_0_1664 _ _ (fun r q e1 e2 => Wc_at i arg10 harg10 arg11 harg11 x8 x9 1664 _ r q e1 e2) r d fun g1664 => ?_
  refine store_step (Val := Elt Ideal) v f (wbB ((i 1).val * 1024 + (i 0).val * 256) x8 x9) ![0, 1536] 0 1536 rfl inb_S256x4096_S256x128_0_1536 _ _ (fun r q e1 e2 => Wc_at i arg10 harg10 arg11 harg11 x8 x9 1536 _ r q e1 e2) r d fun g1536 => ?_
  refine store_step (Val := Elt Ideal) v f (wbB ((i 1).val * 1024 + (i 0).val * 256) x8 x9) ![0, 1408] 0 1408 rfl inb_S256x4096_S256x128_0_1408 _ _ (fun r q e1 e2 => Wc_at i arg10 harg10 arg11 harg11 x8 x9 1408 _ r q e1 e2) r d fun g1408 => ?_
  refine store_step (Val := Elt Ideal) v f (wbB ((i 1).val * 1024 + (i 0).val * 256) x8 x9) ![0, 1280] 0 1280 rfl inb_S256x4096_S256x128_0_1280 _ _ (fun r q e1 e2 => Wc_at i arg10 harg10 arg11 harg11 x8 x9 1280 _ r q e1 e2) r d fun g1280 => ?_
  refine store_step (Val := Elt Ideal) v f (wbB ((i 1).val * 1024 + (i 0).val * 256) x8 x9) ![0, 1152] 0 1152 rfl inb_S256x4096_S256x128_0_1152 _ _ (fun r q e1 e2 => Wc_at i arg10 harg10 arg11 harg11 x8 x9 1152 _ r q e1 e2) r d fun g1152 => ?_
  refine store_step (Val := Elt Ideal) v f (wbB ((i 1).val * 1024 + (i 0).val * 256) x8 x9) ![0, 1024] 0 1024 rfl inb_S256x4096_S256x128_0_1024 _ _ (fun r q e1 e2 => Wc_at i arg10 harg10 arg11 harg11 x8 x9 1024 _ r q e1 e2) r d fun g1024 => ?_
  refine store_step (Val := Elt Ideal) v f (wbB ((i 1).val * 1024 + (i 0).val * 256) x8 x9) ![0, 896] 0 896 rfl inb_S256x4096_S256x128_0_896 _ _ (fun r q e1 e2 => Wc_at i arg10 harg10 arg11 harg11 x8 x9 896 _ r q e1 e2) r d fun g896 => ?_
  refine store_step (Val := Elt Ideal) v f (wbB ((i 1).val * 1024 + (i 0).val * 256) x8 x9) ![0, 768] 0 768 rfl inb_S256x4096_S256x128_0_768 _ _ (fun r q e1 e2 => Wc_at i arg10 harg10 arg11 harg11 x8 x9 768 _ r q e1 e2) r d fun g768 => ?_
  refine store_step (Val := Elt Ideal) v f (wbB ((i 1).val * 1024 + (i 0).val * 256) x8 x9) ![0, 640] 0 640 rfl inb_S256x4096_S256x128_0_640 _ _ (fun r q e1 e2 => Wc_at i arg10 harg10 arg11 harg11 x8 x9 640 _ r q e1 e2) r d fun g640 => ?_
  refine store_step (Val := Elt Ideal) v f (wbB ((i 1).val * 1024 + (i 0).val * 256) x8 x9) ![0, 512] 0 512 rfl inb_S256x4096_S256x128_0_512 _ _ (fun r q e1 e2 => Wc_at i arg10 harg10 arg11 harg11 x8 x9 512 _ r q e1 e2) r d fun g512 => ?_
  refine store_step (Val := Elt Ideal) v f (wbB ((i 1).val * 1024 + (i 0).val * 256) x8 x9) ![0, 384] 0 384 rfl inb_S256x4096_S256x128_0_384 _ _ (fun r q e1 e2 => Wc_at i arg10 harg10 arg11 harg11 x8 x9 384 _ r q e1 e2) r d fun g384 => ?_
  refine store_step (Val := Elt Ideal) v f (wbB ((i 1).val * 1024 + (i 0).val * 256) x8 x9) ![0, 256] 0 256 rfl inb_S256x4096_S256x128_0_256 _ _ (fun r q e1 e2 => Wc_at i arg10 harg10 arg11 harg11 x8 x9 256 _ r q e1 e2) r d fun g256 => ?_
  refine store_step (Val := Elt Ideal) v f (wbB ((i 1).val * 1024 + (i 0).val * 256) x8 x9) ![0, 128] 0 128 rfl inb_S256x4096_S256x128_0_128 _ _ (fun r q e1 e2 => Wc_at i arg10 harg10 arg11 harg11 x8 x9 128 _ r q e1 e2) r d fun g128 => ?_
  refine store_step (Val := Elt Ideal) v f (wbB ((i 1).val * 1024 + (i 0).val * 256) x8 x9) ![0, 0] 0 0 rfl inb_S256x4096_S256x128_0_0 _ _ (fun r q e1 e2 => Wc_at i arg10 harg10 arg11 harg11 x8 x9 0 _ r q e1 e2) r d fun g0 => ?_
  exfalso; omega

end

section
variable {sg : RefSig} {κ' : Kind} {sp : Space}

/-- A row chunk of the label operand. -/
theorem rel_at (mm : Memref sig .tc .vmem S1280x128 .i32) (hm : mm.IsWhole) (x : Vec Ideal S1280x128 .i32) (o : ℕ)
    (inb : ∀ a : Fin 2, (![o, 0] : Fin 2 → ℕ) a + S256x128.size a ≤ S1280x128.size a) (r : Fin 256) (q : Fin 128) (h : o + r.val < 1280) :
    View.readAt (Elt Ideal) mm.view (Rect.unit (s := S1280x128) ![o, 0] S256x128.size inb).toLoadRect (hm.unread x) (ix2 r q) = x (ix2 ⟨o + r.val, h⟩ q) :=
  (load_at (Val := Elt Ideal) mm hm x ![o, 0] o 0 rfl inb r q h (by omega)).trans (congrArg x (congrArg (ix2 _) (Fin.ext (Nat.zero_add _))))

/-- A whole buffer read back. -/
theorem covW (v : View sg κ' sp S1280x128 .f32) (inb : ∀ a : Fin 2, (![0, 0] : Fin 2 → ℕ) a + S1280x128.size a ≤ S1280x128.size a) (H : List PcL) (G : Fin 1280 → Fin 128 → EReal)
    (hG : ∀ (f : v.ty.Contents (Elt Ideal)) (r : Fin 1280) (q : Fin 128), v.read (Elt Ideal) (v.writes (Elt Ideal) f H) (ix2 r q) = G r q) (r : Fin 1280) (q : Fin 128) :
    v.readCov H (Rect.unit (s := S1280x128) ![0, 0] S1280x128.size inb).toLoadRect (ix2 r q) = G r q := by
  refine Eq.trans ?_ (hG v.junk r q)
  show v.read (Elt Ideal) (v.writes (Elt Ideal) v.junk H) _ = _
  refine congrArg _ ?_
  funext a
  revert a
  refine Fin.forall_fin_two.mpr ⟨Fin.ext ?_, Fin.ext ?_⟩
  · show 0 + 1 * r.val = r.val
    rw [Nat.one_mul, Nat.zero_add]
  · show 0 + 1 * q.val = q.val
    rw [Nat.one_mul, Nat.zero_add]

end

/-- `logits_read` of chunks. -/
def logits_readc (v : View sig .tc .vmem S1280x1024 .f32) (f : v.ty.Contents (Elt Ideal)) {P : Fin 1280 → Fin 1024 → EReal} (C : Chunks P) :=
  logits_read v f P C.l0 C.l1 C.l2 C.l3 C.l4 C.n0 C.n1 C.n2 C.n3 C.n4 C.hl0 C.hl1 C.hl2 C.hl3 C.hl4 C.hn0 C.hn1 C.hn2 C.hn3 C.hn4

end Cert.ForwardIdeal.Own

end
-- ==== Proof.FwdTen.lean ====
/- A lane buffer of the forward body at a row block's first point: filled, then stored to ten times. -/
module

public import proofs.«01_k».proof.Proof.FwdOut

@[expose] public section

set_option maxRecDepth 65536

noncomputable section

namespace Cert.ForwardIdeal.Own

open Idealize.ShloMosaic Idealize.ShloMosaic.TcCoe Idealize.SL.Sem Idealize.ShloMosaic.Pointwise
open Cert.ForwardIdeal Cert.ForwardIdeal.Gen

section
variable {sg : RefSig} {κ' : Kind} {sp : Space} (v vs : View sg κ' sp S1280x128 .f32) (Z Zs : Vec Ideal S1280x128 .f32)

/-- The whole buffer, filled. -/
abbrev F (Z : Vec Ideal S1280x128 .f32) : List PcL := [⟨Rect.unit (s := S1280x128) ![0, 0] S1280x128.size inb_S1280x128_S1280x128_0_0, Z⟩]

/-- The operand loaded at row 0 after 0 stores. -/
abbrev A0 : Lane := v.readCov (F Z : List PcL) R0.toLoadRect
/-- The operand loaded at row 256 after 1 stores. -/
abbrev A1 (w0 : Lane) : Lane := v.readCov (⟨R0, w0⟩ :: F Z : List PcL) R256.toLoadRect
/-- The operand loaded at row 512 after 2 stores. -/
abbrev A2 (w0 w1 : Lane) : Lane := v.readCov (⟨R256, w1⟩ :: ⟨R0, w0⟩ :: F Z : List PcL) R512.toLoadRect
/-- The operand loaded at row 768 after 3 stores. -/
abbrev A3 (w0 w1 w2 : Lane) : Lane := v.readCov (⟨R512, w2⟩ :: ⟨R256, w1⟩ :: ⟨R0, w0⟩ :: F Z : List PcL) R768.toLoadRect
/-- The operand loaded at row 1024 after 4 stores. -/
abbrev A4 (w0 w1 w2 w3 : Lane) : Lane := v.readCov (⟨R768, w3⟩ :: ⟨R512, w2⟩ :: ⟨R256, w1⟩ :: ⟨R0, w0⟩ :: F Z : List PcL) R1024.toLoadRect
variable (l0 l1 l2 l3 l4 n0 n1 n2 n3 n4 : FVec Ideal S256x512 .f32) (b b' : BitVec 32) (e0 e1 e2 e3 e4 : Vec Ideal S256x128 .i32)
abbrev mA0 : Lane := A0 v Z
abbrev mA1 : Lane := A1 v Z (MN l0 (mA0 v Z ))
abbrev mA2 : Lane := A2 v Z (MN l0 (mA0 v Z )) (MN l1 (mA1 v Z l0))
abbrev mA3 : Lane := A3 v Z (MN l0 (mA0 v Z )) (MN l1 (mA1 v Z l0)) (MN l2 (mA2 v Z l0 l1))
abbrev mA4 : Lane := A4 v Z (MN l0 (mA0 v Z )) (MN l1 (mA1 v Z l0)) (MN l2 (mA2 v Z l0 l1)) (MN l3 (mA3 v Z l0 l1 l2))
abbrev sA0 : Lane := A0 vs Zs
abbrev sA1 : Lane := A1 vs Zs (SN l0 (mA0 v Z ) (sA0 vs Zs))
abbrev sA2 : Lane := A2 vs Zs (SN l0 (mA0 v Z ) (sA0 vs Zs)) (SN l1 (mA1 v Z l0) (sA1 v vs Z Zs l0))
abbrev sA3 : Lane := A3 vs Zs (SN l0 (mA0 v Z ) (sA0 vs Zs)) (SN l1 (mA1 v Z l0) (sA1 v vs Z Zs l0)) (SN l2 (mA2 v Z l0 l1) (sA2 v vs Z Zs l0 l1))
abbrev sA4 : Lane := A4 vs Zs (SN l0 (mA0 v Z ) (sA0 vs Zs)) (SN l1 (mA1 v Z l0) (sA1 v vs Z Zs l0)) (SN l2 (mA2 v Z l0 l1) (sA2 v vs Z Zs l0 l1)) (SN l3 (mA3 v Z l0 l1 l2) (sA3 v vs Z Zs l0 l1 l2))
abbrev lA0 : Lane := A0 v Z
abbrev lA1 : Lane := A1 v Z (LN b e0 l0 (lA0 v Z  ))
abbrev lA2 : Lane := A2 v Z (LN b e0 l0 (lA0 v Z  )) (LN b e1 l1 (lA1 v Z l0 b e0))
abbrev lA3 : Lane := A3 v Z (LN b e0 l0 (lA0 v Z  )) (LN b e1 l1 (lA1 v Z l0 b e0)) (LN b e2 l2 (lA2 v Z l0 l1 b e0 e1))
abbrev lA4 : Lane := A4 v Z (LN b e0 l0 (lA0 v Z  )) (LN b e1 l1 (lA1 v Z l0 b e0)) (LN b e2 l2 (lA2 v Z l0 l1 b e0 e1)) (LN b e3 l3 (lA3 v Z l0 l1 l2 b e0 e1 e2))

variable (P : Fin 1280 → Fin 1024 → EReal) (hl0 : AtP P 0 0 l0) (hn0 : AtP P 0 512 n0) (hl1 : AtP P 256 0 l1) (hn1 : AtP P 256 512 n1) (hl2 : AtP P 512 0 l2) (hn2 : AtP P 512 512 n2) (hl3 : AtP P 768 0 l3) (hn3 : AtP P 768 512 n3) (hl4 : AtP P 1024 0 l4) (hn4 : AtP P 1024 512 n4)
  (G Gs : Fin 1280 → Fin 128 → EReal) (hZ : ∀ r q, Z (ix2 r q) = G r q) (hZs : ∀ r q, Zs (ix2 r q) = Gs r q)

section
include hl0 hn0 hl1 hn1 hl2 hn2 hl3 hn3 hl4 hn4 hZ
theorem tenMA (f : v.ty.Contents (Elt Ideal)) (r : Fin 1280) (q : Fin 128) :
    v.read (Elt Ideal) (v.writes (Elt Ideal) f (H5 v (MN l0 (mA0 v Z )) (MN l1 (mA1 v Z l0)) (MN l2 (mA2 v Z l0 l1)) (MN l3 (mA3 v Z l0 l1 l2)) (MN l4 (mA4 v Z l0 l1 l2 l3)) (MN n0) (MN n1) (MN n2) (MN n3) (MN n4) (F Z))) (ix2 r q) = mU 512 (by decide) P (mU 0 (by decide) P G) r q :=
  tenM v P l0 l1 l2 l3 l4 n0 n1 n2 n3 n4 (mA0 v Z ) (mA1 v Z l0) (mA2 v Z l0 l1) (mA3 v Z l0 l1 l2) (mA4 v Z l0 l1 l2 l3) (F Z) hl0 hn0 hl1 hn1 hl2 hn2 hl3 hn3 hl4 hn4 G (fill0 v inb_S1280x128_S1280x128_0_0 Z (fun _ => (0 : EReal)) G hZ) (fill1 v inb_S1280x128_S1280x128_0_0 Z (MN l0 (mA0 v Z )) G hZ) (fill2 v inb_S1280x128_S1280x128_0_0 Z (MN l0 (mA0 v Z )) (MN l1 (mA1 v Z l0)) G hZ) (fill3 v inb_S1280x128_S1280x128_0_0 Z (MN l0 (mA0 v Z )) (MN l1 (mA1 v Z l0)) (MN l2 (mA2 v Z l0 l1)) G hZ) (fill4 v inb_S1280x128_S1280x128_0_0 Z (MN l0 (mA0 v Z )) (MN l1 (mA1 v Z l0)) (MN l2 (mA2 v Z l0 l1)) (MN l3 (mA3 v Z l0 l1 l2)) G hZ) f r q

include hZs in
theorem tenSA (f : vs.ty.Contents (Elt Ideal)) (r : Fin 1280) (q : Fin 128) :
    vs.read (Elt Ideal) (vs.writes (Elt Ideal) f (H5 vs (SN l0 (mA0 v Z ) (sA0 vs Zs)) (SN l1 (mA1 v Z l0) (sA1 v vs Z Zs l0)) (SN l2 (mA2 v Z l0 l1) (sA2 v vs Z Zs l0 l1)) (SN l3 (mA3 v Z l0 l1 l2) (sA3 v vs Z Zs l0 l1 l2)) (SN l4 (mA4 v Z l0 l1 l2 l3) (sA4 v vs Z Zs l0 l1 l2 l3)) (SN n0 (v.readCov (H0 (MN l0 (mA0 v Z )) (MN l1 (mA1 v Z l0)) (MN l2 (mA2 v Z l0 l1)) (MN l3 (mA3 v Z l0 l1 l2)) (MN l4 (mA4 v Z l0 l1 l2 l3))  (F Z)) R0.toLoadRect)) (SN n1 (v.readCov (H1 v (MN l0 (mA0 v Z )) (MN l1 (mA1 v Z l0)) (MN l2 (mA2 v Z l0 l1)) (MN l3 (mA3 v Z l0 l1 l2)) (MN l4 (mA4 v Z l0 l1 l2 l3)) (MN n0) (F Z)) R256.toLoadRect)) (SN n2 (v.readCov (H2 v (MN l0 (mA0 v Z )) (MN l1 (mA1 v Z l0)) (MN l2 (mA2 v Z l0 l1)) (MN l3 (mA3 v Z l0 l1 l2)) (MN l4 (mA4 v Z l0 l1 l2 l3)) (MN n0) (MN n1) (F Z)) R512.toLoadRect)) (SN n3 (v.readCov (H3 v (MN l0 (mA0 v Z )) (MN l1 (mA1 v Z l0)) (MN l2 (mA2 v Z l0 l1)) (MN l3 (mA3 v Z l0 l1 l2)) (MN l4 (mA4 v Z l0 l1 l2 l3)) (MN n0) (MN n1) (MN n2) (F Z)) R768.toLoadRect)) (SN n4 (v.readCov (H4 v (MN l0 (mA0 v Z )) (MN l1 (mA1 v Z l0)) (MN l2 (mA2 v Z l0 l1)) (MN l3 (mA3 v Z l0 l1 l2)) (MN l4 (mA4 v Z l0 l1 l2 l3)) (MN n0) (MN n1) (MN n2) (MN n3) (F Z)) R1024.toLoadRect)) (F Zs))) (ix2 r q)
      = sU 512 (by decide) P (mU 0 (by decide) P G) (sU 0 (by decide) P G Gs) r q :=
  tenS v vs P l0 l1 l2 l3 l4 n0 n1 n2 n3 n4 (mA0 v Z ) (mA1 v Z l0) (mA2 v Z l0 l1) (mA3 v Z l0 l1 l2) (mA4 v Z l0 l1 l2 l3) (sA0 vs Zs) (sA1 v vs Z Zs l0) (sA2 v vs Z Zs l0 l1) (sA3 v vs Z Zs l0 l1 l2) (sA4 v vs Z Zs l0 l1 l2 l3) (F Z) (F Zs) hl0 hn0 hl1 hn1 hl2 hn2 hl3 hn3 hl4 hn4 G Gs (fill0 v inb_S1280x128_S1280x128_0_0 Z (fun _ => (0 : EReal)) G hZ) (fill1 v inb_S1280x128_S1280x128_0_0 Z (MN l0 (mA0 v Z )) G hZ) (fill2 v inb_S1280x128_S1280x128_0_0 Z (MN l0 (mA0 v Z )) (MN l1 (mA1 v Z l0)) G hZ) (fill3 v inb_S1280x128_S1280x128_0_0 Z (MN l0 (mA0 v Z )) (MN l1 (mA1 v Z l0)) (MN l2 (mA2 v Z l0 l1)) G hZ) (fill4 v inb_S1280x128_S1280x128_0_0 Z (MN l0 (mA0 v Z )) (MN l1 (mA1 v Z l0)) (MN l2 (mA2 v Z l0 l1)) (MN l3 (mA3 v Z l0 l1 l2)) G hZ) (fill0 vs inb_S1280x128_S1280x128_0_0 Zs (fun _ => (0 : EReal)) Gs hZs) (fill1 vs inb_S1280x128_S1280x128_0_0 Zs (SN l0 (mA0 v Z ) (sA0 vs Zs)) Gs hZs) (fill2 vs inb_S1280x128_S1280x128_0_0 Zs (SN l0 (mA0 v Z ) (sA0 vs Zs)) (SN l1 (mA1 v Z l0) (sA1 v vs Z Zs l0)) Gs hZs) (fill3 vs inb_S1280x128_S1280x128_0_0 Zs (SN l0 (mA0 v Z ) (sA0 vs Zs)) (SN l1 (mA1 v Z l0) (sA1 v vs Z Zs l0)) (SN l2 (mA2 v Z l0 l1) (sA2 v vs Z Zs l0 l1)) Gs hZs) (fill4 vs inb_S1280x128_S1280x128_0_0 Zs (SN l0 (mA0 v Z ) (sA0 vs Zs)) (SN l1 (mA1 v Z l0) (sA1 v vs Z Zs l0)) (SN l2 (mA2 v Z l0 l1) (sA2 v vs Z Zs l0 l1)) (SN l3 (mA3 v Z l0 l1 l2) (sA3 v vs Z Zs l0 l1 l2)) Gs hZs) f r q

theorem tenLA (re : Fin 1280 → Fin 128 → BitVec 32)
    (he0 : ∀ (r : Fin 256) (q : Fin 128) (h : 0 + r.val < 1280), e0 (ix2 r q) = re ⟨0 + r.val, h⟩ q) (he1 : ∀ (r : Fin 256) (q : Fin 128) (h : 256 + r.val < 1280), e1 (ix2 r q) = re ⟨256 + r.val, h⟩ q) (he2 : ∀ (r : Fin 256) (q : Fin 128) (h : 512 + r.val < 1280), e2 (ix2 r q) = re ⟨512 + r.val, h⟩ q) (he3 : ∀ (r : Fin 256) (q : Fin 128) (h : 768 + r.val < 1280), e3 (ix2 r q) = re ⟨768 + r.val, h⟩ q) (he4 : ∀ (r : Fin 256) (q : Fin 128) (h : 1024 + r.val < 1280), e4 (ix2 r q) = re ⟨1024 + r.val, h⟩ q) (f : v.ty.Contents (Elt Ideal)) (r : Fin 1280) (q : Fin 128) :
    v.read (Elt Ideal) (v.writes (Elt Ideal) f (H5 v (LN b e0 l0 (lA0 v Z  )) (LN b e1 l1 (lA1 v Z l0 b e0)) (LN b e2 l2 (lA2 v Z l0 l1 b e0 e1)) (LN b e3 l3 (lA3 v Z l0 l1 l2 b e0 e1 e2)) (LN b e4 l4 (lA4 v Z l0 l1 l2 l3 b e0 e1 e2 e3)) (LN b' e0 n0) (LN b' e1 n1) (LN b' e2 n2) (LN b' e3 n3) (LN b' e4 n4) (F Z))) (ix2 r q)
      = lU b' re 512 (by decide) P (lU b re 0 (by decide) P G) r q :=
  tenL v P l0 l1 l2 l3 l4 n0 n1 n2 n3 n4 (lA0 v Z  ) (lA1 v Z l0 b e0) (lA2 v Z l0 l1 b e0 e1) (lA3 v Z l0 l1 l2 b e0 e1 e2) (lA4 v Z l0 l1 l2 l3 b e0 e1 e2 e3) (F Z) hl0 hn0 hl1 hn1 hl2 hn2 hl3 hn3 hl4 hn4 G (fill0 v inb_S1280x128_S1280x128_0_0 Z (fun _ => (0 : EReal)) G hZ) (fill1 v inb_S1280x128_S1280x128_0_0 Z (LN b e0 l0 (lA0 v Z  )) G hZ) (fill2 v inb_S1280x128_S1280x128_0_0 Z (LN b e0 l0 (lA0 v Z  )) (LN b e1 l1 (lA1 v Z l0 b e0)) G hZ) (fill3 v inb_S1280x128_S1280x128_0_0 Z (LN b e0 l0 (lA0 v Z  )) (LN b e1 l1 (lA1 v Z l0 b e0)) (LN b e2 l2 (lA2 v Z l0 l1 b e0 e1)) G hZ) (fill4 v inb_S1280x128_S1280x128_0_0 Z (LN b e0 l0 (lA0 v Z  )) (LN b e1 l1 (lA1 v Z l0 b e0)) (LN b e2 l2 (lA2 v Z l0 l1 b e0 e1)) (LN b e3 l3 (lA3 v Z l0 l1 l2 b e0 e1 e2)) G hZ) b b' e0 e1 e2 e3 e4 re he0 he1 he2 he3 he4 f r q
end
end

section
variable {sg : RefSig} {κ' : Kind} {sp : Space} (v vs : View sg κ' sp S1280x128 .f32) (Z Zs : Vec Ideal S1280x128 .f32) {P : Fin 1280 → Fin 1024 → EReal} (C : Chunks P)
/-- `tenMA` of chunks. -/
def tenMAc := tenMA v Z C.l0 C.l1 C.l2 C.l3 C.l4 C.n0 C.n1 C.n2 C.n3 C.n4 P C.hl0 C.hn0 C.hl1 C.hn1 C.hl2 C.hn2 C.hl3 C.hn3 C.hl4 C.hn4
/-- `tenSA` of chunks. -/
def tenSAc := tenSA v vs Z Zs C.l0 C.l1 C.l2 C.l3 C.l4 C.n0 C.n1 C.n2 C.n3 C.n4 P C.hl0 C.hn0 C.hl1 C.hn1 C.hl2 C.hn2 C.hl3 C.hn3 C.hl4 C.hn4
/-- `tenLA` of chunks. -/
def tenLAc (b b' : BitVec 32) (e0 e1 e2 e3 e4 : Vec Ideal S256x128 .i32) := tenLA v Z C.l0 C.l1 C.l2 C.l3 C.l4 C.n0 C.n1 C.n2 C.n3 C.n4 b b' e0 e1 e2 e3 e4 P C.hl0 C.hn0 C.hl1 C.hn1 C.hl2 C.hn2 C.hl3 C.hn3 C.hl4 C.hn4
end

end Cert.ForwardIdeal.Own

end
-- ==== Proof.FwdA.lean ====
/- The forward body run in case A of its two conditionals. -/
module

public import proofs.«01_k».proof.Proof.FwdRuns

@[expose] public section

set_option maxRecDepth 65536

noncomputable section

namespace Cert.ForwardIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ForwardIdeal Cert.ForwardIdeal.Gen

variable {F : FTy → Type} [FloatOps F] [Named F]

local notation "𝕄" => MT nD τ sig Unit (Elt F) ℕ (UR sig nD τ) ℕ

set_option maxHeartbeats 16000000 in
/-- The body's triple in the case `cond0_0 i`, `¬ cond0_1 i`: the inputs are handed back as they were, each buffer stored to with the
    pieces the run stored (`L11` the logits, `L12` the cast weights, `L13` and `L14` the row results at the last block, `L15` … `L20` the running states). -/
noncomputable def bodyRun_A (c : Dev nD) (i : grid0.Coords) (arg2 : Memref sig .tc .vmem S1280x4096 .fp8e4m3) (harg2 : arg2.IsWhole) (arg3 : Memref sig .tc .vmem S1280x4096 .fp8e4m3) (harg3 : arg3.IsWhole) (arg4 : Memref sig .tc .vmem S1280x128 .f32) (harg4 : arg4.IsWhole) (arg5 : Memref sig .tc .vmem S1280x128 .f32) (harg5 : arg5.IsWhole) (arg6 : Memref sig .tc .vmem S1280x16 .bf16) (harg6 : arg6.IsWhole) (arg7 : Memref sig .tc .vmem S1280x128 .i32) (harg7 : arg7.IsWhole) (arg8 : Memref sig .tc .vmem S1024x4096 .fp8e4m3) (harg8 : arg8.IsWhole) (arg9 : Memref sig .tc .vmem S1x1024 .f32) (harg9 : arg9.IsWhole) (arg10 : Memref sig .tc .vmem S256x4096 .fp8e4m3) (harg10 : arg10.IsWhole) (arg11 : Memref sig .tc .vmem S1x256 .f32) (harg11 : arg11.IsWhole) (arg12 : Memref sig .tc .vmem S16x1024 .bf16) (harg12 : arg12.IsWhole) (arg13 : Memref sig .tc .vmem S1280x1024 .f32) (harg13 : arg13.IsWhole) (arg14 : Memref sig .tc .vmem S256x4096 .bf16) (harg14 : arg14.IsWhole) (arg15 : Memref sig .tc .vmem S1280x128 .f32) (harg15 : arg15.IsWhole) (arg16 : Memref sig .tc .vmem S1280x128 .f32) (harg16 : arg16.IsWhole) (arg17 : Memref sig .tc .vmem S1280x128 .f32) (harg17 : arg17.IsWhole) (arg18 : Memref sig .tc .vmem S1280x128 .f32) (harg18 : arg18.IsWhole) (arg19 : Memref sig .tc .vmem S1280x128 .f32) (harg19 : arg19.IsWhole) (arg20 : Memref sig .tc .vmem S1280x128 .f32) (harg20 : arg20.IsWhole) (arg21 : Memref sig .tc .vmem S1280x128 .f32) (harg21 : arg21.IsWhole) (arg22 : Memref sig .tc .vmem S1280x128 .f32) (harg22 : arg22.IsWhole)
    (hc0 : cond0_0 i) (hc1 : ¬ cond0_1 i)
    (x0 : Vec F S1280x4096 .fp8e4m3) (x1 : Vec F S1280x4096 .fp8e4m3) (x2 : Vec F S1280x128 .f32) (x3 : Vec F S1280x128 .f32) (x4 : Vec F S1280x16 .bf16) (x5 : Vec F S1280x128 .i32) (x6 : Vec F S1024x4096 .fp8e4m3) (x7 : Vec F S1x1024 .f32) (x8 : Vec F S256x4096 .fp8e4m3) (x9 : Vec F S1x256 .f32) (x10 : Vec F S16x1024 .bf16) (x15 : Vec F S1280x128 .f32) (x16 : Vec F S1280x128 .f32) (x17 : Vec F S1280x128 .f32) (x18 : Vec F S1280x128 .f32) (x19 : Vec F S1280x128 .f32) (x20 : Vec F S1280x128 .f32) :
    Σ' (L11 : List (View.Piece (Elt F) S1280x1024 .f32)), Σ' (L12 : List (View.Piece (Elt F) S256x4096 .bf16)), Σ' (L15 : List (View.Piece (Elt F) S1280x128 .f32)), Σ' (L16 : List (View.Piece (Elt F) S1280x128 .f32)), Σ' (L17 : List (View.Piece (Elt F) S1280x128 .f32)), Σ' (L18 : List (View.Piece (Elt F) S1280x128 .f32)), Σ' (L19 : List (View.Piece (Elt F) S1280x128 .f32)), { L20 : List (View.Piece (Elt F) S1280x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (arg17.view.loc (c : Thread nD τ) ↦[arg17.view.set]{fullShare} arg17.view.writes (Elt F) (harg17.unread x15) L15) ∗ (arg18.view.loc (c : Thread nD τ) ↦[arg18.view.set]{fullShare} arg18.view.writes (Elt F) (harg18.unread x16) L16) ∗ (arg19.view.loc (c : Thread nD τ) ↦[arg19.view.set]{fullShare} arg19.view.writes (Elt F) (harg19.unread x17) L17) ∗ (arg20.view.loc (c : Thread nD τ) ↦[arg20.view.set]{fullShare} arg20.view.writes (Elt F) (harg20.unread x18) L18) ∗ (arg21.view.loc (c : Thread nD τ) ↦[arg21.view.set]{fullShare} arg21.view.writes (Elt F) (harg21.unread x19) L19) ∗ (arg22.view.loc (c : Thread nD τ) ↦[arg22.view.set]{fullShare} arg22.view.writes (Elt F) (harg22.unread x20) L20)) -∗ K ⟨⟩))
          ⊢ wp frame (wpE (defs₀ (F := F)) Variants.none c none) E (cc0_forward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, fun E K => ?run⟩
  case run =>
    simp only [cc0_forward_eq_skeleton]; unfold cc0_forward_skel
    simp only [k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg17.eq_unread hf15; obtain rfl := harg18.eq_unread hf16; obtain rfl := harg19.eq_unread hf17; obtain rfl := harg20.eq_unread hf18; obtain rfl := harg21.eq_unread hf19; obtain rfl := harg22.eq_unread hf20
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; iexact H11
    isplitl [H12]
    · iexists _; iexact H12
    isplitl [H15]
    · iexact H15
    isplitl [H16]
    · iexact H16
    isplitl [H17]
    · iexact H17
    isplitl [H18]
    · iexact H18
    isplitl [H19]
    · iexact H19
    iexact H20

end Cert.ForwardIdeal.Own

end
-- ==== Proof.FwdElA.lean ====
/- What the forward body's stores leave in each buffer, element by element, case A. -/
module

public import proofs.«01_k».proof.Proof.FwdTen
public import proofs.«01_k».proof.Proof.FwdA

@[expose] public section

set_option maxRecDepth 65536

noncomputable section

namespace Cert.ForwardIdeal.Own

open Idealize.ShloMosaic Idealize.ShloMosaic.TcCoe Idealize.SL.Sem Idealize.ShloMosaic.Pointwise
open Cert.ForwardIdeal Cert.ForwardIdeal.Gen

section
variable (c : Dev nD) (i : grid0.Coords) (arg2 : Memref sig .tc .vmem S1280x4096 .fp8e4m3) (harg2 : arg2.IsWhole) (arg3 : Memref sig .tc .vmem S1280x4096 .fp8e4m3) (harg3 : arg3.IsWhole) (arg4 : Memref sig .tc .vmem S1280x128 .f32) (harg4 : arg4.IsWhole) (arg5 : Memref sig .tc .vmem S1280x128 .f32) (harg5 : arg5.IsWhole) (arg6 : Memref sig .tc .vmem S1280x16 .bf16) (harg6 : arg6.IsWhole) (arg7 : Memref sig .tc .vmem S1280x128 .i32) (harg7 : arg7.IsWhole) (arg8 : Memref sig .tc .vmem S1024x4096 .fp8e4m3) (harg8 : arg8.IsWhole) (arg9 : Memref sig .tc .vmem S1x1024 .f32) (harg9 : arg9.IsWhole) (arg10 : Memref sig .tc .vmem S256x4096 .fp8e4m3) (harg10 : arg10.IsWhole) (arg11 : Memref sig .tc .vmem S1x256 .f32) (harg11 : arg11.IsWhole) (arg12 : Memref sig .tc .vmem S16x1024 .bf16) (harg12 : arg12.IsWhole) (arg13 : Memref sig .tc .vmem S1280x1024 .f32) (harg13 : arg13.IsWhole) (arg14 : Memref sig .tc .vmem S256x4096 .bf16) (harg14 : arg14.IsWhole) (arg15 : Memref sig .tc .vmem S1280x128 .f32) (harg15 : arg15.IsWhole) (arg16 : Memref sig .tc .vmem S1280x128 .f32) (harg16 : arg16.IsWhole) (arg17 : Memref sig .tc .vmem S1280x128 .f32) (harg17 : arg17.IsWhole) (arg18 : Memref sig .tc .vmem S1280x128 .f32) (harg18 : arg18.IsWhole) (arg19 : Memref sig .tc .vmem S1280x128 .f32) (harg19 : arg19.IsWhole) (arg20 : Memref sig .tc .vmem S1280x128 .f32) (harg20 : arg20.IsWhole) (arg21 : Memref sig .tc .vmem S1280x128 .f32) (harg21 : arg21.IsWhole) (arg22 : Memref sig .tc .vmem S1280x128 .f32) (harg22 : arg22.IsWhole) (hc0 : cond0_0 i) (hc1 : ¬ cond0_1 i)
  (x0 : Vec Ideal S1280x4096 .fp8e4m3) (x1 : Vec Ideal S1280x4096 .fp8e4m3) (x2 : Vec Ideal S1280x128 .f32) (x3 : Vec Ideal S1280x128 .f32) (x4 : Vec Ideal S1280x16 .bf16) (x5 : Vec Ideal S1280x128 .i32) (x6 : Vec Ideal S1024x4096 .fp8e4m3) (x7 : Vec Ideal S1x1024 .f32) (x8 : Vec Ideal S256x4096 .fp8e4m3) (x9 : Vec Ideal S1x256 .f32) (x10 : Vec Ideal S16x1024 .bf16) (x15 : Vec Ideal S1280x128 .f32) (x16 : Vec Ideal S1280x128 .f32) (x17 : Vec Ideal S1280x128 .f32) (x18 : Vec Ideal S1280x128 .f32) (x19 : Vec Ideal S1280x128 .f32) (x20 : Vec Ideal S1280x128 .f32)

theorem read11_A (f : arg13.view.ty.Contents (Elt Ideal)) (r : Fin 1280) (k : Fin 1024) : arg13.view.read (Elt Ideal) (arg13.view.writes (Elt Ideal) f (bodyRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x15 x16 x17 x18 x19 x20).1) (ix2 r k) = polB (i 1).val x0 x2 x4 x6 x7 x10 r k := by
  have h := logits_readc arg13.view f (pChunks i arg2 harg2 arg4 harg4 arg6 harg6 arg8 harg8 arg9 harg9 arg12 harg12 x0 x2 x4 x6 x7 x10) r k
  dsimp only [pChunks] at h
  exact h

theorem read12_A (f : arg14.view.ty.Contents (Elt Ideal)) (r : Fin 256) (d : Fin 4096) : arg14.view.read (Elt Ideal) (arg14.view.writes (Elt Ideal) f (bodyRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x15 x16 x17 x18 x19 x20).2.1) (ix2 r d) = wbB ((i 1).val * 1024 + (i 0).val * 256) x8 x9 r d :=
  weights_read i arg10 harg10 arg11 harg11 x8 x9 arg14.view f r d

theorem z15 (r : Fin 1280) (q : Fin 128) : k0_pay6 (F := Ideal) (ix2 r q) = (⊥ : EReal) := by
  unfold k0_pay6
  rw [masked_eq]
  pointwise

theorem z16 (r : Fin 1280) (q : Fin 128) : k0_pay7 (F := Ideal) (ix2 r q) = (0 : EReal) := by
  unfold k0_pay7
  skip
  pointwise

theorem z17 (r : Fin 1280) (q : Fin 128) : k0_pay8 (F := Ideal) (ix2 r q) = (0 : EReal) := by
  unfold k0_pay8
  skip
  pointwise

theorem z18 (r : Fin 1280) (q : Fin 128) : k0_pay9 (F := Ideal) (ix2 r q) = (⊥ : EReal) := by
  unfold k0_pay9
  rw [masked_eq]
  pointwise

theorem z19 (r : Fin 1280) (q : Fin 128) : k0_pay10 (F := Ideal) (ix2 r q) = (0 : EReal) := by
  unfold k0_pay10
  skip
  pointwise

theorem z20 (r : Fin 1280) (q : Fin 128) : k0_pay11 (F := Ideal) (ix2 r q) = (0 : EReal) := by
  unfold k0_pay11
  skip
  pointwise

theorem read15_A (f : arg17.view.ty.Contents (Elt Ideal)) (r : Fin 1280) (q : Fin 128) :
    arg17.view.read (Elt Ideal) (arg17.view.writes (Elt Ideal) f (bodyRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x15 x16 x17 x18 x19 x20).2.2.1) (ix2 r q) = mU 512 (by decide) (polB (i 1).val x0 x2 x4 x6 x7 x10) (mU 0 (by decide) (polB (i 1).val x0 x2 x4 x6 x7 x10) (fun _ _ => (⊥ : EReal))) r q := by
  have h := tenMAc arg17.view (k0_pay6 (F := Ideal)) (pChunks i arg2 harg2 arg4 harg4 arg6 harg6 arg8 harg8 arg9 harg9 arg12 harg12 x0 x2 x4 x6 x7 x10) (fun _ _ => (⊥ : EReal)) (z15) f r q
  dsimp only [pChunks] at h
  exact h

theorem read16_A (f : arg18.view.ty.Contents (Elt Ideal)) (r : Fin 1280) (q : Fin 128) :
    arg18.view.read (Elt Ideal) (arg18.view.writes (Elt Ideal) f (bodyRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x15 x16 x17 x18 x19 x20).2.2.2.1) (ix2 r q) = sU 512 (by decide) (polB (i 1).val x0 x2 x4 x6 x7 x10) (mU 0 (by decide) (polB (i 1).val x0 x2 x4 x6 x7 x10) (fun _ _ => (⊥ : EReal))) (sU 0 (by decide) (polB (i 1).val x0 x2 x4 x6 x7 x10) (fun _ _ => (⊥ : EReal)) (fun _ _ => (0 : EReal))) r q := by
  have h := tenSAc arg17.view arg18.view (k0_pay6 (F := Ideal)) (k0_pay7 (F := Ideal)) (pChunks i arg2 harg2 arg4 harg4 arg6 harg6 arg8 harg8 arg9 harg9 arg12 harg12 x0 x2 x4 x6 x7 x10) (fun _ _ => (⊥ : EReal)) (fun _ _ => (0 : EReal)) (z15) (z16) f r q
  dsimp only [pChunks] at h
  exact h

theorem read17_A (f : arg19.view.ty.Contents (Elt Ideal)) (r : Fin 1280) (q : Fin 128) :
    arg19.view.read (Elt Ideal) (arg19.view.writes (Elt Ideal) f (bodyRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x15 x16 x17 x18 x19 x20).2.2.2.2.1) (ix2 r q) = lU (Scalar.addi (Scalar.muli (BitVec.ofNat 32 (i 1).val) 1024#32) 512#32) (fun r q => x5 (ix2 r q)) 512 (by decide) (polB (i 1).val x0 x2 x4 x6 x7 x10) (lU (Scalar.addi (Scalar.muli (BitVec.ofNat 32 (i 1).val) 1024#32) 0#32) (fun r q => x5 (ix2 r q)) 0 (by decide) (polB (i 1).val x0 x2 x4 x6 x7 x10) (fun _ _ => (0 : EReal))) r q := by
  have h := tenLAc arg19.view (k0_pay8 (F := Ideal)) (pChunks i arg2 harg2 arg4 harg4 arg6 harg6 arg8 harg8 arg9 harg9 arg12 harg12 x0 x2 x4 x6 x7 x10) (Scalar.addi (Scalar.muli (BitVec.ofNat 32 (i 1).val) 1024#32) 0#32) (Scalar.addi (Scalar.muli (BitVec.ofNat 32 (i 1).val) 1024#32) 512#32) _ _ _ _ _ (fun _ _ => (0 : EReal)) (z17) (fun r q => x5 (ix2 r q))
    (rel_at arg7 harg7 x5 0 inb_S1280x128_S256x128_0_0) (rel_at arg7 harg7 x5 256 inb_S1280x128_S256x128_256_0) (rel_at arg7 harg7 x5 512 inb_S1280x128_S256x128_512_0) (rel_at arg7 harg7 x5 768 inb_S1280x128_S256x128_768_0) (rel_at arg7 harg7 x5 1024 inb_S1280x128_S256x128_1024_0) f r q
  dsimp only [pChunks] at h
  exact h

theorem read18_A (f : arg20.view.ty.Contents (Elt Ideal)) (r : Fin 1280) (q : Fin 128) :
    arg20.view.read (Elt Ideal) (arg20.view.writes (Elt Ideal) f (bodyRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x15 x16 x17 x18 x19 x20).2.2.2.2.2.1) (ix2 r q) = mU 512 (by decide) (rfmB (i 1).val x1 x3 x6 x7) (mU 0 (by decide) (rfmB (i 1).val x1 x3 x6 x7) (fun _ _ => (⊥ : EReal))) r q := by
  have h := tenMAc arg20.view (k0_pay9 (F := Ideal)) (rChunks i arg3 harg3 arg5 harg5 arg8 harg8 arg9 harg9 x1 x3 x6 x7) (fun _ _ => (⊥ : EReal)) (z18) f r q
  dsimp only [rChunks] at h
  exact h

theorem read19_A (f : arg21.view.ty.Contents (Elt Ideal)) (r : Fin 1280) (q : Fin 128) :
    arg21.view.read (Elt Ideal) (arg21.view.writes (Elt Ideal) f (bodyRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x15 x16 x17 x18 x19 x20).2.2.2.2.2.2.1) (ix2 r q) = sU 512 (by decide) (rfmB (i 1).val x1 x3 x6 x7) (mU 0 (by decide) (rfmB (i 1).val x1 x3 x6 x7) (fun _ _ => (⊥ : EReal))) (sU 0 (by decide) (rfmB (i 1).val x1 x3 x6 x7) (fun _ _ => (⊥ : EReal)) (fun _ _ => (0 : EReal))) r q := by
  have h := tenSAc arg20.view arg21.view (k0_pay9 (F := Ideal)) (k0_pay10 (F := Ideal)) (rChunks i arg3 harg3 arg5 harg5 arg8 harg8 arg9 harg9 x1 x3 x6 x7) (fun _ _ => (⊥ : EReal)) (fun _ _ => (0 : EReal)) (z18) (z19) f r q
  dsimp only [rChunks] at h
  exact h

theorem read20_A (f : arg22.view.ty.Contents (Elt Ideal)) (r : Fin 1280) (q : Fin 128) :
    arg22.view.read (Elt Ideal) (arg22.view.writes (Elt Ideal) f (bodyRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x15 x16 x17 x18 x19 x20).2.2.2.2.2.2.2.1) (ix2 r q) = lU (Scalar.addi (Scalar.muli (BitVec.ofNat 32 (i 1).val) 1024#32) 512#32) (fun r q => x5 (ix2 r q)) 512 (by decide) (rfmB (i 1).val x1 x3 x6 x7) (lU (Scalar.addi (Scalar.muli (BitVec.ofNat 32 (i 1).val) 1024#32) 0#32) (fun r q => x5 (ix2 r q)) 0 (by decide) (rfmB (i 1).val x1 x3 x6 x7) (fun _ _ => (0 : EReal))) r q := by
  have h := tenLAc arg22.view (k0_pay11 (F := Ideal)) (rChunks i arg3 harg3 arg5 harg5 arg8 harg8 arg9 harg9 x1 x3 x6 x7) (Scalar.addi (Scalar.muli (BitVec.ofNat 32 (i 1).val) 1024#32) 0#32) (Scalar.addi (Scalar.muli (BitVec.ofNat 32 (i 1).val) 1024#32) 512#32) _ _ _ _ _ (fun _ _ => (0 : EReal)) (z20) (fun r q => x5 (ix2 r q))
    (rel_at arg7 harg7 x5 0 inb_S1280x128_S256x128_0_0) (rel_at arg7 harg7 x5 256 inb_S1280x128_S256x128_256_0) (rel_at arg7 harg7 x5 512 inb_S1280x128_S256x128_512_0) (rel_at arg7 harg7 x5 768 inb_S1280x128_S256x128_768_0) (rel_at arg7 harg7 x5 1024 inb_S1280x128_S256x128_1024_0) f r q
  dsimp only [rChunks] at h
  exact h

end

end Cert.ForwardIdeal.Own

end
-- ==== Proof.FwdB.lean ====
/- The forward body run in case B of its two conditionals. -/
module

public import proofs.«01_k».proof.Proof.FwdRuns

@[expose] public section

set_option maxRecDepth 65536

noncomputable section

namespace Cert.ForwardIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ForwardIdeal Cert.ForwardIdeal.Gen

variable {F : FTy → Type} [FloatOps F] [Named F]

local notation "𝕄" => MT nD τ sig Unit (Elt F) ℕ (UR sig nD τ) ℕ

set_option maxHeartbeats 16000000 in
/-- The body's triple in the case `¬ cond0_0 i`, `¬ cond0_1 i`: the inputs are handed back as they were, each buffer stored to with the
    pieces the run stored (`L11` the logits, `L12` the cast weights, `L13` and `L14` the row results at the last block, `L15` … `L20` the running states). -/
noncomputable def bodyRun_B (c : Dev nD) (i : grid0.Coords) (arg2 : Memref sig .tc .vmem S1280x4096 .fp8e4m3) (harg2 : arg2.IsWhole) (arg3 : Memref sig .tc .vmem S1280x4096 .fp8e4m3) (harg3 : arg3.IsWhole) (arg4 : Memref sig .tc .vmem S1280x128 .f32) (harg4 : arg4.IsWhole) (arg5 : Memref sig .tc .vmem S1280x128 .f32) (harg5 : arg5.IsWhole) (arg6 : Memref sig .tc .vmem S1280x16 .bf16) (harg6 : arg6.IsWhole) (arg7 : Memref sig .tc .vmem S1280x128 .i32) (harg7 : arg7.IsWhole) (arg8 : Memref sig .tc .vmem S1024x4096 .fp8e4m3) (harg8 : arg8.IsWhole) (arg9 : Memref sig .tc .vmem S1x1024 .f32) (harg9 : arg9.IsWhole) (arg10 : Memref sig .tc .vmem S256x4096 .fp8e4m3) (harg10 : arg10.IsWhole) (arg11 : Memref sig .tc .vmem S1x256 .f32) (harg11 : arg11.IsWhole) (arg12 : Memref sig .tc .vmem S16x1024 .bf16) (harg12 : arg12.IsWhole) (arg13 : Memref sig .tc .vmem S1280x1024 .f32) (harg13 : arg13.IsWhole) (arg14 : Memref sig .tc .vmem S256x4096 .bf16) (harg14 : arg14.IsWhole) (arg15 : Memref sig .tc .vmem S1280x128 .f32) (harg15 : arg15.IsWhole) (arg16 : Memref sig .tc .vmem S1280x128 .f32) (harg16 : arg16.IsWhole) (arg17 : Memref sig .tc .vmem S1280x128 .f32) (harg17 : arg17.IsWhole) (arg18 : Memref sig .tc .vmem S1280x128 .f32) (harg18 : arg18.IsWhole) (arg19 : Memref sig .tc .vmem S1280x128 .f32) (harg19 : arg19.IsWhole) (arg20 : Memref sig .tc .vmem S1280x128 .f32) (harg20 : arg20.IsWhole) (arg21 : Memref sig .tc .vmem S1280x128 .f32) (harg21 : arg21.IsWhole) (arg22 : Memref sig .tc .vmem S1280x128 .f32) (harg22 : arg22.IsWhole)
    (hc0 : ¬ cond0_0 i) (hc1 : ¬ cond0_1 i)
    (x0 : Vec F S1280x4096 .fp8e4m3) (x1 : Vec F S1280x4096 .fp8e4m3) (x2 : Vec F S1280x128 .f32) (x3 : Vec F S1280x128 .f32) (x4 : Vec F S1280x16 .bf16) (x5 : Vec F S1280x128 .i32) (x6 : Vec F S1024x4096 .fp8e4m3) (x7 : Vec F S1x1024 .f32) (x8 : Vec F S256x4096 .fp8e4m3) (x9 : Vec F S1x256 .f32) (x10 : Vec F S16x1024 .bf16) (x15 : Vec F S1280x128 .f32) (x16 : Vec F S1280x128 .f32) (x17 : Vec F S1280x128 .f32) (x18 : Vec F S1280x128 .f32) (x19 : Vec F S1280x128 .f32) (x20 : Vec F S1280x128 .f32) :
    Σ' (L11 : List (View.Piece (Elt F) S1280x1024 .f32)), Σ' (L12 : List (View.Piece (Elt F) S256x4096 .bf16)), Σ' (L15 : List (View.Piece (Elt F) S1280x128 .f32)), Σ' (L16 : List (View.Piece (Elt F) S1280x128 .f32)), Σ' (L17 : List (View.Piece (Elt F) S1280x128 .f32)), Σ' (L18 : List (View.Piece (Elt F) S1280x128 .f32)), Σ' (L19 : List (View.Piece (Elt F) S1280x128 .f32)), { L20 : List (View.Piece (Elt F) S1280x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (arg17.view.loc (c : Thread nD τ) ↦[arg17.view.set]{fullShare} arg17.view.writes (Elt F) (harg17.unread x15) L15) ∗ (arg18.view.loc (c : Thread nD τ) ↦[arg18.view.set]{fullShare} arg18.view.writes (Elt F) (harg18.unread x16) L16) ∗ (arg19.view.loc (c : Thread nD τ) ↦[arg19.view.set]{fullShare} arg19.view.writes (Elt F) (harg19.unread x17) L17) ∗ (arg20.view.loc (c : Thread nD τ) ↦[arg20.view.set]{fullShare} arg20.view.writes (Elt F) (harg20.unread x18) L18) ∗ (arg21.view.loc (c : Thread nD τ) ↦[arg21.view.set]{fullShare} arg21.view.writes (Elt F) (harg21.unread x19) L19) ∗ (arg22.view.loc (c : Thread nD τ) ↦[arg22.view.set]{fullShare} arg22.view.writes (Elt F) (harg22.unread x20) L20)) -∗ K ⟨⟩))
          ⊢ wp frame (wpE (defs₀ (F := F)) Variants.none c none) E (cc0_forward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, fun E K => ?run⟩
  case run =>
    simp only [cc0_forward_eq_skeleton]; unfold cc0_forward_skel
    simp only [k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg17.eq_unread hf15; obtain rfl := harg18.eq_unread hf16; obtain rfl := harg19.eq_unread hf17; obtain rfl := harg20.eq_unread hf18; obtain rfl := harg21.eq_unread hf19; obtain rfl := harg22.eq_unread hf20
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; iexact H11
    isplitl [H12]
    · iexists _; iexact H12
    isplitl [H15]
    · iexact H15
    isplitl [H16]
    · iexact H16
    isplitl [H17]
    · iexact H17
    isplitl [H18]
    · iexact H18
    isplitl [H19]
    · iexact H19
    iexact H20

end Cert.ForwardIdeal.Own

end
-- ==== Proof.FwdElB.lean ====
/- What the forward body's stores leave in each buffer, element by element, case B. -/
module

public import proofs.«01_k».proof.Proof.FwdOut
public import proofs.«01_k».proof.Proof.FwdB

@[expose] public section

set_option maxRecDepth 65536

noncomputable section

namespace Cert.ForwardIdeal.Own

open Idealize.ShloMosaic Idealize.ShloMosaic.TcCoe Idealize.SL.Sem Idealize.ShloMosaic.Pointwise
open Cert.ForwardIdeal Cert.ForwardIdeal.Gen

section
variable (c : Dev nD) (i : grid0.Coords) (arg2 : Memref sig .tc .vmem S1280x4096 .fp8e4m3) (harg2 : arg2.IsWhole) (arg3 : Memref sig .tc .vmem S1280x4096 .fp8e4m3) (harg3 : arg3.IsWhole) (arg4 : Memref sig .tc .vmem S1280x128 .f32) (harg4 : arg4.IsWhole) (arg5 : Memref sig .tc .vmem S1280x128 .f32) (harg5 : arg5.IsWhole) (arg6 : Memref sig .tc .vmem S1280x16 .bf16) (harg6 : arg6.IsWhole) (arg7 : Memref sig .tc .vmem S1280x128 .i32) (harg7 : arg7.IsWhole) (arg8 : Memref sig .tc .vmem S1024x4096 .fp8e4m3) (harg8 : arg8.IsWhole) (arg9 : Memref sig .tc .vmem S1x1024 .f32) (harg9 : arg9.IsWhole) (arg10 : Memref sig .tc .vmem S256x4096 .fp8e4m3) (harg10 : arg10.IsWhole) (arg11 : Memref sig .tc .vmem S1x256 .f32) (harg11 : arg11.IsWhole) (arg12 : Memref sig .tc .vmem S16x1024 .bf16) (harg12 : arg12.IsWhole) (arg13 : Memref sig .tc .vmem S1280x1024 .f32) (harg13 : arg13.IsWhole) (arg14 : Memref sig .tc .vmem S256x4096 .bf16) (harg14 : arg14.IsWhole) (arg15 : Memref sig .tc .vmem S1280x128 .f32) (harg15 : arg15.IsWhole) (arg16 : Memref sig .tc .vmem S1280x128 .f32) (harg16 : arg16.IsWhole) (arg17 : Memref sig .tc .vmem S1280x128 .f32) (harg17 : arg17.IsWhole) (arg18 : Memref sig .tc .vmem S1280x128 .f32) (harg18 : arg18.IsWhole) (arg19 : Memref sig .tc .vmem S1280x128 .f32) (harg19 : arg19.IsWhole) (arg20 : Memref sig .tc .vmem S1280x128 .f32) (harg20 : arg20.IsWhole) (arg21 : Memref sig .tc .vmem S1280x128 .f32) (harg21 : arg21.IsWhole) (arg22 : Memref sig .tc .vmem S1280x128 .f32) (harg22 : arg22.IsWhole) (hc0 : ¬ cond0_0 i) (hc1 : ¬ cond0_1 i)
  (x0 : Vec Ideal S1280x4096 .fp8e4m3) (x1 : Vec Ideal S1280x4096 .fp8e4m3) (x2 : Vec Ideal S1280x128 .f32) (x3 : Vec Ideal S1280x128 .f32) (x4 : Vec Ideal S1280x16 .bf16) (x5 : Vec Ideal S1280x128 .i32) (x6 : Vec Ideal S1024x4096 .fp8e4m3) (x7 : Vec Ideal S1x1024 .f32) (x8 : Vec Ideal S256x4096 .fp8e4m3) (x9 : Vec Ideal S1x256 .f32) (x10 : Vec Ideal S16x1024 .bf16) (x15 : Vec Ideal S1280x128 .f32) (x16 : Vec Ideal S1280x128 .f32) (x17 : Vec Ideal S1280x128 .f32) (x18 : Vec Ideal S1280x128 .f32) (x19 : Vec Ideal S1280x128 .f32) (x20 : Vec Ideal S1280x128 .f32)

theorem read11_B (f : arg13.view.ty.Contents (Elt Ideal)) (r : Fin 1280) (k : Fin 1024) : arg13.view.read (Elt Ideal) (arg13.view.writes (Elt Ideal) f (bodyRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x15 x16 x17 x18 x19 x20).1) (ix2 r k) = polB (i 1).val x0 x2 x4 x6 x7 x10 r k := by
  have h := logits_readc arg13.view f (pChunks i arg2 harg2 arg4 harg4 arg6 harg6 arg8 harg8 arg9 harg9 arg12 harg12 x0 x2 x4 x6 x7 x10) r k
  dsimp only [pChunks] at h
  exact h

theorem read12_B (f : arg14.view.ty.Contents (Elt Ideal)) (r : Fin 256) (d : Fin 4096) : arg14.view.read (Elt Ideal) (arg14.view.writes (Elt Ideal) f (bodyRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x15 x16 x17 x18 x19 x20).2.1) (ix2 r d) = wbB ((i 1).val * 1024 + (i 0).val * 256) x8 x9 r d :=
  weights_read i arg10 harg10 arg11 harg11 x8 x9 arg14.view f r d

theorem read15_B (f : arg17.view.ty.Contents (Elt Ideal)) (r : Fin 1280) (q : Fin 128) :
    arg17.view.read (Elt Ideal) (arg17.view.writes (Elt Ideal) f (bodyRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x15 x16 x17 x18 x19 x20).2.2.1) (ix2 r q) = mU 512 (by decide) (polB (i 1).val x0 x2 x4 x6 x7 x10) (mU 0 (by decide) (polB (i 1).val x0 x2 x4 x6 x7 x10) (fun r q => x15 (ix2 r q))) r q := by
  have h := tenMc arg17.view (pChunks i arg2 harg2 arg4 harg4 arg6 harg6 arg8 harg8 arg9 harg9 arg12 harg12 x0 x2 x4 x6 x7 x10) _ _ _ _ _ [] (fun r q => x15 (ix2 r q)) (at_load arg17 harg17 x15 0 inb_S1280x128_S256x128_0_0) (at_load arg17 harg17 x15 256 inb_S1280x128_S256x128_256_0) (at_load arg17 harg17 x15 512 inb_S1280x128_S256x128_512_0) (at_load arg17 harg17 x15 768 inb_S1280x128_S256x128_768_0) (at_load arg17 harg17 x15 1024 inb_S1280x128_S256x128_1024_0) f r q
  dsimp only [pChunks] at h
  exact h

theorem read16_B (f : arg18.view.ty.Contents (Elt Ideal)) (r : Fin 1280) (q : Fin 128) :
    arg18.view.read (Elt Ideal) (arg18.view.writes (Elt Ideal) f (bodyRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x15 x16 x17 x18 x19 x20).2.2.2.1) (ix2 r q) = sU 512 (by decide) (polB (i 1).val x0 x2 x4 x6 x7 x10) (mU 0 (by decide) (polB (i 1).val x0 x2 x4 x6 x7 x10) (fun r q => x15 (ix2 r q))) (sU 0 (by decide) (polB (i 1).val x0 x2 x4 x6 x7 x10) (fun r q => x15 (ix2 r q)) (fun r q => x16 (ix2 r q))) r q := by
  have h := tenSc arg17.view arg18.view (pChunks i arg2 harg2 arg4 harg4 arg6 harg6 arg8 harg8 arg9 harg9 arg12 harg12 x0 x2 x4 x6 x7 x10) _ _ _ _ _ _ _ _ _ _ [] [] (fun r q => x15 (ix2 r q)) (fun r q => x16 (ix2 r q)) (at_load arg17 harg17 x15 0 inb_S1280x128_S256x128_0_0) (at_load arg17 harg17 x15 256 inb_S1280x128_S256x128_256_0) (at_load arg17 harg17 x15 512 inb_S1280x128_S256x128_512_0) (at_load arg17 harg17 x15 768 inb_S1280x128_S256x128_768_0) (at_load arg17 harg17 x15 1024 inb_S1280x128_S256x128_1024_0) (at_load arg18 harg18 x16 0 inb_S1280x128_S256x128_0_0) (at_load arg18 harg18 x16 256 inb_S1280x128_S256x128_256_0) (at_load arg18 harg18 x16 512 inb_S1280x128_S256x128_512_0) (at_load arg18 harg18 x16 768 inb_S1280x128_S256x128_768_0) (at_load arg18 harg18 x16 1024 inb_S1280x128_S256x128_1024_0) f r q
  dsimp only [pChunks] at h
  exact h

theorem read17_B (f : arg19.view.ty.Contents (Elt Ideal)) (r : Fin 1280) (q : Fin 128) :
    arg19.view.read (Elt Ideal) (arg19.view.writes (Elt Ideal) f (bodyRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x15 x16 x17 x18 x19 x20).2.2.2.2.1) (ix2 r q) = lU (Scalar.addi (Scalar.muli (BitVec.ofNat 32 (i 1).val) 1024#32) 512#32) (fun r q => x5 (ix2 r q)) 512 (by decide) (polB (i 1).val x0 x2 x4 x6 x7 x10) (lU (Scalar.addi (Scalar.muli (BitVec.ofNat 32 (i 1).val) 1024#32) 0#32) (fun r q => x5 (ix2 r q)) 0 (by decide) (polB (i 1).val x0 x2 x4 x6 x7 x10) (fun r q => x17 (ix2 r q))) r q := by
  have h := tenLc arg19.view (pChunks i arg2 harg2 arg4 harg4 arg6 harg6 arg8 harg8 arg9 harg9 arg12 harg12 x0 x2 x4 x6 x7 x10) _ _ _ _ _ [] (fun r q => x17 (ix2 r q)) (at_load arg19 harg19 x17 0 inb_S1280x128_S256x128_0_0) (at_load arg19 harg19 x17 256 inb_S1280x128_S256x128_256_0) (at_load arg19 harg19 x17 512 inb_S1280x128_S256x128_512_0) (at_load arg19 harg19 x17 768 inb_S1280x128_S256x128_768_0) (at_load arg19 harg19 x17 1024 inb_S1280x128_S256x128_1024_0) (Scalar.addi (Scalar.muli (BitVec.ofNat 32 (i 1).val) 1024#32) 0#32) (Scalar.addi (Scalar.muli (BitVec.ofNat 32 (i 1).val) 1024#32) 512#32) _ _ _ _ _ (fun r q => x5 (ix2 r q))
    (rel_at arg7 harg7 x5 0 inb_S1280x128_S256x128_0_0) (rel_at arg7 harg7 x5 256 inb_S1280x128_S256x128_256_0) (rel_at arg7 harg7 x5 512 inb_S1280x128_S256x128_512_0) (rel_at arg7 harg7 x5 768 inb_S1280x128_S256x128_768_0) (rel_at arg7 harg7 x5 1024 inb_S1280x128_S256x128_1024_0) f r q
  dsimp only [pChunks] at h
  exact h

theorem read18_B (f : arg20.view.ty.Contents (Elt Ideal)) (r : Fin 1280) (q : Fin 128) :
    arg20.view.read (Elt Ideal) (arg20.view.writes (Elt Ideal) f (bodyRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x15 x16 x17 x18 x19 x20).2.2.2.2.2.1) (ix2 r q) = mU 512 (by decide) (rfmB (i 1).val x1 x3 x6 x7) (mU 0 (by decide) (rfmB (i 1).val x1 x3 x6 x7) (fun r q => x18 (ix2 r q))) r q := by
  have h := tenMc arg20.view (rChunks i arg3 harg3 arg5 harg5 arg8 harg8 arg9 harg9 x1 x3 x6 x7) _ _ _ _ _ [] (fun r q => x18 (ix2 r q)) (at_load arg20 harg20 x18 0 inb_S1280x128_S256x128_0_0) (at_load arg20 harg20 x18 256 inb_S1280x128_S256x128_256_0) (at_load arg20 harg20 x18 512 inb_S1280x128_S256x128_512_0) (at_load arg20 harg20 x18 768 inb_S1280x128_S256x128_768_0) (at_load arg20 harg20 x18 1024 inb_S1280x128_S256x128_1024_0) f r q
  dsimp only [rChunks] at h
  exact h

theorem read19_B (f : arg21.view.ty.Contents (Elt Ideal)) (r : Fin 1280) (q : Fin 128) :
    arg21.view.read (Elt Ideal) (arg21.view.writes (Elt Ideal) f (bodyRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x15 x16 x17 x18 x19 x20).2.2.2.2.2.2.1) (ix2 r q) = sU 512 (by decide) (rfmB (i 1).val x1 x3 x6 x7) (mU 0 (by decide) (rfmB (i 1).val x1 x3 x6 x7) (fun r q => x18 (ix2 r q))) (sU 0 (by decide) (rfmB (i 1).val x1 x3 x6 x7) (fun r q => x18 (ix2 r q)) (fun r q => x19 (ix2 r q))) r q := by
  have h := tenSc arg20.view arg21.view (rChunks i arg3 harg3 arg5 harg5 arg8 harg8 arg9 harg9 x1 x3 x6 x7) _ _ _ _ _ _ _ _ _ _ [] [] (fun r q => x18 (ix2 r q)) (fun r q => x19 (ix2 r q)) (at_load arg20 harg20 x18 0 inb_S1280x128_S256x128_0_0) (at_load arg20 harg20 x18 256 inb_S1280x128_S256x128_256_0) (at_load arg20 harg20 x18 512 inb_S1280x128_S256x128_512_0) (at_load arg20 harg20 x18 768 inb_S1280x128_S256x128_768_0) (at_load arg20 harg20 x18 1024 inb_S1280x128_S256x128_1024_0) (at_load arg21 harg21 x19 0 inb_S1280x128_S256x128_0_0) (at_load arg21 harg21 x19 256 inb_S1280x128_S256x128_256_0) (at_load arg21 harg21 x19 512 inb_S1280x128_S256x128_512_0) (at_load arg21 harg21 x19 768 inb_S1280x128_S256x128_768_0) (at_load arg21 harg21 x19 1024 inb_S1280x128_S256x128_1024_0) f r q
  dsimp only [rChunks] at h
  exact h

theorem read20_B (f : arg22.view.ty.Contents (Elt Ideal)) (r : Fin 1280) (q : Fin 128) :
    arg22.view.read (Elt Ideal) (arg22.view.writes (Elt Ideal) f (bodyRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x15 x16 x17 x18 x19 x20).2.2.2.2.2.2.2.1) (ix2 r q) = lU (Scalar.addi (Scalar.muli (BitVec.ofNat 32 (i 1).val) 1024#32) 512#32) (fun r q => x5 (ix2 r q)) 512 (by decide) (rfmB (i 1).val x1 x3 x6 x7) (lU (Scalar.addi (Scalar.muli (BitVec.ofNat 32 (i 1).val) 1024#32) 0#32) (fun r q => x5 (ix2 r q)) 0 (by decide) (rfmB (i 1).val x1 x3 x6 x7) (fun r q => x20 (ix2 r q))) r q := by
  have h := tenLc arg22.view (rChunks i arg3 harg3 arg5 harg5 arg8 harg8 arg9 harg9 x1 x3 x6 x7) _ _ _ _ _ [] (fun r q => x20 (ix2 r q)) (at_load arg22 harg22 x20 0 inb_S1280x128_S256x128_0_0) (at_load arg22 harg22 x20 256 inb_S1280x128_S256x128_256_0) (at_load arg22 harg22 x20 512 inb_S1280x128_S256x128_512_0) (at_load arg22 harg22 x20 768 inb_S1280x128_S256x128_768_0) (at_load arg22 harg22 x20 1024 inb_S1280x128_S256x128_1024_0) (Scalar.addi (Scalar.muli (BitVec.ofNat 32 (i 1).val) 1024#32) 0#32) (Scalar.addi (Scalar.muli (BitVec.ofNat 32 (i 1).val) 1024#32) 512#32) _ _ _ _ _ (fun r q => x5 (ix2 r q))
    (rel_at arg7 harg7 x5 0 inb_S1280x128_S256x128_0_0) (rel_at arg7 harg7 x5 256 inb_S1280x128_S256x128_256_0) (rel_at arg7 harg7 x5 512 inb_S1280x128_S256x128_512_0) (rel_at arg7 harg7 x5 768 inb_S1280x128_S256x128_768_0) (rel_at arg7 harg7 x5 1024 inb_S1280x128_S256x128_1024_0) f r q
  dsimp only [rChunks] at h
  exact h

end

end Cert.ForwardIdeal.Own

end
-- ==== Proof.FwdC.lean ====
/- The forward body run in case C of its two conditionals. -/
module

public import proofs.«01_k».proof.Proof.FwdRuns

@[expose] public section

set_option maxRecDepth 65536

noncomputable section

namespace Cert.ForwardIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ForwardIdeal Cert.ForwardIdeal.Gen

variable {F : FTy → Type} [FloatOps F] [Named F]

local notation "𝕄" => MT nD τ sig Unit (Elt F) ℕ (UR sig nD τ) ℕ

set_option maxHeartbeats 16000000 in
/-- The body's triple in the case `¬ cond0_0 i`, `cond0_1 i`: the inputs are handed back as they were, each buffer stored to with the
    pieces the run stored (`L11` the logits, `L12` the cast weights, `L13` and `L14` the row results at the last block, `L15` … `L20` the running states). -/
noncomputable def bodyRun_C (c : Dev nD) (i : grid0.Coords) (arg2 : Memref sig .tc .vmem S1280x4096 .fp8e4m3) (harg2 : arg2.IsWhole) (arg3 : Memref sig .tc .vmem S1280x4096 .fp8e4m3) (harg3 : arg3.IsWhole) (arg4 : Memref sig .tc .vmem S1280x128 .f32) (harg4 : arg4.IsWhole) (arg5 : Memref sig .tc .vmem S1280x128 .f32) (harg5 : arg5.IsWhole) (arg6 : Memref sig .tc .vmem S1280x16 .bf16) (harg6 : arg6.IsWhole) (arg7 : Memref sig .tc .vmem S1280x128 .i32) (harg7 : arg7.IsWhole) (arg8 : Memref sig .tc .vmem S1024x4096 .fp8e4m3) (harg8 : arg8.IsWhole) (arg9 : Memref sig .tc .vmem S1x1024 .f32) (harg9 : arg9.IsWhole) (arg10 : Memref sig .tc .vmem S256x4096 .fp8e4m3) (harg10 : arg10.IsWhole) (arg11 : Memref sig .tc .vmem S1x256 .f32) (harg11 : arg11.IsWhole) (arg12 : Memref sig .tc .vmem S16x1024 .bf16) (harg12 : arg12.IsWhole) (arg13 : Memref sig .tc .vmem S1280x1024 .f32) (harg13 : arg13.IsWhole) (arg14 : Memref sig .tc .vmem S256x4096 .bf16) (harg14 : arg14.IsWhole) (arg15 : Memref sig .tc .vmem S1280x128 .f32) (harg15 : arg15.IsWhole) (arg16 : Memref sig .tc .vmem S1280x128 .f32) (harg16 : arg16.IsWhole) (arg17 : Memref sig .tc .vmem S1280x128 .f32) (harg17 : arg17.IsWhole) (arg18 : Memref sig .tc .vmem S1280x128 .f32) (harg18 : arg18.IsWhole) (arg19 : Memref sig .tc .vmem S1280x128 .f32) (harg19 : arg19.IsWhole) (arg20 : Memref sig .tc .vmem S1280x128 .f32) (harg20 : arg20.IsWhole) (arg21 : Memref sig .tc .vmem S1280x128 .f32) (harg21 : arg21.IsWhole) (arg22 : Memref sig .tc .vmem S1280x128 .f32) (harg22 : arg22.IsWhole)
    (hc0 : ¬ cond0_0 i) (hc1 : cond0_1 i)
    (x0 : Vec F S1280x4096 .fp8e4m3) (x1 : Vec F S1280x4096 .fp8e4m3) (x2 : Vec F S1280x128 .f32) (x3 : Vec F S1280x128 .f32) (x4 : Vec F S1280x16 .bf16) (x5 : Vec F S1280x128 .i32) (x6 : Vec F S1024x4096 .fp8e4m3) (x7 : Vec F S1x1024 .f32) (x8 : Vec F S256x4096 .fp8e4m3) (x9 : Vec F S1x256 .f32) (x10 : Vec F S16x1024 .bf16) (x15 : Vec F S1280x128 .f32) (x16 : Vec F S1280x128 .f32) (x17 : Vec F S1280x128 .f32) (x18 : Vec F S1280x128 .f32) (x19 : Vec F S1280x128 .f32) (x20 : Vec F S1280x128 .f32) :
    Σ' (L11 : List (View.Piece (Elt F) S1280x1024 .f32)), Σ' (L12 : List (View.Piece (Elt F) S256x4096 .bf16)), Σ' (L13 : List (View.Piece (Elt F) S1280x128 .f32)), Σ' (L14 : List (View.Piece (Elt F) S1280x128 .f32)), Σ' (L15 : List (View.Piece (Elt F) S1280x128 .f32)), Σ' (L16 : List (View.Piece (Elt F) S1280x128 .f32)), Σ' (L17 : List (View.Piece (Elt F) S1280x128 .f32)), Σ' (L18 : List (View.Piece (Elt F) S1280x128 .f32)), Σ' (L19 : List (View.Piece (Elt F) S1280x128 .f32)), { L20 : List (View.Piece (Elt F) S1280x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (arg17.view.loc (c : Thread nD τ) ↦[arg17.view.set]{fullShare} arg17.view.writes (Elt F) (harg17.unread x15) L15) ∗ (arg18.view.loc (c : Thread nD τ) ↦[arg18.view.set]{fullShare} arg18.view.writes (Elt F) (harg18.unread x16) L16) ∗ (arg19.view.loc (c : Thread nD τ) ↦[arg19.view.set]{fullShare} arg19.view.writes (Elt F) (harg19.unread x17) L17) ∗ (arg20.view.loc (c : Thread nD τ) ↦[arg20.view.set]{fullShare} arg20.view.writes (Elt F) (harg20.unread x18) L18) ∗ (arg21.view.loc (c : Thread nD τ) ↦[arg21.view.set]{fullShare} arg21.view.writes (Elt F) (harg21.unread x19) L19) ∗ (arg22.view.loc (c : Thread nD τ) ↦[arg22.view.set]{fullShare} arg22.view.writes (Elt F) (harg22.unread x20) L20)) -∗ K ⟨⟩))
          ⊢ wp frame (wpE (defs₀ (F := F)) Variants.none c none) E (cc0_forward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, fun E K => ?run⟩
  case run =>
    simp only [cc0_forward_eq_skeleton]; unfold cc0_forward_skel
    simp only [k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg17.eq_unread hf15; obtain rfl := harg18.eq_unread hf16; obtain rfl := harg19.eq_unread hf17; obtain rfl := harg20.eq_unread hf18; obtain rfl := harg21.eq_unread hf19; obtain rfl := harg22.eq_unread hf20
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; iexact H11
    isplitl [H12]
    · iexists _; iexact H12
    isplitl [H13]
    · iexists _; iexact H13
    isplitl [H14]
    · iexists _; iexact H14
    isplitl [H15]
    · iexact H15
    isplitl [H16]
    · iexact H16
    isplitl [H17]
    · iexact H17
    isplitl [H18]
    · iexact H18
    isplitl [H19]
    · iexact H19
    iexact H20

end Cert.ForwardIdeal.Own

end
-- ==== Proof.FwdElC.lean ====
/- What the forward body's stores leave in each buffer, element by element, case C. -/
module

public import proofs.«01_k».proof.Proof.FwdOut
public import proofs.«01_k».proof.Proof.FwdC

@[expose] public section

set_option maxRecDepth 65536

noncomputable section

namespace Cert.ForwardIdeal.Own

open Idealize.ShloMosaic Idealize.ShloMosaic.TcCoe Idealize.SL.Sem Idealize.ShloMosaic.Pointwise
open Cert.ForwardIdeal Cert.ForwardIdeal.Gen

section
variable (c : Dev nD) (i : grid0.Coords) (arg2 : Memref sig .tc .vmem S1280x4096 .fp8e4m3) (harg2 : arg2.IsWhole) (arg3 : Memref sig .tc .vmem S1280x4096 .fp8e4m3) (harg3 : arg3.IsWhole) (arg4 : Memref sig .tc .vmem S1280x128 .f32) (harg4 : arg4.IsWhole) (arg5 : Memref sig .tc .vmem S1280x128 .f32) (harg5 : arg5.IsWhole) (arg6 : Memref sig .tc .vmem S1280x16 .bf16) (harg6 : arg6.IsWhole) (arg7 : Memref sig .tc .vmem S1280x128 .i32) (harg7 : arg7.IsWhole) (arg8 : Memref sig .tc .vmem S1024x4096 .fp8e4m3) (harg8 : arg8.IsWhole) (arg9 : Memref sig .tc .vmem S1x1024 .f32) (harg9 : arg9.IsWhole) (arg10 : Memref sig .tc .vmem S256x4096 .fp8e4m3) (harg10 : arg10.IsWhole) (arg11 : Memref sig .tc .vmem S1x256 .f32) (harg11 : arg11.IsWhole) (arg12 : Memref sig .tc .vmem S16x1024 .bf16) (harg12 : arg12.IsWhole) (arg13 : Memref sig .tc .vmem S1280x1024 .f32) (harg13 : arg13.IsWhole) (arg14 : Memref sig .tc .vmem S256x4096 .bf16) (harg14 : arg14.IsWhole) (arg15 : Memref sig .tc .vmem S1280x128 .f32) (harg15 : arg15.IsWhole) (arg16 : Memref sig .tc .vmem S1280x128 .f32) (harg16 : arg16.IsWhole) (arg17 : Memref sig .tc .vmem S1280x128 .f32) (harg17 : arg17.IsWhole) (arg18 : Memref sig .tc .vmem S1280x128 .f32) (harg18 : arg18.IsWhole) (arg19 : Memref sig .tc .vmem S1280x128 .f32) (harg19 : arg19.IsWhole) (arg20 : Memref sig .tc .vmem S1280x128 .f32) (harg20 : arg20.IsWhole) (arg21 : Memref sig .tc .vmem S1280x128 .f32) (harg21 : arg21.IsWhole) (arg22 : Memref sig .tc .vmem S1280x128 .f32) (harg22 : arg22.IsWhole) (hc0 : ¬ cond0_0 i) (hc1 : cond0_1 i)
  (x0 : Vec Ideal S1280x4096 .fp8e4m3) (x1 : Vec Ideal S1280x4096 .fp8e4m3) (x2 : Vec Ideal S1280x128 .f32) (x3 : Vec Ideal S1280x128 .f32) (x4 : Vec Ideal S1280x16 .bf16) (x5 : Vec Ideal S1280x128 .i32) (x6 : Vec Ideal S1024x4096 .fp8e4m3) (x7 : Vec Ideal S1x1024 .f32) (x8 : Vec Ideal S256x4096 .fp8e4m3) (x9 : Vec Ideal S1x256 .f32) (x10 : Vec Ideal S16x1024 .bf16) (x15 : Vec Ideal S1280x128 .f32) (x16 : Vec Ideal S1280x128 .f32) (x17 : Vec Ideal S1280x128 .f32) (x18 : Vec Ideal S1280x128 .f32) (x19 : Vec Ideal S1280x128 .f32) (x20 : Vec Ideal S1280x128 .f32)

theorem read11_C (f : arg13.view.ty.Contents (Elt Ideal)) (r : Fin 1280) (k : Fin 1024) : arg13.view.read (Elt Ideal) (arg13.view.writes (Elt Ideal) f (bodyRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x15 x16 x17 x18 x19 x20).1) (ix2 r k) = polB (i 1).val x0 x2 x4 x6 x7 x10 r k := by
  have h := logits_readc arg13.view f (pChunks i arg2 harg2 arg4 harg4 arg6 harg6 arg8 harg8 arg9 harg9 arg12 harg12 x0 x2 x4 x6 x7 x10) r k
  dsimp only [pChunks] at h
  exact h

theorem read12_C (f : arg14.view.ty.Contents (Elt Ideal)) (r : Fin 256) (d : Fin 4096) : arg14.view.read (Elt Ideal) (arg14.view.writes (Elt Ideal) f (bodyRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x15 x16 x17 x18 x19 x20).2.1) (ix2 r d) = wbB ((i 1).val * 1024 + (i 0).val * 256) x8 x9 r d :=
  weights_read i arg10 harg10 arg11 harg11 x8 x9 arg14.view f r d

theorem read15_C (f : arg17.view.ty.Contents (Elt Ideal)) (r : Fin 1280) (q : Fin 128) :
    arg17.view.read (Elt Ideal) (arg17.view.writes (Elt Ideal) f (bodyRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x15 x16 x17 x18 x19 x20).2.2.2.2.1) (ix2 r q) = mU 512 (by decide) (polB (i 1).val x0 x2 x4 x6 x7 x10) (mU 0 (by decide) (polB (i 1).val x0 x2 x4 x6 x7 x10) (fun r q => x15 (ix2 r q))) r q := by
  have h := tenMc arg17.view (pChunks i arg2 harg2 arg4 harg4 arg6 harg6 arg8 harg8 arg9 harg9 arg12 harg12 x0 x2 x4 x6 x7 x10) _ _ _ _ _ [] (fun r q => x15 (ix2 r q)) (at_load arg17 harg17 x15 0 inb_S1280x128_S256x128_0_0) (at_load arg17 harg17 x15 256 inb_S1280x128_S256x128_256_0) (at_load arg17 harg17 x15 512 inb_S1280x128_S256x128_512_0) (at_load arg17 harg17 x15 768 inb_S1280x128_S256x128_768_0) (at_load arg17 harg17 x15 1024 inb_S1280x128_S256x128_1024_0) f r q
  dsimp only [pChunks] at h
  exact h

theorem read16_C (f : arg18.view.ty.Contents (Elt Ideal)) (r : Fin 1280) (q : Fin 128) :
    arg18.view.read (Elt Ideal) (arg18.view.writes (Elt Ideal) f (bodyRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x15 x16 x17 x18 x19 x20).2.2.2.2.2.1) (ix2 r q) = sU 512 (by decide) (polB (i 1).val x0 x2 x4 x6 x7 x10) (mU 0 (by decide) (polB (i 1).val x0 x2 x4 x6 x7 x10) (fun r q => x15 (ix2 r q))) (sU 0 (by decide) (polB (i 1).val x0 x2 x4 x6 x7 x10) (fun r q => x15 (ix2 r q)) (fun r q => x16 (ix2 r q))) r q := by
  have h := tenSc arg17.view arg18.view (pChunks i arg2 harg2 arg4 harg4 arg6 harg6 arg8 harg8 arg9 harg9 arg12 harg12 x0 x2 x4 x6 x7 x10) _ _ _ _ _ _ _ _ _ _ [] [] (fun r q => x15 (ix2 r q)) (fun r q => x16 (ix2 r q)) (at_load arg17 harg17 x15 0 inb_S1280x128_S256x128_0_0) (at_load arg17 harg17 x15 256 inb_S1280x128_S256x128_256_0) (at_load arg17 harg17 x15 512 inb_S1280x128_S256x128_512_0) (at_load arg17 harg17 x15 768 inb_S1280x128_S256x128_768_0) (at_load arg17 harg17 x15 1024 inb_S1280x128_S256x128_1024_0) (at_load arg18 harg18 x16 0 inb_S1280x128_S256x128_0_0) (at_load arg18 harg18 x16 256 inb_S1280x128_S256x128_256_0) (at_load arg18 harg18 x16 512 inb_S1280x128_S256x128_512_0) (at_load arg18 harg18 x16 768 inb_S1280x128_S256x128_768_0) (at_load arg18 harg18 x16 1024 inb_S1280x128_S256x128_1024_0) f r q
  dsimp only [pChunks] at h
  exact h

theorem read17_C (f : arg19.view.ty.Contents (Elt Ideal)) (r : Fin 1280) (q : Fin 128) :
    arg19.view.read (Elt Ideal) (arg19.view.writes (Elt Ideal) f (bodyRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x15 x16 x17 x18 x19 x20).2.2.2.2.2.2.1) (ix2 r q) = lU (Scalar.addi (Scalar.muli (BitVec.ofNat 32 (i 1).val) 1024#32) 512#32) (fun r q => x5 (ix2 r q)) 512 (by decide) (polB (i 1).val x0 x2 x4 x6 x7 x10) (lU (Scalar.addi (Scalar.muli (BitVec.ofNat 32 (i 1).val) 1024#32) 0#32) (fun r q => x5 (ix2 r q)) 0 (by decide) (polB (i 1).val x0 x2 x4 x6 x7 x10) (fun r q => x17 (ix2 r q))) r q := by
  have h := tenLc arg19.view (pChunks i arg2 harg2 arg4 harg4 arg6 harg6 arg8 harg8 arg9 harg9 arg12 harg12 x0 x2 x4 x6 x7 x10) _ _ _ _ _ [] (fun r q => x17 (ix2 r q)) (at_load arg19 harg19 x17 0 inb_S1280x128_S256x128_0_0) (at_load arg19 harg19 x17 256 inb_S1280x128_S256x128_256_0) (at_load arg19 harg19 x17 512 inb_S1280x128_S256x128_512_0) (at_load arg19 harg19 x17 768 inb_S1280x128_S256x128_768_0) (at_load arg19 harg19 x17 1024 inb_S1280x128_S256x128_1024_0) (Scalar.addi (Scalar.muli (BitVec.ofNat 32 (i 1).val) 1024#32) 0#32) (Scalar.addi (Scalar.muli (BitVec.ofNat 32 (i 1).val) 1024#32) 512#32) _ _ _ _ _ (fun r q => x5 (ix2 r q))
    (rel_at arg7 harg7 x5 0 inb_S1280x128_S256x128_0_0) (rel_at arg7 harg7 x5 256 inb_S1280x128_S256x128_256_0) (rel_at arg7 harg7 x5 512 inb_S1280x128_S256x128_512_0) (rel_at arg7 harg7 x5 768 inb_S1280x128_S256x128_768_0) (rel_at arg7 harg7 x5 1024 inb_S1280x128_S256x128_1024_0) f r q
  dsimp only [pChunks] at h
  exact h

theorem read18_C (f : arg20.view.ty.Contents (Elt Ideal)) (r : Fin 1280) (q : Fin 128) :
    arg20.view.read (Elt Ideal) (arg20.view.writes (Elt Ideal) f (bodyRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x15 x16 x17 x18 x19 x20).2.2.2.2.2.2.2.1) (ix2 r q) = mU 512 (by decide) (rfmB (i 1).val x1 x3 x6 x7) (mU 0 (by decide) (rfmB (i 1).val x1 x3 x6 x7) (fun r q => x18 (ix2 r q))) r q := by
  have h := tenMc arg20.view (rChunks i arg3 harg3 arg5 harg5 arg8 harg8 arg9 harg9 x1 x3 x6 x7) _ _ _ _ _ [] (fun r q => x18 (ix2 r q)) (at_load arg20 harg20 x18 0 inb_S1280x128_S256x128_0_0) (at_load arg20 harg20 x18 256 inb_S1280x128_S256x128_256_0) (at_load arg20 harg20 x18 512 inb_S1280x128_S256x128_512_0) (at_load arg20 harg20 x18 768 inb_S1280x128_S256x128_768_0) (at_load arg20 harg20 x18 1024 inb_S1280x128_S256x128_1024_0) f r q
  dsimp only [rChunks] at h
  exact h

theorem read19_C (f : arg21.view.ty.Contents (Elt Ideal)) (r : Fin 1280) (q : Fin 128) :
    arg21.view.read (Elt Ideal) (arg21.view.writes (Elt Ideal) f (bodyRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x15 x16 x17 x18 x19 x20).2.2.2.2.2.2.2.2.1) (ix2 r q) = sU 512 (by decide) (rfmB (i 1).val x1 x3 x6 x7) (mU 0 (by decide) (rfmB (i 1).val x1 x3 x6 x7) (fun r q => x18 (ix2 r q))) (sU 0 (by decide) (rfmB (i 1).val x1 x3 x6 x7) (fun r q => x18 (ix2 r q)) (fun r q => x19 (ix2 r q))) r q := by
  have h := tenSc arg20.view arg21.view (rChunks i arg3 harg3 arg5 harg5 arg8 harg8 arg9 harg9 x1 x3 x6 x7) _ _ _ _ _ _ _ _ _ _ [] [] (fun r q => x18 (ix2 r q)) (fun r q => x19 (ix2 r q)) (at_load arg20 harg20 x18 0 inb_S1280x128_S256x128_0_0) (at_load arg20 harg20 x18 256 inb_S1280x128_S256x128_256_0) (at_load arg20 harg20 x18 512 inb_S1280x128_S256x128_512_0) (at_load arg20 harg20 x18 768 inb_S1280x128_S256x128_768_0) (at_load arg20 harg20 x18 1024 inb_S1280x128_S256x128_1024_0) (at_load arg21 harg21 x19 0 inb_S1280x128_S256x128_0_0) (at_load arg21 harg21 x19 256 inb_S1280x128_S256x128_256_0) (at_load arg21 harg21 x19 512 inb_S1280x128_S256x128_512_0) (at_load arg21 harg21 x19 768 inb_S1280x128_S256x128_768_0) (at_load arg21 harg21 x19 1024 inb_S1280x128_S256x128_1024_0) f r q
  dsimp only [rChunks] at h
  exact h

theorem read20_C (f : arg22.view.ty.Contents (Elt Ideal)) (r : Fin 1280) (q : Fin 128) :
    arg22.view.read (Elt Ideal) (arg22.view.writes (Elt Ideal) f (bodyRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x15 x16 x17 x18 x19 x20).2.2.2.2.2.2.2.2.2.1) (ix2 r q) = lU (Scalar.addi (Scalar.muli (BitVec.ofNat 32 (i 1).val) 1024#32) 512#32) (fun r q => x5 (ix2 r q)) 512 (by decide) (rfmB (i 1).val x1 x3 x6 x7) (lU (Scalar.addi (Scalar.muli (BitVec.ofNat 32 (i 1).val) 1024#32) 0#32) (fun r q => x5 (ix2 r q)) 0 (by decide) (rfmB (i 1).val x1 x3 x6 x7) (fun r q => x20 (ix2 r q))) r q := by
  have h := tenLc arg22.view (rChunks i arg3 harg3 arg5 harg5 arg8 harg8 arg9 harg9 x1 x3 x6 x7) _ _ _ _ _ [] (fun r q => x20 (ix2 r q)) (at_load arg22 harg22 x20 0 inb_S1280x128_S256x128_0_0) (at_load arg22 harg22 x20 256 inb_S1280x128_S256x128_256_0) (at_load arg22 harg22 x20 512 inb_S1280x128_S256x128_512_0) (at_load arg22 harg22 x20 768 inb_S1280x128_S256x128_768_0) (at_load arg22 harg22 x20 1024 inb_S1280x128_S256x128_1024_0) (Scalar.addi (Scalar.muli (BitVec.ofNat 32 (i 1).val) 1024#32) 0#32) (Scalar.addi (Scalar.muli (BitVec.ofNat 32 (i 1).val) 1024#32) 512#32) _ _ _ _ _ (fun r q => x5 (ix2 r q))
    (rel_at arg7 harg7 x5 0 inb_S1280x128_S256x128_0_0) (rel_at arg7 harg7 x5 256 inb_S1280x128_S256x128_256_0) (rel_at arg7 harg7 x5 512 inb_S1280x128_S256x128_512_0) (rel_at arg7 harg7 x5 768 inb_S1280x128_S256x128_768_0) (rel_at arg7 harg7 x5 1024 inb_S1280x128_S256x128_1024_0) f r q
  dsimp only [rChunks] at h
  exact h

theorem read13_C (f : arg15.view.ty.Contents (Elt Ideal)) (r : Fin 1280) (q : Fin 128) :
    arg15.view.read (Elt Ideal) (arg15.view.writes (Elt Ideal) f (bodyRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x15 x16 x17 x18 x19 x20).2.2.1) (ix2 r q) = eLse (fun l => mU 512 (by decide) (polB (i 1).val x0 x2 x4 x6 x7 x10) (mU 0 (by decide) (polB (i 1).val x0 x2 x4 x6 x7 x10) (fun r q => x15 (ix2 r q))) r l) (fun l => sU 512 (by decide) (polB (i 1).val x0 x2 x4 x6 x7 x10) (mU 0 (by decide) (polB (i 1).val x0 x2 x4 x6 x7 x10) (fun r q => x15 (ix2 r q))) (sU 0 (by decide) (polB (i 1).val x0 x2 x4 x6 x7 x10) (fun r q => x15 (ix2 r q)) (fun r q => x16 (ix2 r q))) r l) :=
  filled arg15.view f inb_S1280x128_S1280x128_0_0 _ _ (fun r q => (pay4_apply _ _ r q).trans (congrArg₂ eLse (funext fun l => covW _ _ _ _ (fun f r q => read15_C c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc1 x0 x1 x2 x3 x4 x5 x6 x7 x8 x9 x10 x15 x16 x17 x18 x19 x20 f r q) r l) (funext fun l => covW _ _ _ _ (fun f r q => read16_C c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc1 x0 x1 x2 x3 x4 x5 x6 x7 x8 x9 x10 x15 x16 x17 x18 x19 x20 f r q) r l))) r q

theorem read14_C (f : arg16.view.ty.Contents (Elt Ideal)) (r : Fin 1280) (q : Fin 128) :
    arg16.view.read (Elt Ideal) (arg16.view.writes (Elt Ideal) f (bodyRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x15 x16 x17 x18 x19 x20).2.2.2.1) (ix2 r q) = ((∑ l, lU (Scalar.addi (Scalar.muli (BitVec.ofNat 32 (i 1).val) 1024#32) 512#32) (fun r q => x5 (ix2 r q)) 512 (by decide) (polB (i 1).val x0 x2 x4 x6 x7 x10) (lU (Scalar.addi (Scalar.muli (BitVec.ofNat 32 (i 1).val) 1024#32) 0#32) (fun r q => x5 (ix2 r q)) 0 (by decide) (polB (i 1).val x0 x2 x4 x6 x7 x10) (fun r q => x17 (ix2 r q))) r l) - eLse (fun l => mU 512 (by decide) (polB (i 1).val x0 x2 x4 x6 x7 x10) (mU 0 (by decide) (polB (i 1).val x0 x2 x4 x6 x7 x10) (fun r q => x15 (ix2 r q))) r l) (fun l => sU 512 (by decide) (polB (i 1).val x0 x2 x4 x6 x7 x10) (mU 0 (by decide) (polB (i 1).val x0 x2 x4 x6 x7 x10) (fun r q => x15 (ix2 r q))) (sU 0 (by decide) (polB (i 1).val x0 x2 x4 x6 x7 x10) (fun r q => x15 (ix2 r q)) (fun r q => x16 (ix2 r q))) r l)) - ((∑ l, lU (Scalar.addi (Scalar.muli (BitVec.ofNat 32 (i 1).val) 1024#32) 512#32) (fun r q => x5 (ix2 r q)) 512 (by decide) (rfmB (i 1).val x1 x3 x6 x7) (lU (Scalar.addi (Scalar.muli (BitVec.ofNat 32 (i 1).val) 1024#32) 0#32) (fun r q => x5 (ix2 r q)) 0 (by decide) (rfmB (i 1).val x1 x3 x6 x7) (fun r q => x20 (ix2 r q))) r l) - eLse (fun l => mU 512 (by decide) (rfmB (i 1).val x1 x3 x6 x7) (mU 0 (by decide) (rfmB (i 1).val x1 x3 x6 x7) (fun r q => x18 (ix2 r q))) r l) (fun l => sU 512 (by decide) (rfmB (i 1).val x1 x3 x6 x7) (mU 0 (by decide) (rfmB (i 1).val x1 x3 x6 x7) (fun r q => x18 (ix2 r q))) (sU 0 (by decide) (rfmB (i 1).val x1 x3 x6 x7) (fun r q => x18 (ix2 r q)) (fun r q => x19 (ix2 r q))) r l)) :=
  filled arg16.view f inb_S1280x128_S1280x128_0_0 _ _ (fun r q => (pay5_apply _ _ _ _ _ _ r q).trans (congrArg₂ (· - ·) (congrArg₂ (· - ·) (congrArg (Finset.sum Finset.univ) (funext fun l => covW _ _ _ _ (fun f r q => read17_C c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc1 x0 x1 x2 x3 x4 x5 x6 x7 x8 x9 x10 x15 x16 x17 x18 x19 x20 f r q) r l)) (congrArg₂ eLse (funext fun l => covW _ _ _ _ (fun f r q => read15_C c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc1 x0 x1 x2 x3 x4 x5 x6 x7 x8 x9 x10 x15 x16 x17 x18 x19 x20 f r q) r l) (funext fun l => covW _ _ _ _ (fun f r q => read16_C c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc1 x0 x1 x2 x3 x4 x5 x6 x7 x8 x9 x10 x15 x16 x17 x18 x19 x20 f r q) r l))) (congrArg₂ (· - ·) (congrArg (Finset.sum Finset.univ) (funext fun l => covW _ _ _ _ (fun f r q => read20_C c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc1 x0 x1 x2 x3 x4 x5 x6 x7 x8 x9 x10 x15 x16 x17 x18 x19 x20 f r q) r l)) (congrArg₂ eLse (funext fun l => covW _ _ _ _ (fun f r q => read18_C c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc1 x0 x1 x2 x3 x4 x5 x6 x7 x8 x9 x10 x15 x16 x17 x18 x19 x20 f r q) r l) (funext fun l => covW _ _ _ _ (fun f r q => read19_C c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc1 x0 x1 x2 x3 x4 x5 x6 x7 x8 x9 x10 x15 x16 x17 x18 x19 x20 f r q) r l))))) r q

end

end Cert.ForwardIdeal.Own

end
-- ==== Proof.FwdReads.lean ====
/- The forward pass in closed form, and what each block of its pipeline's inputs holds in terms of the arguments. -/
module

public import proofs.«01_k».proof.Proof.FwdOut
public import proofs.«01_k».proof.Proof.Gen.ForwardIdeal.Frame
public import Idealize.ShloMosaic.Lib.Pipeline.ValueKit

@[expose] public section

set_option maxRecDepth 16384

noncomputable section

namespace Cert.FwdClosed

open Idealize.ShloMosaic Cert.Closed

/-- The policy logit of a row at vocabulary entry `v`: minus infinity from the vocabulary's end on. -/
def lp (xp : Arr2 5120 4096 EReal) (xsp : Arr1 5120 EReal) (u : Arr2 5120 16 EReal) (w : Arr2 64128 4096 EReal) (ws : Arr1 64512 EReal) (lb : Arr2 64512 16 EReal)
    (t : Fin 5120) (v : ℕ) : EReal :=
  if h : v < 64128 then (∑ d : Fin 4096, xp (ix2 t d) * w (ix2 ⟨v, h⟩ d)) * xsp (ix1 t) * ws (ix1 ⟨v, by omega⟩)
    + Ideal.ofBits .f32 0x40000000#32 * ∑ a : Fin 16, u (ix2 t a) * lb (ix2 ⟨v, by omega⟩ a) else ⊥

/-- The reference model's. -/
def lr (xr : Arr2 5120 4096 EReal) (xsr : Arr1 5120 EReal) (w : Arr2 64128 4096 EReal) (ws : Arr1 64512 EReal) (t : Fin 5120) (v : ℕ) : EReal :=
  if h : v < 64128 then (∑ d : Fin 4096, xr (ix2 t d) * w (ix2 ⟨v, h⟩ d)) * xsr (ix1 t) * ws (ix1 ⟨v, by omega⟩) else ⊥

/-- The cast weights: the codes times their row's scale, zero from the vocabulary's end on. -/
def wv (w : Arr2 64128 4096 EReal) (ws : Arr1 64512 EReal) (v : ℕ) (d : Fin 4096) : EReal :=
  if h : v < 64128 then w (ix2 ⟨v, h⟩ d) * ws (ix1 ⟨v, by omega⟩) else 0

/-- The log of the sum of a row's exponentials, with the row's maximum taken out. -/
def lse (R : ℕ → EReal) : EReal :=
  (Finset.univ.sup fun v : Fin 64128 => R v.val) + Ideal.log (∑ v : Fin 64128, Ideal.exp (R v.val - Finset.univ.sup fun v : Fin 64128 => R v.val))

/-- The row's entry at its label. -/
def pick (lab : BitVec 32) (R : ℕ → EReal) : EReal := ∑ v : Fin 64128, if lab.toNat = v.val then R v.val else 0

end Cert.FwdClosed

namespace Cert.ForwardIdeal.Own

open Idealize.ShloMosaic Idealize.ShloMosaic.TcCoe Idealize.ShloMosaic.Tactic
open Idealize.SL Idealize.SL.Sem
open Idealize.ShloMosaic.Pipeline (Dat Cfg Window BodyObligation cellOf)
open Cert.ForwardIdeal Cert.ForwardIdeal.Gen Cert.Closed Cert.FwdClosed

variable (m : (ℓ : Loc nD τ sig) → Buf (Elt Ideal) ℓ)

def a0 (c : Dev nD) : Arr2 5120 4096 EReal := m ((c.tc : Thread nD τ).loc main_arg0)
def a1 (c : Dev nD) : Arr2 5120 4096 EReal := m ((c.tc : Thread nD τ).loc main_arg1)
def a2 (c : Dev nD) : Arr1 5120 EReal := m ((c.tc : Thread nD τ).loc main_arg2)
def a3 (c : Dev nD) : Arr1 5120 EReal := m ((c.tc : Thread nD τ).loc main_arg3)
def a4 (c : Dev nD) : Arr2 5120 16 EReal := m ((c.tc : Thread nD τ).loc main_arg4)
def a5 (c : Dev nD) : Arr1 5120 (BitVec 32) := m ((c.tc : Thread nD τ).loc main_arg5)
def a6 (c : Dev nD) : Arr2 64128 4096 EReal := m ((c.tc : Thread nD τ).loc main_arg6)
def a7 (c : Dev nD) : Arr1 64512 EReal := m ((c.tc : Thread nD τ).loc main_arg7)
def a8 (c : Dev nD) : Arr2 64512 16 EReal := m ((c.tc : Thread nD τ).loc main_arg8)

abbrev b0 (c : Dev nD) (t : Fin cfg0.N) : Vec Ideal S1280x4096 .fp8e4m3 := iblk m c 0 t
abbrev b1 (c : Dev nD) (t : Fin cfg0.N) : Vec Ideal S1280x4096 .fp8e4m3 := iblk m c 1 t
abbrev b2 (c : Dev nD) (t : Fin cfg0.N) : Vec Ideal S1280x128 .f32 := iblk m c 2 t
abbrev b3 (c : Dev nD) (t : Fin cfg0.N) : Vec Ideal S1280x128 .f32 := iblk m c 3 t
abbrev b4 (c : Dev nD) (t : Fin cfg0.N) : Vec Ideal S1280x16 .bf16 := iblk m c 4 t
abbrev b5 (c : Dev nD) (t : Fin cfg0.N) : Vec Ideal S1280x128 .i32 := iblk m c 5 t
abbrev b7 (c : Dev nD) (t : Fin cfg0.N) : Vec Ideal S1x1024 .f32 := iblk m c 7 t
abbrev b9 (c : Dev nD) (t : Fin cfg0.N) : Vec Ideal S1x256 .f32 := iblk m c 9 t
abbrev b10 (c : Dev nD) (t : Fin cfg0.N) : Vec Ideal S16x1024 .bf16 := iblk m c 10 t

theorem pt_lt (t : Fin cfg0.N) : t.val < 252 := lt_of_lt_of_eq t.isLt N_0
/-- The array row under row `r` of the block at point `t`, -/
def rowAt (t : Fin cfg0.N) (r : Fin 1280) : Fin 5120 := ⟨t.val / 63 * 1280 + r.val, by have := pt_lt t; omega⟩
/-- the array column under its column `k`, -/
def colAt (t : Fin cfg0.N) (k : Fin 1024) : Fin 64512 := ⟨t.val % 63 * 1024 + k.val, by omega⟩
/-- and the array row under row `r` of its quarter block. -/
def quAt (t : Fin cfg0.N) (r : Fin 256) : Fin 64512 := ⟨(t.val % 63 * 4 + t.val / 63) * 256 + r.val, by have := pt_lt t; omega⟩

theorem i0_0 : ∀ t : Fin cfg0.N, win0_0.index t = ![t.val / 63, 0] := (by decide +kernel : ∀ t : Fin grid0.N, _)
theorem i0_1 : ∀ t : Fin cfg0.N, win0_1.index t = ![t.val / 63, 0] := (by decide +kernel : ∀ t : Fin grid0.N, _)
theorem i0_2 : ∀ t : Fin cfg0.N, win0_2.index t = ![t.val / 63, 0] := (by decide +kernel : ∀ t : Fin grid0.N, _)
theorem i0_3 : ∀ t : Fin cfg0.N, win0_3.index t = ![t.val / 63, 0] := (by decide +kernel : ∀ t : Fin grid0.N, _)
theorem i0_4 : ∀ t : Fin cfg0.N, win0_4.index t = ![t.val / 63, 0] := (by decide +kernel : ∀ t : Fin grid0.N, _)
theorem i0_5 : ∀ t : Fin cfg0.N, win0_5.index t = ![t.val / 63, 0] := (by decide +kernel : ∀ t : Fin grid0.N, _)
theorem i0_6 : ∀ t : Fin cfg0.N, win0_6.index t = ![t.val % 63, 0] := (by decide +kernel : ∀ t : Fin grid0.N, _)
theorem i0_7 : ∀ t : Fin cfg0.N, win0_7.index t = ![0, t.val % 63] := (by decide +kernel : ∀ t : Fin grid0.N, _)
theorem i0_8 : ∀ t : Fin cfg0.N, win0_8.index t = ![min (t.val % 63 * 4 + t.val / 63) 250, 0] := (by decide +kernel : ∀ t : Fin grid0.N, _)
theorem i0_9 : ∀ t : Fin cfg0.N, win0_9.index t = ![0, min (t.val % 63 * 4 + t.val / 63) 250] := (by decide +kernel : ∀ t : Fin grid0.N, _)
theorem i0_10 : ∀ t : Fin cfg0.N, win0_10.index t = ![0, t.val % 63] := (by decide +kernel : ∀ t : Fin grid0.N, _)
theorem i0_11 : ∀ t : Fin cfg0.N, win0_11.index t = ![t.val / 63, t.val % 63] := (by decide +kernel : ∀ t : Fin grid0.N, _)
theorem i0_12 : ∀ t : Fin cfg0.N, win0_12.index t = ![t.val % 63 * 4 + t.val / 63, 0] := (by decide +kernel : ∀ t : Fin grid0.N, _)
theorem i0_13 : ∀ t : Fin cfg0.N, win0_13.index t = ![t.val / 63, 0] := (by decide +kernel : ∀ t : Fin grid0.N, _)
theorem i0_14 : ∀ t : Fin cfg0.N, win0_14.index t = ![t.val / 63, 0] := (by decide +kernel : ∀ t : Fin grid0.N, _)
theorem fetch6 : ∀ t : Fin cfg0.N, (cfg0.win 6).fetch t = true := (by decide +kernel : ∀ t : Fin grid0.N, win0_6.fetch t = true)
theorem fetch8 : ∀ t : Fin cfg0.N, (cfg0.win 8).fetch t = true := (by decide +kernel : ∀ t : Fin grid0.N, win0_8.fetch t = true)

theorem b0_at (c : Dev nD) (t : Fin cfg0.N) (r : Fin 1280) (k : Fin 4096) : b0 m c t (ix2 r k) = a0 m c (ix2 (rowAt t r) k) := by
  unfold a0 rowAt
  blk_ext! [b0, iblk, V, i0_0 t]
theorem b1_at (c : Dev nD) (t : Fin cfg0.N) (r : Fin 1280) (k : Fin 4096) : b1 m c t (ix2 r k) = a1 m c (ix2 (rowAt t r) k) := by
  unfold a1 rowAt
  blk_ext! [b1, iblk, V, i0_1 t]
theorem b2_at (c : Dev nD) (t : Fin cfg0.N) (r : Fin 1280) (k : Fin 128) : b2 m c t (ix2 r k) = a2 m c (ix1 (rowAt t r)) := by
  unfold a2 rowAt
  blk_ext! [b2, iblk, i0_2 t]
theorem b3_at (c : Dev nD) (t : Fin cfg0.N) (r : Fin 1280) (k : Fin 128) : b3 m c t (ix2 r k) = a3 m c (ix1 (rowAt t r)) := by
  unfold a3 rowAt
  blk_ext! [b3, iblk, i0_3 t]
theorem b4_at (c : Dev nD) (t : Fin cfg0.N) (r : Fin 1280) (k : Fin 16) : b4 m c t (ix2 r k) = a4 m c (ix2 (rowAt t r) k) := by
  unfold a4 rowAt
  blk_ext! [b4, iblk, V, i0_4 t]
/-- The label operand: each token's label, less the lane's number. -/
theorem rel_op (c : Dev nD) (r : Fin 5120) (k : Fin 128) :
    (V m c main_v3 : Arr2 5120 128 (BitVec 32)) (ix2 r k) = a5 m c (ix1 r) - BitVec.ofNat 32 k.val := by
  unfold a5
  entry_read
  pointwise
  rfl
theorem b5_at (c : Dev nD) (t : Fin cfg0.N) (r : Fin 1280) (k : Fin 128) :
    b5 m c t (ix2 r k) = a5 m c (ix1 (rowAt t r)) - BitVec.ofNat 32 k.val := by
  rw [← rel_op]
  unfold rowAt
  blk_ext [b5, iblk, i0_5 t]
theorem b7_at (c : Dev nD) (t : Fin cfg0.N) (k : Fin 1024) : b7 m c t (ix2 0 k) = a7 m c (ix1 (colAt t k)) := by
  unfold a7 colAt
  blk_ext! [b7, iblk, i0_7 t]
theorem b9_at (c : Dev nD) (t : Fin cfg0.N) (k : Fin 256) (h : t.val % 63 * 4 + t.val / 63 ≤ 250) : b9 m c t (ix2 0 k) = a7 m c (ix1 (quAt t k)) := by
  unfold a7 quAt
  blk_ext! [b9, iblk, i0_9 t, Nat.min_eq_left h]
theorem b10_at (c : Dev nD) (t : Fin cfg0.N) (a : Fin 16) (k : Fin 1024) : b10 m c t (ix2 a k) = a8 m c (ix2 (colAt t k) a) := by
  unfold a8 colAt
  blk_ext! [b10, iblk, i0_10 t]

/-! ## The two windows on the codes, whose last block overhangs the array -/

theorem x6_size : ∀ t : Fin cfg0.N, ∀ a, (win0_6.xblock (grid0.coords t)).size a = ![min 1024 (64128 - t.val % 63 * 1024), 4096] a :=
  (by decide +kernel : ∀ t : Fin grid0.N, _)
theorem x8_size : ∀ t : Fin cfg0.N, ∀ a, (win0_8.xblock (grid0.coords t)).size a = ![min 256 (64128 - min (t.val % 63 * 4 + t.val / 63) 250 * 256), 4096] a :=
  (by decide +kernel : ∀ t : Fin grid0.N, _)

theorem row6 (t : Fin cfg0.N) (y : ((cfg0.win 6).xblock (cfg0.grid.coords t)).Idx) :
    (((((cfg0.win 6).blk t).view.emb y) 0 : Fin _) : ℕ) = t.val % 63 * 1024 + (y 0).val :=
  (ValueKit.view_emb_slice_whole_unit_val main_arg6 _ _ _ y 0).trans
    (congrArg (fun z => z * 1024 + (y 0).val) (congrFun (i0_6 t) 0))
theorem col6 (t : Fin cfg0.N) (y : ((cfg0.win 6).xblock (cfg0.grid.coords t)).Idx) :
    (((((cfg0.win 6).blk t).view.emb y) 1 : Fin _) : ℕ) = (y 1).val :=
  (ValueKit.view_emb_slice_whole_unit_val main_arg6 _ _ _ y 1).trans
    ((congrArg (fun z => z * 4096 + (y 1).val) (congrFun (i0_6 t) 1)).trans ((congrArg (· + (y 1).val) (Nat.zero_mul 4096)).trans (Nat.zero_add _)))
theorem row8 (t : Fin cfg0.N) (y : ((cfg0.win 8).xblock (cfg0.grid.coords t)).Idx) :
    (((((cfg0.win 8).blk t).view.emb y) 0 : Fin _) : ℕ) = min (t.val % 63 * 4 + t.val / 63) 250 * 256 + (y 0).val :=
  (ValueKit.view_emb_slice_whole_unit_val main_arg6 _ _ _ y 0).trans
    (congrArg (fun z => z * 256 + (y 0).val) (congrFun (i0_8 t) 0))
theorem col8 (t : Fin cfg0.N) (y : ((cfg0.win 8).xblock (cfg0.grid.coords t)).Idx) :
    (((((cfg0.win 8).blk t).view.emb y) 1 : Fin _) : ℕ) = (y 1).val :=
  (ValueKit.view_emb_slice_whole_unit_val main_arg6 _ _ _ y 1).trans
    ((congrArg (fun z => z * 4096 + (y 1).val) (congrFun (i0_8 t) 1)).trans ((congrArg (· + (y 1).val) (Nat.zero_mul 4096)).trans (Nat.zero_add _)))

/-- A fetched element. -/
theorem fill_at {G : Pipeline.Grid} (w : Window sig G) {α : Type} (i : G.Coords) (d : w.block.Idx → α) (g : (w.xblock i).Idx → α) (j : w.block.Idx)
    (h : ∀ a, (j a).val < w.xsize i a) : w.fill i d g j = g fun a => ⟨(j a).val, h a⟩ := by
  unfold Window.fill
  rw [dif_pos ((w.moved_iff i j).mpr h)]

theorem in6 (t : Fin cfg0.N) (k : Fin 1024) (q : Fin 4096) (h : t.val % 63 * 1024 + k.val < 64128) : ∀ a, ((ix2 k q : S1024x4096.Idx) a).val < win0_6.xsize (grid0.coords t) a :=
  fun a => lt_of_lt_of_eq (by
    revert a
    refine Fin.forall_fin_two.mpr ⟨?_, ?_⟩
    · show k.val < min 1024 (64128 - t.val % 63 * 1024)
      omega
    · exact q.isLt) (x6_size t a).symm
theorem in8 (t : Fin cfg0.N) (k : Fin 256) (q : Fin 4096) (h : (t.val % 63 * 4 + t.val / 63) * 256 + k.val < 64128) : ∀ a, ((ix2 k q : S256x4096.Idx) a).val < win0_8.xsize (grid0.coords t) a :=
  fun a => lt_of_lt_of_eq (by
    revert a
    refine Fin.forall_fin_two.mpr ⟨?_, ?_⟩
    · show k.val < min 256 (64128 - min (t.val % 63 * 4 + t.val / 63) 250 * 256)
      omega
    · exact q.isLt) (x8_size t a).symm

/-- An element of a block of the codes. -/
theorem ib6 (c : Dev nD) (t : Fin cfg0.N) (y : ((cfg0.win 6).xblock (cfg0.grid.coords t)).Idx) (k : Fin 64128) (q : Fin 4096)
    (h0 : t.val % 63 * 1024 + (y 0).val = k.val) (h1 : (y 1).val = q.val) : iblk m c 6 t y = a6 m c (ix2 k q) := by
  unfold iblk
  refine (congrFun (V_main_arg6 m c) _).trans ?_
  unfold a6
  refine congrArg (m ((c.tc : Thread nD τ).loc main_arg6)) ?_
  funext a
  revert a
  exact Fin.forall_fin_two.mpr ⟨Fin.ext ((row6 t y).trans h0), Fin.ext ((col6 t y).trans h1)⟩
theorem ib8 (c : Dev nD) (t : Fin cfg0.N) (y : ((cfg0.win 8).xblock (cfg0.grid.coords t)).Idx) (k : Fin 64128) (q : Fin 4096)
    (h0 : min (t.val % 63 * 4 + t.val / 63) 250 * 256 + (y 0).val = k.val) (h1 : (y 1).val = q.val) : iblk m c 8 t y = a6 m c (ix2 k q) := by
  unfold iblk
  refine (congrFun (V_main_arg6 m c) _).trans ?_
  unfold a6
  refine congrArg (m ((c.tc : Thread nD τ).loc main_arg6)) ?_
  funext a
  revert a
  exact Fin.forall_fin_two.mpr ⟨Fin.ext ((row8 t y).trans h0), Fin.ext ((col8 t y).trans h1)⟩

/-- What a fetch of the codes leaves in the buffer's valid rows, whatever the buffer held. -/
theorem fill6 (c : Dev nD) (t : Fin cfg0.N) (d : (cfg0.win 6).block.Idx → Elt Ideal (cfg0.win 6).elt) (k : Fin 1024) (q : Fin 4096) (h : t.val % 63 * 1024 + k.val < 64128)
    (j : (cfg0.win 6).block.Idx) (hj : j = (ix2 k q : S1024x4096.Idx)) :
    (cfg0.win 6).fill (cfg0.grid.coords t) d (iblk m c 6 t) j = a6 m c (ix2 ⟨t.val % 63 * 1024 + k.val, h⟩ q) := by
  have hh : ∀ a, (j a).val < (cfg0.win 6).xsize (cfg0.grid.coords t) a := by rw [hj]; exact in6 t k q h
  refine (fill_at (cfg0.win 6) (cfg0.grid.coords t) d (iblk m c 6 t) j hh).trans ?_
  have e0 : (j 0).val = k.val := by rw [hj]; rfl
  have e1 : (j 1).val = q.val := by rw [hj]; rfl
  exact ib6 m c t _ _ _ (congrArg (t.val % 63 * 1024 + ·) e0) e1
theorem fill8 (c : Dev nD) (t : Fin cfg0.N) (d : (cfg0.win 8).block.Idx → Elt Ideal (cfg0.win 8).elt) (k : Fin 256) (q : Fin 4096) (h : (t.val % 63 * 4 + t.val / 63) * 256 + k.val < 64128)
    (j : (cfg0.win 8).block.Idx) (hj : j = (ix2 k q : S256x4096.Idx)) :
    (cfg0.win 8).fill (cfg0.grid.coords t) d (iblk m c 8 t) j = a6 m c (ix2 ⟨(t.val % 63 * 4 + t.val / 63) * 256 + k.val, h⟩ q) := by
  have hh : ∀ a, (j a).val < (cfg0.win 8).xsize (cfg0.grid.coords t) a := by rw [hj]; exact in8 t k q h
  refine (fill_at (cfg0.win 8) (cfg0.grid.coords t) d (iblk m c 8 t) j hh).trans ?_
  have e0 : (j 0).val = k.val := by rw [hj]; rfl
  have e1 : (j 1).val = q.val := by rw [hj]; rfl
  have e2 : min (t.val % 63 * 4 + t.val / 63) 250 = t.val % 63 * 4 + t.val / 63 := by omega
  refine ib8 m c t _ _ _ ?_ e1
  exact congrArg₂ (fun a b => a * 256 + b) e2 e0

/-! ## A block's logits and cast weights, at the array's rows and columns -/

abbrev LP (c : Dev nD) (t : Fin 5120) : ℕ → EReal := lp (a0 m c) (a2 m c) (a4 m c) (a6 m c) (a7 m c) (a8 m c) t
abbrev LR (c : Dev nD) (t : Fin 5120) : ℕ → EReal := lr (a1 m c) (a3 m c) (a6 m c) (a7 m c) t
abbrev WV (c : Dev nD) : ℕ → Fin 4096 → EReal := wv (a6 m c) (a7 m c)

/-- The valid rows of a codes block. -/
def C6 (c : Dev nD) (t : Fin cfg0.N) (X : Vec Ideal S1024x4096 .fp8e4m3) : Prop :=
  ∀ k q (h : t.val % 63 * 1024 + k.val < 64128), X (ix2 k q) = a6 m c (ix2 ⟨t.val % 63 * 1024 + k.val, h⟩ q)
def C8 (c : Dev nD) (t : Fin cfg0.N) (X : Vec Ideal S256x4096 .fp8e4m3) : Prop :=
  ∀ k q (h : (t.val % 63 * 4 + t.val / 63) * 256 + k.val < 64128), X (ix2 k q) = a6 m c (ix2 ⟨(t.val % 63 * 4 + t.val / 63) * 256 + k.val, h⟩ q)

theorem coord1 (t : Fin cfg0.N) : (grid0.coords t 1).val = t.val % 63 := by
  have e1 : (grid0.coords t 1).val = t.val / 1 % 63 := Pipeline.Grid.coords_val t 1 (by decide) rfl
  rw [e1, Nat.div_one]
theorem coord0 (t : Fin cfg0.N) : (grid0.coords t 0).val = t.val / 63 := by
  have e1 : (grid0.coords t 0).val = t.val / 63 % 4 := Pipeline.Grid.coords_val t 0 (by decide) rfl
  have := pt_lt t
  omega

theorem pol_eq (c : Dev nD) (t : Fin cfg0.N) (X) (hX : C6 m c t X) (r : Fin 1280) (k : Fin 1024) :
    polB (grid0.coords t 1).val (b0 m c t) (b2 m c t) (b4 m c t) X (b7 m c t) (b10 m c t) r k = LP m c (rowAt t r) (t.val % 63 * 1024 + k.val) := by
  unfold polB LP lp
  rw [coord1]
  by_cases h : t.val % 63 * 1024 + k.val < 64128
  · rw [if_pos h, dif_pos h]
    simp only [b0_at, b2_at, b4_at, b7_at, b10_at, hX k _ h]
    rfl
  · rw [if_neg h, dif_neg h]

theorem rfm_eq (c : Dev nD) (t : Fin cfg0.N) (X) (hX : C6 m c t X) (r : Fin 1280) (k : Fin 1024) :
    rfmB (grid0.coords t 1).val (b1 m c t) (b3 m c t) X (b7 m c t) r k = LR m c (rowAt t r) (t.val % 63 * 1024 + k.val) := by
  unfold rfmB LR lr
  rw [coord1]
  by_cases h : t.val % 63 * 1024 + k.val < 64128
  · rw [if_pos h, dif_pos h]
    simp only [b1_at, b3_at, b7_at, hX k _ h]
    rfl
  · rw [if_neg h, dif_neg h]

theorem wb_eq (c : Dev nD) (t : Fin cfg0.N) (X) (hX : C8 m c t X) (r : Fin 256) (d : Fin 4096) :
    wbB ((grid0.coords t 1).val * 1024 + (grid0.coords t 0).val * 256) X (b9 m c t) r d = WV m c (quAt t r).val d := by
  unfold wbB WV wv
  rw [coord1, coord0]
  have e : t.val % 63 * 1024 + t.val / 63 * 256 + r.val = (quAt t r).val := by simp only [quAt]; omega
  rw [e]
  by_cases h : (quAt t r).val < 64128
  · rw [if_pos h, dif_pos h, hX r d h, b9_at m c t r (by simp only [quAt] at h; omega)]
    rfl
  · rw [if_neg h, dif_neg h]

end Cert.ForwardIdeal.Own

end
-- ==== Proof.FwdLanes.lean ====
/- One point's step of the running maxima, sums and picked entries, lane by lane, and the lanes combined after a row
   block's last point. -/
module

public import proofs.«01_k».proof.Proof.FwdReads

@[expose] public section

set_option maxRecDepth 16384

noncomputable section

namespace Cert.ForwardIdeal.Own

open Idealize.ShloMosaic Idealize.ShloMosaic.TcCoe
open Cert.ForwardIdeal Cert.ForwardIdeal.Gen Cert.Closed Cert.FwdClosed Cert.Online

/-- The label names column `v` of the padded vocabulary. -/
def hit (lab : BitVec 32) (v : ℕ) : Prop := lab.toNat = v ∧ v < 64512
instance (lab : BitVec 32) (f : ℕ → ℕ) : DecidablePred fun s => hit lab (f s) := fun s => inferInstanceAs (Decidable (lab.toNat = f s ∧ f s < 64512))

theorem hit_word (lab : BitVec 32) (j p s q v : ℕ) (hq : q < 128) (hv : v = j * 1024 + p + s + q) (hV : v < 64512) :
    (lab - BitVec.ofNat 32 q = Scalar.addi (Scalar.muli (BitVec.ofNat 32 j) 1024#32) (BitVec.ofNat 32 p) + BitVec.ofNat 32 s) ↔ hit lab v := by
  have e : Scalar.addi (Scalar.muli (BitVec.ofNat 32 j) 1024#32) (BitVec.ofNat 32 p) + BitVec.ofNat 32 s + BitVec.ofNat 32 q = BitVec.ofNat 32 v := by
    show BitVec.ofNat 32 j * BitVec.ofNat 32 1024 + BitVec.ofNat 32 p + BitVec.ofNat 32 s + BitVec.ofNat 32 q = _
    rw [← BitVec.ofNat_mul, ← BitVec.ofNat_add, ← BitVec.ofNat_add, ← BitVec.ofNat_add, ← hv]
  have hv' : (BitVec.ofNat 32 v).toNat = v := by rw [BitVec.toNat_ofNat, Nat.mod_eq_of_lt (by omega : v < 2 ^ 32)]
  unfold hit
  constructor
  · intro h
    have h' : lab = BitVec.ofNat 32 v := by rw [← e, ← h]; exact (BitVec.sub_add_cancel lab _).symm
    exact ⟨by rw [h', hv'], hV⟩
  · intro h
    have h' : lab = BitVec.ofNat 32 v := BitVec.eq_of_toNat_eq (by rw [hv', h.1])
    rw [h', ← e]
    exact BitVec.add_sub_cancel _ _

section
variable (R : Fin 1280 → ℕ → EReal) (P : Fin 1280 → Fin 1024 → EReal) (j : ℕ) (hP : ∀ r k, P r k = R r (j * 1024 + k.val))
include hP

theorem at_lane (r : Fin 1280) (q : Fin 128) (k : Fin 1024) (Q : ℕ) (h : j * 1024 + k.val = Q * 128 + q.val) : P r k = lane (R r) q.val Q :=
  (hP r k).trans (congrArg (R r) h)

section
variable (p Q : ℕ) (hp : p + 512 ≤ 1024) (hQ : j * 1024 + p = Q * 128) (r : Fin 1280) (q : Fin 128)
include hQ

theorem lanes4 : P r ⟨p + q.val, by omega⟩ = lane (R r) q.val Q ∧ P r ⟨p + (128 + q.val), by omega⟩ = lane (R r) q.val (Q + 1)
    ∧ P r ⟨p + (256 + q.val), by omega⟩ = lane (R r) q.val (Q + 2) ∧ P r ⟨p + (384 + q.val), by omega⟩ = lane (R r) q.val (Q + 3) :=
  ⟨at_lane R P j hP r q _ _ (by simp only; omega), at_lane R P j hP r q _ _ (by simp only; omega), at_lane R P j hP r q _ _ (by simp only; omega), at_lane R P j hP r q _ _ (by simp only; omega)⟩

theorem mHalf (G : Fin 1280 → Fin 128 → EReal) (hG : G r q = mx (lane (R r) q.val) Q) : mU p hp P G r q = mx (lane (R r) q.val) (Q + 4) := by
  obtain ⟨e0, e1, e2, e3⟩ := lanes4 R P j hP p Q hp hQ r q
  unfold mU eM
  rw [e0, e1, e2, e3, hG]
  exact mx_step _ _

theorem sHalf (G Gs : Fin 1280 → Fin 128 → EReal) (hG : G r q = mx (lane (R r) q.val) Q) (hGs : Gs r q = sm (lane (R r) q.val) Q) :
    sU p hp P G Gs r q = sm (lane (R r) q.val) (Q + 4) := by
  obtain ⟨e0, e1, e2, e3⟩ := lanes4 R P j hP p Q hp hQ r q
  unfold sU eS eM
  rw [e0, e1, e2, e3, hG, hGs, mx_step]
  exact sm_step _ _

theorem lHalf (hj : j < 63) (lab : Fin 1280 → BitVec 32) (re : Fin 1280 → Fin 128 → BitVec 32) (hre : re r q = lab r - BitVec.ofNat 32 q.val) (G : Fin 1280 → Fin 128 → EReal)
    (hG : G r q = pk (lane (R r) q.val) (fun s => hit (lab r) (s * 128 + q.val)) Q) :
    lU (Scalar.addi (Scalar.muli (BitVec.ofNat 32 j) 1024#32) (BitVec.ofNat 32 p)) re p hp P G r q = pk (lane (R r) q.val) (fun s => hit (lab r) (s * 128 + q.val)) (Q + 4) := by
  obtain ⟨e0, e1, e2, e3⟩ := lanes4 R P j hP p Q hp hQ r q
  have hq := q.isLt
  unfold lU eL
  rw [e0, e1, e2, e3, hG, hre]
  refine Eq.trans ?_ (pk_step (lane (R r) q.val) (fun s => hit (lab r) (s * 128 + q.val)) (fun a b ha hb => by have := ha.1; have := hb.1; omega) Q)
  exact if_congr (hit_word (lab r) j p 384 q.val _ hq (by omega) (by omega)) rfl (if_congr (hit_word (lab r) j p 256 q.val _ hq (by omega) (by omega)) rfl
    (if_congr (hit_word (lab r) j p 128 q.val _ hq (by omega) (by omega)) rfl (if_congr (hit_word (lab r) j p 0 q.val _ hq (by omega) (by omega)) rfl rfl)))

end

variable (r : Fin 1280) (q : Fin 128) (G Gs : Fin 1280 → Fin 128 → EReal)

theorem mFull (hG : G r q = mx (lane (R r) q.val) (8 * j)) : mU 512 (by decide) P (mU 0 (by decide) P G) r q = mx (lane (R r) q.val) (8 * (j + 1)) :=
  (mHalf R P j hP 512 (8 * j + 4) (by decide) (by omega) r q _ (mHalf R P j hP 0 (8 * j) (by decide) (by omega) r q G hG)).trans (congrArg _ (by omega))

theorem sFull (hG : G r q = mx (lane (R r) q.val) (8 * j)) (hGs : Gs r q = sm (lane (R r) q.val) (8 * j)) :
    sU 512 (by decide) P (mU 0 (by decide) P G) (sU 0 (by decide) P G Gs) r q = sm (lane (R r) q.val) (8 * (j + 1)) :=
  (sHalf R P j hP 512 (8 * j + 4) (by decide) (by omega) r q _ _ (mHalf R P j hP 0 (8 * j) (by decide) (by omega) r q G hG)
    (sHalf R P j hP 0 (8 * j) (by decide) (by omega) r q G Gs hG hGs)).trans (congrArg _ (by omega))

theorem lFull (hj : j < 63) (lab : Fin 1280 → BitVec 32) (re : Fin 1280 → Fin 128 → BitVec 32) (hre : re r q = lab r - BitVec.ofNat 32 q.val)
    (hG : G r q = pk (lane (R r) q.val) (fun s => hit (lab r) (s * 128 + q.val)) (8 * j)) :
    lU (Scalar.addi (Scalar.muli (BitVec.ofNat 32 j) 1024#32) 512#32) re 512 (by decide) P (lU (Scalar.addi (Scalar.muli (BitVec.ofNat 32 j) 1024#32) 0#32) re 0 (by decide) P G) r q
      = pk (lane (R r) q.val) (fun s => hit (lab r) (s * 128 + q.val)) (8 * (j + 1)) :=
  (lHalf R P j hP 512 (8 * j + 4) (by decide) (by omega) r q hj lab re hre _ (lHalf R P j hP 0 (8 * j) (by decide) (by omega) r q hj lab re hre G hG)).trans (congrArg _ (by omega))

end

/-! ## The lanes combined -/

theorem lse_lanes (R : ℕ → EReal) (hR : ∀ v, 64128 ≤ v → R v = ⊥) : eLse (fun l => mx (lane R l.val) 504) (fun l => sm (lane R l.val) 504) = lse R := by
  unfold eLse lse
  rw [sum_exp_lanes R 501 504 (by decide) hR _ rfl, top_lanes R 501 504 (by decide) hR]
  rfl

theorem pick_lanes (lab : BitVec 32) (hl : ¬ (64128 ≤ lab.toNat ∧ lab.toNat < 64512)) (R : ℕ → EReal) :
    (∑ l : Fin 128, pk (lane R l.val) (fun s => hit lab (s * 128 + l.val)) 504) = pick lab R := by
  let hd : DecidablePred (hit lab) := fun s => inferInstanceAs (Decidable (lab.toNat = s ∧ s < 64512))
  refine Eq.trans (Finset.sum_congr rfl fun l _ => ?_) ((sum_pick_lanes R (hit lab) 501 504 (by decide) fun v hv h => hl ⟨h.1 ▸ hv, h.1 ▸ h.2⟩).trans ?_)
  · rfl
  · unfold pick
    refine Finset.sum_congr rfl fun v _ => if_congr ⟨fun h => h.1, fun h => ⟨h, ?_⟩⟩ rfl rfl
    have : v.val < 64128 := v.isLt
    omega

end Cert.ForwardIdeal.Own

end
-- ==== Proof.FwdVal.lean ====
/- The forward pipeline's proof data: inputs at their blocks, the outputs held to what they contain, and the running
   states of the rows' lanes over the vocabulary blocks seen so far in the scratch buffers. -/
module

public import proofs.«01_k».proof.Proof.FwdElA
public import proofs.«01_k».proof.Proof.FwdElB
public import proofs.«01_k».proof.Proof.FwdElC
public import proofs.«01_k».proof.Proof.FwdLanes
public import Idealize.ShloMosaic.Lib.Pipeline.DatRel
public import Idealize.ShloMosaic.Lib.Claim

@[expose] public section

set_option maxRecDepth 16384

noncomputable section

namespace Cert.ForwardIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ForwardIdeal Cert.ForwardIdeal.Gen Cert.Closed Cert.FwdClosed Cert.Online

local notation "𝕄" => MT nD τ sig Unit (Elt Ideal) ℕ (UR sig nD τ) ℕ

variable (m : (ℓ : Loc nD τ sig) → Buf (Elt Ideal) ℓ) (ρ : Dev nD → PrngReg)

/-! ## The running states -/

/-- The states of all lanes after the first `n` groups of 128 entries: maximum, sum of exponentials, entry at the label. -/
def St (R : Fin 1280 → ℕ → EReal) (lab : Fin 1280 → BitVec 32) (n : ℕ) (A B C : Vec Ideal S1280x128 .f32) : Prop :=
  (∀ r q, A (ix2 r q) = mx (lane (R r) q.val) n) ∧ (∀ r q, B (ix2 r q) = sm (lane (R r) q.val) n)
    ∧ (∀ r q, C (ix2 r q) = pk (lane (R r) q.val) (fun s => hit (lab r) (s * 128 + q.val)) n)

section
variable {R : Fin 1280 → ℕ → EReal} {lab : Fin 1280 → BitVec 32} {P : Fin 1280 → Fin 1024 → EReal} {j : ℕ} (hP : ∀ r k, P r k = R r (j * 1024 + k.val)) (hj : j < 63)
  {re : Fin 1280 → Fin 128 → BitVec 32} (hre : ∀ r q, re r q = lab r - BitVec.ofNat 32 q.val) {G Gs Gl : Fin 1280 → Fin 128 → EReal}
  (hG : ∀ r q, G r q = mx (lane (R r) q.val) (8 * j)) (hGs : ∀ r q, Gs r q = sm (lane (R r) q.val) (8 * j))
  (hGl : ∀ r q, Gl r q = pk (lane (R r) q.val) (fun s => hit (lab r) (s * 128 + q.val)) (8 * j))

include hP hj hre hG hGs hGl in
theorem St_step {X Y Z : Vec Ideal S1280x128 .f32}
    (hX : ∀ r q, X (ix2 r q) = mU 512 (by decide) P (mU 0 (by decide) P G) r q)
    (hY : ∀ r q, Y (ix2 r q) = sU 512 (by decide) P (mU 0 (by decide) P G) (sU 0 (by decide) P G Gs) r q)
    (hZ : ∀ r q, Z (ix2 r q) = lU (Scalar.addi (Scalar.muli (BitVec.ofNat 32 j) 1024#32) 512#32) re 512 (by decide) P
      (lU (Scalar.addi (Scalar.muli (BitVec.ofNat 32 j) 1024#32) 0#32) re 0 (by decide) P Gl) r q) : St R lab (8 * (j + 1)) X Y Z :=
  ⟨fun r q => (hX r q).trans (mFull R P j hP r q G (hG r q)), fun r q => (hY r q).trans (sFull R P j hP r q G Gs (hG r q) (hGs r q)),
    fun r q => (hZ r q).trans (lFull R P j hP r q Gl hj lab re (hre r q) (hGl r q))⟩

include hP hG hGs in
theorem lse_out (hj' : j = 62) (hR : ∀ r v, 64128 ≤ v → R r v = ⊥) (r : Fin 1280) :
    eLse (fun l => mU 512 (by decide) P (mU 0 (by decide) P G) r l) (fun l => sU 512 (by decide) P (mU 0 (by decide) P G) (sU 0 (by decide) P G Gs) r l) = lse (R r) := by
  refine Eq.trans ?_ (lse_lanes (R r) (hR r))
  have e : 8 * (j + 1) = 504 := by omega
  rw [show (fun l => mU 512 (by decide) P (mU 0 (by decide) P G) r l) = fun l : Fin 128 => mx (lane (R r) l.val) 504 from
      funext fun l => (mFull R P j hP r l G (hG r l)).trans (by rw [e]),
    show (fun l => sU 512 (by decide) P (mU 0 (by decide) P G) (sU 0 (by decide) P G Gs) r l) = fun l : Fin 128 => sm (lane (R r) l.val) 504 from
      funext fun l => (sFull R P j hP r l G Gs (hG r l) (hGs r l)).trans (by rw [e])]

include hP hj hre hGl in
theorem pick_out (hj' : j = 62) (r : Fin 1280) (hl : ¬ (64128 ≤ (lab r).toNat ∧ (lab r).toNat < 64512)) :
    (∑ l, lU (Scalar.addi (Scalar.muli (BitVec.ofNat 32 j) 1024#32) 512#32) re 512 (by decide) P
      (lU (Scalar.addi (Scalar.muli (BitVec.ofNat 32 j) 1024#32) 0#32) re 0 (by decide) P Gl) r l) = pick (lab r) (R r) := by
  have e : 8 * (j + 1) = 504 := by omega
  exact (Finset.sum_congr rfl fun l _ => (lFull R P j hP r l Gl hj lab re (hre r l) (hGl r l)).trans (by rw [e])).trans (pick_lanes (lab r) hl (R r))
end

def labAt (c : Dev nD) (t : Fin cfg0.N) (r : Fin 1280) : BitVec 32 := a5 m c (ix1 (rowAt t r))
def pR (c : Dev nD) (t : Fin cfg0.N) (r : Fin 1280) : ℕ → EReal := LP m c (rowAt t r)
def rR (c : Dev nD) (t : Fin cfg0.N) (r : Fin 1280) : ℕ → EReal := LR m c (rowAt t r)

theorem pR_bot (c : Dev nD) (t : Fin cfg0.N) (r : Fin 1280) (v : ℕ) (hv : 64128 ≤ v) : pR m c t r v = ⊥ := by
  unfold pR LP lp
  exact dif_neg (by omega)
theorem rR_bot (c : Dev nD) (t : Fin cfg0.N) (r : Fin 1280) (v : ℕ) (hv : 64128 ≤ v) : rR m c t r v = ⊥ := by
  unfold rR LR lr
  exact dif_neg (by omega)

/-- The scratch buffers' contents after point `t`. -/
def Inv (c : Dev nD) (t : Fin cfg0.N) (S0 S1 S2 S3 S4 S5 : Vec Ideal S1280x128 .f32) : Prop :=
  St (pR m c t) (labAt m c t) (8 * (t.val % 63 + 1)) S0 S1 S2 ∧ St (rR m c t) (labAt m c t) (8 * (t.val % 63 + 1)) S3 S4 S5
/-- and before the point of number `n`. -/
def InvN (c : Dev nD) (n : ℕ) (S0 S1 S2 S3 S4 S5 : Vec Ideal S1280x128 .f32) : Prop :=
  ∀ t : Fin cfg0.N, t.val + 1 = n → Inv m c t S0 S1 S2 S3 S4 S5

theorem inv_prev (c : Dev nD) (t : Fin cfg0.N) (h0 : ¬ t.val % 63 = 0) (S0 S1 S2 S3 S4 S5 : Vec Ideal S1280x128 .f32) (h : InvN m c t.val S0 S1 S2 S3 S4 S5) :
    St (pR m c t) (labAt m c t) (8 * (grid0.coords t 1).val) S0 S1 S2 ∧ St (rR m c t) (labAt m c t) (8 * (grid0.coords t 1).val) S3 S4 S5 := by
  rw [coord1]
  have hp := h ⟨t.val - 1, Nat.lt_of_le_of_lt (Nat.sub_le _ _) t.isLt⟩ (by simp only; omega)
  have e (r : Fin 1280) : rowAt ⟨t.val - 1, Nat.lt_of_le_of_lt (Nat.sub_le _ _) t.isLt⟩ r = rowAt t r := Fin.ext (by simp only [rowAt]; omega)
  have e1 : pR m c ⟨t.val - 1, Nat.lt_of_le_of_lt (Nat.sub_le _ _) t.isLt⟩ = pR m c t := funext fun r => by unfold pR; rw [e]
  have e2 : rR m c ⟨t.val - 1, Nat.lt_of_le_of_lt (Nat.sub_le _ _) t.isLt⟩ = rR m c t := funext fun r => by unfold rR; rw [e]
  have e3 : labAt m c ⟨t.val - 1, Nat.lt_of_le_of_lt (Nat.sub_le _ _) t.isLt⟩ = labAt m c t := funext fun r => by unfold labAt; rw [e]
  unfold Inv at hp
  rw [e1, e2, e3] at hp
  simp only at hp
  rwa [show (t.val - 1) % 63 + 1 = t.val % 63 by omega] at hp

theorem inv_of (c : Dev nD) (t : Fin cfg0.N) {S0 S1 S2 S3 S4 S5 : Vec Ideal S1280x128 .f32} (hp : St (pR m c t) (labAt m c t) (8 * ((grid0.coords t 1).val + 1)) S0 S1 S2)
    (hr : St (rR m c t) (labAt m c t) (8 * ((grid0.coords t 1).val + 1)) S3 S4 S5) : InvN m c (t.val + 1) S0 S1 S2 S3 S4 S5 := by
  intro t' ht
  have : t' = t := Fin.ext (by omega)
  rw [this]
  unfold Inv
  rw [← coord1]
  exact ⟨hp, hr⟩

/-! ## What the outputs hold -/

def P11 (c : Dev nD) (t : Fin cfg0.N) (X : Vec Ideal S1280x1024 .f32) : Prop := ∀ r k, X (ix2 r k) = LP m c (rowAt t r) (t.val % 63 * 1024 + k.val)
def P12 (c : Dev nD) (t : Fin cfg0.N) (X : Vec Ideal S256x4096 .bf16) : Prop := ∀ r d, X (ix2 r d) = WV m c (quAt t r).val d
def P13 (c : Dev nD) (t : Fin cfg0.N) (X : Vec Ideal S1280x128 .f32) : Prop := t.val % 63 = 62 → ∀ r q, X (ix2 r q) = lse (pR m c t r)
/-- No label lies in the padding. -/
def HL (c : Dev nD) : Prop := ∀ row, ¬ (64128 ≤ (a5 m c (ix1 row)).toNat ∧ (a5 m c (ix1 row)).toNat < 64512)
def P14 (c : Dev nD) (t : Fin cfg0.N) (X : Vec Ideal S1280x128 .f32) : Prop := t.val % 63 = 62 → HL m c → ∀ r q, X (ix2 r q) =
  (pick (labAt m c t r) (pR m c t r) - lse (pR m c t r)) - (pick (labAt m c t r) (rR m c t r) - lse (rR m c t r))

/-- The two windows whose blocks may overhang their array, and the four output windows. -/
def marked : Fin 15 → Bool := fun w => w.val == 6 || w.val == 8 || w.val == 11 || w.val == 12 || w.val == 13 || w.val == 14

/-- What the body leaves in each of them at point `t`. -/
def Rl (c : Dev nD) (w : Fin cfg0.W) (t : Fin cfg0.N) : ((cfg0.win w).block.Idx → Elt Ideal (cfg0.win w).elt) → Prop :=
  match w with
  | ⟨11, _⟩ => fun X => P11 m c t X
  | ⟨12, _⟩ => fun X => P12 m c t X
  | ⟨13, _⟩ => fun X => P13 m c t X
  | ⟨14, _⟩ => fun X => P14 m c t X
  | _ => fun _ => True

/-! ## The proof data -/

/-- The scratch buffers before the point of number `n`. -/
def Scr (c : Dev nD) (n : ℕ) : sProp 𝕄 :=
  iprop(∃ S0 S1 S2 S3 S4 S5 : Vec Ideal S1280x128 .f32, ⌜InvN m c n S0 S1 S2 S3 S4 S5⌝
    ∗ owns (c : Thread nD τ) (Memref.whole cc0_scratch0) fullShare S0
    ∗ owns (c : Thread nD τ) (Memref.whole cc0_scratch1) fullShare S1
    ∗ owns (c : Thread nD τ) (Memref.whole cc0_scratch2) fullShare S2
    ∗ owns (c : Thread nD τ) (Memref.whole cc0_scratch3) fullShare S3
    ∗ owns (c : Thread nD τ) (Memref.whole cc0_scratch4) fullShare S4
    ∗ owns (c : Thread nD τ) (Memref.whole cc0_scratch5) fullShare S5
    ∗ ∃ r, prngReg c r)

/-- The pipeline's proof data: inputs at their blocks, the marked windows held to `Rl`, the scratch buffers to `Scr`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, _⟩ => iblk m c 7 t
    | ⟨8, h⟩ => Pipeline.Dat.unnamed (cfg := cfg0) ⟨8, h⟩ t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ t := Scr m c t.val
  q := Pipeline.shareOf spec0
  owed _ := 0

abbrev rdat (c : Dev nD) : Pipeline.RDat τ (Elt Ideal) Unit ℕ (UR sig nD τ) ℕ cfg0 c := (dats m 0 c).toRRel marked (Rl m c)

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_7 (c : Dev nD) (t : Fin cfg0.N) : (dats m 0 c).after 7 t = iblk m c 7 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_7 (c : Dev nD) (t : Fin cfg0.N) (d) : (dats m 0 c).before 7 t d = iblk m c 7 t :=
  before0_7_of m (dats m 0 c) (A_eq m c 7) (after0_7 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

theorem found6 (c : Dev nD) (t : Fin cfg0.N) (X) (hF : (rdat m c).Finds 6 t X) : C6 m c t X := by
  obtain ⟨d, rfl⟩ := ((rdat m c).finds_of_fetch (w := 6) (fetch6 t) X).mp hF
  exact fun k q h => fill6 m c t d k q h _ rfl
theorem found8 (c : Dev nD) (t : Fin cfg0.N) (X) (hF : (rdat m c).Finds 8 t X) : C8 m c t X := by
  obtain ⟨d, rfl⟩ := ((rdat m c).finds_of_fetch (w := 8) (fetch8 t) X).mp hF
  exact fun k q h => fill8 m c t d k q h _ rfl

theorem hPp (c : Dev nD) (t : Fin cfg0.N) (X) (hX : C6 m c t X) (r : Fin 1280) (k : Fin 1024) :
    polB (grid0.coords t 1).val (b0 m c t) (b2 m c t) (b4 m c t) X (b7 m c t) (b10 m c t) r k = pR m c t r ((grid0.coords t 1).val * 1024 + k.val) := by
  rw [pol_eq m c t X hX r k, coord1]
  rfl
theorem hPr (c : Dev nD) (t : Fin cfg0.N) (X) (hX : C6 m c t X) (r : Fin 1280) (k : Fin 1024) :
    rfmB (grid0.coords t 1).val (b1 m c t) (b3 m c t) X (b7 m c t) r k = rR m c t r ((grid0.coords t 1).val * 1024 + k.val) := by
  rw [rfm_eq m c t X hX r k, coord1]
  rfl
theorem hre5 (c : Dev nD) (t : Fin cfg0.N) (r : Fin 1280) (q : Fin 128) : (fun r q => b5 m c t (ix2 r q)) r q = labAt m c t r - BitVec.ofNat 32 q.val := b5_at m c t r q
theorem hj0 (t : Fin cfg0.N) : (grid0.coords t 1).val < 63 := by rw [coord1]; omega

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜(rdat m c).Finds 6 t Y⌝ ∗ owns (c : Thread nD τ) (ms0_6 t) fullShare Y)
    ∗ (∃ d, owns (c : Thread nD τ) (ms0_7 t) fullShare ((dats m 0 c).before 7 t d))
    ∗ (∃ Y, ⌜(rdat m c).Finds 8 t Y⌝ ∗ owns (c : Thread nD τ) (ms0_8 t) fullShare Y)
    ∗ (∃ d, owns (c : Thread nD τ) (ms0_9 t) fullShare ((dats m 0 c).before 9 t d))
    ∗ (∃ d, owns (c : Thread nD τ) (ms0_10 t) fullShare ((dats m 0 c).before 10 t d))
    ∗ (∃ Y, ⌜(rdat m c).Finds 11 t Y⌝ ∗ owns (c : Thread nD τ) (ms0_11 t) fullShare Y)
    ∗ (∃ Y, ⌜(rdat m c).Finds 12 t Y⌝ ∗ owns (c : Thread nD τ) (ms0_12 t) fullShare Y)
    ∗ (∃ Y, ⌜(rdat m c).Finds 13 t Y⌝ ∗ owns (c : Thread nD τ) (ms0_13 t) fullShare Y)
    ∗ (∃ Y, ⌜(rdat m c).Finds 14 t Y⌝ ∗ owns (c : Thread nD τ) (ms0_14 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, ⌜True⌝ ∗ owns (c : Thread nD τ) (ms0_6 t) fullShare X)
    ∗ owns (c : Thread nD τ) (ms0_7 t) fullShare ((dats m 0 c).after 7 t)
    ∗ (∃ X, ⌜True⌝ ∗ owns (c : Thread nD τ) (ms0_8 t) fullShare X)
    ∗ owns (c : Thread nD τ) (ms0_9 t) fullShare ((dats m 0 c).after 9 t)
    ∗ owns (c : Thread nD τ) (ms0_10 t) fullShare ((dats m 0 c).after 10 t)
    ∗ (∃ X, ⌜P11 m c t X⌝ ∗ owns (c : Thread nD τ) (ms0_11 t) fullShare X)
    ∗ (∃ X, ⌜P12 m c t X⌝ ∗ owns (c : Thread nD τ) (ms0_12 t) fullShare X)
    ∗ (∃ X, ⌜P13 m c t X⌝ ∗ owns (c : Thread nD τ) (ms0_13 t) fullShare X)
    ∗ (∃ X, ⌜P14 m c t X⌝ ∗ owns (c : Thread nD τ) (ms0_14 t) fullShare X))

end Cert.ForwardIdeal.Own

end
-- ==== Proof.FwdShape.lean ====
/- The forward pass's four results in closed form. -/
module

public import proofs.«01_k».proof.Proof.FwdReads

@[expose] public section

noncomputable section

namespace Cert.FwdClosed

open Idealize.ShloMosaic Cert.Closed

variable (xp xr : Arr2 5120 4096 EReal) (xsp xsr : Arr1 5120 EReal) (u : Arr2 5120 16 EReal) (lab : Arr1 5120 (BitVec 32)) (w : Arr2 64128 4096 EReal) (ws : Arr1 64512 EReal) (lb : Arr2 64512 16 EReal)

/-- The policy logits, -/
def R11 : Arr2 5120 64512 EReal := fun x => lp xp xsp u w ws lb (x 0) (x 1).val
/-- the cast weights, -/
def R12 : Arr2 64512 4096 EReal := fun x => wv w ws (x 0).val (x 1)
/-- each token's log-sum-exp, -/
def R13 : Arr2 5120 128 EReal := fun x => lse (lp xp xsp u w ws lb (x 0))
/-- and its log-probability ratio. -/
def R14 : Arr2 5120 128 EReal := fun x =>
  (pick (lab (ix1 (x 0))) (lp xp xsp u w ws lb (x 0)) - lse (lp xp xsp u w ws lb (x 0)))
    - (pick (lab (ix1 (x 0))) (lr xr xsr w ws (x 0)) - lse (lr xr xsr w ws (x 0)))

end Cert.FwdClosed

end
-- ==== Proof.FwdArr.lean ====
/- The forward pipeline's four result arrays after its run, in closed form. -/
module

public import proofs.«01_k».proof.Proof.FwdVal
public import proofs.«01_k».proof.Proof.FwdShape
public import Idealize.ShloMosaic.Lib.Pipeline.ArrRel
public import Idealize.ShloMosaic.Lib.Pipeline.ValueKit

@[expose] public section

set_option maxRecDepth 16384

noncomputable section

namespace Cert.ForwardIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ForwardIdeal Cert.ForwardIdeal.Gen Cert.Closed Cert.FwdClosed Cert.Online

local notation "𝕄" => MT nD τ sig Unit (Elt Ideal) ℕ (UR sig nD τ) ℕ

variable (m : (ℓ : Loc nD τ sig) → Buf (Elt Ideal) ℓ) (ρ : Dev nD → PrngReg)

variable (c : Dev nD) (after : (w' : Fin cfg0.W) → Fin cfg0.N → (cfg0.win w').block.Idx → Elt Ideal (cfg0.win w').elt)

theorem arr11 (hL : ∀ u, (cfg0.win 11).flush u = true → (rdat m c).Leaves 11 u (after 11 u)) :
    ((rdat m c).withAfter after).arrAt 11 cfg0.N = R11 (a0 m c) (a2 m c) (a4 m c) (a6 m c) (a7 m c) (a8 m c) := by
  refine Pipeline.Dat.arrAt_eq_of_covers _ 11 _ (by decide +kernel) fun t hf y => ?_
  have h : P11 m c t (after 11 t) := (dats m 0 c).toRRel_leaves (w := 11) rfl (hL t hf)
  have e : (cfg0.win 11).xinj (cfg0.grid.coords t) y = ix2 ⟨(y 0).val, (y 0).isLt⟩ ⟨(y 1).val, (y 1).isLt⟩ := by
    funext a; match a with
    | ⟨0, _⟩ => rfl
    | ⟨1, _⟩ => rfl
  refine (congrArg (after 11 t) e).trans ((h _ _).trans ((show _ = (R11 (a0 m c) (a2 m c) (a4 m c) (a6 m c) (a7 m c) (a8 m c)) (ix2 (rowAt t ⟨(y 0).val, (y 0).isLt⟩) (colAt t ⟨(y 1).val, (y 1).isLt⟩)) from rfl).trans (congrArg _ ?_)))
  unfold rowAt colAt
  blk_ext [i0_11 t]

theorem arr12 (hL : ∀ u, (cfg0.win 12).flush u = true → (rdat m c).Leaves 12 u (after 12 u)) :
    ((rdat m c).withAfter after).arrAt 12 cfg0.N = R12 (a6 m c) (a7 m c) := by
  refine Pipeline.Dat.arrAt_eq_of_covers _ 12 _ (by decide +kernel) fun t hf y => ?_
  have h : P12 m c t (after 12 t) := (dats m 0 c).toRRel_leaves (w := 12) rfl (hL t hf)
  have e : (cfg0.win 12).xinj (cfg0.grid.coords t) y = ix2 ⟨(y 0).val, (y 0).isLt⟩ ⟨(y 1).val, (y 1).isLt⟩ := by
    funext a; match a with
    | ⟨0, _⟩ => rfl
    | ⟨1, _⟩ => rfl
  refine (congrArg (after 12 t) e).trans ((h _ _).trans ((show _ = (R12 (a6 m c) (a7 m c)) (ix2 (quAt t ⟨(y 0).val, (y 0).isLt⟩) ⟨(y 1).val, (y 1).isLt⟩) from rfl).trans (congrArg _ ?_)))
  unfold quAt
  blk_ext [i0_12 t]

theorem arr13 (hL : ∀ u, (cfg0.win 13).flush u = true → (rdat m c).Leaves 13 u (after 13 u)) :
    ((rdat m c).withAfter after).arrAt 13 cfg0.N = R13 (a0 m c) (a2 m c) (a4 m c) (a6 m c) (a7 m c) (a8 m c) := by
  refine Pipeline.Dat.arrAt_eq_of_covers _ 13 _ (by decide +kernel) fun t hf y => ?_
  have h : P13 m c t (after 13 t) := (dats m 0 c).toRRel_leaves (w := 13) rfl (hL t hf)
  have e : (cfg0.win 13).xinj (cfg0.grid.coords t) y = ix2 ⟨(y 0).val, (y 0).isLt⟩ ⟨(y 1).val, (y 1).isLt⟩ := by
    funext a; match a with
    | ⟨0, _⟩ => rfl
    | ⟨1, _⟩ => rfl
  refine (congrArg (after 13 t) e).trans ((h ((flush0_13 t).mp hf) _ _).trans ((show _ = (R13 (a0 m c) (a2 m c) (a4 m c) (a6 m c) (a7 m c) (a8 m c)) (ix2 (rowAt t ⟨(y 0).val, (y 0).isLt⟩) ⟨(y 1).val, (y 1).isLt⟩) from rfl).trans (congrArg _ ?_)))
  unfold rowAt
  blk_ext [i0_13 t]

theorem arr14 (hl : HL m c) (hL : ∀ u, (cfg0.win 14).flush u = true → (rdat m c).Leaves 14 u (after 14 u)) :
    ((rdat m c).withAfter after).arrAt 14 cfg0.N = R14 (a0 m c) (a1 m c) (a2 m c) (a3 m c) (a4 m c) (a5 m c) (a6 m c) (a7 m c) (a8 m c) := by
  refine Pipeline.Dat.arrAt_eq_of_covers _ 14 _ (by decide +kernel) fun t hf y => ?_
  have h : P14 m c t (after 14 t) := (dats m 0 c).toRRel_leaves (w := 14) rfl (hL t hf)
  have e : (cfg0.win 14).xinj (cfg0.grid.coords t) y = ix2 ⟨(y 0).val, (y 0).isLt⟩ ⟨(y 1).val, (y 1).isLt⟩ := by
    funext a; match a with
    | ⟨0, _⟩ => rfl
    | ⟨1, _⟩ => rfl
  refine (congrArg (after 14 t) e).trans ((h ((flush0_14 t).mp hf) hl _ _).trans ((show _ = (R14 (a0 m c) (a1 m c) (a2 m c) (a3 m c) (a4 m c) (a5 m c) (a6 m c) (a7 m c) (a8 m c)) (ix2 (rowAt t ⟨(y 0).val, (y 0).isLt⟩) ⟨(y 1).val, (y 1).isLt⟩) from rfl).trans (congrArg _ ?_)))
  unfold rowAt
  blk_ext [i0_14 t]

end Cert.ForwardIdeal.Own

end
-- ==== Proof.FwdRefPay.lean ====
/- The forward reference's values at an index: logits, log-sum-exp, the label's entry, cast weights. -/
module

public import proofs.«01_k».proof.Proof.Gen.ForwardRefIdeal
public import proofs.«01_k».proof.Proof.Gen.ForwardRefIdeal.Skeleton
public import proofs.«01_k».proof.Proof.FwdShape
public import Idealize.ShloMosaic.Lib.Pipeline.ValueKit

@[expose] public section

set_option maxRecDepth 16384

noncomputable section

namespace Cert.ForwardRefIdeal.Own

open Idealize.ShloMosaic Idealize.ShloMosaic.TcCoe Idealize.ShloMosaic.Tactic
open Cert.ForwardRefIdeal Cert.ForwardRefIdeal.Gen Cert.Closed Cert.FwdClosed

variable (xp xr : Arr2 5120 4096 EReal) (xsp xsr : Arr1 5120 EReal) (u : Arr2 5120 16 EReal) (lab : Arr1 5120 (BitVec 32)) (w : Arr2 64128 4096 EReal) (ws : Arr1 64512 EReal) (lb : Arr2 64512 16 EReal)

theorem pay4_at (v5 : Vec Ideal S64128x4096 .fp8e4m3) (v6 : Vec Ideal S1x64128 .f32) (v8 : Vec Ideal S5120x16 .bf16) (v9 : Vec Ideal S64128x16 .bf16) (v11 : Vec Ideal S5120x4096 .fp8e4m3) (v13 : Vec Ideal S5120x1 .f32)
    (h5 : ∀ v d, v5 (ix2 v d) = w (ix2 v d)) (h6 : ∀ v : Fin 64128, v6 (ix2 0 v) = ws (ix1 ⟨v.val, by omega⟩)) (h8 : ∀ r a, v8 (ix2 r a) = u (ix2 r a))
    (h9 : ∀ (v : Fin 64128) a, v9 (ix2 v a) = lb (ix2 ⟨v.val, by omega⟩ a)) (h11 : ∀ r d, v11 (ix2 r d) = xp (ix2 r d)) (h13 : ∀ r, v13 (ix2 r 0) = xsp (ix1 r))
    (r : Fin 5120) (v : Fin 64128) : k0_pay4 v5 v6 v8 v9 v11 v13 (ix2 r v) = lp xp xsp u w ws lb r v.val := by
  unfold k0_pay4 k0_pay3 lp
  pointwise
  simp only [h5, h6, h8, h9, h11, h13]

theorem pay5_at (v5 : Vec Ideal S64128x4096 .fp8e4m3) (v6 : Vec Ideal S1x64128 .f32) (v22 : Vec Ideal S5120x4096 .fp8e4m3) (v24 : Vec Ideal S5120x1 .f32)
    (h5 : ∀ v d, v5 (ix2 v d) = w (ix2 v d)) (h6 : ∀ v : Fin 64128, v6 (ix2 0 v) = ws (ix1 ⟨v.val, by omega⟩))
    (h22 : ∀ r d, v22 (ix2 r d) = xr (ix2 r d)) (h24 : ∀ r, v24 (ix2 r 0) = xsr (ix1 r))
    (r : Fin 5120) (v : Fin 64128) : k0_pay5 v5 v6 v22 v24 (ix2 r v) = lr xr xsr w ws r v.val := by
  unfold k0_pay5 k0_pay3 lr
  pointwise
  simp only [h5, h6, h22, h24]

theorem pay12_at (v5 : Vec Ideal S64128x4096 .fp8e4m3) (v62 : Vec Ideal S64128x1 .f32)
    (h5 : ∀ v d, v5 (ix2 v d) = w (ix2 v d)) (h62 : ∀ v : Fin 64128, v62 (ix2 v 0) = ws (ix1 ⟨v.val, by omega⟩))
    (v : Fin 64128) (d : Fin 4096) : k0_pay12 v5 v62 (ix2 v d) = wv w ws v.val d := by
  unfold k0_pay12 wv
  pointwise
  simp only [h5, h62]

theorem pay13_at (j : S384x4096.Idx) : k0_pay13 (F := Ideal) j = (0 : EReal) := by
  unfold k0_pay13
  pointwise

theorem pay11_at (j : S5120x384.Idx) : k0_pay11 (F := Ideal) j = (⊥ : EReal) := by
  unfold k0_pay11
  pointwise
  simp [FloatOps.ofBits, Ideal.ofBits, Ideal.ieee]

variable (P : FVec Ideal S5120x64128 .f32) (R : ℕ → EReal) (r : Fin 5120) (hP : ∀ v : Fin 64128, P (ix2 r v) = R v.val)

/-- The row maxima, as the reference takes them. -/
def rMax : FVec Ideal S5120x1 .f32 := shapeCast S5120x1 (multiReduction .maximumf [1] S5120 P 0xFF800000#32 reduces_S5120x64128_S5120 (.inl rfl) rfl) shapeCasts_S5120_S5120x1

/-- The row sums of exponentials. -/
def rSum : FVec Ideal S5120 .f32 := multiReduction .add [1] S5120 (exp (subf P (broadcastTo S5120x64128 (rMax P) broadcasts_S5120x1_S5120x64128))) 0x00000000#32 reduces_S5120x64128_S5120 (.inl rfl) rfl

theorem fold_max {ι : Type} [Fintype ι] (f : ι → EReal) : Finset.fold max (Ideal.ofBits FTy.f32 0xFF800000#32) f Finset.univ = Finset.univ.sup f := by
  rw [show Ideal.ofBits FTy.f32 0xFF800000#32 = (⊥ : EReal) from by simp [Ideal.ofBits, Ideal.ieee]]
  rfl

include hP in
theorem rMax_at : rMax P (ix2 r 0) = Finset.univ.sup fun v : Fin 64128 => R v.val := by
  unfold rMax
  pointwise
  rw [fold_max fun x => P (ix2 r x)]
  exact congrArg _ (funext hP)

include hP in
theorem rSum_at : rSum P (ix1 r) = ∑ v : Fin 64128, Ideal.exp (R v.val - Finset.univ.sup fun v : Fin 64128 => R v.val) := by
  unfold rSum
  pointwise
  simp only [rMax_at P R r hP, hP]

theorem pay8_apply (a : FVec Ideal S5120x1 .f32) (b : FVec Ideal S5120 .f32) : k0_pay8 a b (ix2 r 0) = a (ix2 r 0) + Ideal.log (b (ix1 r)) := by
  unfold k0_pay8
  pointwise

include hP in
theorem pay8_at : k0_pay8 (rMax P) (rSum P) (ix2 r 0) = lse R :=
  (pay8_apply r _ _).trans (congrArg₂ (fun x y : EReal => x + Ideal.log y) (rMax_at P R r hP) (rSum_at P R r hP))

theorem pay2_apply (v1 : Vec Ideal S5120x1 .i32) (v : Fin 64128) : k0_pay2 (F := Ideal) v1 (ix2 r v) = IntOp.cmpi CmpIPredicate.eq (BitVec.ofNat 32 v.val) (v1 (ix2 r 0)) := by
  unfold k0_pay2
  pointwise

theorem pay9_apply (v4 : IVec S5120x64128 1) (a : FVec Ideal S5120x1 .f32) (b : FVec Ideal S5120 .f32) :
    k0_pay9 v4 P a b (ix2 r 0) = (∑ v : Fin 64128, if v4 (ix2 r v) = 1#1 then P (ix2 r v) else 0) - k0_pay8 a b (ix2 r 0) := by
  unfold k0_pay9
  pointwise
  exact congrArg (fun s : EReal => s - k0_pay8 a b (ix2 r 0)) (Finset.sum_congr rfl fun x _ => rfl)

theorem hit_iff (a : ℕ) (ha : a < 64128) (b : BitVec 32) : IntOp.cmpi CmpIPredicate.eq (BitVec.ofNat 32 a) b = 1#1 ↔ b.toNat = a := by
  have e : BitVec.ofNat 32 a = b ↔ b.toNat = a := by
    constructor
    · intro h; rw [← h, BitVec.toNat_ofNat]; exact Nat.mod_eq_of_lt (by omega)
    · intro h; rw [← h]; exact BitVec.ofNat_toNat .. |>.trans (BitVec.setWidth_eq b)
  rw [← e]
  clear e
  generalize BitVec.ofNat 32 a = x
  by_cases h : x = b
  · simp [IntOp.cmpi, h]
  · simp [IntOp.cmpi, h, beq_eq_false_iff_ne.mpr h]

variable (v1 : Vec Ideal S5120x1 .i32) (h1 : ∀ r, v1 (ix2 r 0) = lab (ix1 r))

include hP h1 in
theorem pay9_at : k0_pay9 (k0_pay2 (F := Ideal) v1) P (rMax P) (rSum P) (ix2 r 0) = pick (lab (ix1 r)) R - lse R :=
  (pay9_apply P r _ _ _).trans (congrArg₂ (fun x y : EReal => x - y) (Finset.sum_congr rfl fun v _ =>
    if_congr ((pay2_apply r v1 v).trans (congrArg _ (h1 r)) ▸ hit_iff v.val v.isLt (lab (ix1 r))) (hP v) rfl) (pay8_at P R r hP))

include hP h1 in
theorem pay10_at : k0_pay10 (k0_pay2 (F := Ideal) v1) P (ix2 r 0) = pick (lab (ix1 r)) R - lse R :=
  pay9_at lab P R r hP v1 h1

theorem pay14_at (r : Fin 5120) (q : Fin 128) (a : FVec Ideal S5120x1 .f32) (b : FVec Ideal S5120 .f32) : k0_pay14 a b (ix2 r q) = k0_pay8 a b (ix2 r 0) := by
  unfold k0_pay14
  pointwise

theorem pay1_at (r : Fin 5120) (q : Fin 128) (a b : FVec Ideal S5120x1 .f32) : k0_pay1 a b (ix2 r q) = a (ix2 r 0) - b (ix2 r 0) := by
  unfold k0_pay1
  pointwise

end Cert.ForwardRefIdeal.Own

end
-- ==== Proof.FwdRefArr.lean ====
/- The forward reference's four result arrays after its run, in closed form. -/
module

public import proofs.«01_k».proof.Proof.FwdRefPay
public import proofs.«01_k».proof.Proof.BwdChunks
public import proofs.«01_k».proof.Proof.Gen.ForwardRefIdeal.Frame
public import Idealize.ShloMosaic.Lib.Pipeline.ValueKit

@[expose] public section

set_option maxRecDepth 16384

noncomputable section

namespace Cert.ForwardRefIdeal.Own

open Idealize.ShloMosaic Idealize.ShloMosaic.TcCoe Idealize.ShloMosaic.Tactic
open Idealize.SL Idealize.SL.Sem
open Idealize.ShloMosaic.Pipeline (Dat Cfg Window BodyObligation cellOf)
open Cert.ForwardRefIdeal Cert.ForwardRefIdeal.Gen Cert.Closed Cert.FwdClosed
open Cert.BackwardIdeal.Own (store_step load_at)

variable (m : (ℓ : Loc nD τ sig) → Buf (Elt Ideal) ℓ) (ρ : Dev nD → PrngReg)

def a0 (c : Dev nD) : Arr2 5120 4096 EReal := m ((c.tc : Thread nD τ).loc main_arg0)
def a1 (c : Dev nD) : Arr2 5120 4096 EReal := m ((c.tc : Thread nD τ).loc main_arg1)
def a2 (c : Dev nD) : Arr1 5120 EReal := m ((c.tc : Thread nD τ).loc main_arg2)
def a3 (c : Dev nD) : Arr1 5120 EReal := m ((c.tc : Thread nD τ).loc main_arg3)
def a4 (c : Dev nD) : Arr2 5120 16 EReal := m ((c.tc : Thread nD τ).loc main_arg4)
def a5 (c : Dev nD) : Arr1 5120 (BitVec 32) := m ((c.tc : Thread nD τ).loc main_arg5)
def a6 (c : Dev nD) : Arr2 64128 4096 EReal := m ((c.tc : Thread nD τ).loc main_arg6)
def a7 (c : Dev nD) : Arr1 64512 EReal := m ((c.tc : Thread nD τ).loc main_arg7)
def a8 (c : Dev nD) : Arr2 64512 16 EReal := m ((c.tc : Thread nD τ).loc main_arg8)

abbrev b0 (c : Dev nD) (t : Fin cfg0.N) : Vec Ideal S5120x4096 .fp8e4m3 := iblk m c 0 t
abbrev b1 (c : Dev nD) (t : Fin cfg0.N) : Vec Ideal S5120x4096 .fp8e4m3 := iblk m c 1 t
abbrev b2 (c : Dev nD) (t : Fin cfg0.N) : Vec Ideal S5120x1 .f32 := iblk m c 2 t
abbrev b3 (c : Dev nD) (t : Fin cfg0.N) : Vec Ideal S5120x1 .f32 := iblk m c 3 t
abbrev b4 (c : Dev nD) (t : Fin cfg0.N) : Vec Ideal S5120x16 .bf16 := iblk m c 4 t
abbrev b5 (c : Dev nD) (t : Fin cfg0.N) : Vec Ideal S5120x1 .i32 := iblk m c 5 t
abbrev b6 (c : Dev nD) (t : Fin cfg0.N) : Vec Ideal S64128x4096 .fp8e4m3 := iblk m c 6 t
abbrev b7 (c : Dev nD) (t : Fin cfg0.N) : Vec Ideal S1x64512 .f32 := iblk m c 7 t
abbrev b8 (c : Dev nD) (t : Fin cfg0.N) : Vec Ideal S64512x1 .f32 := iblk m c 8 t
abbrev b9 (c : Dev nD) (t : Fin cfg0.N) : Vec Ideal S64512x16 .bf16 := iblk m c 9 t

theorem i0_0 : ∀ t : Fin cfg0.N, win0_0.index t = ![0, 0] := (by decide +kernel : ∀ t : Fin grid0.N, _)
theorem i0_1 : ∀ t : Fin cfg0.N, win0_1.index t = ![0, 0] := (by decide +kernel : ∀ t : Fin grid0.N, _)
theorem i0_2 : ∀ t : Fin cfg0.N, win0_2.index t = ![0, 0] := (by decide +kernel : ∀ t : Fin grid0.N, _)
theorem i0_3 : ∀ t : Fin cfg0.N, win0_3.index t = ![0, 0] := (by decide +kernel : ∀ t : Fin grid0.N, _)
theorem i0_4 : ∀ t : Fin cfg0.N, win0_4.index t = ![0, 0] := (by decide +kernel : ∀ t : Fin grid0.N, _)
theorem i0_5 : ∀ t : Fin cfg0.N, win0_5.index t = ![0, 0] := (by decide +kernel : ∀ t : Fin grid0.N, _)
theorem i0_6 : ∀ t : Fin cfg0.N, win0_6.index t = ![0, 0] := (by decide +kernel : ∀ t : Fin grid0.N, _)
theorem i0_7 : ∀ t : Fin cfg0.N, win0_7.index t = ![0, 0] := (by decide +kernel : ∀ t : Fin grid0.N, _)
theorem i0_8 : ∀ t : Fin cfg0.N, win0_8.index t = ![0, 0] := (by decide +kernel : ∀ t : Fin grid0.N, _)
theorem i0_9 : ∀ t : Fin cfg0.N, win0_9.index t = ![0, 0] := (by decide +kernel : ∀ t : Fin grid0.N, _)
theorem i0_10 : ∀ t : Fin cfg0.N, win0_10.index t = ![0, 0] := (by decide +kernel : ∀ t : Fin grid0.N, _)
theorem i0_11 : ∀ t : Fin cfg0.N, win0_11.index t = ![0, 0] := (by decide +kernel : ∀ t : Fin grid0.N, _)
theorem i0_12 : ∀ t : Fin cfg0.N, win0_12.index t = ![0, 0] := (by decide +kernel : ∀ t : Fin grid0.N, _)
theorem i0_13 : ∀ t : Fin cfg0.N, win0_13.index t = ![0, 0] := (by decide +kernel : ∀ t : Fin grid0.N, _)

variable (c : Dev nD) (t : Fin cfg0.N)

theorem b0_at (r : Fin 5120) (k : Fin 4096) : b0 m c t (ix2 r k) = a0 m c (ix2 r k) := by
  unfold a0
  blk_ext! [b0, iblk, V, i0_0 t]
theorem b1_at (r : Fin 5120) (k : Fin 4096) : b1 m c t (ix2 r k) = a1 m c (ix2 r k) := by
  unfold a1
  blk_ext! [b1, iblk, V, i0_1 t]
theorem b4_at (r : Fin 5120) (k : Fin 16) : b4 m c t (ix2 r k) = a4 m c (ix2 r k) := by
  unfold a4
  blk_ext! [b4, iblk, V, i0_4 t]
theorem b6_at (r : Fin 64128) (k : Fin 4096) : b6 m c t (ix2 r k) = a6 m c (ix2 r k) := by
  unfold a6
  blk_ext! [b6, iblk, V, i0_6 t]
theorem b9_at (r : Fin 64512) (k : Fin 16) : b9 m c t (ix2 r k) = a8 m c (ix2 r k) := by
  unfold a8
  blk_ext! [b9, iblk, V, i0_9 t]
theorem b2_at (r : Fin 5120) : b2 m c t (ix2 r 0) = a2 m c (ix1 r) := by
  unfold a2
  blk_ext! [b2, iblk, i0_2 t]
theorem b3_at (r : Fin 5120) : b3 m c t (ix2 r 0) = a3 m c (ix1 r) := by
  unfold a3
  blk_ext! [b3, iblk, i0_3 t]
theorem b5_at (r : Fin 5120) : b5 m c t (ix2 r 0) = a5 m c (ix1 r) := by
  unfold a5
  blk_ext! [b5, iblk, i0_5 t]
theorem b8_at (r : Fin 64512) : b8 m c t (ix2 r 0) = a7 m c (ix1 r) := by
  unfold a7
  blk_ext! [b8, iblk, i0_8 t]
theorem b7_at (r : Fin 64512) : b7 m c t (ix2 0 r) = a7 m c (ix1 r) := by
  unfold a7
  blk_ext! [b7, iblk, i0_7 t]

section
variable {sig : RefSig} {κ : Kind} {sp : Space} {e : EltTy} {Val : EltTy → Type}

/-- A load from a memref's first rows and columns. -/
theorem load0 {M N W Z : ℕ} (m : Memref sig κ sp (⟨2, ![M, N]⟩ : Shape) e) (hm : m.IsWhole) (X : (⟨2, ![M, N]⟩ : Shape).Idx → Val e)
    (inb : ∀ a : Fin 2, (![0, 0] : Fin 2 → ℕ) a + (![W, Z] : Fin 2 → ℕ) a ≤ (![M, N] : Fin 2 → ℕ) a)
    (r : Fin W) (k : Fin Z) (h1 : r.val < M) (h2 : k.val < N) :
    View.readAt Val m.view (Rect.unit (s := ⟨2, ![M, N]⟩) ![0, 0] ![W, Z] inb).toLoadRect (hm.unread X) (ix2 (n0 := W) (n1 := Z) r k) = X (ix2 ⟨r.val, h1⟩ ⟨k.val, h2⟩) :=
  (load_at m hm X ![0, 0] 0 0 rfl inb r k (by omega) (by omega)).trans (congrArg₂ (fun a b => X (ix2 a b)) (Fin.ext (Nat.zero_add _)) (Fin.ext (Nat.zero_add _)))

end

/-- What the body loads of input 0. -/
def l0 : Vec Ideal S5120x4096 .fp8e4m3 := View.readAt (Elt Ideal) (ms0_0 t).view (Rect.unit (s := S5120x4096) ![0, 0] S5120x4096.size inb_S5120x4096_S5120x4096_0_0).toLoadRect ((hs0_0 t).unread (b0 m c t))
/-- What the body loads of input 1. -/
def l1 : Vec Ideal S5120x4096 .fp8e4m3 := View.readAt (Elt Ideal) (ms0_1 t).view (Rect.unit (s := S5120x4096) ![0, 0] S5120x4096.size inb_S5120x4096_S5120x4096_0_0).toLoadRect ((hs0_1 t).unread (b1 m c t))
/-- What the body loads of input 2. -/
def l2 : Vec Ideal S5120x1 .f32 := View.readAt (Elt Ideal) (ms0_2 t).view (Rect.unit (s := S5120x1) ![0, 0] S5120x1.size inb_S5120x1_S5120x1_0_0).toLoadRect ((hs0_2 t).unread (b2 m c t))
/-- What the body loads of input 3. -/
def l3 : Vec Ideal S5120x1 .f32 := View.readAt (Elt Ideal) (ms0_3 t).view (Rect.unit (s := S5120x1) ![0, 0] S5120x1.size inb_S5120x1_S5120x1_0_0).toLoadRect ((hs0_3 t).unread (b3 m c t))
/-- What the body loads of input 4. -/
def l4 : Vec Ideal S5120x16 .bf16 := View.readAt (Elt Ideal) (ms0_4 t).view (Rect.unit (s := S5120x16) ![0, 0] S5120x16.size inb_S5120x16_S5120x16_0_0).toLoadRect ((hs0_4 t).unread (b4 m c t))
/-- What the body loads of input 5. -/
def l5 : Vec Ideal S5120x1 .i32 := View.readAt (Elt Ideal) (ms0_5 t).view (Rect.unit (s := S5120x1) ![0, 0] S5120x1.size inb_S5120x1_S5120x1_0_0).toLoadRect ((hs0_5 t).unread (b5 m c t))
/-- What the body loads of input 6. -/
def l6 : Vec Ideal S64128x4096 .fp8e4m3 := View.readAt (Elt Ideal) (ms0_6 t).view (Rect.unit (s := S64128x4096) ![0, 0] S64128x4096.size inb_S64128x4096_S64128x4096_0_0).toLoadRect ((hs0_6 t).unread (b6 m c t))
/-- What the body loads of input 7. -/
def l7 : Vec Ideal S1x64128 .f32 := View.readAt (Elt Ideal) (ms0_7 t).view (Rect.unit (s := S1x64512) ![0, 0] S1x64128.size inb_S1x64512_S1x64128_0_0).toLoadRect ((hs0_7 t).unread (b7 m c t))
/-- What the body loads of input 8. -/
def l8 : Vec Ideal S64128x1 .f32 := View.readAt (Elt Ideal) (ms0_8 t).view (Rect.unit (s := S64512x1) ![0, 0] S64128x1.size inb_S64512x1_S64128x1_0_0).toLoadRect ((hs0_8 t).unread (b8 m c t))
/-- What the body loads of input 9. -/
def l9 : Vec Ideal S64128x16 .bf16 := View.readAt (Elt Ideal) (ms0_9 t).view (Rect.unit (s := S64512x16) ![0, 0] S64128x16.size inb_S64512x16_S64128x16_0_0).toLoadRect ((hs0_9 t).unread (b9 m c t))

theorem l0_at (r : Fin 5120) (k : Fin 4096) : l0 m c t (ix2 r k) = a0 m c (ix2 r k) :=
  (load0 (Val := Elt Ideal) (ms0_0 t) (hs0_0 t) (b0 m c t) inb_S5120x4096_S5120x4096_0_0 r k (by omega) k.isLt).trans (b0_at m c t r k)
theorem l1_at (r : Fin 5120) (k : Fin 4096) : l1 m c t (ix2 r k) = a1 m c (ix2 r k) :=
  (load0 (Val := Elt Ideal) (ms0_1 t) (hs0_1 t) (b1 m c t) inb_S5120x4096_S5120x4096_0_0 r k (by omega) k.isLt).trans (b1_at m c t r k)
theorem l4_at (r : Fin 5120) (k : Fin 16) : l4 m c t (ix2 r k) = a4 m c (ix2 r k) :=
  (load0 (Val := Elt Ideal) (ms0_4 t) (hs0_4 t) (b4 m c t) inb_S5120x16_S5120x16_0_0 r k (by omega) k.isLt).trans (b4_at m c t r k)
theorem l6_at (r : Fin 64128) (k : Fin 4096) : l6 m c t (ix2 r k) = a6 m c (ix2 r k) :=
  (load0 (Val := Elt Ideal) (ms0_6 t) (hs0_6 t) (b6 m c t) inb_S64128x4096_S64128x4096_0_0 r k (by omega) k.isLt).trans (b6_at m c t r k)
theorem l9_at (r : Fin 64128) (k : Fin 16) : l9 m c t (ix2 r k) = a8 m c (ix2 ⟨r.val, by omega⟩ k) :=
  (load0 (Val := Elt Ideal) (ms0_9 t) (hs0_9 t) (b9 m c t) inb_S64512x16_S64128x16_0_0 r k (by omega) k.isLt).trans (b9_at m c t _ k)
theorem l2_at (r : Fin 5120) : l2 m c t (ix2 r 0) = a2 m c (ix1 r) :=
  (load0 (Val := Elt Ideal) (ms0_2 t) (hs0_2 t) (b2 m c t) inb_S5120x1_S5120x1_0_0 r (0 : Fin 1) (by omega) (by decide)).trans (b2_at m c t r)
theorem l3_at (r : Fin 5120) : l3 m c t (ix2 r 0) = a3 m c (ix1 r) :=
  (load0 (Val := Elt Ideal) (ms0_3 t) (hs0_3 t) (b3 m c t) inb_S5120x1_S5120x1_0_0 r (0 : Fin 1) (by omega) (by decide)).trans (b3_at m c t r)
theorem l5_at (r : Fin 5120) : l5 m c t (ix2 r 0) = a5 m c (ix1 r) :=
  (load0 (Val := Elt Ideal) (ms0_5 t) (hs0_5 t) (b5 m c t) inb_S5120x1_S5120x1_0_0 r (0 : Fin 1) (by omega) (by decide)).trans (b5_at m c t r)
theorem l8_at (r : Fin 64128) : l8 m c t (ix2 r 0) = a7 m c (ix1 ⟨r.val, by omega⟩) :=
  (load0 (Val := Elt Ideal) (ms0_8 t) (hs0_8 t) (b8 m c t) inb_S64512x1_S64128x1_0_0 r (0 : Fin 1) (by omega) (by decide)).trans (b8_at m c t _)
theorem l7_at (r : Fin 64128) : l7 m c t (ix2 0 r) = a7 m c (ix1 ⟨r.val, by omega⟩) :=
  (load0 (Val := Elt Ideal) (ms0_7 t) (hs0_7 t) (b7 m c t) inb_S1x64512_S1x64128_0_0 (0 : Fin 1) r (by decide) (by omega)).trans (b7_at m c t _)

/-- The policy logits the body computes, -/
def P : FVec Ideal S5120x64128 .f32 := k0_pay4 (l6 m c t) (l7 m c t) (l4 m c t) (l9 m c t) (l0 m c t) (l2 m c t)
/-- and the reference model's. -/
def Q : FVec Ideal S5120x64128 .f32 := k0_pay5 (l6 m c t) (l7 m c t) (l1 m c t) (l3 m c t)

theorem P_at (r : Fin 5120) (v : Fin 64128) : P m c t (ix2 r v) = lp (a0 m c) (a2 m c) (a4 m c) (a6 m c) (a7 m c) (a8 m c) r v.val :=
  pay4_at (a0 m c) (a2 m c) (a4 m c) (a6 m c) (a7 m c) (a8 m c) _ _ _ _ _ _ (l6_at m c t) (l7_at m c t) (l4_at m c t) (l9_at m c t) (l0_at m c t) (l2_at m c t) r v
theorem Q_at (r : Fin 5120) (v : Fin 64128) : Q m c t (ix2 r v) = lr (a1 m c) (a3 m c) (a6 m c) (a7 m c) r v.val :=
  pay5_at (a1 m c) (a3 m c) (a6 m c) (a7 m c) _ _ _ _ (l6_at m c t) (l7_at m c t) (l1_at m c t) (l3_at m c t) r v

theorem read10 (v : View sig .tc .vmem S5120x64512 .f32) (f : v.ty.Contents (Elt Ideal)) (x0 : Fin 5120) (x1 : Fin 64512) :
    v.read (Elt Ideal) (v.writes (Elt Ideal) f [⟨Rect.unit (s := S5120x64512) ![0, 64128] S5120x384.size inb_S5120x64512_S5120x384_0_64128, k0_pay11 (F := Ideal)⟩, ⟨Rect.unit (s := S5120x64512) ![0, 0] S5120x64128.size inb_S5120x64512_S5120x64128_0_0, P m c t⟩]) (ix2 x0 x1) = R11 (a0 m c) (a2 m c) (a4 m c) (a6 m c) (a7 m c) (a8 m c) (ix2 x0 x1) := by
  refine store_step (Val := Elt Ideal) (e := .f32) v f (fun r k => (R11 (a0 m c) (a2 m c) (a4 m c) (a6 m c) (a7 m c) (a8 m c) (ix2 r k) : EReal)) ![0, 64128] 0 64128 rfl inb_S5120x64512_S5120x384_0_64128 (k0_pay11 (F := Ideal)) _
    (fun r q e1 e2 => (pay11_at _).trans ?_) x0 x1 fun g => ?_
  · show (⊥ : EReal) = lp (a0 m c) (a2 m c) (a4 m c) (a6 m c) (a7 m c) (a8 m c) _ (64128 + q.val)
    unfold lp
    rw [dif_neg (by omega)]
  refine store_step (Val := Elt Ideal) (e := .f32) v f (fun r k => (R11 (a0 m c) (a2 m c) (a4 m c) (a6 m c) (a7 m c) (a8 m c) (ix2 r k) : EReal)) ![0, 0] 0 0 rfl inb_S5120x64512_S5120x64128_0_0 (P m c t) _
    (fun r q e1 e2 => (P_at m c t r q).trans ?_) x0 x1 fun g' => ?_
  · exact congrArg₂ (fun a b => lp (a0 m c) (a2 m c) (a4 m c) (a6 m c) (a7 m c) (a8 m c) a b) (Fin.ext (Nat.zero_add _).symm) (Nat.zero_add _).symm
  · exact absurd x1.isLt (by omega)

theorem read11 (v : View sig .tc .vmem S64512x4096 .bf16) (f : v.ty.Contents (Elt Ideal)) (x0 : Fin 64512) (x1 : Fin 4096) :
    v.read (Elt Ideal) (v.writes (Elt Ideal) f [⟨Rect.unit (s := S64512x4096) ![64128, 0] S384x4096.size inb_S64512x4096_S384x4096_64128_0, k0_pay13 (F := Ideal)⟩, ⟨Rect.unit (s := S64512x4096) ![0, 0] S64128x4096.size inb_S64512x4096_S64128x4096_0_0, k0_pay12 (l6 m c t) (l8 m c t)⟩]) (ix2 x0 x1) = R12 (a6 m c) (a7 m c) (ix2 x0 x1) := by
  refine store_step (Val := Elt Ideal) (e := .bf16) v f (fun r k => (R12 (a6 m c) (a7 m c) (ix2 r k) : EReal)) ![64128, 0] 64128 0 rfl inb_S64512x4096_S384x4096_64128_0 (k0_pay13 (F := Ideal)) _
    (fun r q e1 e2 => (pay13_at _).trans ?_) x0 x1 fun g => ?_
  · show (0 : EReal) = wv (a6 m c) (a7 m c) (64128 + r.val) _
    unfold wv
    rw [dif_neg (by omega)]
  refine store_step (Val := Elt Ideal) (e := .bf16) v f (fun r k => (R12 (a6 m c) (a7 m c) (ix2 r k) : EReal)) ![0, 0] 0 0 rfl inb_S64512x4096_S64128x4096_0_0 (k0_pay12 (l6 m c t) (l8 m c t)) _
    (fun r q e1 e2 => (pay12_at (a6 m c) (a7 m c) _ _ (l6_at m c t) (l8_at m c t) r q).trans ?_) x0 x1 fun g' => ?_
  · exact congrArg₂ (fun a b => wv (a6 m c) (a7 m c) a b) (Nat.zero_add _).symm (Fin.ext (Nat.zero_add _).symm)
  · exact absurd x0.isLt (by omega)

/-- The row maxima and sums, the logarithm's and the ratio's columns. -/
def p31 : FVec Ideal S5120x1 .f32 := k0_pay6 (l6 m c t) (l7 m c t) (l4 m c t) (l9 m c t) (l0 m c t) (l2 m c t)
def p35 : FVec Ideal S5120 .f32 := k0_pay7 (l6 m c t) (l7 m c t) (l4 m c t) (l9 m c t) (l0 m c t) (l2 m c t)
def p43 : FVec Ideal S5120x1 .f32 := k0_pay9 (k0_pay2 (F := Ideal) (l5 m c t)) (P m c t) (p31 m c t) (p35 m c t)
def p57 : FVec Ideal S5120x1 .f32 := k0_pay10 (k0_pay2 (F := Ideal) (l5 m c t)) (Q m c t)

theorem p31_eq : p31 m c t = rMax (P m c t) := rfl
theorem p35_eq : p35 m c t = rSum (P m c t) := rfl

theorem p43_at (r : Fin 5120) : p43 m c t (ix2 r 0) = pick (a5 m c (ix1 r)) (lp (a0 m c) (a2 m c) (a4 m c) (a6 m c) (a7 m c) (a8 m c) r) - lse (lp (a0 m c) (a2 m c) (a4 m c) (a6 m c) (a7 m c) (a8 m c) r) := by
  unfold p43
  rw [p31_eq, p35_eq]
  exact pay9_at (a5 m c) (P m c t) _ r (P_at m c t r) (l5 m c t) (l5_at m c t)

theorem p57_at (r : Fin 5120) : p57 m c t (ix2 r 0) = pick (a5 m c (ix1 r)) (lr (a1 m c) (a3 m c) (a6 m c) (a7 m c) r) - lse (lr (a1 m c) (a3 m c) (a6 m c) (a7 m c) r) :=
  pay10_at (a5 m c) (Q m c t) _ r (Q_at m c t r) (l5 m c t) (l5_at m c t)

theorem read12 (v : View sig .tc .vmem S5120x128 .f32) (f : v.ty.Contents (Elt Ideal)) (x0 : Fin 5120) (x1 : Fin 128) :
    v.read (Elt Ideal) (v.writes (Elt Ideal) f [⟨Rect.unit (s := S5120x128) ![0, 0] S5120x128.size inb_S5120x128_S5120x128_0_0, k0_pay14 (p31 m c t) (p35 m c t)⟩]) (ix2 x0 x1) = R13 (a0 m c) (a2 m c) (a4 m c) (a6 m c) (a7 m c) (a8 m c) (ix2 x0 x1) := by
  refine store_step (Val := Elt Ideal) (e := .f32) v f (fun r k => (lse (lp (a0 m c) (a2 m c) (a4 m c) (a6 m c) (a7 m c) (a8 m c) r) : EReal)) ![0, 0] 0 0 rfl inb_S5120x128_S5120x128_0_0 (k0_pay14 (p31 m c t) (p35 m c t)) _
    (fun r q e1 e2 => (pay14_at r q _ _).trans ?_) x0 x1 fun g' => ?_
  · rw [p31_eq, p35_eq, pay8_at (P m c t) _ r (P_at m c t r)]
    exact congrArg (fun a => lse (lp (a0 m c) (a2 m c) (a4 m c) (a6 m c) (a7 m c) (a8 m c) a)) (Fin.ext (Nat.zero_add _).symm)
  · exact absurd x0.isLt (by omega)

theorem read13 (v : View sig .tc .vmem S5120x128 .f32) (f : v.ty.Contents (Elt Ideal)) (x0 : Fin 5120) (x1 : Fin 128) :
    v.read (Elt Ideal) (v.writes (Elt Ideal) f [⟨Rect.unit (s := S5120x128) ![0, 0] S5120x128.size inb_S5120x128_S5120x128_0_0, k0_pay1 (p43 m c t) (p57 m c t)⟩]) (ix2 x0 x1) = R14 (a0 m c) (a1 m c) (a2 m c) (a3 m c) (a4 m c) (a5 m c) (a6 m c) (a7 m c) (a8 m c) (ix2 x0 x1) := by
  refine store_step (Val := Elt Ideal) (e := .f32) v f (fun r k => (R14 (a0 m c) (a1 m c) (a2 m c) (a3 m c) (a4 m c) (a5 m c) (a6 m c) (a7 m c) (a8 m c) (ix2 r k) : EReal)) ![0, 0] 0 0 rfl inb_S5120x128_S5120x128_0_0 (k0_pay1 (p43 m c t) (p57 m c t)) _
    (fun r q e1 e2 => (pay1_at r q _ _).trans ?_) x0 x1 fun g' => ?_
  · rw [p43_at, p57_at]
    exact congrArg (fun a => R14 (a0 m c) (a1 m c) (a2 m c) (a3 m c) (a4 m c) (a5 m c) (a6 m c) (a7 m c) (a8 m c) (ix2 a q)) (Fin.ext (Nat.zero_add _).symm)
  · exact absurd x0.isLt (by omega)

theorem out10 (x : S5120x64512.Idx) : (outsAt0 m c t).1 x = R11 (a0 m c) (a2 m c) (a4 m c) (a6 m c) (a7 m c) (a8 m c) x := by
  idx_vars x
  unfold outsAt0 out0_A_10 kernelRun0_A
  dsimp only
  exact read10 m c t _ _ x0 x1

theorem out11 (x : S64512x4096.Idx) : (outsAt0 m c t).2.1 x = R12 (a6 m c) (a7 m c) x := by
  idx_vars x
  unfold outsAt0 out0_A_11 kernelRun0_A
  dsimp only
  exact read11 m c t _ _ x0 x1

theorem out12 (x : S5120x128.Idx) : (outsAt0 m c t).2.2.1 x = R13 (a0 m c) (a2 m c) (a4 m c) (a6 m c) (a7 m c) (a8 m c) x := by
  idx_vars x
  unfold outsAt0 out0_A_12 kernelRun0_A
  dsimp only
  exact read12 m c t _ _ x0 x1

theorem out13 (x : S5120x128.Idx) : (outsAt0 m c t).2.2.2 x = R14 (a0 m c) (a1 m c) (a2 m c) (a3 m c) (a4 m c) (a5 m c) (a6 m c) (a7 m c) (a8 m c) x := by
  idx_vars x
  unfold outsAt0 out0_A_13 kernelRun0_A
  dsimp only
  exact read13 m c t _ _ x0 x1

theorem arr10 (c : Dev nD) : (dats m 0 c).arrAt 10 cfg0.N = R11 (a0 m c) (a2 m c) (a4 m c) (a6 m c) (a7 m c) (a8 m c) := by
  refine (dats m 0 c).arrAt_eq_of_covers 10 _ (by decide +kernel) fun t hf y => ?_
  blk_simp
  rw [after0_10]
  refine (out10 m c t y).trans (congrArg _ ?_)
  blk_ext [i0_10 t]

theorem arr11 (c : Dev nD) : (dats m 0 c).arrAt 11 cfg0.N = R12 (a6 m c) (a7 m c) := by
  refine (dats m 0 c).arrAt_eq_of_covers 11 _ (by decide +kernel) fun t hf y => ?_
  blk_simp
  rw [after0_11]
  refine (out11 m c t y).trans (congrArg _ ?_)
  blk_ext [i0_11 t]

theorem arr12 (c : Dev nD) : (dats m 0 c).arrAt 12 cfg0.N = R13 (a0 m c) (a2 m c) (a4 m c) (a6 m c) (a7 m c) (a8 m c) := by
  refine (dats m 0 c).arrAt_eq_of_covers 12 _ (by decide +kernel) fun t hf y => ?_
  blk_simp
  rw [after0_12]
  refine (out12 m c t y).trans (congrArg _ ?_)
  blk_ext [i0_12 t]

theorem arr13 (c : Dev nD) : (dats m 0 c).arrAt 13 cfg0.N = R14 (a0 m c) (a1 m c) (a2 m c) (a3 m c) (a4 m c) (a5 m c) (a6 m c) (a7 m c) (a8 m c) := by
  refine (dats m 0 c).arrAt_eq_of_covers 13 _ (by decide +kernel) fun t hf y => ?_
  blk_simp
  rw [after0_13]
  refine (out13 m c t y).trans (congrArg _ ?_)
  blk_ext [i0_13 t]

/-- The reference's results after its run. -/
theorem results : θ_run defs (onTc (τ := τ) (main (F := Ideal))) ⟨m, fun _ => 0, ρ⟩ (fun r => ∀ c : Dev nD,
      r.2.mem ((c.tc : Thread nD τ).loc main_v5_0) = R11 (a0 m c) (a2 m c) (a4 m c) (a6 m c) (a7 m c) (a8 m c)
      ∧ r.2.mem ((c.tc : Thread nD τ).loc main_v5_1) = R12 (a6 m c) (a7 m c)
      ∧ r.2.mem ((c.tc : Thread nD τ).loc main_v5_2) = R13 (a0 m c) (a2 m c) (a4 m c) (a6 m c) (a7 m c) (a8 m c)
      ∧ r.2.mem ((c.tc : Thread nD τ).loc main_v5_3) = R14 (a0 m c) (a1 m c) (a2 m c) (a3 m c) (a4 m c) (a5 m c) (a6 m c) (a7 m c) (a8 m c)) :=
  (θ_run defs _ _).mono (fun r h c => ⟨((h c).1 10).trans (arr10 m c), ((h c).1 11).trans (arr11 m c), ((h c).1 12).trans (arr12 m c), ((h c).1 13).trans (arr13 m c)⟩)
    (run_main m ρ)

end Cert.ForwardRefIdeal.Own

end
-- ==== Proof.FwdRun.lean ====
/- The forward pipeline's run: from the body's triple at every point to what the arrays hold at the end. -/
module

public import proofs.«01_k».proof.Proof.FwdVal

@[expose] public section

set_option maxRecDepth 16384

noncomputable section

namespace Cert.ForwardIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ForwardIdeal Cert.ForwardIdeal.Gen Cert.Closed Cert.FwdClosed Cert.Online

local notation "𝕄" => MT nD τ sig Unit (Elt Ideal) ℕ (UR sig nD τ) ℕ

variable (m : (ℓ : Loc nD τ sig) → Buf (Elt Ideal) ℓ) (ρ : Dev nD → PrngReg)

/-- The body's triple at every grid point. -/
def Sound : Prop := ∀ (c : Dev nD) (t : Fin cfg0.N), bodyPre m c t ⊢ wp frame (wpE (defs₀ (F := Ideal)) Variants.none c none) Set.univ (bodyAt0 t) (fun _ => bodyPost m c t)

theorem defs₀_row (t : Fin cfg0.N) :
    defs₀ (F := Ideal) .tc cfg0.body (cfg0.bodyArgs t (cfg0.slots t)) = bodyAt0 t := by
  unfold defs₀; rw [Defs.onTc_tc]

theorem body_obligation (hs : Sound m) (c : Dev nD) : Pipeline.BodyObligationRel (dats m 0 c) (defs₀ (F := Ideal)) Variants.none () Set.univ marked (Rl m c) := fun t => by
  rw [bigSep_W0, bigSep_W0, defs₀_row]
  exact triple_restated (hs c t) rfl .rfl fun _ => .rfl

/-! ## The run -/

theorem scr_in (c : Dev nD) : Pipeline.ΦA spec0 c ⊢ (Scr m c 0 : sProp 𝕄) := by
  unfold Pipeline.ΦA Scr
  rw [scopedRest0_eq c]
  simp only [owns_whole]
  iintro ⟨⟨⟨%S0, H0⟩, ⟨%S1, H1⟩, ⟨%S2, H2⟩, ⟨%S3, H3⟩, ⟨%S4, H4⟩, ⟨%S5, H5⟩⟩, Hg⟩
  iexists S0, S1, S2, S3, S4, S5
  isplitr; · ipureintro; exact fun t h => absurd h (by omega)
  isplitl [H0]; · iexact H0
  isplitl [H1]; · iexact H1
  isplitl [H2]; · iexact H2
  isplitl [H3]; · iexact H3
  isplitl [H4]; · iexact H4
  isplitl [H5]; · iexact H5
  iexact Hg

theorem scr_out (c : Dev nD) (n : ℕ) : (Scr m c n : sProp 𝕄) ⊢ Pipeline.ΦA spec0 c := by
  unfold Pipeline.ΦA Scr
  rw [scopedRest0_eq c]
  simp only [owns_whole]
  iintro ⟨%S0, %S1, %S2, %S3, %S4, %S5, -, H0, H1, H2, H3, H4, H5, Hg⟩
  isplitl [H0 H1 H2 H3 H4 H5]
  · isplitl [H0]; · iexists _; iexact H0
    isplitl [H1]; · iexists _; iexact H1
    isplitl [H2]; · iexists _; iexact H2
    isplitl [H3]; · iexists _; iexact H3
    isplitl [H4]; · iexists _; iexact H4
    iexists _; iexact H5
  iexact Hg

set_option backward.isDefEq.respectTransparency.types false in
theorem run_main_quiescent (hs : Sound m) : θ_run defs (onTc (τ := τ) (main (F := Ideal))) (s₀ m ρ) (fun r => (Pipeline.RDat.FramePost (cfgs 0) (fun c => rdat m c) (V m)) r ∧ r.2.sem = fun _ => 0) :=
  Pipeline.RDat.θ_run_frame_track_shared cfgs (0 : Fin 1) launch₀0 defs₀ Variants.none (fun c => rdat m c) m ρ main
    (hbody := fun c => (body_obligation m hs c).toRRel) (hq := fun _ _ _ => rfl)
    (howed := fun _ _ => rfl) (V := V m) (hmain := hmain m Variants.none) (hA := A_eq m) (hin := fun c => scr_in m c) (hout := fun c => scr_out m c _)
    (Q' := _)

/-- The argument arrays end as they were, from a run to the pipeline's post. -/
theorem frame_of (rdat : (c : Dev nD) → Pipeline.RDat τ (Elt Ideal) Unit ℕ (UR sig nD τ) ℕ (cfgs 0) c)
    (hA : ∀ c w, (rdat c).A w = V m c (Pipeline.arrRef spec0 w))
    (h : θ_run defs (onTc (τ := τ) (main (F := Ideal))) (s₀ m ρ) (Pipeline.RDat.FramePost (cfgs 0) rdat (V m))) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 4 rfl).trans ((hA c 4).trans (V_main_arg4 m c)),
      ((h c).2 main_arg5 (Pipeline.mem_restRefs_of main_arg5 (by decide) (by decide))).trans (V_main_arg5 m c),
      (Pipeline.RDat.FramePost.arr_in h c 8 rfl).trans ((hA c 8).trans (V_main_arg6 m c)),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

theorem unchanged (hs : Sound m) : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (fun c => rdat m c) (A_eq m) ((θ_run defs _ _).mono (fun _ h => h.1) (run_main_quiescent m ρ hs))

/-- The frame of `ForwardIdeal`. -/
theorem frame_of_sound (hs : Sound m) : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hs) ((θ_run defs _ _).mono (fun _ h => h.2) (run_main_quiescent m ρ hs))

end Cert.ForwardIdeal.Own

end
-- ==== Proof.FwdSoundA.lean ====
/- The forward body's triple at the grid points of case A. -/
module

public import proofs.«01_k».proof.Proof.FwdVal

@[expose] public section

set_option maxRecDepth 16384

noncomputable section

namespace Cert.ForwardIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ForwardIdeal Cert.ForwardIdeal.Gen Cert.Closed Cert.FwdClosed Cert.Online

local notation "𝕄" => MT nD τ sig Unit (Elt Ideal) ℕ (UR sig nD τ) ℕ

variable (m : (ℓ : Loc nD τ sig) → Buf (Elt Ideal) ℓ) (ρ : Dev nD → PrngReg)

section
variable (c : Dev nD) (t : Fin cfg0.N) (hc0 : cond0_0 (grid0.coords t)) (hc1 : ¬ cond0_1 (grid0.coords t))
  (X6 : Vec Ideal S1024x4096 .fp8e4m3) (X8 : Vec Ideal S256x4096 .fp8e4m3) (S0 S1 S2 S3 S4 S5 : Vec Ideal S1280x128 .f32)

/-- The run at point `t`. -/
abbrev rA := bodyRun_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) hc0 hc1 (b0 m c t) (b1 m c t) (b2 m c t) (b3 m c t) (b4 m c t) (b5 m c t) X6 (b7 m c t) X8 (b9 m c t) (b10 m c t) S0 S1 S2 S3 S4 S5

theorem o11_A (h6 : C6 m c t X6) (f) : P11 m c t ((ms0_11 t).view.read (Elt Ideal) ((ms0_11 t).view.writes (Elt Ideal) f (rA m c t hc0 hc1 X6 X8 S0 S1 S2 S3 S4 S5).1)) :=
  fun r k => (read11_A c (grid0.coords t) _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ f r k).trans (pol_eq m c t X6 h6 r k)
theorem o12_A (h8 : C8 m c t X8) (f) : P12 m c t ((ms0_12 t).view.read (Elt Ideal) ((ms0_12 t).view.writes (Elt Ideal) f (rA m c t hc0 hc1 X6 X8 S0 S1 S2 S3 S4 S5).2.1)) :=
  fun r d => (read12_A c (grid0.coords t) _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ f r d).trans (wb_eq m c t X8 h8 r d)
theorem oS_A (h0 : t.val % 63 = 0) (h6 : C6 m c t X6) (f0 f1 f2 f3 f4 f5) : InvN m c (t.val + 1) ((Memref.whole (sig := sig) cc0_scratch0).view.read (Elt Ideal) ((Memref.whole (sig := sig) cc0_scratch0).view.writes (Elt Ideal) f0 (rA m c t hc0 hc1 X6 X8 S0 S1 S2 S3 S4 S5).2.2.1))
    ((Memref.whole (sig := sig) cc0_scratch1).view.read (Elt Ideal) ((Memref.whole (sig := sig) cc0_scratch1).view.writes (Elt Ideal) f1 (rA m c t hc0 hc1 X6 X8 S0 S1 S2 S3 S4 S5).2.2.2.1))
    ((Memref.whole (sig := sig) cc0_scratch2).view.read (Elt Ideal) ((Memref.whole (sig := sig) cc0_scratch2).view.writes (Elt Ideal) f2 (rA m c t hc0 hc1 X6 X8 S0 S1 S2 S3 S4 S5).2.2.2.2.1))
    ((Memref.whole (sig := sig) cc0_scratch3).view.read (Elt Ideal) ((Memref.whole (sig := sig) cc0_scratch3).view.writes (Elt Ideal) f3 (rA m c t hc0 hc1 X6 X8 S0 S1 S2 S3 S4 S5).2.2.2.2.2.1))
    ((Memref.whole (sig := sig) cc0_scratch4).view.read (Elt Ideal) ((Memref.whole (sig := sig) cc0_scratch4).view.writes (Elt Ideal) f4 (rA m c t hc0 hc1 X6 X8 S0 S1 S2 S3 S4 S5).2.2.2.2.2.2.1))
    ((Memref.whole (sig := sig) cc0_scratch5).view.read (Elt Ideal) ((Memref.whole (sig := sig) cc0_scratch5).view.writes (Elt Ideal) f5 (rA m c t hc0 hc1 X6 X8 S0 S1 S2 S3 S4 S5).2.2.2.2.2.2.2.1)) :=
  inv_of m c t
    (St_step (R := pR m c t) (lab := labAt m c t) (hP := hPp m c t X6 h6) (hj := hj0 t) (hre := hre5 m c t) (hG := fun r q => by rw [coord1, h0]; rfl) (hGs := fun r q => by rw [coord1, h0]; rfl) (hGl := fun r q => by rw [coord1, h0]; rfl)
      (hX := read15_A c (grid0.coords t) _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ f0) (hY := read16_A c (grid0.coords t) _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ f1) (hZ := read17_A c (grid0.coords t) _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ f2))
    (St_step (R := rR m c t) (lab := labAt m c t) (hP := hPr m c t X6 h6) (hj := hj0 t) (hre := hre5 m c t) (hG := fun r q => by rw [coord1, h0]; rfl) (hGs := fun r q => by rw [coord1, h0]; rfl) (hGl := fun r q => by rw [coord1, h0]; rfl)
      (hX := read18_A c (grid0.coords t) _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ f3) (hY := read19_A c (grid0.coords t) _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ f4) (hZ := read20_A c (grid0.coords t) _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ f5))
end

set_option maxHeartbeats 3200000 in
theorem sound_A (c : Dev nD) (t : Fin cfg0.N) (h0 : t.val % 63 = 0) (hc0 : cond0_0 (grid0.coords t)) (hc1 : ¬ cond0_1 (grid0.coords t)) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_7, before0_9, before0_10]
  rw [show (dats m 0 c).Φ t.succ = Scr m c (t.val + 1) from rfl, show (dats m 0 c).Φ t.castSucc = Scr m c t.val from rfl,
    show (dats m 0 c).owesAt () t.succ = (dats m 0 c).owesAt () t.castSucc from rfl,
    after0_0, after0_1, after0_2, after0_3, after0_4, after0_5, after0_7, after0_9, after0_10]
  unfold Scr
  iintro ⟨⟨%S0, %S1, %S2, %S3, %S4, %S5, %hI, K0, K1, K2, K3, K4, K5, Hg⟩, Ho, ⟨%d0, H0⟩, ⟨%d1, H1⟩, ⟨%d2, H2⟩, ⟨%d3, H3⟩, ⟨%d4, H4⟩, ⟨%d5, H5⟩, ⟨%X6, %h6, H6⟩, ⟨%d7, H7⟩, ⟨%X8, %h8, H8⟩, ⟨%d9, H9⟩, ⟨%d10, H10⟩, ⟨%X11, %h11, H11⟩, ⟨%X12, %h12, H12⟩, ⟨%X13, %h13, H13⟩, ⟨%X14, %h14, H14⟩⟩
  have c6 := found6 m c t X6 h6
  have c8 := found8 m c t X8 h8
  iapply ((rA m c t hc0 hc1 X6 X8 S0 S1 S2 S3 S4 S5).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [K0]; · iexact K0
  isplitl [K1]; · iexact K1
  isplitl [K2]; · iexact K2
  isplitl [K3]; · iexact K3
  isplitl [K4]; · iexact K4
  isplitl [K5]; · iexact K5
  iintro ⟨H0, H1, H2, H3, H4, H5, H6, H7, H8, H9, H10, ⟨%f11, H11⟩, ⟨%f12, H12⟩, K0, K1, K2, K3, K4, K5⟩
  isplitl [K0 K1 K2 K3 K4 K5 Hg]
  · iexists _, _, _, _, _, _
    isplitr; · ipureintro; exact oS_A m c t hc0 hc1 X6 X8 S0 S1 S2 S3 S4 S5 h0 c6 ((Memref.isWhole_whole _).unread S0) ((Memref.isWhole_whole _).unread S1) ((Memref.isWhole_whole _).unread S2) ((Memref.isWhole_whole _).unread S3) ((Memref.isWhole_whole _).unread S4) ((Memref.isWhole_whole _).unread S5)
    isplitl [K0]
    · unfold owns; iexists _; isplitr; · ipureintro; rfl
      iexact K0
    isplitl [K1]
    · unfold owns; iexists _; isplitr; · ipureintro; rfl
      iexact K1
    isplitl [K2]
    · unfold owns; iexists _; isplitr; · ipureintro; rfl
      iexact K2
    isplitl [K3]
    · unfold owns; iexists _; isplitr; · ipureintro; rfl
      iexact K3
    isplitl [K4]
    · unfold owns; iexists _; isplitr; · ipureintro; rfl
      iexact K4
    isplitl [K5]
    · unfold owns; iexists _; isplitr; · ipureintro; rfl
      iexact K5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; · ipureintro; trivial
    iexact H6
  isplitl [H7]; · iexact H7
  isplitl [H8]
  · iexists _; isplitr; · ipureintro; trivial
    iexact H8
  isplitl [H9]; · iexact H9
  isplitl [H10]; · iexact H10
  isplitl [H11]
  · iexists ((ms0_11 t).view.read (Elt Ideal) ((ms0_11 t).view.writes (Elt Ideal) f11 (rA m c t hc0 hc1 X6 X8 S0 S1 S2 S3 S4 S5).1)); isplitr; · ipureintro; exact o11_A m c t hc0 hc1 X6 X8 S0 S1 S2 S3 S4 S5 c6 _
    unfold owns; iexists _; isplitr; · ipureintro; rfl
    iexact H11
  isplitl [H12]
  · iexists ((ms0_12 t).view.read (Elt Ideal) ((ms0_12 t).view.writes (Elt Ideal) f12 (rA m c t hc0 hc1 X6 X8 S0 S1 S2 S3 S4 S5).2.1)); isplitr; · ipureintro; exact o12_A m c t hc0 hc1 X6 X8 S0 S1 S2 S3 S4 S5 c8 _
    unfold owns; iexists _; isplitr; · ipureintro; rfl
    iexact H12
  isplitl [H13]
  · iexists X13; isplitr; · ipureintro; exact fun h => absurd h (by omega)
    iexact H13
  iexists X14; isplitr; · ipureintro; exact fun h => absurd h (by omega)
  iexact H14

end Cert.ForwardIdeal.Own

end
-- ==== Proof.FwdSoundB.lean ====
/- The forward body's triple at the grid points of case B. -/
module

public import proofs.«01_k».proof.Proof.FwdVal

@[expose] public section

set_option maxRecDepth 16384

noncomputable section

namespace Cert.ForwardIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ForwardIdeal Cert.ForwardIdeal.Gen Cert.Closed Cert.FwdClosed Cert.Online

local notation "𝕄" => MT nD τ sig Unit (Elt Ideal) ℕ (UR sig nD τ) ℕ

variable (m : (ℓ : Loc nD τ sig) → Buf (Elt Ideal) ℓ) (ρ : Dev nD → PrngReg)

section
variable (c : Dev nD) (t : Fin cfg0.N) (hc0 : ¬ cond0_0 (grid0.coords t)) (hc1 : ¬ cond0_1 (grid0.coords t))
  (X6 : Vec Ideal S1024x4096 .fp8e4m3) (X8 : Vec Ideal S256x4096 .fp8e4m3) (S0 S1 S2 S3 S4 S5 : Vec Ideal S1280x128 .f32)

/-- The run at point `t`. -/
abbrev rB := bodyRun_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) hc0 hc1 (b0 m c t) (b1 m c t) (b2 m c t) (b3 m c t) (b4 m c t) (b5 m c t) X6 (b7 m c t) X8 (b9 m c t) (b10 m c t) S0 S1 S2 S3 S4 S5

theorem o11_B (h6 : C6 m c t X6) (f) : P11 m c t ((ms0_11 t).view.read (Elt Ideal) ((ms0_11 t).view.writes (Elt Ideal) f (rB m c t hc0 hc1 X6 X8 S0 S1 S2 S3 S4 S5).1)) :=
  fun r k => (read11_B c (grid0.coords t) _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ f r k).trans (pol_eq m c t X6 h6 r k)
theorem o12_B (h8 : C8 m c t X8) (f) : P12 m c t ((ms0_12 t).view.read (Elt Ideal) ((ms0_12 t).view.writes (Elt Ideal) f (rB m c t hc0 hc1 X6 X8 S0 S1 S2 S3 S4 S5).2.1)) :=
  fun r d => (read12_B c (grid0.coords t) _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ f r d).trans (wb_eq m c t X8 h8 r d)
theorem oS_B (hI : St (pR m c t) (labAt m c t) (8 * (grid0.coords t 1).val) S0 S1 S2 ∧ St (rR m c t) (labAt m c t) (8 * (grid0.coords t 1).val) S3 S4 S5) (h6 : C6 m c t X6) (f0 f1 f2 f3 f4 f5) : InvN m c (t.val + 1) ((Memref.whole (sig := sig) cc0_scratch0).view.read (Elt Ideal) ((Memref.whole (sig := sig) cc0_scratch0).view.writes (Elt Ideal) f0 (rB m c t hc0 hc1 X6 X8 S0 S1 S2 S3 S4 S5).2.2.1))
    ((Memref.whole (sig := sig) cc0_scratch1).view.read (Elt Ideal) ((Memref.whole (sig := sig) cc0_scratch1).view.writes (Elt Ideal) f1 (rB m c t hc0 hc1 X6 X8 S0 S1 S2 S3 S4 S5).2.2.2.1))
    ((Memref.whole (sig := sig) cc0_scratch2).view.read (Elt Ideal) ((Memref.whole (sig := sig) cc0_scratch2).view.writes (Elt Ideal) f2 (rB m c t hc0 hc1 X6 X8 S0 S1 S2 S3 S4 S5).2.2.2.2.1))
    ((Memref.whole (sig := sig) cc0_scratch3).view.read (Elt Ideal) ((Memref.whole (sig := sig) cc0_scratch3).view.writes (Elt Ideal) f3 (rB m c t hc0 hc1 X6 X8 S0 S1 S2 S3 S4 S5).2.2.2.2.2.1))
    ((Memref.whole (sig := sig) cc0_scratch4).view.read (Elt Ideal) ((Memref.whole (sig := sig) cc0_scratch4).view.writes (Elt Ideal) f4 (rB m c t hc0 hc1 X6 X8 S0 S1 S2 S3 S4 S5).2.2.2.2.2.2.1))
    ((Memref.whole (sig := sig) cc0_scratch5).view.read (Elt Ideal) ((Memref.whole (sig := sig) cc0_scratch5).view.writes (Elt Ideal) f5 (rB m c t hc0 hc1 X6 X8 S0 S1 S2 S3 S4 S5).2.2.2.2.2.2.2.1)) :=
  inv_of m c t
    (St_step (R := pR m c t) (lab := labAt m c t) (hP := hPp m c t X6 h6) (hj := hj0 t) (hre := hre5 m c t) (hG := hI.1.1) (hGs := hI.1.2.1) (hGl := hI.1.2.2)
      (hX := read15_B c (grid0.coords t) _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ f0) (hY := read16_B c (grid0.coords t) _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ f1) (hZ := read17_B c (grid0.coords t) _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ f2))
    (St_step (R := rR m c t) (lab := labAt m c t) (hP := hPr m c t X6 h6) (hj := hj0 t) (hre := hre5 m c t) (hG := hI.2.1) (hGs := hI.2.2.1) (hGl := hI.2.2.2)
      (hX := read18_B c (grid0.coords t) _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ f3) (hY := read19_B c (grid0.coords t) _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ f4) (hZ := read20_B c (grid0.coords t) _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ f5))
end

set_option maxHeartbeats 3200000 in
theorem sound_B (c : Dev nD) (t : Fin cfg0.N) (h0 : ¬ t.val % 63 = 0) (h1 : ¬ t.val % 63 = 62) (hc0 : ¬ cond0_0 (grid0.coords t)) (hc1 : ¬ cond0_1 (grid0.coords t)) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_7, before0_9, before0_10]
  rw [show (dats m 0 c).Φ t.succ = Scr m c (t.val + 1) from rfl, show (dats m 0 c).Φ t.castSucc = Scr m c t.val from rfl,
    show (dats m 0 c).owesAt () t.succ = (dats m 0 c).owesAt () t.castSucc from rfl,
    after0_0, after0_1, after0_2, after0_3, after0_4, after0_5, after0_7, after0_9, after0_10]
  unfold Scr
  iintro ⟨⟨%S0, %S1, %S2, %S3, %S4, %S5, %hI, K0, K1, K2, K3, K4, K5, Hg⟩, Ho, ⟨%d0, H0⟩, ⟨%d1, H1⟩, ⟨%d2, H2⟩, ⟨%d3, H3⟩, ⟨%d4, H4⟩, ⟨%d5, H5⟩, ⟨%X6, %h6, H6⟩, ⟨%d7, H7⟩, ⟨%X8, %h8, H8⟩, ⟨%d9, H9⟩, ⟨%d10, H10⟩, ⟨%X11, %h11, H11⟩, ⟨%X12, %h12, H12⟩, ⟨%X13, %h13, H13⟩, ⟨%X14, %h14, H14⟩⟩
  have c6 := found6 m c t X6 h6
  have c8 := found8 m c t X8 h8
  have hp := inv_prev m c t h0 _ _ _ _ _ _ hI
  iapply ((rB m c t hc0 hc1 X6 X8 S0 S1 S2 S3 S4 S5).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [K0]; · iexact K0
  isplitl [K1]; · iexact K1
  isplitl [K2]; · iexact K2
  isplitl [K3]; · iexact K3
  isplitl [K4]; · iexact K4
  isplitl [K5]; · iexact K5
  iintro ⟨H0, H1, H2, H3, H4, H5, H6, H7, H8, H9, H10, ⟨%f11, H11⟩, ⟨%f12, H12⟩, K0, K1, K2, K3, K4, K5⟩
  isplitl [K0 K1 K2 K3 K4 K5 Hg]
  · iexists _, _, _, _, _, _
    isplitr; · ipureintro; exact oS_B m c t hc0 hc1 X6 X8 S0 S1 S2 S3 S4 S5 hp c6 ((Memref.isWhole_whole _).unread S0) ((Memref.isWhole_whole _).unread S1) ((Memref.isWhole_whole _).unread S2) ((Memref.isWhole_whole _).unread S3) ((Memref.isWhole_whole _).unread S4) ((Memref.isWhole_whole _).unread S5)
    isplitl [K0]
    · unfold owns; iexists _; isplitr; · ipureintro; rfl
      iexact K0
    isplitl [K1]
    · unfold owns; iexists _; isplitr; · ipureintro; rfl
      iexact K1
    isplitl [K2]
    · unfold owns; iexists _; isplitr; · ipureintro; rfl
      iexact K2
    isplitl [K3]
    · unfold owns; iexists _; isplitr; · ipureintro; rfl
      iexact K3
    isplitl [K4]
    · unfold owns; iexists _; isplitr; · ipureintro; rfl
      iexact K4
    isplitl [K5]
    · unfold owns; iexists _; isplitr; · ipureintro; rfl
      iexact K5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; · ipureintro; trivial
    iexact H6
  isplitl [H7]; · iexact H7
  isplitl [H8]
  · iexists _; isplitr; · ipureintro; trivial
    iexact H8
  isplitl [H9]; · iexact H9
  isplitl [H10]; · iexact H10
  isplitl [H11]
  · iexists ((ms0_11 t).view.read (Elt Ideal) ((ms0_11 t).view.writes (Elt Ideal) f11 (rB m c t hc0 hc1 X6 X8 S0 S1 S2 S3 S4 S5).1)); isplitr; · ipureintro; exact o11_B m c t hc0 hc1 X6 X8 S0 S1 S2 S3 S4 S5 c6 _
    unfold owns; iexists _; isplitr; · ipureintro; rfl
    iexact H11
  isplitl [H12]
  · iexists ((ms0_12 t).view.read (Elt Ideal) ((ms0_12 t).view.writes (Elt Ideal) f12 (rB m c t hc0 hc1 X6 X8 S0 S1 S2 S3 S4 S5).2.1)); isplitr; · ipureintro; exact o12_B m c t hc0 hc1 X6 X8 S0 S1 S2 S3 S4 S5 c8 _
    unfold owns; iexists _; isplitr; · ipureintro; rfl
    iexact H12
  isplitl [H13]
  · iexists X13; isplitr; · ipureintro; exact fun h => absurd h (by omega)
    iexact H13
  iexists X14; isplitr; · ipureintro; exact fun h => absurd h (by omega)
  iexact H14

end Cert.ForwardIdeal.Own

end
-- ==== Proof.FwdSoundC.lean ====
/- The forward body's triple at the grid points of case C. -/
module

public import proofs.«01_k».proof.Proof.FwdVal

@[expose] public section

set_option maxRecDepth 16384

noncomputable section

namespace Cert.ForwardIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ForwardIdeal Cert.ForwardIdeal.Gen Cert.Closed Cert.FwdClosed Cert.Online

local notation "𝕄" => MT nD τ sig Unit (Elt Ideal) ℕ (UR sig nD τ) ℕ

variable (m : (ℓ : Loc nD τ sig) → Buf (Elt Ideal) ℓ) (ρ : Dev nD → PrngReg)

section
variable (c : Dev nD) (t : Fin cfg0.N) (hc0 : ¬ cond0_0 (grid0.coords t)) (hc1 : cond0_1 (grid0.coords t))
  (X6 : Vec Ideal S1024x4096 .fp8e4m3) (X8 : Vec Ideal S256x4096 .fp8e4m3) (S0 S1 S2 S3 S4 S5 : Vec Ideal S1280x128 .f32)

/-- The run at point `t`. -/
abbrev rC := bodyRun_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) hc0 hc1 (b0 m c t) (b1 m c t) (b2 m c t) (b3 m c t) (b4 m c t) (b5 m c t) X6 (b7 m c t) X8 (b9 m c t) (b10 m c t) S0 S1 S2 S3 S4 S5

theorem o11_C (h6 : C6 m c t X6) (f) : P11 m c t ((ms0_11 t).view.read (Elt Ideal) ((ms0_11 t).view.writes (Elt Ideal) f (rC m c t hc0 hc1 X6 X8 S0 S1 S2 S3 S4 S5).1)) :=
  fun r k => (read11_C c (grid0.coords t) _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ f r k).trans (pol_eq m c t X6 h6 r k)
theorem o12_C (h8 : C8 m c t X8) (f) : P12 m c t ((ms0_12 t).view.read (Elt Ideal) ((ms0_12 t).view.writes (Elt Ideal) f (rC m c t hc0 hc1 X6 X8 S0 S1 S2 S3 S4 S5).2.1)) :=
  fun r d => (read12_C c (grid0.coords t) _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ f r d).trans (wb_eq m c t X8 h8 r d)
theorem oS_C (hI : St (pR m c t) (labAt m c t) (8 * (grid0.coords t 1).val) S0 S1 S2 ∧ St (rR m c t) (labAt m c t) (8 * (grid0.coords t 1).val) S3 S4 S5) (h6 : C6 m c t X6) (f0 f1 f2 f3 f4 f5) : InvN m c (t.val + 1) ((Memref.whole (sig := sig) cc0_scratch0).view.read (Elt Ideal) ((Memref.whole (sig := sig) cc0_scratch0).view.writes (Elt Ideal) f0 (rC m c t hc0 hc1 X6 X8 S0 S1 S2 S3 S4 S5).2.2.2.2.1))
    ((Memref.whole (sig := sig) cc0_scratch1).view.read (Elt Ideal) ((Memref.whole (sig := sig) cc0_scratch1).view.writes (Elt Ideal) f1 (rC m c t hc0 hc1 X6 X8 S0 S1 S2 S3 S4 S5).2.2.2.2.2.1))
    ((Memref.whole (sig := sig) cc0_scratch2).view.read (Elt Ideal) ((Memref.whole (sig := sig) cc0_scratch2).view.writes (Elt Ideal) f2 (rC m c t hc0 hc1 X6 X8 S0 S1 S2 S3 S4 S5).2.2.2.2.2.2.1))
    ((Memref.whole (sig := sig) cc0_scratch3).view.read (Elt Ideal) ((Memref.whole (sig := sig) cc0_scratch3).view.writes (Elt Ideal) f3 (rC m c t hc0 hc1 X6 X8 S0 S1 S2 S3 S4 S5).2.2.2.2.2.2.2.1))
    ((Memref.whole (sig := sig) cc0_scratch4).view.read (Elt Ideal) ((Memref.whole (sig := sig) cc0_scratch4).view.writes (Elt Ideal) f4 (rC m c t hc0 hc1 X6 X8 S0 S1 S2 S3 S4 S5).2.2.2.2.2.2.2.2.1))
    ((Memref.whole (sig := sig) cc0_scratch5).view.read (Elt Ideal) ((Memref.whole (sig := sig) cc0_scratch5).view.writes (Elt Ideal) f5 (rC m c t hc0 hc1 X6 X8 S0 S1 S2 S3 S4 S5).2.2.2.2.2.2.2.2.2.1)) :=
  inv_of m c t
    (St_step (R := pR m c t) (lab := labAt m c t) (hP := hPp m c t X6 h6) (hj := hj0 t) (hre := hre5 m c t) (hG := hI.1.1) (hGs := hI.1.2.1) (hGl := hI.1.2.2)
      (hX := read15_C c (grid0.coords t) _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ f0) (hY := read16_C c (grid0.coords t) _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ f1) (hZ := read17_C c (grid0.coords t) _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ f2))
    (St_step (R := rR m c t) (lab := labAt m c t) (hP := hPr m c t X6 h6) (hj := hj0 t) (hre := hre5 m c t) (hG := hI.2.1) (hGs := hI.2.2.1) (hGl := hI.2.2.2)
      (hX := read18_C c (grid0.coords t) _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ f3) (hY := read19_C c (grid0.coords t) _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ f4) (hZ := read20_C c (grid0.coords t) _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ f5))
theorem o13_C (hI : St (pR m c t) (labAt m c t) (8 * (grid0.coords t 1).val) S0 S1 S2 ∧ St (rR m c t) (labAt m c t) (8 * (grid0.coords t 1).val) S3 S4 S5) (h6 : C6 m c t X6) (f) : P13 m c t ((ms0_13 t).view.read (Elt Ideal) ((ms0_13 t).view.writes (Elt Ideal) f (rC m c t hc0 hc1 X6 X8 S0 S1 S2 S3 S4 S5).2.2.1)) :=
  fun h r q => (read13_C c (grid0.coords t) _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ f r q).trans (lse_out (hP := hPp m c t X6 h6) (hG := hI.1.1) (hGs := hI.1.2.1) (hj' := (coord1 t).trans h) (hR := pR_bot m c t) r)
theorem o14_C (hI : St (pR m c t) (labAt m c t) (8 * (grid0.coords t 1).val) S0 S1 S2 ∧ St (rR m c t) (labAt m c t) (8 * (grid0.coords t 1).val) S3 S4 S5) (h6 : C6 m c t X6) (f) : P14 m c t ((ms0_14 t).view.read (Elt Ideal) ((ms0_14 t).view.writes (Elt Ideal) f (rC m c t hc0 hc1 X6 X8 S0 S1 S2 S3 S4 S5).2.2.2.1)) :=
  fun h hl r q => (read14_C c (grid0.coords t) _ _ _ _ _ _ _ _ _ _ _ _ _ _ _ _ _ _ _ _ _ _ _ _ _ _ _ _ _ _ _ _ _ _ _ _ _ _ _ _ _ _ hc0 hc1 _ _ _ _ _ _ _ _ _ _ _ _ _ _ _ _ _ f r q).trans (congrArg₂ (fun a b : EReal => a - b) (congrArg₂ (fun a b : EReal => a - b) (pick_out (lab := labAt m c t) (hP := hPp m c t X6 h6) (hj := hj0 t) (hre := hre5 m c t) (hGl := hI.1.2.2) (hj' := (coord1 t).trans h) r (hl _)) (lse_out (hP := hPp m c t X6 h6) (hG := hI.1.1) (hGs := hI.1.2.1) (hj' := (coord1 t).trans h) (hR := pR_bot m c t) r)) (congrArg₂ (fun a b : EReal => a - b) (pick_out (lab := labAt m c t) (hP := hPr m c t X6 h6) (hj := hj0 t) (hre := hre5 m c t) (hGl := hI.2.2.2) (hj' := (coord1 t).trans h) r (hl _)) (lse_out (hP := hPr m c t X6 h6) (hG := hI.2.1) (hGs := hI.2.2.1) (hj' := (coord1 t).trans h) (hR := rR_bot m c t) r)))
end

set_option maxHeartbeats 3200000 in
theorem sound_C (c : Dev nD) (t : Fin cfg0.N) (h0 : ¬ t.val % 63 = 0) (h1 : t.val % 63 = 62) (hc0 : ¬ cond0_0 (grid0.coords t)) (hc1 : cond0_1 (grid0.coords t)) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_7, before0_9, before0_10]
  rw [show (dats m 0 c).Φ t.succ = Scr m c (t.val + 1) from rfl, show (dats m 0 c).Φ t.castSucc = Scr m c t.val from rfl,
    show (dats m 0 c).owesAt () t.succ = (dats m 0 c).owesAt () t.castSucc from rfl,
    after0_0, after0_1, after0_2, after0_3, after0_4, after0_5, after0_7, after0_9, after0_10]
  unfold Scr
  iintro ⟨⟨%S0, %S1, %S2, %S3, %S4, %S5, %hI, K0, K1, K2, K3, K4, K5, Hg⟩, Ho, ⟨%d0, H0⟩, ⟨%d1, H1⟩, ⟨%d2, H2⟩, ⟨%d3, H3⟩, ⟨%d4, H4⟩, ⟨%d5, H5⟩, ⟨%X6, %h6, H6⟩, ⟨%d7, H7⟩, ⟨%X8, %h8, H8⟩, ⟨%d9, H9⟩, ⟨%d10, H10⟩, ⟨%X11, %h11, H11⟩, ⟨%X12, %h12, H12⟩, ⟨%X13, %h13, H13⟩, ⟨%X14, %h14, H14⟩⟩
  have c6 := found6 m c t X6 h6
  have c8 := found8 m c t X8 h8
  have hp := inv_prev m c t h0 _ _ _ _ _ _ hI
  iapply ((rC m c t hc0 hc1 X6 X8 S0 S1 S2 S3 S4 S5).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [K0]; · iexact K0
  isplitl [K1]; · iexact K1
  isplitl [K2]; · iexact K2
  isplitl [K3]; · iexact K3
  isplitl [K4]; · iexact K4
  isplitl [K5]; · iexact K5
  iintro ⟨H0, H1, H2, H3, H4, H5, H6, H7, H8, H9, H10, ⟨%f11, H11⟩, ⟨%f12, H12⟩, ⟨%f13, H13⟩, ⟨%f14, H14⟩, K0, K1, K2, K3, K4, K5⟩
  isplitl [K0 K1 K2 K3 K4 K5 Hg]
  · iexists _, _, _, _, _, _
    isplitr; · ipureintro; exact oS_C m c t hc0 hc1 X6 X8 S0 S1 S2 S3 S4 S5 hp c6 ((Memref.isWhole_whole _).unread S0) ((Memref.isWhole_whole _).unread S1) ((Memref.isWhole_whole _).unread S2) ((Memref.isWhole_whole _).unread S3) ((Memref.isWhole_whole _).unread S4) ((Memref.isWhole_whole _).unread S5)
    isplitl [K0]
    · unfold owns; iexists _; isplitr; · ipureintro; rfl
      iexact K0
    isplitl [K1]
    · unfold owns; iexists _; isplitr; · ipureintro; rfl
      iexact K1
    isplitl [K2]
    · unfold owns; iexists _; isplitr; · ipureintro; rfl
      iexact K2
    isplitl [K3]
    · unfold owns; iexists _; isplitr; · ipureintro; rfl
      iexact K3
    isplitl [K4]
    · unfold owns; iexists _; isplitr; · ipureintro; rfl
      iexact K4
    isplitl [K5]
    · unfold owns; iexists _; isplitr; · ipureintro; rfl
      iexact K5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; · ipureintro; trivial
    iexact H6
  isplitl [H7]; · iexact H7
  isplitl [H8]
  · iexists _; isplitr; · ipureintro; trivial
    iexact H8
  isplitl [H9]; · iexact H9
  isplitl [H10]; · iexact H10
  isplitl [H11]
  · iexists ((ms0_11 t).view.read (Elt Ideal) ((ms0_11 t).view.writes (Elt Ideal) f11 (rC m c t hc0 hc1 X6 X8 S0 S1 S2 S3 S4 S5).1)); isplitr; · ipureintro; exact o11_C m c t hc0 hc1 X6 X8 S0 S1 S2 S3 S4 S5 c6 _
    unfold owns; iexists _; isplitr; · ipureintro; rfl
    iexact H11
  isplitl [H12]
  · iexists ((ms0_12 t).view.read (Elt Ideal) ((ms0_12 t).view.writes (Elt Ideal) f12 (rC m c t hc0 hc1 X6 X8 S0 S1 S2 S3 S4 S5).2.1)); isplitr; · ipureintro; exact o12_C m c t hc0 hc1 X6 X8 S0 S1 S2 S3 S4 S5 c8 _
    unfold owns; iexists _; isplitr; · ipureintro; rfl
    iexact H12
  isplitl [H13]
  · iexists ((ms0_13 t).view.read (Elt Ideal) ((ms0_13 t).view.writes (Elt Ideal) f13 (rC m c t hc0 hc1 X6 X8 S0 S1 S2 S3 S4 S5).2.2.1)); isplitr; · ipureintro; exact o13_C m c t hc0 hc1 X6 X8 S0 S1 S2 S3 S4 S5 hp c6 _
    unfold owns; iexists _; isplitr; · ipureintro; rfl
    iexact H13
  iexists ((ms0_14 t).view.read (Elt Ideal) ((ms0_14 t).view.writes (Elt Ideal) f14 (rC m c t hc0 hc1 X6 X8 S0 S1 S2 S3 S4 S5).2.2.2.1)); isplitr; · ipureintro; exact o14_C m c t hc0 hc1 X6 X8 S0 S1 S2 S3 S4 S5 hp c6 _
  unfold owns; iexists _; isplitr; · ipureintro; rfl
  iexact H14

end Cert.ForwardIdeal.Own

end
-- ==== Proof.FwdCert.lean ====
/- The forward pipeline's run, whole: its results in closed form, its arguments unchanged, its semaphores back at zero. -/
module

public import proofs.«01_k».proof.Proof.FwdArr
public import proofs.«01_k».proof.Proof.FwdRefArr
public import proofs.«01_k».proof.Proof.FwdRun
public import proofs.«01_k».proof.Proof.FwdSoundA
public import proofs.«01_k».proof.Proof.FwdSoundB
public import proofs.«01_k».proof.Proof.FwdSoundC

@[expose] public section

set_option maxRecDepth 16384

noncomputable section

namespace Cert.ForwardIdeal.Own

open Idealize.ShloMosaic Idealize.ShloMosaic.TcCoe Idealize.ShloMosaic.Tactic
open Idealize.SL Idealize.SL.Sem
open Cert.ForwardIdeal Cert.ForwardIdeal.Gen Cert.FwdClosed

variable (m : (ℓ : Loc nD τ sig) → Buf (Elt Ideal) ℓ) (ρ : Dev nD → PrngReg)

/-- The body's triple at every point: by the case the point is. -/
theorem sound : Sound m := fun c t => by
  by_cases h0 : t.val % 63 = 0
  · exact sound_A m c t h0 ((hcond0_0 t).mpr h0) fun h => by have := (hcond0_1 t).mp h; omega
  · by_cases h1 : t.val % 63 = 62
    · exact sound_C m c t h0 h1 (fun h => h0 ((hcond0_0 t).mp h)) ((hcond0_1 t).mpr h1)
    · exact sound_B m c t h0 h1 (fun h => h0 ((hcond0_0 t).mp h)) (fun h => h1 ((hcond0_1 t).mp h))

/-- The results after the run, no label being one of the padded columns. -/
theorem results (hl : ∀ c, HL m c) : θ_run defs (onTc (τ := τ) (main (F := Ideal))) ⟨m, fun _ => 0, ρ⟩ (fun r => ∀ c : Dev nD,
      r.2.mem ((c.tc : Thread nD τ).loc main_v10_0) = R11 (a0 m c) (a2 m c) (a4 m c) (a6 m c) (a7 m c) (a8 m c)
      ∧ r.2.mem ((c.tc : Thread nD τ).loc main_v10_1) = R12 (a6 m c) (a7 m c)
      ∧ r.2.mem ((c.tc : Thread nD τ).loc main_v10_2) = R13 (a0 m c) (a2 m c) (a4 m c) (a6 m c) (a7 m c) (a8 m c)
      ∧ r.2.mem ((c.tc : Thread nD τ).loc main_v10_3) = R14 (a0 m c) (a1 m c) (a2 m c) (a3 m c) (a4 m c) (a5 m c) (a6 m c) (a7 m c) (a8 m c)) :=
  (θ_run defs _ _).mono (fun r h c => by
    obtain ⟨after, hL, hA⟩ := h.1.exists_exact c
    exact ⟨(hA 11).trans (arr11 m c after fun u hf => hL 11 u hf), (hA 12).trans (arr12 m c after fun u hf => hL 12 u hf),
      (hA 13).trans (arr13 m c after fun u hf => hL 13 u hf), (hA 14).trans (arr14 m c after (hl c) fun u hf => hL 14 u hf)⟩)
    (run_main_quiescent m ρ (sound m))

/-- The results and the arguments after the run. -/
theorem run (hl : ∀ c, HL m c) : θ_run defs (onTc (τ := τ) (main (F := Ideal))) ⟨m, fun _ => 0, ρ⟩ (fun r => ∀ c : Dev nD,
      r.2.mem ((c.tc : Thread nD τ).loc main_v10_0) = R11 (a0 m c) (a2 m c) (a4 m c) (a6 m c) (a7 m c) (a8 m c)
      ∧ r.2.mem ((c.tc : Thread nD τ).loc main_v10_1) = R12 (a6 m c) (a7 m c)
      ∧ r.2.mem ((c.tc : Thread nD τ).loc main_v10_2) = R13 (a0 m c) (a2 m c) (a4 m c) (a6 m c) (a7 m c) (a8 m c)
      ∧ r.2.mem ((c.tc : Thread nD τ).loc main_v10_3) = R14 (a0 m c) (a1 m c) (a2 m c) (a3 m c) (a4 m c) (a5 m c) (a6 m c) (a7 m c) (a8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h.1 c).1, (h.1 c).2.1, (h.1 c).2.2.1, (h.1 c).2.2.2, h.2 c⟩)
    (θ_run_and (results m ρ hl) (unchanged m ρ (sound m)))

/-- The frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := frame_of_sound m ρ (sound m)

end Cert.ForwardIdeal.Own

namespace Cert.ForwardRefIdeal.Own

open Idealize.ShloMosaic Idealize.ShloMosaic.TcCoe Idealize.ShloMosaic.Tactic
open Idealize.SL Idealize.SL.Sem
open Cert.ForwardRefIdeal Cert.ForwardRefIdeal.Gen Cert.FwdClosed

variable (m : (ℓ : Loc nD τ sig) → Buf (Elt Ideal) ℓ) (ρ : Dev nD → PrngReg)

/-- The reference's results and arguments after its run. -/
theorem run : θ_run defs (onTc (τ := τ) (main (F := Ideal))) ⟨m, fun _ => 0, ρ⟩ (fun r => ∀ c : Dev nD,
      r.2.mem ((c.tc : Thread nD τ).loc main_v5_0) = R11 (a0 m c) (a2 m c) (a4 m c) (a6 m c) (a7 m c) (a8 m c)
      ∧ r.2.mem ((c.tc : Thread nD τ).loc main_v5_1) = R12 (a6 m c) (a7 m c)
      ∧ r.2.mem ((c.tc : Thread nD τ).loc main_v5_2) = R13 (a0 m c) (a2 m c) (a4 m c) (a6 m c) (a7 m c) (a8 m c)
      ∧ r.2.mem ((c.tc : Thread nD τ).loc main_v5_3) = R14 (a0 m c) (a1 m c) (a2 m c) (a3 m c) (a4 m c) (a5 m c) (a6 m c) (a7 m c) (a8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h.1 c).1, (h.1 c).2.1, (h.1 c).2.2.1, (h.1 c).2.2.2, h.2 c⟩)
    (θ_run_and (results m ρ) (unchanged m ρ))

end Cert.ForwardRefIdeal.Own

end
-- ==== Proof.lean ====
module

public import proofs.«01_k».proof.Defs
public import proofs.«01_k».proof.Proof.Gen.Backward
public import proofs.«01_k».proof.Proof.Gen.Backward.Skeleton
public import proofs.«01_k».proof.Proof.Gen.Backward.Launch
public import proofs.«01_k».proof.Proof.Gen.Backward.Points
public import proofs.«01_k».proof.Proof.Gen.Backward.Frame
public import proofs.«01_k».proof.Proof.Gen.BackwardIdeal
public import proofs.«01_k».proof.Proof.Gen.BackwardIdeal.Skeleton
public import proofs.«01_k».proof.Proof.Gen.BackwardIdeal.Launch
public import proofs.«01_k».proof.Proof.Gen.BackwardIdeal.Points
public import proofs.«01_k».proof.Proof.Gen.BackwardIdeal.Frame
public import proofs.«01_k».proof.Proof.Gen.BackwardRefIdeal
public import proofs.«01_k».proof.Proof.Gen.BackwardRefIdeal.Skeleton
public import proofs.«01_k».proof.Proof.Gen.BackwardRefIdeal.Launch
public import proofs.«01_k».proof.Proof.Gen.BackwardRefIdeal.Points
public import proofs.«01_k».proof.Proof.Gen.BackwardRefIdeal.Frame
public import proofs.«01_k».proof.Proof.BackwardFrame
public import proofs.«01_k».proof.Proof.BwdCert
public import proofs.«01_k».proof.Proof.ForwardFrame
public import proofs.«01_k».proof.Proof.FwdCert
public import Idealize.ShloMosaic.Adequacy
public import Idealize.ShloMosaic.Init

@[expose] public section

noncomputable section

namespace Cert.Proof

open Idealize.ShloMosaic Idealize.SL.Sem

/-- The kernel's results are the reference's. -/
theorem algebraic : letI := Cert.BackwardIdeal.Gen.facts; letI := Cert.BackwardRefIdeal.Gen.facts; Cert.algebraic_BackwardIdeal_BackwardRefIdeal := by
  intro m g m' g' _ hargs
  refine ⟨fun c => Cert.Closed.R7 (Cert.BackwardIdeal.Own.a0 m c) (Cert.BackwardIdeal.Own.a1 m c) (Cert.BackwardIdeal.Own.a2 m c) (Cert.BackwardIdeal.Own.a6 m c),
    fun c => Cert.Closed.R8 (Cert.BackwardIdeal.Own.a0 m c) (Cert.BackwardIdeal.Own.a1 m c) (Cert.BackwardIdeal.Own.a2 m c) (Cert.BackwardIdeal.Own.a3 m c) (Cert.BackwardIdeal.Own.a6 m c),
    fun c => Cert.Closed.R9 (Cert.BackwardIdeal.Own.a0 m c) (Cert.BackwardIdeal.Own.a1 m c) (Cert.BackwardIdeal.Own.a2 m c) (Cert.BackwardIdeal.Own.a4 m c) (Cert.BackwardIdeal.Own.a6 m c),
    fun c => Cert.Closed.R10 (Cert.BackwardIdeal.Own.a0 m c) (Cert.BackwardIdeal.Own.a1 m c) (Cert.BackwardIdeal.Own.a2 m c) (Cert.BackwardIdeal.Own.a5 m c) (Cert.BackwardIdeal.Own.a6 m c),
    Cert.BackwardIdeal.Own.run m g, ?_⟩
  refine (θ_run _ _ _).mono (fun r h c => ?_) (Cert.BackwardRefIdeal.Own.run m' g')
  obtain ⟨e0, e1, e2, e3, e4, e5, e6⟩ := hargs c
  obtain ⟨h0, h1, h2, h3, hk⟩ := h c
  have f0 : Cert.BackwardRefIdeal.Own.a0 m' c = Cert.BackwardIdeal.Own.a0 m c := e0
  have f1 : Cert.BackwardRefIdeal.Own.a1 m' c = Cert.BackwardIdeal.Own.a1 m c := e1
  have f2 : Cert.BackwardRefIdeal.Own.a2 m' c = Cert.BackwardIdeal.Own.a2 m c := e2
  have f3 : Cert.BackwardRefIdeal.Own.a3 m' c = Cert.BackwardIdeal.Own.a3 m c := e3
  have f4 : Cert.BackwardRefIdeal.Own.a4 m' c = Cert.BackwardIdeal.Own.a4 m c := e4
  have f5 : Cert.BackwardRefIdeal.Own.a5 m' c = Cert.BackwardIdeal.Own.a5 m c := e5
  have f6 : Cert.BackwardRefIdeal.Own.a6 m' c = Cert.BackwardIdeal.Own.a6 m c := e6
  rw [f0, f1, f2, f6] at h0
  rw [f0, f1, f2, f3, f6] at h1
  rw [f0, f1, f2, f4, f6] at h2
  rw [f0, f1, f2, f5, f6] at h3
  exact ⟨h0, h1, h2, h3, hk⟩

/-- The one relation the precondition's function takes: a scalar spreads over the labels. -/
theorem labels_facts : Cert.Pre_labels_in_vocabulary.Facts where
  bcast_S_S5120 := by decide

/-- A label in the vocabulary, or negative, is none of the padded columns. -/
theorem labels_of (m : (ℓ : Loc Cert.ForwardIdeal.nD Cert.ForwardIdeal.τ Cert.ForwardIdeal.sig) → Buf (Elt Ideal) ℓ)
    (h : letI := labels_facts; Cert.Pre_ForwardIdeal_labels_in_vocabulary m) (c : Dev Cert.ForwardIdeal.nD) : Cert.ForwardIdeal.Own.HL m c := by
  intro row hr
  have h1 := congrFun (h c) (ix1 row)
  have h2 : BitVec.ofBool ((Cert.ForwardIdeal.Own.a5 m c (ix1 row)).slt 64128#32) = 1#1 := h1
  generalize Cert.ForwardIdeal.Own.a5 m c (ix1 row) = l at hr h2
  have h3 : l.slt 64128#32 = true := by
    cases hs : l.slt 64128#32
    · rw [hs] at h2; exact absurd h2 (by decide)
    · rfl
  rw [BitVec.slt_iff_toInt_lt] at h3
  rw [BitVec.toInt_eq_toNat_of_lt (by omega), BitVec.toInt_eq_toNat_of_lt (by decide)] at h3
  have : (64128#32 : BitVec 32).toNat = 64128 := rfl
  omega

/-- The forward kernel's results are the reference's. -/
theorem algebraic_forward : letI := Cert.ForwardIdeal.Gen.facts; letI := Cert.ForwardRefIdeal.Gen.facts; letI := labels_facts
    Cert.algebraic_ForwardIdeal_ForwardRefIdeal_pre_labels_in_vocabulary := by
  intro m g m' g' hpre hargs
  refine ⟨fun c => Cert.FwdClosed.R11 (Cert.ForwardIdeal.Own.a0 m c) (Cert.ForwardIdeal.Own.a2 m c) (Cert.ForwardIdeal.Own.a4 m c) (Cert.ForwardIdeal.Own.a6 m c) (Cert.ForwardIdeal.Own.a7 m c) (Cert.ForwardIdeal.Own.a8 m c),
    fun c => Cert.FwdClosed.R12 (Cert.ForwardIdeal.Own.a6 m c) (Cert.ForwardIdeal.Own.a7 m c),
    fun c => Cert.FwdClosed.R13 (Cert.ForwardIdeal.Own.a0 m c) (Cert.ForwardIdeal.Own.a2 m c) (Cert.ForwardIdeal.Own.a4 m c) (Cert.ForwardIdeal.Own.a6 m c) (Cert.ForwardIdeal.Own.a7 m c) (Cert.ForwardIdeal.Own.a8 m c),
    fun c => Cert.FwdClosed.R14 (Cert.ForwardIdeal.Own.a0 m c) (Cert.ForwardIdeal.Own.a1 m c) (Cert.ForwardIdeal.Own.a2 m c) (Cert.ForwardIdeal.Own.a3 m c) (Cert.ForwardIdeal.Own.a4 m c) (Cert.ForwardIdeal.Own.a5 m c) (Cert.ForwardIdeal.Own.a6 m c) (Cert.ForwardIdeal.Own.a7 m c) (Cert.ForwardIdeal.Own.a8 m c),
    Cert.ForwardIdeal.Own.run m g (labels_of m hpre), ?_⟩
  refine (θ_run _ _ _).mono (fun r h c => ?_) (Cert.ForwardRefIdeal.Own.run m' g')
  obtain ⟨e0, e1, e2, e3, e4, e5, e6, e7, e8⟩ := hargs c
  obtain ⟨h0, h1, h2, h3, hk⟩ := h c
  have f0 : Cert.ForwardRefIdeal.Own.a0 m' c = Cert.ForwardIdeal.Own.a0 m c := e0
  have f1 : Cert.ForwardRefIdeal.Own.a1 m' c = Cert.ForwardIdeal.Own.a1 m c := e1
  have f2 : Cert.ForwardRefIdeal.Own.a2 m' c = Cert.ForwardIdeal.Own.a2 m c := e2
  have f3 : Cert.ForwardRefIdeal.Own.a3 m' c = Cert.ForwardIdeal.Own.a3 m c := e3
  have f4 : Cert.ForwardRefIdeal.Own.a4 m' c = Cert.ForwardIdeal.Own.a4 m c := e4
  have f5 : Cert.ForwardRefIdeal.Own.a5 m' c = Cert.ForwardIdeal.Own.a5 m c := e5
  have f6 : Cert.ForwardRefIdeal.Own.a6 m' c = Cert.ForwardIdeal.Own.a6 m c := e6
  have f7 : Cert.ForwardRefIdeal.Own.a7 m' c = Cert.ForwardIdeal.Own.a7 m c := e7
  have f8 : Cert.ForwardRefIdeal.Own.a8 m' c = Cert.ForwardIdeal.Own.a8 m c := e8
  rw [f0, f2, f4, f6, f7, f8] at h0
  rw [f6, f7] at h1
  rw [f0, f2, f4, f6, f7, f8] at h2
  rw [f0, f1, f2, f3, f4, f5, f6, f7, f8] at h3
  exact ⟨h0, h1, h2, h3, hk⟩

theorem claim : Cert.Claim := ⟨Cert.Backward.Gen.facts, Cert.BackwardIdeal.Gen.facts, Cert.BackwardRefIdeal.Gen.facts,
  Cert.Forward.Gen.facts, Cert.ForwardIdeal.Gen.facts, Cert.ForwardRefIdeal.Gen.facts, labels_facts,
  fun m g _ => Cert.Backward.Frm.frame m g,
  fun m g _ => Cert.BackwardIdeal.Own.frame m g,
  fun m g _ => Cert.BackwardRefIdeal.Gen.frame m g,
  fun m g _ => Cert.Forward.Frm.frame_of_sound m g (Cert.Forward.Frm.sound m),
  fun m g _ => Cert.ForwardIdeal.Own.frame m g,
  fun m g _ => Cert.ForwardIdeal.Own.frame m g,
  fun m g _ => Cert.ForwardRefIdeal.Gen.frame m g,
  fun m g _ => Cert.ForwardRefIdeal.Gen.frame m g,
  trivial,
  algebraic,
  IdealRules.named_const.statement Cert.ForwardIdeal.κ "masked" .f32 0xF149F2CA#32 ⊥ rfl,
  algebraic_forward⟩

end Cert.Proof

end
